-- ==== Defs.lean ====
def Pre_Kernel [hPre_clusters_fit : Cert.Pre_clusters_fit.Facts] (m : (ℓ : Loc Cert.Kernel.nD Cert.Kernel.τ Cert.Kernel.sig) → Buf (Elt Bits) ℓ) : Prop :=
  ∀ c : Dev Cert.Kernel.nD,
    (Cert.Pre_clusters_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_clusters_fit : Cert.Pre_clusters_fit.Facts] (m : (ℓ : Loc Cert.KernelIdeal.nD Cert.KernelIdeal.τ Cert.KernelIdeal.sig) → Buf (Elt Ideal) ℓ) : Prop :=
  ∀ c : Dev Cert.KernelIdeal.nD,
    (Cert.Pre_clusters_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_scan_fits [hPre_scan_fits : Cert.Pre_scan_fits.Facts] (m : (ℓ : Loc Cert.KernelIdeal.nD Cert.KernelIdeal.τ Cert.KernelIdeal.sig) → Buf (Elt Ideal) ℓ) : Prop :=
  ∀ c : Dev Cert.KernelIdeal.nD,
    (Cert.Pre_scan_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_scan_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scan_fits [hPre_scan_fits : Cert.Pre_scan_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scan_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_scan_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] [hPre_clusters_fit : Cert.Pre_clusters_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_clusters_fit : Cert.Pre_clusters_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scan_fits [hKernelIdeal : Cert.KernelIdeal.Facts] [hPre_scan_fits : Cert.Pre_scan_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scan_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scan_fits [hReferenceIdeal : Cert.ReferenceIdeal.Facts] [hPre_scan_fits : Cert.Pre_scan_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scan_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_scan_fits [hKernelIdeal : Cert.KernelIdeal.Facts] [hReferenceIdeal : Cert.ReferenceIdeal.Facts] [hPre_scan_fits : Cert.Pre_scan_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scan_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_clusters_fit : Cert.Pre_clusters_fit.Facts) (hPre_scan_fits : Cert.Pre_scan_fits.Facts),
    quiescent_Kernel (hKernel := hKernel) (hPre_clusters_fit := hPre_clusters_fit)
    ∧ quiescent_KernelIdeal (hKernelIdeal := hKernelIdeal) (hPre_clusters_fit := hPre_clusters_fit)
    ∧ quiescent_KernelIdeal_pre_scan_fits (hKernelIdeal := hKernelIdeal) (hPre_scan_fits := hPre_scan_fits)
    ∧ quiescent_ReferenceIdeal (hReferenceIdeal := hReferenceIdeal)
    ∧ quiescent_ReferenceIdeal_pre_scan_fits (hReferenceIdeal := hReferenceIdeal) (hPre_scan_fits := hPre_scan_fits)
    ∧ preserves_Kernel_KernelIdeal
    ∧ algebraic_KernelIdeal_ReferenceIdeal_pre_scan_fits (hKernelIdeal := hKernelIdeal) (hReferenceIdeal := hReferenceIdeal) (hPre_scan_fits := hPre_scan_fits)
-- ==== Pre_clusters_fit.lean ====
abbrev S64x12 : Shape := ⟨2, ![64, 12]⟩
abbrev S1000 : Shape := ⟨1, ![1000]⟩
abbrev S12x64 : Shape := ⟨2, ![12, 64]⟩
abbrev S12x128x128 : Shape := ⟨3, ![12, 128, 128]⟩
abbrev S2048000x30 : Shape := ⟨2, ![2048000, 30]⟩
abbrev S2048000 : Shape := ⟨1, ![2048000]⟩
abbrev S_ : Shape := ⟨0, ![]⟩
abbrev S64x12x1 : Shape := ⟨3, ![64, 12, 1]⟩

class Facts : Prop where
  bcast_S_S64x12 : S_.BroadcastsInDim S64x12 (![] : Fin 0 → Fin S64x12.rank)
  bcast_S64x12_S64x12x1_0_1 : S64x12.BroadcastsInDim S64x12x1 (![0, 1] : Fin 2 → Fin S64x12x1.rank)
  gather_S1000_S64x12x1_S64x12_n_0_n_n_0_2_1_wf : GatherDims.WF S1000 S64x12x1 S64x12 [] [0] [] [0] [] 2 ![1]

variable [Facts]

def gather_S1000_S64x12x1_S64x12_n_0_n_n_0_2_1 : GatherDims S1000 S64x12x1 S64x12 where
  offsetDims := []
  collapsedSliceDims := [0]
  operandBatchingDims := []
  startIndicesBatchingDims := []
  startIndexMap := [0]
  indexVectorDim := 2
  sliceSizes := ![1]
  wf := gather_S1000_S64x12x1_S64x12_n_0_n_n_0_2_1_wf
def fn_part1 {F : FTy → Type} [FloatOps F] (main_v6 : IVec S64x12 32) (main_v13 : IVec S64x12 32) (main_v15 : IVec S64x12 1) (main_v17 : IVec S64x12 1) : IVec S64x12 1 :=
  let main_v18 : IVec S64x12 1 := andi main_v15 main_v17
  let main_c_5 : IVec S_ 32 := constantI S_ 32 0#32
  let main_v19 : IVec S64x12 32 := broadcastInDim S64x12 ![] bcast_S_S64x12 main_c_5
  let main_v20 : IVec S64x12 1 := cmpi .sge main_v6 main_v19
  let main_v21 : IVec S64x12 1 := andi main_v18 main_v20
  let main_c_6 : IVec S_ 32 := constantI S_ 32 2045056#32
  let main_v22 : IVec S64x12 32 := broadcastInDim S64x12 ![] bcast_S_S64x12 main_c_6
  let main_v23 : IVec S64x12 1 := cmpi .slt main_v6 main_v22
  let main_v24 : IVec S64x12 1 := andi main_v21 main_v23
  let main_c_7 : IVec S_ 32 := constantI S_ 32 1#32
  let main_v25 : IVec S64x12 32 := broadcastInDim S64x12 ![] bcast_S_S64x12 main_c_7
  let main_v26 : IVec S64x12 1 := cmpi .sge main_v13 main_v25
  let main_v27 : IVec S64x12 1 := andi main_v24 main_v26
  let main_c_8 : IVec S_ 32 := constantI S_ 32 2048#32
  let main_v28 : IVec S64x12 32 := broadcastInDim S64x12 ![] bcast_S_S64x12 main_c_8
  let main_v29 : IVec S64x12 1 := cmpi .sle main_v13 main_v28
  let main_v30 : IVec S64x12 1 := andi main_v27 main_v29
  main_v30

def fn {F : FTy → Type} [FloatOps F] (main_arg0 : IVec S64x12 32) (main_arg1 : IVec S1000 32) (main_arg2 : IVec S1000 32) (main_arg3 : FVec F S12x64 .f32) (main_arg4 : FVec F S12x64 .f32) (main_arg5 : FVec F S12x64 .f32) (main_arg6 : FVec F S12x64 .f32) (main_arg7 : IVec S12x128x128 32) (main_arg8 : IVec S2048000x30 32) (main_arg9 : FVec F S2048000 .f32) (main_arg10 : FVec F S2048000 .f32) : IVec S64x12 1 :=
  let main_c : IVec S_ 32 := constantI S_ 32 0#32
  let main_v0 : IVec S64x12 32 := broadcastInDim S64x12 ![] bcast_S_S64x12 main_c
  let main_v1 : IVec S64x12 1 := cmpi .slt main_arg0 main_v0
  let main_c_0 : IVec S_ 32 := constantI S_ 32 1000#32
  let main_v2 : IVec S64x12 32 := broadcastInDim S64x12 ![] bcast_S_S64x12 main_c_0
  let main_v3 : IVec S64x12 32 := addi main_arg0 main_v2
  let main_v4 : IVec S64x12 32 := select main_v1 main_v3 main_arg0
  let main_v5 : IVec S64x12x1 32 := broadcastInDim S64x12x1 ![0, 1] bcast_S64x12_S64x12x1_0_1 main_v4
  let main_v6 : IVec S64x12 32 := (fun x i => Host.gather gather_S1000_S64x12x1_S64x12_n_0_n_n_0_2_1 x i) main_arg1 main_v5
  let main_c_1 : IVec S_ 32 := constantI S_ 32 0#32
  let main_v7 : IVec S64x12 32 := broadcastInDim S64x12 ![] bcast_S_S64x12 main_c_1
  let main_v8 : IVec S64x12 1 := cmpi .slt main_arg0 main_v7
  let main_c_2 : IVec S_ 32 := constantI S_ 32 1000#32
  let main_v9 : IVec S64x12 32 := broadcastInDim S64x12 ![] bcast_S_S64x12 main_c_2
  let main_v10 : IVec S64x12 32 := addi main_arg0 main_v9
  let main_v11 : IVec S64x12 32 := select main_v8 main_v10 main_arg0
  let main_v12 : IVec S64x12x1 32 := broadcastInDim S64x12x1 ![0, 1] bcast_S64x12_S64x12x1_0_1 main_v11
  let main_v13 : IVec S64x12 32 := (fun x i => Host.gather gather_S1000_S64x12x1_S64x12_n_0_n_n_0_2_1 x i) main_arg2 main_v12
  let main_c_3 : IVec S_ 32 := constantI S_ 32 0#32
  let main_v14 : IVec S64x12 32 := broadcastInDim S64x12 ![] bcast_S_S64x12 main_c_3
  let main_v15 : IVec S64x12 1 := cmpi .sge main_arg0 main_v14
  let main_c_4 : IVec S_ 32 := constantI S_ 32 1000#32
  let main_v16 : IVec S64x12 32 := broadcastInDim S64x12 ![] bcast_S_S64x12 main_c_4
  let main_v17 : IVec S64x12 1 := cmpi .slt main_arg0 main_v16
  fn_part1 (F := F) main_v6 main_v13 main_v15 main_v17
-- ==== Pre_scan_fits.lean ====
abbrev S64x12 : Shape := ⟨2, ![64, 12]⟩
abbrev S1000 : Shape := ⟨1, ![1000]⟩
abbrev S12x64 : Shape := ⟨2, ![12, 64]⟩
abbrev S12x128x128 : Shape := ⟨3, ![12, 128, 128]⟩
abbrev S2048000x30 : Shape := ⟨2, ![2048000, 30]⟩
abbrev S2048000 : Shape := ⟨1, ![2048000]⟩
abbrev S_ : Shape := ⟨0, ![]⟩
abbrev S64x12x1 : Shape := ⟨3, ![64, 12, 1]⟩

class Facts : Prop where
  bcast_S_S64x12 : S_.BroadcastsInDim S64x12 (![] : Fin 0 → Fin S64x12.rank)
  bcast_S64x12_S64x12x1_0_1 : S64x12.BroadcastsInDim S64x12x1 (![0, 1] : Fin 2 → Fin S64x12x1.rank)
  bcast_S_S2048000 : S_.BroadcastsInDim S2048000 (![] : Fin 0 → Fin S2048000.rank)
  gather_S1000_S64x12x1_S64x12_n_0_n_n_0_2_1_wf : GatherDims.WF S1000 S64x12x1 S64x12 [] [0] [] [0] [] 2 ![1]

variable [Facts]

def gather_S1000_S64x12x1_S64x12_n_0_n_n_0_2_1 : GatherDims S1000 S64x12x1 S64x12 where
  offsetDims := []
  collapsedSliceDims := [0]
  operandBatchingDims := []
  startIndicesBatchingDims := []
  startIndexMap := [0]
  indexVectorDim := 2
  sliceSizes := ![1]
  wf := gather_S1000_S64x12x1_S64x12_n_0_n_n_0_2_1_wf
def fn_part1 {F : FTy → Type} [FloatOps F] (main_arg10 : FVec F S2048000 .f32) (main_v6 : IVec S64x12 32) (main_v13 : IVec S64x12 32) (main_v15 : IVec S64x12 1) (main_v17 : IVec S64x12 1) : IVec S64x12 1 × IVec S2048000 1 :=
  let main_v18 : IVec S64x12 1 := andi main_v15 main_v17
  let main_c_5 : IVec S_ 32 := constantI S_ 32 0#32
  let main_v19 : IVec S64x12 32 := broadcastInDim S64x12 ![] bcast_S_S64x12 main_c_5
  let main_v20 : IVec S64x12 1 := cmpi .sge main_v6 main_v19
  let main_v21 : IVec S64x12 1 := andi main_v18 main_v20
  let main_c_6 : IVec S_ 32 := constantI S_ 32 2045056#32
  let main_v22 : IVec S64x12 32 := broadcastInDim S64x12 ![] bcast_S_S64x12 main_c_6
  let main_v23 : IVec S64x12 1 := cmpi .slt main_v6 main_v22
  let main_v24 : IVec S64x12 1 := andi main_v21 main_v23
  let main_c_7 : IVec S_ 32 := constantI S_ 32 1#32
  let main_v25 : IVec S64x12 32 := broadcastInDim S64x12 ![] bcast_S_S64x12 main_c_7
  let main_v26 : IVec S64x12 1 := cmpi .sge main_v13 main_v25
  let main_v27 : IVec S64x12 1 := andi main_v24 main_v26
  let main_c_8 : IVec S_ 32 := constantI S_ 32 2048#32
  let main_v28 : IVec S64x12 32 := broadcastInDim S64x12 ![] bcast_S_S64x12 main_c_8
  let main_v29 : IVec S64x12 1 := cmpi .sle main_v13 main_v28
  let main_v30 : IVec S64x12 1 := andi main_v27 main_v29
  let main_cst : FVec F S_ .f32 := constant S_ .f32 0x00000000#32
  let main_v31 : FVec F S2048000 .f32 := broadcastInDim S2048000 ![] bcast_S_S2048000 main_cst
  let main_v32 : IVec S2048000 1 := cmpf .une main_arg10 main_v31
  (main_v30, main_v32)

def fn {F : FTy → Type} [FloatOps F] (main_arg0 : IVec S64x12 32) (main_arg1 : IVec S1000 32) (main_arg2 : IVec S1000 32) (main_arg3 : FVec F S12x64 .f32) (main_arg4 : FVec F S12x64 .f32) (main_arg5 : FVec F S12x64 .f32) (main_arg6 : FVec F S12x64 .f32) (main_arg7 : IVec S12x128x128 32) (main_arg8 : IVec S2048000x30 32) (main_arg9 : FVec F S2048000 .f32) (main_arg10 : FVec F S2048000 .f32) : IVec S64x12 1 × IVec S2048000 1 :=
  let main_c : IVec S_ 32 := constantI S_ 32 0#32
  let main_v0 : IVec S64x12 32 := broadcastInDim S64x12 ![] bcast_S_S64x12 main_c
  let main_v1 : IVec S64x12 1 := cmpi .slt main_arg0 main_v0
  let main_c_0 : IVec S_ 32 := constantI S_ 32 1000#32
  let main_v2 : IVec S64x12 32 := broadcastInDim S64x12 ![] bcast_S_S64x12 main_c_0
  let main_v3 : IVec S64x12 32 := addi main_arg0 main_v2
  let main_v4 : IVec S64x12 32 := select main_v1 main_v3 main_arg0
  let main_v5 : IVec S64x12x1 32 := broadcastInDim S64x12x1 ![0, 1] bcast_S64x12_S64x12x1_0_1 main_v4
  let main_v6 : IVec S64x12 32 := (fun x i => Host.gather gather_S1000_S64x12x1_S64x12_n_0_n_n_0_2_1 x i) main_arg1 main_v5
  let main_c_1 : IVec S_ 32 := constantI S_ 32 0#32
  let main_v7 : IVec S64x12 32 := broadcastInDim S64x12 ![] bcast_S_S64x12 main_c_1
  let main_v8 : IVec S64x12 1 := cmpi .slt main_arg0 main_v7
  let main_c_2 : IVec S_ 32 := constantI S_ 32 1000#32
  let main_v9 : IVec S64x12 32 := broadcastInDim S64x12 ![] bcast_S_S64x12 main_c_2
  let main_v10 : IVec S64x12 32 := addi main_arg0 main_v9
  let main_v11 : IVec S64x12 32 := select main_v8 main_v10 main_arg0
  let main_v12 : IVec S64x12x1 32 := broadcastInDim S64x12x1 ![0, 1] bcast_S64x12_S64x12x1_0_1 main_v11
  let main_v13 : IVec S64x12 32 := (fun x i => Host.gather gather_S1000_S64x12x1_S64x12_n_0_n_n_0_2_1 x i) main_arg2 main_v12
  let main_c_3 : IVec S_ 32 := constantI S_ 32 0#32
  let main_v14 : IVec S64x12 32 := broadcastInDim S64x12 ![] bcast_S_S64x12 main_c_3
  let main_v15 : IVec S64x12 1 := cmpi .sge main_arg0 main_v14
  let main_c_4 : IVec S_ 32 := constantI S_ 32 1000#32
  let main_v16 : IVec S64x12 32 := broadcastInDim S64x12 ![] bcast_S_S64x12 main_c_4
  let main_v17 : IVec S64x12 1 := cmpi .slt main_arg0 main_v16
  fn_part1 (F := F) main_arg10 main_v6 main_v13 main_v15 main_v17
-- ==== Kernel.lean ====
abbrev S64x12 : Shape := ⟨2, ![64, 12]⟩
abbrev S1000 : Shape := ⟨1, ![1000]⟩
abbrev S12x64 : Shape := ⟨2, ![12, 64]⟩
abbrev S12x128x128 : Shape := ⟨3, ![12, 128, 128]⟩
abbrev S2048000x30 : Shape := ⟨2, ![2048000, 30]⟩
abbrev S2048000 : Shape := ⟨1, ![2048000]⟩
abbrev S30x2048000 : Shape := ⟨2, ![30, 2048000]⟩
abbrev S16000x128 : Shape := ⟨2, ![16000, 128]⟩
abbrev S12x8x16x8x128 : Shape := ⟨5, ![12, 8, 16, 8, 128]⟩
abbrev S768 : Shape := ⟨1, ![768]⟩
abbrev S16x30x512 : Shape := ⟨3, ![16, 30, 512]⟩
abbrev S16 : Shape := ⟨1, ![16]⟩
abbrev S64x128 : Shape := ⟨2, ![64, 128]⟩
abbrev S15384x128 : Shape := ⟨2, ![15384, 128]⟩
abbrev S8x24x128 : Shape := ⟨3, ![8, 24, 128]⟩
abbrev S2x8 : Shape := ⟨2, ![2, 8]⟩
abbrev S3x24x128 : Shape := ⟨3, ![3, 24, 128]⟩
abbrev S3x8x16x128 : Shape := ⟨4, ![3, 8, 16, 128]⟩
abbrev S3x8 : Shape := ⟨2, ![3, 8]⟩
abbrev S1x1 : Shape := ⟨2, ![1, 1]⟩
abbrev S1 : Shape := ⟨1, ![1]⟩
abbrev S2x128 : Shape := ⟨2, ![2, 128]⟩
abbrev S_ : Shape := ⟨0, ![]⟩
abbrev S1x30x512 : Shape := ⟨3, ![1, 30, 512]⟩
abbrev S30x512 : Shape := ⟨2, ![30, 512]⟩
abbrev S8x128 : Shape := ⟨2, ![8, 128]⟩
abbrev S1x8x128 : Shape := ⟨3, ![1, 8, 128]⟩
abbrev S8x128x1 : Shape := ⟨3, ![8, 128, 1]⟩
abbrev S1x6x128 : Shape := ⟨3, ![1, 6, 128]⟩
abbrev S6x128 : Shape := ⟨2, ![6, 128]⟩
abbrev S4x128 : Shape := ⟨2, ![4, 128]⟩
abbrev S1x24x128 : Shape := ⟨3, ![1, 24, 128]⟩
abbrev S24x128 : Shape := ⟨2, ![24, 128]⟩
abbrev S1x1x16x1x128 : Shape := ⟨5, ![1, 1, 16, 1, 128]⟩
abbrev S16x128 : Shape := ⟨2, ![16, 128]⟩
abbrev S1x1x16x128 : Shape := ⟨4, ![1, 1, 16, 128]⟩
abbrev S1x1x8x128 : Shape := ⟨4, ![1, 1, 8, 128]⟩
abbrev S8x8x12x16x128 : Shape := ⟨5, ![8, 8, 12, 16, 128]⟩
abbrev S64x12x2048 : Shape := ⟨3, ![64, 12, 2048]⟩

abbrev nBuf : Space → Nat
  | .hbm => 24
  | .vmem => 10
  | .smem => 11
  | _ => 0

abbrev bufTy : (tb : Table) → Fin (tcTables nBuf tb) → BufTy
  | .hbm, ⟨0, _⟩ => ⟨S64x12, .i32⟩
  | .hbm, ⟨1, _⟩ => ⟨S1000, .i32⟩
  | .hbm, ⟨2, _⟩ => ⟨S1000, .i32⟩
  | .hbm, ⟨3, _⟩ => ⟨S12x64, .f32⟩
  | .hbm, ⟨4, _⟩ => ⟨S12x64, .f32⟩
  | .hbm, ⟨5, _⟩ => ⟨S12x64, .f32⟩
  | .hbm, ⟨6, _⟩ => ⟨S12x64, .f32⟩
  | .hbm, ⟨7, _⟩ => ⟨S12x128x128, .i32⟩
  | .hbm, ⟨8, _⟩ => ⟨S2048000x30, .i32⟩
  | .hbm, ⟨9, _⟩ => ⟨S2048000, .f32⟩
  | .hbm, ⟨10, _⟩ => ⟨S2048000, .f32⟩
  | .hbm, ⟨11, _⟩ => ⟨S12x64, .i32⟩
  | .hbm, ⟨12, _⟩ => ⟨S30x2048000, .i32⟩
  | .hbm, ⟨13, _⟩ => ⟨S16000x128, .f32⟩
  | .hbm, ⟨14, _⟩ => ⟨S16000x128, .f32⟩
  | .hbm, ⟨15, _⟩ => ⟨S12x8x16x8x128, .f32⟩
  | .hbm, ⟨16, _⟩ => ⟨S12x8x16x8x128, .f32⟩
  | .hbm, ⟨17, _⟩ => ⟨S12x8x16x8x128, .f32⟩
  | .hbm, ⟨18, _⟩ => ⟨S8x8x12x16x128, .f32⟩
  | .hbm, ⟨19, _⟩ => ⟨S64x12x2048, .f32⟩
  | .hbm, ⟨20, _⟩ => ⟨S8x8x12x16x128, .f32⟩
  | .hbm, ⟨21, _⟩ => ⟨S64x12x2048, .f32⟩
  | .hbm, ⟨22, _⟩ => ⟨S8x8x12x16x128, .f32⟩
  | .hbm, ⟨23, _⟩ => ⟨S64x12x2048, .f32⟩
  | .local _ .vmem, ⟨0, _⟩ => ⟨S12x128x128, .i32⟩
  | .local _ .vmem, ⟨1, _⟩ => ⟨S16x30x512, .i32⟩
  | .local _ .vmem, ⟨2, _⟩ => ⟨S64x128, .i32⟩
  | .local _ .vmem, ⟨3, _⟩ => ⟨S15384x128, .i32⟩
  | .local _ .vmem, ⟨4, _⟩ => ⟨S15384x128, .i32⟩
  | .local _ .vmem, ⟨5, _⟩ => ⟨S8x24x128, .f32⟩
  | .local _ .vmem, ⟨6, _⟩ => ⟨S8x24x128, .f32⟩
  | .local _ .vmem, ⟨7, _⟩ => ⟨S3x24x128, .i32⟩
  | .local _ .vmem, ⟨8, _⟩ => ⟨S3x24x128, .f32⟩
  | .local _ .vmem, ⟨9, _⟩ => ⟨S3x8x16x128, .f32⟩
  | .local _ .smem, ⟨0, _⟩ => ⟨S12x64, .i32⟩
  | .local _ .smem, ⟨1, _⟩ => ⟨S1000, .i32⟩
  | .local _ .smem, ⟨2, _⟩ => ⟨S1000, .i32⟩
  | .local _ .smem, ⟨3, _⟩ => ⟨S12x64, .f32⟩
  | .local _ .smem, ⟨4, _⟩ => ⟨S12x64, .f32⟩
  | .local _ .smem, ⟨5, _⟩ => ⟨S12x64, .f32⟩
  | .local _ .smem, ⟨6, _⟩ => ⟨S12x64, .f32⟩
  | .local _ .smem, ⟨7, _⟩ => ⟨S768, .i32⟩
  | .local _ .smem, ⟨8, _⟩ => ⟨S768, .i32⟩
  | .local _ .smem, ⟨9, _⟩ => ⟨S768, .i32⟩
  | .local _ .smem, ⟨10, _⟩ => ⟨S768, .i32⟩
  | _, _ => ⟨S64x12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg7_0 : Ref sig .tc := ⟨.vmem, 0, rfl⟩
abbrev cc0_scratch4 : Ref sig .tc := ⟨.vmem, 1, rfl⟩
abbrev cc0_scratch6 : Ref sig .tc := ⟨.vmem, 2, rfl⟩
abbrev cc0_scratch7 : Ref sig .tc := ⟨.vmem, 3, rfl⟩
abbrev cc0_scratch8 : Ref sig .tc := ⟨.vmem, 4, rfl⟩
abbrev cc0_scratch9 : Ref sig .tc := ⟨.vmem, 5, rfl⟩
abbrev cc0_scratch10 : Ref sig .tc := ⟨.vmem, 6, rfl⟩
abbrev cc0_scratch12 : Ref sig .tc := ⟨.vmem, 7, rfl⟩
abbrev cc0_scratch13 : Ref sig .tc := ⟨.vmem, 8, rfl⟩
abbrev cc0_scratch14 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_stg6_0 : Ref sig .tc := ⟨.smem, 6, rfl⟩
abbrev cc0_scratch0 : Ref sig .tc := ⟨.smem, 7, rfl⟩
abbrev cc0_scratch1 : Ref sig .tc := ⟨.smem, 8, rfl⟩
abbrev cc0_scratch2 : Ref sig .tc := ⟨.smem, 9, rfl⟩
abbrev cc0_scratch3 : Ref sig .tc := ⟨.smem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c768_i32 : BitVec 32 := 768#32
  let v0 : BitVec 32 := Scalar.addi c0_i32_0 c768_i32
  let c1_i32 : BitVec 32 := 1#32
  ⟨c0_i32_0, v0, c1_i32⟩
def k0_off1 (k0_t1 : Fin k0_t1_loop.trips) : Fin 2 → Nat :=
  let c0_i32_0 : BitVec 32 := 0#32
  let c1_i32 : BitVec 32 := 1#32
  let arg30 : BitVec 32 := Scf.iv c0_i32_0 c1_i32 k0_t1
  let c6_i32_371 : BitVec 32 := 6#32
  let v247 : BitVec 32 := Scalar.shrsi arg30 c6_i32_371
  let v249 : Index := Scalar.indexCast v247
  let c63_i32 : BitVec 32 := 63#32
  let v248 : BitVec 32 := Scalar.andi arg30 c63_i32
  let v250 : Index := Scalar.indexCast v248
  ![v249.toNat, v250.toNat]
def k0_off2 (v251 : BitVec 32) : Fin 1 → Nat :=
  let v252 : Index := Scalar.indexCast v251
  ![v252.toNat]

def k0_chk1 (v251 : BitVec 32) : Prop :=
  (∀ a, (k0_off2 v251) a + S1.size a ≤ S1000.size a)
theorem k0_off2_inb : ∀ (v251 : BitVec 32) (k0_hw1 : k0_chk1 v251), ∀ a, (k0_off2 v251) a + S1.size a ≤ S1000.size a := fun v251 k0_hw1 => k0_hw1

def k0_off3 (k0_t1 : Fin k0_t1_loop.trips) : Fin 1 → Nat :=
  let c0_i32_0 : BitVec 32 := 0#32
  let c1_i32 : BitVec 32 := 1#32
  let arg30 : BitVec 32 := Scf.iv c0_i32_0 c1_i32 k0_t1
  let v262 : Index := Scalar.indexCast arg30
  ![v262.toNat]
@[reducible] def k0_t2_loop : Scf.Loop 32 :=
  let c0_i32_5 : BitVec 32 := 0#32
  let c16_i32 : BitVec 32 := 16#32
  let v3 : BitVec 32 := Scalar.addi c0_i32_5 c16_i32
  let c1_i32_6 : BitVec 32 := 1#32
  ⟨c0_i32_5, v3, c1_i32_6⟩
def k0_off4 (arg31 : BitVec 32) : Fin 1 → Nat :=
  let v247 : Index := Scalar.indexCast arg31
  ![v247.toNat]

def k0_mult1 (arg32 : BitVec 32) (v248 : BitVec 32) : BitVec 32 :=
  let c4_i32_371 : BitVec 32 := 4#32
  let v249 : BitVec 32 := Scalar.muli arg32 c4_i32_371
  let v250 : BitVec 32 := Scalar.addi v248 v249
  let c128_i32 : BitVec 32 := 128#32
  let v251 : BitVec 32 := Scalar.muli v250 c128_i32
  v251

def k0_off5 (k0_t2 : Fin k0_t2_loop.trips) : Fin 1 → Nat :=
  let c0_i32_5 : BitVec 32 := 0#32
  let c1_i32_6 : BitVec 32 := 1#32
  let arg30 : BitVec 32 := Scf.iv c0_i32_5 c1_i32_6 k0_t2
  ![arg30.toNat]
def k0_off6 (k0_t2 : Fin k0_t2_loop.trips) : Fin 3 → Nat :=
  let c0_i32_5 : BitVec 32 := 0#32
  let c1_i32_6 : BitVec 32 := 1#32
  let arg30 : BitVec 32 := Scf.iv c0_i32_5 c1_i32_6 k0_t2
  let c0_i32_372 : BitVec 32 := 0#32
  let c0_i32_373 : BitVec 32 := 0#32
  ![arg30.toNat, 0, 0]
def k0_off7 (arg32 : BitVec 32) (v248 : BitVec 32) : Fin 2 → Nat :=
  let c0_i32_374 : BitVec 32 := 0#32
  let c4_i32_371 : BitVec 32 := 4#32
  let v249 : BitVec 32 := Scalar.muli arg32 c4_i32_371
  let v250 : BitVec 32 := Scalar.addi v248 v249
  let c128_i32 : BitVec 32 := 128#32
  let v251 : BitVec 32 := Scalar.muli v250 c128_i32
  let v252 : BitVec 32 := v251
  ![0, v252.toNat]

def k0_chk3 (arg32 : BitVec 32) (v248 : BitVec 32) : Prop :=
  (128 ∣ (k0_mult1 arg32 v248).toNat) ∧
  (∀ a, (k0_off7 arg32 v248) a + S30x512.size a ≤ S30x2048000.size a)
theorem k0_mult1_dvd : ∀ (arg32 : BitVec 32) (v248 : BitVec 32) (k0_hw3 : k0_chk3 arg32 v248), 128 ∣ (k0_mult1 arg32 v248).toNat := fun arg32 v248 k0_hw3 => k0_hw3.1
theorem k0_off7_inb : ∀ (arg32 : BitVec 32) (v248 : BitVec 32) (k0_hw3 : k0_chk3 arg32 v248), ∀ a, (k0_off7 arg32 v248) a + S30x512.size a ≤ S30x2048000.size a := fun arg32 v248 k0_hw3 => k0_hw3.2

def k0_off8 (arg31 : BitVec 32) : Fin 1 → Nat :=
  let v259 : Index := Scalar.indexCast arg31
  ![v259.toNat]

def k0_chk2 (arg31 : BitVec 32) : Prop :=
  (∀ a, (k0_off4 arg31) a + S1.size a ≤ S768.size a) ∧
  (∀ a, (k0_off8 arg31) a + S1.size a ≤ S768.size a)
theorem k0_off4_inb : ∀ (arg31 : BitVec 32) (k0_hw2 : k0_chk2 arg31), ∀ a, (k0_off4 arg31) a + S1.size a ≤ S768.size a := fun arg31 k0_hw2 => k0_hw2.1
theorem k0_off8_inb : ∀ (arg31 : BitVec 32) (k0_hw2 : k0_chk2 arg31), ∀ a, (k0_off8 arg31) a + S1.size a ≤ S768.size a := fun arg31 k0_hw2 => k0_hw2.2

@[reducible] def k0_t3_loop (v1 : BitVec 32) : Scf.Loop 32 :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_12 : BitVec 32 := 1#32
  ⟨c0_i32_8, v9, c1_i32_12⟩

def k0_off9 (arg31 : BitVec 32) : Fin 1 → Nat :=
  let v248 : Index := Scalar.indexCast arg31
  ![v248.toNat]

def k0_mult2 (arg32 : BitVec 32) (v249 : BitVec 32) : BitVec 32 :=
  let c4_i32_371 : BitVec 32 := 4#32
  let v250 : BitVec 32 := Scalar.muli arg32 c4_i32_371
  let v251 : BitVec 32 := Scalar.addi v249 v250
  let c128_i32 : BitVec 32 := 128#32
  let v252 : BitVec 32 := Scalar.muli v251 c128_i32
  v252

def k0_off10 (v1 : BitVec 32) (k0_t3 : Fin (k0_t3_loop v1).trips) : Fin 1 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  ![v247.toNat]
def k0_off11 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let c0_i32_372 : BitVec 32 := 0#32
  let c0_i32_373 : BitVec 32 := 0#32
  ![v247.toNat, 0, 0]
def k0_off12 (arg32 : BitVec 32) (v249 : BitVec 32) : Fin 2 → Nat :=
  let c0_i32_374 : BitVec 32 := 0#32
  let c4_i32_371 : BitVec 32 := 4#32
  let v250 : BitVec 32 := Scalar.muli arg32 c4_i32_371
  let v251 : BitVec 32 := Scalar.addi v249 v250
  let c128_i32 : BitVec 32 := 128#32
  let v252 : BitVec 32 := Scalar.muli v251 c128_i32
  let v253 : BitVec 32 := v252
  ![0, v253.toNat]

def k0_chk6 (arg32 : BitVec 32) (v249 : BitVec 32) : Prop :=
  (128 ∣ (k0_mult2 arg32 v249).toNat) ∧
  (∀ a, (k0_off12 arg32 v249) a + S30x512.size a ≤ S30x2048000.size a)
theorem k0_mult2_dvd : ∀ (arg32 : BitVec 32) (v249 : BitVec 32) (k0_hw6 : k0_chk6 arg32 v249), 128 ∣ (k0_mult2 arg32 v249).toNat := fun arg32 v249 k0_hw6 => k0_hw6.1
theorem k0_off12_inb : ∀ (arg32 : BitVec 32) (v249 : BitVec 32) (k0_hw6 : k0_chk6 arg32 v249), ∀ a, (k0_off12 arg32 v249) a + S30x512.size a ≤ S30x2048000.size a := fun arg32 v249 k0_hw6 => k0_hw6.2

def k0_off13 (arg31 : BitVec 32) : Fin 3 → Nat :=
  let c6_i32_375 : BitVec 32 := 6#32
  let v259 : BitVec 32 := Scalar.shrsi arg31 c6_i32_375
  let v262 : Index := Scalar.indexCast v259
  let c0_376 : Index := 0#32
  let c0_377 : Index := 0#32
  ![v262.toNat, 0, 0]
def k0_off14 (arg31 : BitVec 32) : Fin 3 → Nat :=
  let c6_i32_375 : BitVec 32 := 6#32
  let v259 : BitVec 32 := Scalar.shrsi arg31 c6_i32_375
  let v273 : Index := Scalar.indexCast v259
  let c8 : Index := 8#32
  let c0_380 : Index := 0#32
  ![v273.toNat, 8, 0]
def k0_off15 (arg31 : BitVec 32) : Fin 3 → Nat :=
  let c6_i32_375 : BitVec 32 := 6#32
  let v259 : BitVec 32 := Scalar.shrsi arg31 c6_i32_375
  let v284 : Index := Scalar.indexCast v259
  let c16 : Index := 16#32
  let c0_383 : Index := 0#32
  ![v284.toNat, 16, 0]
def k0_off16 (arg31 : BitVec 32) : Fin 3 → Nat :=
  let c6_i32_375 : BitVec 32 := 6#32
  let v259 : BitVec 32 := Scalar.shrsi arg31 c6_i32_375
  let v295 : Index := Scalar.indexCast v259
  let c24 : Index := 24#32
  let c0_386 : Index := 0#32
  ![v295.toNat, 24, 0]
def k0_off17 (arg31 : BitVec 32) : Fin 3 → Nat :=
  let c6_i32_375 : BitVec 32 := 6#32
  let v259 : BitVec 32 := Scalar.shrsi arg31 c6_i32_375
  let v306 : Index := Scalar.indexCast v259
  let c32 : Index := 32#32
  let c0_389 : Index := 0#32
  ![v306.toNat, 32, 0]
def k0_off18 (arg31 : BitVec 32) : Fin 3 → Nat :=
  let c6_i32_375 : BitVec 32 := 6#32
  let v259 : BitVec 32 := Scalar.shrsi arg31 c6_i32_375
  let v317 : Index := Scalar.indexCast v259
  let c40 : Index := 40#32
  let c0_392 : Index := 0#32
  ![v317.toNat, 40, 0]
def k0_off19 (arg31 : BitVec 32) : Fin 3 → Nat :=
  let c6_i32_375 : BitVec 32 := 6#32
  let v259 : BitVec 32 := Scalar.shrsi arg31 c6_i32_375
  let v328 : Index := Scalar.indexCast v259
  let c48 : Index := 48#32
  let c0_395 : Index := 0#32
  ![v328.toNat, 48, 0]
def k0_off20 (arg31 : BitVec 32) : Fin 3 → Nat :=
  let c6_i32_375 : BitVec 32 := 6#32
  let v259 : BitVec 32 := Scalar.shrsi arg31 c6_i32_375
  let v339 : Index := Scalar.indexCast v259
  let c56 : Index := 56#32
  let c0_398 : Index := 0#32
  ![v339.toNat, 56, 0]
def k0_off21 (arg31 : BitVec 32) : Fin 3 → Nat :=
  let c6_i32_375 : BitVec 32 := 6#32
  let v259 : BitVec 32 := Scalar.shrsi arg31 c6_i32_375
  let v350 : Index := Scalar.indexCast v259
  let c64 : Index := 64#32
  let c0_401 : Index := 0#32
  ![v350.toNat, 64, 0]
def k0_off22 (arg31 : BitVec 32) : Fin 3 → Nat :=
  let c6_i32_375 : BitVec 32 := 6#32
  let v259 : BitVec 32 := Scalar.shrsi arg31 c6_i32_375
  let v361 : Index := Scalar.indexCast v259
  let c72 : Index := 72#32
  let c0_404 : Index := 0#32
  ![v361.toNat, 72, 0]
def k0_off23 (arg31 : BitVec 32) : Fin 3 → Nat :=
  let c6_i32_375 : BitVec 32 := 6#32
  let v259 : BitVec 32 := Scalar.shrsi arg31 c6_i32_375
  let v372 : Index := Scalar.indexCast v259
  let c80 : Index := 80#32
  let c0_407 : Index := 0#32
  ![v372.toNat, 80, 0]
def k0_off24 (arg31 : BitVec 32) : Fin 3 → Nat :=
  let c6_i32_375 : BitVec 32 := 6#32
  let v259 : BitVec 32 := Scalar.shrsi arg31 c6_i32_375
  let v383 : Index := Scalar.indexCast v259
  let c88 : Index := 88#32
  let c0_410 : Index := 0#32
  ![v383.toNat, 88, 0]
def k0_off25 (arg31 : BitVec 32) : Fin 3 → Nat :=
  let c6_i32_375 : BitVec 32 := 6#32
  let v259 : BitVec 32 := Scalar.shrsi arg31 c6_i32_375
  let v394 : Index := Scalar.indexCast v259
  let c96 : Index := 96#32
  let c0_413 : Index := 0#32
  ![v394.toNat, 96, 0]
def k0_off26 (arg31 : BitVec 32) : Fin 3 → Nat :=
  let c6_i32_375 : BitVec 32 := 6#32
  let v259 : BitVec 32 := Scalar.shrsi arg31 c6_i32_375
  let v405 : Index := Scalar.indexCast v259
  let c104 : Index := 104#32
  let c0_416 : Index := 0#32
  ![v405.toNat, 104, 0]
def k0_off27 (arg31 : BitVec 32) : Fin 3 → Nat :=
  let c6_i32_375 : BitVec 32 := 6#32
  let v259 : BitVec 32 := Scalar.shrsi arg31 c6_i32_375
  let v416 : Index := Scalar.indexCast v259
  let c112 : Index := 112#32
  let c0_419 : Index := 0#32
  ![v416.toNat, 112, 0]
def k0_off28 (arg31 : BitVec 32) : Fin 3 → Nat :=
  let c6_i32_375 : BitVec 32 := 6#32
  let v259 : BitVec 32 := Scalar.shrsi arg31 c6_i32_375
  let v427 : Index := Scalar.indexCast v259
  let c120 : Index := 120#32
  let c0_422 : Index := 0#32
  ![v427.toNat, 120, 0]
def k0_off29 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v438 : Index := Scalar.indexCast v247
  let c0_425 : Index := 0#32
  let c0_426 : Index := 0#32
  ![v438.toNat, 0, 0]
def k0_off30 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v441 : Index := Scalar.indexCast v247
  let c8_427 : Index := 8#32
  let c0_428 : Index := 0#32
  ![v441.toNat, 8, 0]
def k0_off31 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v444 : Index := Scalar.indexCast v247
  let c16_429 : Index := 16#32
  let c0_430 : Index := 0#32
  ![v444.toNat, 16, 0]
def k0_off32 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v447 : Index := Scalar.indexCast v247
  let c24_431 : Index := 24#32
  let c0_432 : Index := 0#32
  ![v447.toNat, 24, 0]
def k0_off33 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v524 : Index := Scalar.indexCast v247
  let c0_442 : Index := 0#32
  let c128 : Index := 128#32
  ![v524.toNat, 0, 128]
def k0_off34 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v527 : Index := Scalar.indexCast v247
  let c8_443 : Index := 8#32
  let c128_444 : Index := 128#32
  ![v527.toNat, 8, 128]
def k0_off35 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v530 : Index := Scalar.indexCast v247
  let c16_445 : Index := 16#32
  let c128_446 : Index := 128#32
  ![v530.toNat, 16, 128]
def k0_off36 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v533 : Index := Scalar.indexCast v247
  let c24_447 : Index := 24#32
  let c128_448 : Index := 128#32
  ![v533.toNat, 24, 128]
def k0_off37 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v610 : Index := Scalar.indexCast v247
  let c0_458 : Index := 0#32
  let c256 : Index := 256#32
  ![v610.toNat, 0, 256]
def k0_off38 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v613 : Index := Scalar.indexCast v247
  let c8_459 : Index := 8#32
  let c256_460 : Index := 256#32
  ![v613.toNat, 8, 256]
def k0_off39 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v616 : Index := Scalar.indexCast v247
  let c16_461 : Index := 16#32
  let c256_462 : Index := 256#32
  ![v616.toNat, 16, 256]
def k0_off40 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v619 : Index := Scalar.indexCast v247
  let c24_463 : Index := 24#32
  let c256_464 : Index := 256#32
  ![v619.toNat, 24, 256]
def k0_off41 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v696 : Index := Scalar.indexCast v247
  let c0_474 : Index := 0#32
  let c384 : Index := 384#32
  ![v696.toNat, 0, 384]
def k0_off42 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v699 : Index := Scalar.indexCast v247
  let c8_475 : Index := 8#32
  let c384_476 : Index := 384#32
  ![v699.toNat, 8, 384]
def k0_off43 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v702 : Index := Scalar.indexCast v247
  let c16_477 : Index := 16#32
  let c384_478 : Index := 384#32
  ![v702.toNat, 16, 384]
def k0_off44 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let v705 : Index := Scalar.indexCast v247
  let c24_479 : Index := 24#32
  let c384_480 : Index := 384#32
  ![v705.toNat, 24, 384]
def k0_mult3 (v1 : BitVec 32) (k0_t3 : Fin (k0_t3_loop v1).trips) : BitVec 32 :=
  let c0_i32_8 : BitVec 32 := 0#32
  let c1_i32_12 : BitVec 32 := 1#32
  let arg30 : BitVec 32 := Scf.iv c0_i32_8 c1_i32_12 k0_t3
  let c4_i32_507 : BitVec 32 := 4#32
  let v799 : BitVec 32 := Scalar.muli arg30 c4_i32_507
  v799
def k0_off45 (v1 : BitVec 32) (k0_t3 : Fin (k0_t3_loop v1).trips) : Fin 2 → Nat :=
  let c0_i32_8 : BitVec 32 := 0#32
  let c1_i32_12 : BitVec 32 := 1#32
  let arg30 : BitVec 32 := Scf.iv c0_i32_8 c1_i32_12 k0_t3
  let c4_i32_507 : BitVec 32 := 4#32
  let v799 : BitVec 32 := Scalar.muli arg30 c4_i32_507
  let v800 : BitVec 32 := v799
  let v802 : Index := Scalar.indexCast v800
  let c0_508 : Index := 0#32
  ![v802.toNat, 0]
def k0_off46 (arg33 : BitVec 32) : Fin 1 → Nat :=
  let v833 : Index := Scalar.indexCast arg33
  ![v833.toNat]
def k0_cond1 (v1 : BitVec 32) (k0_t3 : Fin (k0_t3_loop v1).trips) : BitVec 1 :=
  let c0_i32_8 : BitVec 32 := 0#32
  let c1_i32_12 : BitVec 32 := 1#32
  let arg30 : BitVec 32 := Scf.iv c0_i32_8 c1_i32_12 k0_t3
  let c16_i32_510 : BitVec 32 := 16#32
  let v811 : BitVec 32 := Scalar.addi arg30 c16_i32_510
  let v812 : BitVec 1 := Scalar.cmpi .slt v811 v1
  let v813 : BitVec 32 := Scalar.extui v812
  let c0_i32_511 : BitVec 32 := 0#32
  let v814 : BitVec 1 := Scalar.cmpi .ne v813 c0_i32_511
  v814

def k0_mult4 (arg34 : BitVec 32) (v834 : BitVec 32) : BitVec 32 :=
  let c4_i32_521 : BitVec 32 := 4#32
  let v835 : BitVec 32 := Scalar.muli arg34 c4_i32_521
  let v836 : BitVec 32 := Scalar.addi v834 v835
  let c128_i32_522 : BitVec 32 := 128#32
  let v837 : BitVec 32 := Scalar.muli v836 c128_i32_522
  v837

def k0_off47 (v1 : BitVec 32) (k0_t3 : Fin (k0_t3_loop v1).trips) : Fin 1 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  ![v247.toNat]
def k0_off48 (v1 : BitVec 32) (k0_t3 : Fin (k0_t3_loop v1).trips) : Fin 3 → Nat :=
  let c0_i32_8 : BitVec 32 := 0#32
  let c1_i32_12 : BitVec 32 := 1#32
  let arg30 : BitVec 32 := Scf.iv c0_i32_8 c1_i32_12 k0_t3
  let c15_i32 : BitVec 32 := 15#32
  let v247 : BitVec 32 := Scalar.andi arg30 c15_i32
  let c0_i32_523 : BitVec 32 := 0#32
  let c0_i32_524 : BitVec 32 := 0#32
  ![v247.toNat, 0, 0]
def k0_off49 (arg34 : BitVec 32) (v834 : BitVec 32) : Fin 2 → Nat :=
  let c0_i32_525 : BitVec 32 := 0#32
  let c4_i32_521 : BitVec 32 := 4#32
  let v835 : BitVec 32 := Scalar.muli arg34 c4_i32_521
  let v836 : BitVec 32 := Scalar.addi v834 v835
  let c128_i32_522 : BitVec 32 := 128#32
  let v837 : BitVec 32 := Scalar.muli v836 c128_i32_522
  let v838 : BitVec 32 := v837
  ![0, v838.toNat]

def k0_chk8 (v1 : BitVec 32) (k0_t3 : Fin (k0_t3_loop v1).trips) (arg34 : BitVec 32) (v834 : BitVec 32) : Prop :=
  (∀ (k0_h1 : k0_cond1 v1 k0_t3 = 1#1), 128 ∣ (k0_mult4 arg34 v834).toNat) ∧
  (∀ (k0_h1 : k0_cond1 v1 k0_t3 = 1#1), ∀ a, (k0_off49 arg34 v834) a + S30x512.size a ≤ S30x2048000.size a)
theorem k0_mult4_dvd : ∀ (v1 : BitVec 32) (k0_t3 : Fin (k0_t3_loop v1).trips) (arg34 : BitVec 32) (v834 : BitVec 32) (k0_hw8 : k0_chk8 v1 k0_t3 arg34 v834), ∀ (k0_h1 : k0_cond1 v1 k0_t3 = 1#1), 128 ∣ (k0_mult4 arg34 v834).toNat := fun v1 k0_t3 arg34 v834 k0_hw8 k0_h1 => k0_hw8.1 k0_h1
theorem k0_off49_inb : ∀ (v1 : BitVec 32) (k0_t3 : Fin (k0_t3_loop v1).trips) (arg34 : BitVec 32) (v834 : BitVec 32) (k0_hw8 : k0_chk8 v1 k0_t3 arg34 v834), ∀ (k0_h1 : k0_cond1 v1 k0_t3 = 1#1), ∀ a, (k0_off49 arg34 v834) a + S30x512.size a ≤ S30x2048000.size a := fun v1 k0_t3 arg34 v834 k0_hw8 k0_h1 => k0_hw8.2 k0_h1

def k0_off50 (arg31 : BitVec 32) : Fin 1 → Nat :=
  let v816 : Index := Scalar.indexCast arg31
  ![v816.toNat]

def k0_chk5 (arg31 : BitVec 32) : Prop :=
  (∀ a, (k0_off9 arg31) a + S1.size a ≤ S768.size a) ∧
  (∀ a, (k0_off13 arg31) a + S1x8x128.size a ≤ S12x128x128.size a) ∧
  (∀ a, (k0_off14 arg31) a + S1x8x128.size a ≤ S12x128x128.size a) ∧
  (∀ a, (k0_off15 arg31) a + S1x8x128.size a ≤ S12x128x128.size a) ∧
  (∀ a, (k0_off16 arg31) a + S1x8x128.size a ≤ S12x128x128.size a) ∧
  (∀ a, (k0_off17 arg31) a + S1x8x128.size a ≤ S12x128x128.size a) ∧
  (∀ a, (k0_off18 arg31) a + S1x8x128.size a ≤ S12x128x128.size a) ∧
  (∀ a, (k0_off19 arg31) a + S1x8x128.size a ≤ S12x128x128.size a) ∧
  (∀ a, (k0_off20 arg31) a + S1x8x128.size a ≤ S12x128x128.size a) ∧
  (∀ a, (k0_off21 arg31) a + S1x8x128.size a ≤ S12x128x128.size a) ∧
  (∀ a, (k0_off22 arg31) a + S1x8x128.size a ≤ S12x128x128.size a) ∧
  (∀ a, (k0_off23 arg31) a + S1x8x128.size a ≤ S12x128x128.size a) ∧
  (∀ a, (k0_off24 arg31) a + S1x8x128.size a ≤ S12x128x128.size a) ∧
  (∀ a, (k0_off25 arg31) a + S1x8x128.size a ≤ S12x128x128.size a) ∧
  (∀ a, (k0_off26 arg31) a + S1x8x128.size a ≤ S12x128x128.size a) ∧
  (∀ a, (k0_off27 arg31) a + S1x8x128.size a ≤ S12x128x128.size a) ∧
  (∀ a, (k0_off28 arg31) a + S1x8x128.size a ≤ S12x128x128.size a) ∧
  (∀ a, (k0_off50 arg31) a + S1.size a ≤ S768.size a)
theorem k0_off9_inb : ∀ (arg31 : BitVec 32) (k0_hw5 : k0_chk5 arg31), ∀ a, (k0_off9 arg31) a + S1.size a ≤ S768.size a := fun arg31 k0_hw5 => k0_hw5.1
theorem k0_off13_inb : ∀ (arg31 : BitVec 32) (k0_hw5 : k0_chk5 arg31), ∀ a, (k0_off13 arg31) a + S1x8x128.size a ≤ S12x128x128.size a := fun arg31 k0_hw5 => k0_hw5.2.1
theorem k0_off14_inb : ∀ (arg31 : BitVec 32) (k0_hw5 : k0_chk5 arg31), ∀ a, (k0_off14 arg31) a + S1x8x128.size a ≤ S12x128x128.size a := fun arg31 k0_hw5 => k0_hw5.2.2.1
theorem k0_off15_inb : ∀ (arg31 : BitVec 32) (k0_hw5 : k0_chk5 arg31), ∀ a, (k0_off15 arg31) a + S1x8x128.size a ≤ S12x128x128.size a := fun arg31 k0_hw5 => k0_hw5.2.2.2.1
theorem k0_off16_inb : ∀ (arg31 : BitVec 32) (k0_hw5 : k0_chk5 arg31), ∀ a, (k0_off16 arg31) a + S1x8x128.size a ≤ S12x128x128.size a := fun arg31 k0_hw5 => k0_hw5.2.2.2.2.1
theorem k0_off17_inb : ∀ (arg31 : BitVec 32) (k0_hw5 : k0_chk5 arg31), ∀ a, (k0_off17 arg31) a + S1x8x128.size a ≤ S12x128x128.size a := fun arg31 k0_hw5 => k0_hw5.2.2.2.2.2.1
theorem k0_off18_inb : ∀ (arg31 : BitVec 32) (k0_hw5 : k0_chk5 arg31), ∀ a, (k0_off18 arg31) a + S1x8x128.size a ≤ S12x128x128.size a := fun arg31 k0_hw5 => k0_hw5.2.2.2.2.2.2.1
theorem k0_off19_inb : ∀ (arg31 : BitVec 32) (k0_hw5 : k0_chk5 arg31), ∀ a, (k0_off19 arg31) a + S1x8x128.size a ≤ S12x128x128.size a := fun arg31 k0_hw5 => k0_hw5.2.2.2.2.2.2.2.1
theorem k0_off20_inb : ∀ (arg31 : BitVec 32) (k0_hw5 : k0_chk5 arg31), ∀ a, (k0_off20 arg31) a + S1x8x128.size a ≤ S12x128x128.size a := fun arg31 k0_hw5 => k0_hw5.2.2.2.2.2.2.2.2.1
theorem k0_off21_inb : ∀ (arg31 : BitVec 32) (k0_hw5 : k0_chk5 arg31), ∀ a, (k0_off21 arg31) a + S1x8x128.size a ≤ S12x128x128.size a := fun arg31 k0_hw5 => k0_hw5.2.2.2.2.2.2.2.2.2.1
theorem k0_off22_inb : ∀ (arg31 : BitVec 32) (k0_hw5 : k0_chk5 arg31), ∀ a, (k0_off22 arg31) a + S1x8x128.size a ≤ S12x128x128.size a := fun arg31 k0_hw5 => k0_hw5.2.2.2.2.2.2.2.2.2.2.1
theorem k0_off23_inb : ∀ (arg31 : BitVec 32) (k0_hw5 : k0_chk5 arg31), ∀ a, (k0_off23 arg31) a + S1x8x128.size a ≤ S12x128x128.size a := fun arg31 k0_hw5 => k0_hw5.2.2.2.2.2.2.2.2.2.2.2.1
theorem k0_off24_inb : ∀ (arg31 : BitVec 32) (k0_hw5 : k0_chk5 arg31), ∀ a, (k0_off24 arg31) a + S1x8x128.size a ≤ S12x128x128.size a := fun arg31 k0_hw5 => k0_hw5.2.2.2.2.2.2.2.2.2.2.2.2.1
theorem k0_off25_inb : ∀ (arg31 : BitVec 32) (k0_hw5 : k0_chk5 arg31), ∀ a, (k0_off25 arg31) a + S1x8x128.size a ≤ S12x128x128.size a := fun arg31 k0_hw5 => k0_hw5.2.2.2.2.2.2.2.2.2.2.2.2.2.1
theorem k0_off26_inb : ∀ (arg31 : BitVec 32) (k0_hw5 : k0_chk5 arg31), ∀ a, (k0_off26 arg31) a + S1x8x128.size a ≤ S12x128x128.size a := fun arg31 k0_hw5 => k0_hw5.2.2.2.2.2.2.2.2.2.2.2.2.2.2.1
theorem k0_off27_inb : ∀ (arg31 : BitVec 32) (k0_hw5 : k0_chk5 arg31), ∀ a, (k0_off27 arg31) a + S1x8x128.size a ≤ S12x128x128.size a := fun arg31 k0_hw5 => k0_hw5.2.2.2.2.2.2.2.2.2.2.2.2.2.2.2.1
theorem k0_off28_inb : ∀ (arg31 : BitVec 32) (k0_hw5 : k0_chk5 arg31), ∀ a, (k0_off28 arg31) a + S1x8x128.size a ≤ S12x128x128.size a := fun arg31 k0_hw5 => k0_hw5.2.2.2.2.2.2.2.2.2.2.2.2.2.2.2.2.1
theorem k0_off50_inb : ∀ (arg31 : BitVec 32) (k0_hw5 : k0_chk5 arg31), ∀ a, (k0_off50 arg31) a + S1.size a ≤ S768.size a := fun arg31 k0_hw5 => k0_hw5.2.2.2.2.2.2.2.2.2.2.2.2.2.2.2.2.2

def k0_off51 (arg33 : BitVec 32) : Fin 1 → Nat :=
  let v825 : Index := Scalar.indexCast arg33
  ![v825.toNat]

def k0_chk7 (v1 : BitVec 32) (k0_t3 : Fin (k0_t3_loop v1).trips) (arg33 : BitVec 32) : Prop :=
  (∀ (k0_h1 : k0_cond1 v1 k0_t3 = 1#1), ∀ a, (k0_off46 arg33) a + S1.size a ≤ S768.size a) ∧
  (∀ a, (k0_off51 arg33) a + S1.size a ≤ S768.size a)
theorem k0_off46_inb : ∀ (v1 : BitVec 32) (k0_t3 : Fin (k0_t3_loop v1).trips) (arg33 : BitVec 32) (k0_hw7 : k0_chk7 v1 k0_t3 arg33), ∀ (k0_h1 : k0_cond1 v1 k0_t3 = 1#1), ∀ a, (k0_off46 arg33) a + S1.size a ≤ S768.size a := fun v1 k0_t3 arg33 k0_hw7 k0_h1 => k0_hw7.1 k0_h1
theorem k0_off51_inb : ∀ (v1 : BitVec 32) (k0_t3 : Fin (k0_t3_loop v1).trips) (arg33 : BitVec 32) (k0_hw7 : k0_chk7 v1 k0_t3 arg33), ∀ a, (k0_off51 arg33) a + S1.size a ≤ S768.size a := fun v1 k0_t3 arg33 k0_hw7 => k0_hw7.2

@[reducible] def k0_t4_loop (v1 : BitVec 32) : Scf.Loop 32 :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let v6 : BitVec 32 := Scalar.addi c0_i32_8 v5
  let c1_i32_13 : BitVec 32 := 1#32
  ⟨v9, v6, c1_i32_13⟩
def k0_off52 (arg31 : BitVec 32) : Fin 1 → Nat :=
  let v248 : Index := Scalar.indexCast arg31
  ![v248.toNat]

def k0_mult5 (arg32 : BitVec 32) (v249 : BitVec 32) : BitVec 32 :=
  let c4_i32_371 : BitVec 32 := 4#32
  let v250 : BitVec 32 := Scalar.muli arg32 c4_i32_371
  let v251 : BitVec 32 := Scalar.addi v249 v250
  let c128_i32 : BitVec 32 := 128#32
  let v252 : BitVec 32 := Scalar.muli v251 c128_i32
  v252

def k0_off53 (v1 : BitVec 32) (k0_t4 : Fin (k0_t4_loop v1).trips) : Fin 1 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  ![v247.toNat]
def k0_off54 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let c0_i32_372 : BitVec 32 := 0#32
  let c0_i32_373 : BitVec 32 := 0#32
  ![v247.toNat, 0, 0]
def k0_off55 (arg32 : BitVec 32) (v249 : BitVec 32) : Fin 2 → Nat :=
  let c0_i32_374 : BitVec 32 := 0#32
  let c4_i32_371 : BitVec 32 := 4#32
  let v250 : BitVec 32 := Scalar.muli arg32 c4_i32_371
  let v251 : BitVec 32 := Scalar.addi v249 v250
  let c128_i32 : BitVec 32 := 128#32
  let v252 : BitVec 32 := Scalar.muli v251 c128_i32
  let v253 : BitVec 32 := v252
  ![0, v253.toNat]

def k0_chk10 (arg32 : BitVec 32) (v249 : BitVec 32) : Prop :=
  (128 ∣ (k0_mult5 arg32 v249).toNat) ∧
  (∀ a, (k0_off55 arg32 v249) a + S30x512.size a ≤ S30x2048000.size a)
theorem k0_mult5_dvd : ∀ (arg32 : BitVec 32) (v249 : BitVec 32) (k0_hw10 : k0_chk10 arg32 v249), 128 ∣ (k0_mult5 arg32 v249).toNat := fun arg32 v249 k0_hw10 => k0_hw10.1
theorem k0_off55_inb : ∀ (arg32 : BitVec 32) (v249 : BitVec 32) (k0_hw10 : k0_chk10 arg32 v249), ∀ a, (k0_off55 arg32 v249) a + S30x512.size a ≤ S30x2048000.size a := fun arg32 v249 k0_hw10 => k0_hw10.2

def k0_off56 (arg31 : BitVec 32) : Fin 3 → Nat :=
  let c6_i32_375 : BitVec 32 := 6#32
  let v259 : BitVec 32 := Scalar.shrsi arg31 c6_i32_375
  let v262 : Index := Scalar.indexCast v259
  let c0_376 : Index := 0#32
  let c0_377 : Index := 0#32
  ![v262.toNat, 0, 0]
def k0_off57 (arg31 : BitVec 32) : Fin 3 → Nat :=
  let c6_i32_375 : BitVec 32 := 6#32
  let v259 : BitVec 32 := Scalar.shrsi arg31 c6_i32_375
  let v273 : Index := Scalar.indexCast v259
  let c8 : Index := 8#32
  let c0_380 : Index := 0#32
  ![v273.toNat, 8, 0]
def k0_off58 (arg31 : BitVec 32) : Fin 3 → Nat :=
  let c6_i32_375 : BitVec 32 := 6#32
  let v259 : BitVec 32 := Scalar.shrsi arg31 c6_i32_375
  let v284 : Index := Scalar.indexCast v259
  let c16 : Index := 16#32
  let c0_383 : Index := 0#32
  ![v284.toNat, 16, 0]
def k0_off59 (arg31 : BitVec 32) : Fin 3 → Nat :=
  let c6_i32_375 : BitVec 32 := 6#32
  let v259 : BitVec 32 := Scalar.shrsi arg31 c6_i32_375
  let v295 : Index := Scalar.indexCast v259
  let c24 : Index := 24#32
  let c0_386 : Index := 0#32
  ![v295.toNat, 24, 0]
def k0_off60 (arg31 : BitVec 32) : Fin 3 → Nat :=
  let c6_i32_375 : BitVec 32 := 6#32
  let v259 : BitVec 32 := Scalar.shrsi arg31 c6_i32_375
  let v306 : Index := Scalar.indexCast v259
  let c32 : Index := 32#32
  let c0_389 : Index := 0#32
  ![v306.toNat, 32, 0]
def k0_off61 (arg31 : BitVec 32) : Fin 3 → Nat :=
  let c6_i32_375 : BitVec 32 := 6#32
  let v259 : BitVec 32 := Scalar.shrsi arg31 c6_i32_375
  let v317 : Index := Scalar.indexCast v259
  let c40 : Index := 40#32
  let c0_392 : Index := 0#32
  ![v317.toNat, 40, 0]
def k0_off62 (arg31 : BitVec 32) : Fin 3 → Nat :=
  let c6_i32_375 : BitVec 32 := 6#32
  let v259 : BitVec 32 := Scalar.shrsi arg31 c6_i32_375
  let v328 : Index := Scalar.indexCast v259
  let c48 : Index := 48#32
  let c0_395 : Index := 0#32
  ![v328.toNat, 48, 0]
def k0_off63 (arg31 : BitVec 32) : Fin 3 → Nat :=
  let c6_i32_375 : BitVec 32 := 6#32
  let v259 : BitVec 32 := Scalar.shrsi arg31 c6_i32_375
  let v339 : Index := Scalar.indexCast v259
  let c56 : Index := 56#32
  let c0_398 : Index := 0#32
  ![v339.toNat, 56, 0]
def k0_off64 (arg31 : BitVec 32) : Fin 3 → Nat :=
  let c6_i32_375 : BitVec 32 := 6#32
  let v259 : BitVec 32 := Scalar.shrsi arg31 c6_i32_375
  let v350 : Index := Scalar.indexCast v259
  let c64 : Index := 64#32
  let c0_401 : Index := 0#32
  ![v350.toNat, 64, 0]
def k0_off65 (arg31 : BitVec 32) : Fin 3 → Nat :=
  let c6_i32_375 : BitVec 32 := 6#32
  let v259 : BitVec 32 := Scalar.shrsi arg31 c6_i32_375
  let v361 : Index := Scalar.indexCast v259
  let c72 : Index := 72#32
  let c0_404 : Index := 0#32
  ![v361.toNat, 72, 0]
def k0_off66 (arg31 : BitVec 32) : Fin 3 → Nat :=
  let c6_i32_375 : BitVec 32 := 6#32
  let v259 : BitVec 32 := Scalar.shrsi arg31 c6_i32_375
  let v372 : Index := Scalar.indexCast v259
  let c80 : Index := 80#32
  let c0_407 : Index := 0#32
  ![v372.toNat, 80, 0]
def k0_off67 (arg31 : BitVec 32) : Fin 3 → Nat :=
  let c6_i32_375 : BitVec 32 := 6#32
  let v259 : BitVec 32 := Scalar.shrsi arg31 c6_i32_375
  let v383 : Index := Scalar.indexCast v259
  let c88 : Index := 88#32
  let c0_410 : Index := 0#32
  ![v383.toNat, 88, 0]
def k0_off68 (arg31 : BitVec 32) : Fin 3 → Nat :=
  let c6_i32_375 : BitVec 32 := 6#32
  let v259 : BitVec 32 := Scalar.shrsi arg31 c6_i32_375
  let v394 : Index := Scalar.indexCast v259
  let c96 : Index := 96#32
  let c0_413 : Index := 0#32
  ![v394.toNat, 96, 0]
def k0_off69 (arg31 : BitVec 32) : Fin 3 → Nat :=
  let c6_i32_375 : BitVec 32 := 6#32
  let v259 : BitVec 32 := Scalar.shrsi arg31 c6_i32_375
  let v405 : Index := Scalar.indexCast v259
  let c104 : Index := 104#32
  let c0_416 : Index := 0#32
  ![v405.toNat, 104, 0]
def k0_off70 (arg31 : BitVec 32) : Fin 3 → Nat :=
  let c6_i32_375 : BitVec 32 := 6#32
  let v259 : BitVec 32 := Scalar.shrsi arg31 c6_i32_375
  let v416 : Index := Scalar.indexCast v259
  let c112 : Index := 112#32
  let c0_419 : Index := 0#32
  ![v416.toNat, 112, 0]
def k0_off71 (arg31 : BitVec 32) : Fin 3 → Nat :=
  let c6_i32_375 : BitVec 32 := 6#32
  let v259 : BitVec 32 := Scalar.shrsi arg31 c6_i32_375
  let v427 : Index := Scalar.indexCast v259
  let c120 : Index := 120#32
  let c0_422 : Index := 0#32
  ![v427.toNat, 120, 0]
def k0_off72 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v438 : Index := Scalar.indexCast v247
  let c0_425 : Index := 0#32
  let c0_426 : Index := 0#32
  ![v438.toNat, 0, 0]
def k0_off73 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v441 : Index := Scalar.indexCast v247
  let c8_427 : Index := 8#32
  let c0_428 : Index := 0#32
  ![v441.toNat, 8, 0]
def k0_off74 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v444 : Index := Scalar.indexCast v247
  let c16_429 : Index := 16#32
  let c0_430 : Index := 0#32
  ![v444.toNat, 16, 0]
def k0_off75 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v447 : Index := Scalar.indexCast v247
  let c24_431 : Index := 24#32
  let c0_432 : Index := 0#32
  ![v447.toNat, 24, 0]
def k0_off76 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v524 : Index := Scalar.indexCast v247
  let c0_442 : Index := 0#32
  let c128 : Index := 128#32
  ![v524.toNat, 0, 128]
def k0_off77 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v527 : Index := Scalar.indexCast v247
  let c8_443 : Index := 8#32
  let c128_444 : Index := 128#32
  ![v527.toNat, 8, 128]
def k0_off78 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v530 : Index := Scalar.indexCast v247
  let c16_445 : Index := 16#32
  let c128_446 : Index := 128#32
  ![v530.toNat, 16, 128]
def k0_off79 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v533 : Index := Scalar.indexCast v247
  let c24_447 : Index := 24#32
  let c128_448 : Index := 128#32
  ![v533.toNat, 24, 128]
def k0_off80 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v610 : Index := Scalar.indexCast v247
  let c0_458 : Index := 0#32
  let c256 : Index := 256#32
  ![v610.toNat, 0, 256]
def k0_off81 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v613 : Index := Scalar.indexCast v247
  let c8_459 : Index := 8#32
  let c256_460 : Index := 256#32
  ![v613.toNat, 8, 256]
def k0_off82 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v616 : Index := Scalar.indexCast v247
  let c16_461 : Index := 16#32
  let c256_462 : Index := 256#32
  ![v616.toNat, 16, 256]
def k0_off83 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v619 : Index := Scalar.indexCast v247
  let c24_463 : Index := 24#32
  let c256_464 : Index := 256#32
  ![v619.toNat, 24, 256]
def k0_off84 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v696 : Index := Scalar.indexCast v247
  let c0_474 : Index := 0#32
  let c384 : Index := 384#32
  ![v696.toNat, 0, 384]
def k0_off85 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v699 : Index := Scalar.indexCast v247
  let c8_475 : Index := 8#32
  let c384_476 : Index := 384#32
  ![v699.toNat, 8, 384]
def k0_off86 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v702 : Index := Scalar.indexCast v247
  let c16_477 : Index := 16#32
  let c384_478 : Index := 384#32
  ![v702.toNat, 16, 384]
def k0_off87 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let v705 : Index := Scalar.indexCast v247
  let c24_479 : Index := 24#32
  let c384_480 : Index := 384#32
  ![v705.toNat, 24, 384]
def k0_mult6 (v1 : BitVec 32) (k0_t4 : Fin (k0_t4_loop v1).trips) : BitVec 32 :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c4_i32_507 : BitVec 32 := 4#32
  let v799 : BitVec 32 := Scalar.muli arg30 c4_i32_507
  v799
def k0_off88 (v1 : BitVec 32) (k0_t4 : Fin (k0_t4_loop v1).trips) : Fin 2 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c4_i32_507 : BitVec 32 := 4#32
  let v799 : BitVec 32 := Scalar.muli arg30 c4_i32_507
  let v800 : BitVec 32 := v799
  let v802 : Index := Scalar.indexCast v800
  let c0_508 : Index := 0#32
  ![v802.toNat, 0]
def k0_off89 (arg33 : BitVec 32) : Fin 1 → Nat :=
  let v833 : Index := Scalar.indexCast arg33
  ![v833.toNat]
def k0_cond2 (v1 : BitVec 32) (k0_t4 : Fin (k0_t4_loop v1).trips) : BitVec 1 :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c16_i32_510 : BitVec 32 := 16#32
  let v811 : BitVec 32 := Scalar.addi arg30 c16_i32_510
  let v812 : BitVec 1 := Scalar.cmpi .slt v811 v1
  let v813 : BitVec 32 := Scalar.extui v812
  let c0_i32_511 : BitVec 32 := 0#32
  let v814 : BitVec 1 := Scalar.cmpi .ne v813 c0_i32_511
  v814

def k0_mult7 (arg34 : BitVec 32) (v834 : BitVec 32) : BitVec 32 :=
  let c4_i32_521 : BitVec 32 := 4#32
  let v835 : BitVec 32 := Scalar.muli arg34 c4_i32_521
  let v836 : BitVec 32 := Scalar.addi v834 v835
  let c128_i32_522 : BitVec 32 := 128#32
  let v837 : BitVec 32 := Scalar.muli v836 c128_i32_522
  v837

def k0_off90 (v1 : BitVec 32) (k0_t4 : Fin (k0_t4_loop v1).trips) : Fin 1 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  ![v247.toNat]
def k0_off91 (v1 : BitVec 32) (k0_t4 : Fin (k0_t4_loop v1).trips) : Fin 3 → Nat :=
  let c0_i32_8 : BitVec 32 := 0#32
  let v5 : BitVec 32 := Scalar.subi v1 c0_i32_8
  let c1_i32_11 : BitVec 32 := 1#32
  let v7 : BitVec 32 := Scalar.divsi v5 c1_i32_11
  let v8 : BitVec 32 := Scalar.muli v7 c1_i32_11
  let v9 : BitVec 32 := Scalar.addi c0_i32_8 v8
  let c1_i32_13 : BitVec 32 := 1#32
  let arg30 : BitVec 32 := Scf.iv v9 c1_i32_13 k0_t4
  let c15_i32 : BitVec 32 := 15#32
  let v247 : BitVec 32 := Scalar.andi arg30 c15_i32
  let c0_i32_523 : BitVec 32 := 0#32
  let c0_i32_524 : BitVec 32 := 0#32
  ![v247.toNat, 0, 0]

def k0_chk4_0 (v1 : BitVec 32) : Prop :=
  ((k0_t3_loop v1).OK) ∧
  (∀ k0_t3 : Fin (k0_t3_loop v1).trips, ∀ a, (k0_off10 v1 k0_t3) a + S1.size a ≤ S16.size a) ∧
  (∀ k0_t3 : Fin (k0_t3_loop v1).trips, ∀ a, (k0_off11 v1 k0_t3) a + S1x30x512.size a ≤ S16x30x512.size a) ∧
  (∀ k0_t3 : Fin (k0_t3_loop v1).trips, ∀ a, (k0_off29 v1 k0_t3) a + S1x8x128.size a ≤ S16x30x512.size a) ∧
  (∀ k0_t3 : Fin (k0_t3_loop v1).trips, ∀ a, (k0_off30 v1 k0_t3) a + S1x8x128.size a ≤ S16x30x512.size a) ∧
  (∀ k0_t3 : Fin (k0_t3_loop v1).trips, ∀ a, (k0_off31 v1 k0_t3) a + S1x8x128.size a ≤ S16x30x512.size a) ∧
  (∀ k0_t3 : Fin (k0_t3_loop v1).trips, ∀ a, (k0_off32 v1 k0_t3) a + S1x6x128.size a ≤ S16x30x512.size a) ∧
  (∀ k0_t3 : Fin (k0_t3_loop v1).trips, ∀ a, (k0_off33 v1 k0_t3) a + S1x8x128.size a ≤ S16x30x512.size a) ∧
  (∀ k0_t3 : Fin (k0_t3_loop v1).trips, ∀ a, (k0_off34 v1 k0_t3) a + S1x8x128.size a ≤ S16x30x512.size a) ∧
  (∀ k0_t3 : Fin (k0_t3_loop v1).trips, ∀ a, (k0_off35 v1 k0_t3) a + S1x8x128.size a ≤ S16x30x512.size a) ∧
  (∀ k0_t3 : Fin (k0_t3_loop v1).trips, ∀ a, (k0_off36 v1 k0_t3) a + S1x6x128.size a ≤ S16x30x512.size a) ∧
  (∀ k0_t3 : Fin (k0_t3_loop v1).trips, ∀ a, (k0_off37 v1 k0_t3) a + S1x8x128.size a ≤ S16x30x512.size a) ∧
  (∀ k0_t3 : Fin (k0_t3_loop v1).trips, ∀ a, (k0_off38 v1 k0_t3) a + S1x8x128.size a ≤ S16x30x512.size a) ∧
  (∀ k0_t3 : Fin (k0_t3_loop v1).trips, ∀ a, (k0_off39 v1 k0_t3) a + S1x8x128.size a ≤ S16x30x512.size a) ∧
  (∀ k0_t3 : Fin (k0_t3_loop v1).trips, ∀ a, (k0_off40 v1 k0_t3) a + S1x6x128.size a ≤ S16x30x512.size a) ∧
  (∀ k0_t3 : Fin (k0_t3_loop v1).trips, ∀ a, (k0_off41 v1 k0_t3) a + S1x8x128.size a ≤ S16x30x512.size a) ∧
  (∀ k0_t3 : Fin (k0_t3_loop v1).trips, ∀ a, (k0_off42 v1 k0_t3) a + S1x8x128.size a ≤ S16x30x512.size a) ∧
  (∀ k0_t3 : Fin (k0_t3_loop v1).trips, ∀ a, (k0_off43 v1 k0_t3) a + S1x8x128.size a ≤ S16x30x512.size a) ∧
  (∀ k0_t3 : Fin (k0_t3_loop v1).trips, ∀ a, (k0_off44 v1 k0_t3) a + S1x6x128.size a ≤ S16x30x512.size a) ∧
  (∀ k0_t3 : Fin (k0_t3_loop v1).trips, 4 ∣ (k0_mult3 v1 k0_t3).toNat) ∧
  (∀ k0_t3 : Fin (k0_t3_loop v1).trips, ∀ a, (k0_off45 v1 k0_t3) a + S4x128.size a ≤ S15384x128.size a) ∧
  (∀ k0_t3 : Fin (k0_t3_loop v1).trips, ∀ (k0_h1 : k0_cond1 v1 k0_t3 = 1#1), ∀ a, (k0_off47 v1 k0_t3) a + S1.size a ≤ S16.size a) ∧
  (∀ k0_t3 : Fin (k0_t3_loop v1).trips, ∀ (k0_h1 : k0_cond1 v1 k0_t3 = 1#1), ∀ a, (k0_off48 v1 k0_t3) a + S1x30x512.size a ≤ S16x30x512.size a) ∧
  ((k0_t4_loop v1).OK) ∧
  (∀ k0_t4 : Fin (k0_t4_loop v1).trips, ∀ a, (k0_off53 v1 k0_t4) a + S1.size a ≤ S16.size a) ∧
  (∀ k0_t4 : Fin (k0_t4_loop v1).trips, ∀ a, (k0_off54 v1 k0_t4) a + S1x30x512.size a ≤ S16x30x512.size a) ∧
  (∀ k0_t4 : Fin (k0_t4_loop v1).trips, ∀ a, (k0_off72 v1 k0_t4) a + S1x8x128.size a ≤ S16x30x512.size a) ∧
  (∀ k0_t4 : Fin (k0_t4_loop v1).trips, ∀ a, (k0_off73 v1 k0_t4) a + S1x8x128.size a ≤ S16x30x512.size a) ∧
  (∀ k0_t4 : Fin (k0_t4_loop v1).trips, ∀ a, (k0_off74 v1 k0_t4) a + S1x8x128.size a ≤ S16x30x512.size a) ∧
  (∀ k0_t4 : Fin (k0_t4_loop v1).trips, ∀ a, (k0_off75 v1 k0_t4) a + S1x6x128.size a ≤ S16x30x512.size a) ∧
  (∀ k0_t4 : Fin (k0_t4_loop v1).trips, ∀ a, (k0_off76 v1 k0_t4) a + S1x8x128.size a ≤ S16x30x512.size a) ∧
  (∀ k0_t4 : Fin (k0_t4_loop v1).trips, ∀ a, (k0_off77 v1 k0_t4) a + S1x8x128.size a ≤ S16x30x512.size a)
def k0_chk4_1 (v1 : BitVec 32) : Prop :=
  (∀ k0_t4 : Fin (k0_t4_loop v1).trips, ∀ a, (k0_off78 v1 k0_t4) a + S1x8x128.size a ≤ S16x30x512.size a) ∧
  (∀ k0_t4 : Fin (k0_t4_loop v1).trips, ∀ a, (k0_off79 v1 k0_t4) a + S1x6x128.size a ≤ S16x30x512.size a) ∧
  (∀ k0_t4 : Fin (k0_t4_loop v1).trips, ∀ a, (k0_off80 v1 k0_t4) a + S1x8x128.size a ≤ S16x30x512.size a) ∧
  (∀ k0_t4 : Fin (k0_t4_loop v1).trips, ∀ a, (k0_off81 v1 k0_t4) a + S1x8x128.size a ≤ S16x30x512.size a) ∧
  (∀ k0_t4 : Fin (k0_t4_loop v1).trips, ∀ a, (k0_off82 v1 k0_t4) a + S1x8x128.size a ≤ S16x30x512.size a) ∧
  (∀ k0_t4 : Fin (k0_t4_loop v1).trips, ∀ a, (k0_off83 v1 k0_t4) a + S1x6x128.size a ≤ S16x30x512.size a) ∧
  (∀ k0_t4 : Fin (k0_t4_loop v1).trips, ∀ a, (k0_off84 v1 k0_t4) a + S1x8x128.size a ≤ S16x30x512.size a) ∧
  (∀ k0_t4 : Fin (k0_t4_loop v1).trips, ∀ a, (k0_off85 v1 k0_t4) a + S1x8x128.size a ≤ S16x30x512.size a) ∧
  (∀ k0_t4 : Fin (k0_t4_loop v1).trips, ∀ a, (k0_off86 v1 k0_t4) a + S1x8x128.size a ≤ S16x30x512.size a) ∧
  (∀ k0_t4 : Fin (k0_t4_loop v1).trips, ∀ a, (k0_off87 v1 k0_t4) a + S1x6x128.size a ≤ S16x30x512.size a) ∧
  (∀ k0_t4 : Fin (k0_t4_loop v1).trips, 4 ∣ (k0_mult6 v1 k0_t4).toNat) ∧
  (∀ k0_t4 : Fin (k0_t4_loop v1).trips, ∀ a, (k0_off88 v1 k0_t4) a + S4x128.size a ≤ S15384x128.size a) ∧
  (∀ k0_t4 : Fin (k0_t4_loop v1).trips, ∀ (k0_h2 : k0_cond2 v1 k0_t4 = 1#1), ∀ a, (k0_off90 v1 k0_t4) a + S1.size a ≤ S16.size a) ∧
  (∀ k0_t4 : Fin (k0_t4_loop v1).trips, ∀ (k0_h2 : k0_cond2 v1 k0_t4 = 1#1), ∀ a, (k0_off91 v1 k0_t4) a + S1x30x512.size a ≤ S16x30x512.size a)
def k0_chk4 (v1 : BitVec 32) : Prop :=
  k0_chk4_0 v1 ∧
  k0_chk4_1 v1
theorem k0_t3_ok : ∀ (v1 : BitVec 32) (k0_hw4 : k0_chk4 v1), (k0_t3_loop v1).OK := fun v1 k0_hw4 => k0_hw4.1.1
theorem k0_off10_inb : ∀ (v1 : BitVec 32) (k0_hw4 : k0_chk4 v1) (k0_t3 : Fin (k0_t3_loop v1).trips), ∀ a, (k0_off10 v1 k0_t3) a + S1.size a ≤ S16.size a := fun v1 k0_hw4 k0_t3 => k0_hw4.1.2.1 k0_t3
theorem k0_off11_inb : ∀ (v1 : BitVec 32) (k0_hw4 : k0_chk4 v1) (k0_t3 : Fin (k0_t3_loop v1).trips), ∀ a, (k0_off11 v1 k0_t3) a + S1x30x512.size a ≤ S16x30x512.size a := fun v1 k0_hw4 k0_t3 => k0_hw4.1.2.2.1 k0_t3
theorem k0_off29_inb : ∀ (v1 : BitVec 32) (k0_hw4 : k0_chk4 v1) (k0_t3 : Fin (k0_t3_loop v1).trips), ∀ a, (k0_off29 v1 k0_t3) a + S1x8x128.size a ≤ S16x30x512.size a := fun v1 k0_hw4 k0_t3 => k0_hw4.1.2.2.2.1 k0_t3
theorem k0_off30_inb : ∀ (v1 : BitVec 32) (k0_hw4 : k0_chk4 v1) (k0_t3 : Fin (k0_t3_loop v1).trips), ∀ a, (k0_off30 v1 k0_t3) a + S1x8x128.size a ≤ S16x30x512.size a := fun v1 k0_hw4 k0_t3 => k0_hw4.1.2.2.2.2.1 k0_t3
theorem k0_off31_inb : ∀ (v1 : BitVec 32) (k0_hw4 : k0_chk4 v1) (k0_t3 : Fin (k0_t3_loop v1).trips), ∀ a, (k0_off31 v1 k0_t3) a + S1x8x128.size a ≤ S16x30x512.size a := fun v1 k0_hw4 k0_t3 => k0_hw4.1.2.2.2.2.2.1 k0_t3
theorem k0_off32_inb : ∀ (v1 : BitVec 32) (k0_hw4 : k0_chk4 v1) (k0_t3 : Fin (k0_t3_loop v1).trips), ∀ a, (k0_off32 v1 k0_t3) a + S1x6x128.size a ≤ S16x30x512.size a := fun v1 k0_hw4 k0_t3 => k0_hw4.1.2.2.2.2.2.2.1 k0_t3
theorem k0_off33_inb : ∀ (v1 : BitVec 32) (k0_hw4 : k0_chk4 v1) (k0_t3 : Fin (k0_t3_loop v1).trips), ∀ a, (k0_off33 v1 k0_t3) a + S1x8x128.size a ≤ S16x30x512.size a := fun v1 k0_hw4 k0_t3 => k0_hw4.1.2.2.2.2.2.2.2.1 k0_t3
theorem k0_off34_inb : ∀ (v1 : BitVec 32) (k0_hw4 : k0_chk4 v1) (k0_t3 : Fin (k0_t3_loop v1).trips), ∀ a, (k0_off34 v1 k0_t3) a + S1x8x128.size a ≤ S16x30x512.size a := fun v1 k0_hw4 k0_t3 => k0_hw4.1.2.2.2.2.2.2.2.2.1 k0_t3
theorem k0_off35_inb : ∀ (v1 : BitVec 32) (k0_hw4 : k0_chk4 v1) (k0_t3 : Fin (k0_t3_loop v1).trips), ∀ a, (k0_off35 v1 k0_t3) a + S1x8x128.size a ≤ S16x30x512.size a := fun v1 k0_hw4 k0_t3 => k0_hw4.1.2.2.2.2.2.2.2.2.2.1 k0_t3
theorem k0_off36_inb : ∀ (v1 : BitVec 32) (k0_hw4 : k0_chk4 v1) (k0_t3 : Fin (k0_t3_loop v1).trips), ∀ a, (k0_off36 v1 k0_t3) a + S1x6x128.size a ≤ S16x30x512.size a := fun v1 k0_hw4 k0_t3 => k0_hw4.1.2.2.2.2.2.2.2.2.2.2.1 k0_t3
theorem k0_off37_inb : ∀ (v1 : BitVec 32) (k0_hw4 : k0_chk4 v1) (k0_t3 : Fin (k0_t3_loop v1).trips), ∀ a, (k0_off37 v1 k0_t3) a + S1x8x128.size a ≤ S16x30x512.size a := fun v1 k0_hw4 k0_t3 => k0_hw4.1.2.2.2.2.2.2.2.2.2.2.2.1 k0_t3
theorem k0_off38_inb : ∀ (v1 : BitVec 32) (k0_hw4 : k0_chk4 v1) (k0_t3 : Fin (k0_t3_loop v1).trips), ∀ a, (k0_off38 v1 k0_t3) a + S1x8x128.size a ≤ S16x30x512.size a := fun v1 k0_hw4 k0_t3 => k0_hw4.1.2.2.2.2.2.2.2.2.2.2.2.2.1 k0_t3
theorem k0_off39_inb : ∀ (v1 : BitVec 32) (k0_hw4 : k0_chk4 v1) (k0_t3 : Fin (k0_t3_loop v1).trips), ∀ a, (k0_off39 v1 k0_t3) a + S1x8x128.size a ≤ S16x30x512.size a := fun v1 k0_hw4 k0_t3 => k0_hw4.1.2.2.2.2.2.2.2.2.2.2.2.2.2.1 k0_t3
theorem k0_off40_inb : ∀ (v1 : BitVec 32) (k0_hw4 : k0_chk4 v1) (k0_t3 : Fin (k0_t3_loop v1).trips), ∀ a, (k0_off40 v1 k0_t3) a + S1x6x128.size a ≤ S16x30x512.size a := fun v1 k0_hw4 k0_t3 => k0_hw4.1.2.2.2.2.2.2.2.2.2.2.2.2.2.2.1 k0_t3
theorem k0_off41_inb : ∀ (v1 : BitVec 32) (k0_hw4 : k0_chk4 v1) (k0_t3 : Fin (k0_t3_loop v1).trips), ∀ a, (k0_off41 v1 k0_t3) a + S1x8x128.size a ≤ S16x30x512.size a := fun v1 k0_hw4 k0_t3 => k0_hw4.1.2.2.2.2.2.2.2.2.2.2.2.2.2.2.2.1 k0_t3
theorem k0_off42_inb : ∀ (v1 : BitVec 32) (k0_hw4 : k0_chk4 v1) (k0_t3 : Fin (k0_t3_loop v1).trips), ∀ a, (k0_off42 v1 k0_t3) a + S1x8x128.size a ≤ S16x30x512.size a := fun v1 k0_hw4 k0_t3 => k0_hw4.1.2.2.2.2.2.2.2.2.2.2.2.2.2.2.2.2.1 k0_t3
theorem k0_off43_inb : ∀ (v1 : BitVec 32) (k0_hw4 : k0_chk4 v1) (k0_t3 : Fin (k0_t3_loop v1).trips), ∀ a, (k0_off43 v1 k0_t3) a + S1x8x128.size a ≤ S16x30x512.size a := fun v1 k0_hw4 k0_t3 => k0_hw4.1.2.2.2.2.2.2.2.2.2.2.2.2.2.2.2.2.2.1 k0_t3
theorem k0_off44_inb : ∀ (v1 : BitVec 32) (k0_hw4 : k0_chk4 v1) (k0_t3 : Fin (k0_t3_loop v1).trips), ∀ a, (k0_off44 v1 k0_t3) a + S1x6x128.size a ≤ S16x30x512.size a := fun v1 k0_hw4 k0_t3 => k0_hw4.1.2.2.2.2.2.2.2.2.2.2.2.2.2.2.2.2.2.2.1 k0_t3
theorem k0_mult3_dvd : ∀ (v1 : BitVec 32) (k0_hw4 : k0_chk4 v1) (k0_t3 : Fin (k0_t3_loop v1).trips), 4 ∣ (k0_mult3 v1 k0_t3).toNat := fun v1 k0_hw4 k0_t3 => k0_hw4.1.2.2.2.2.2.2.2.2.2.2.2.2.2.2.2.2.2.2.2.1 k0_t3
theorem k0_off45_inb : ∀ (v1 : BitVec 32) (k0_hw4 : k0_chk4 v1) (k0_t3 : Fin (k0_t3_loop v1).trips), ∀ a, (k0_off45 v1 k0_t3) a + S4x128.size a ≤ S15384x128.size a := fun v1 k0_hw4 k0_t3 => k0_hw4.1.2.2.2.2.2.2.2.2.2.2.2.2.2.2.2.2.2.2.2.2.1 k0_t3
theorem k0_off47_inb : ∀ (v1 : BitVec 32) (k0_hw4 : k0_chk4 v1) (k0_t3 : Fin (k0_t3_loop v1).trips), ∀ (k0_h1 : k0_cond1 v1 k0_t3 = 1#1), ∀ a, (k0_off47 v1 k0_t3) a + S1.size a ≤ S16.size a := fun v1 k0_hw4 k0_t3 k0_h1 => k0_hw4.1.2.2.2.2.2.2.2.2.2.2.2.2.2.2.2.2.2.2.2.2.2.1 k0_t3 k0_h1
theorem k0_off48_inb : ∀ (v1 : BitVec 32) (k0_hw4 : k0_chk4 v1) (k0_t3 : Fin (k0_t3_loop v1).trips), ∀ (k0_h1 : k0_cond1 v1 k0_t3 = 1#1), ∀ a, (k0_off48 v1 k0_t3) a + S1x30x512.size a ≤ S16x30x512.size a := fun v1 k0_hw4 k0_t3 k0_h1 => k0_hw4.1.2.2.2.2.2.2.2.2.2.2.2.2.2.2.2.2.2.2.2.2.2.2.1 k0_t3 k0_h1
theorem k0_t4_ok : ∀ (v1 : BitVec 32) (k0_hw4 : k0_chk4 v1), (k0_t4_loop v1).OK := fun v1 k0_hw4 => k0_hw4.1.2.2.2.2.2.2.2.2.2.2.2.2.2.2.2.2.2.2.2.2.2.2.2.1
theorem k0_off53_inb : ∀ (v1 : BitVec 32) (k0_hw4 : k0_chk4 v1) (k0_t4 : Fin (k0_t4_loop v1).trips), ∀ a, (k0_off53 v1 k0_t4) a + S1.size a ≤ S16.size a := fun v1 k0_hw4 k0_t4 => k0_hw4.1.2.2.2.2.2.2.2.2.2.2.2.2.2.2.2.2.2.2.2.2.2.2.2.2.1 k0_t4
theorem k0_off54_inb : ∀ (v1 : BitVec 32) (k0_hw4 : k0_chk4 v1) (k0_t4 : Fin (k0_t4_loop v1).trips), ∀ a, (k0_off54 v1 k0_t4) a + S1x30x512.size a ≤ S16x30x512.size a := fun v1 k0_hw4 k0_t4 => k0_hw4.1.2.2.2.2.2.2.2.2.2.2.2.2.2.2.2.2.2.2.2.2.2.2.2.2.2.1 k0_t4
theorem k0_off72_inb : ∀ (v1 : BitVec 32) (k0_hw4 : k0_chk4 v1) (k0_t4 : Fin (k0_t4_loop v1).trips), ∀ a, (k0_off72 v1 k0_t4) a + S1x8x128.size a ≤ S16x30x512.size a := fun v1 k0_hw4 k0_t4 => k0_hw4.1.2.2.2.2.2.2.2.2.2.2.2.2.2.2.2.2.2.2.2.2.2.2.2.2.2.2.1 k0_t4
theorem k0_off73_inb : ∀ (v1 : BitVec 32) (k0_hw4 : k0_chk4 v1) (k0_t4 : Fin (k0_t4_loop v1).trips), ∀ a, (k0_off73 v1 k0_t4) a + S1x8x128.size a ≤ S16x30x512.size a := fun v1 k0_hw4 k0_t4 => k0_hw4.1.2.2.2.2.2.2.2.2.2.2.2.2.2.2.2.2.2.2.2.2.2.2.2.2.2.2.2.1 k0_t4
theorem k0_off74_inb : ∀ (v1 : BitVec 32) (k0_hw4 : k0_chk4 v1) (k0_t4 : Fin (k0_t4_loop v1).trips), ∀ a, (k0_off74 v1 k0_t4) a + S1x8x128.size a ≤ S16x30x512.size a := fun v1 k0_hw4 k0_t4 => k0_hw4.1.2.2.2.2.2.2.2.2.2.2.2.2.2.2.2.2.2.2.2.2.2.2.2.2.2.2.2.2.1 k0_t4
theorem k0_off75_inb : ∀ (v1 : BitVec 32) (k0_hw4 : k0_chk4 v1) (k0_t4 : Fin (k0_t4_loop v1).trips), ∀ a, (k0_off75 v1 k0_t4) a + S1x6x128.size a ≤ S16x30x512.size a := fun v1 k0_hw4 k0_t4 => k0_hw4.1.2.2.2.2.2.2.2.2.2.2.2.2.2.2.2.2.2.2.2.2.2.2.2.2.2.2.2.2.2.1 k0_t4
theorem k0_off76_inb : ∀ (v1 : BitVec 32) (k0_hw4 : k0_chk4 v1) (k0_t4 : Fin (k0_t4_loop v1).trips), ∀ a, (k0_off76 v1 k0_t4) a + S1x8x128.size a ≤ S16x30x512.size a := fun v1 k0_hw4 k0_t4 => k0_hw4.1.2.2.2.2.2.2.2.2.2.2.2.2.2.2.2.2.2.2.2.2.2.2.2.2.2.2.2.2.2.2.1 k0_t4
theorem k0_off77_inb : ∀ (v1 : BitVec 32) (k0_hw4 : k0_chk4 v1) (k0_t4 : Fin (k0_t4_loop v1).trips), ∀ a, (k0_off77 v1 k0_t4) a + S1x8x128.size a ≤ S16x30x512.size a := fun v1 k0_hw4 k0_t4 => k0_hw4.1.2.2.2.2.2.2.2.2.2.2.2.2.2.2.2.2.2.2.2.2.2.2.2.2.2.2.2.2.2.2.2 k0_t4
theorem k0_off78_inb : ∀ (v1 : BitVec 32) (k0_hw4 : k0_chk4 v1) (k0_t4 : Fin (k0_t4_loop v1).trips), ∀ a, (k0_off78 v1 k0_t4) a + S1x8x128.size a ≤ S16x30x512.size a := fun v1 k0_hw4 k0_t4 => k0_hw4.2.1 k0_t4
theorem k0_off79_inb : ∀ (v1 : BitVec 32) (k0_hw4 : k0_chk4 v1) (k0_t4 : Fin (k0_t4_loop v1).trips), ∀ a, (k0_off79 v1 k0_t4) a + S1x6x128.size a ≤ S16x30x512.size a := fun v1 k0_hw4 k0_t4 => k0_hw4.2.2.1 k0_t4
theorem k0_off80_inb : ∀ (v1 : BitVec 32) (k0_hw4 : k0_chk4 v1) (k0_t4 : Fin (k0_t4_loop v1).trips), ∀ a, (k0_off80 v1 k0_t4) a + S1x8x128.size a ≤ S16x30x512.size a := fun v1 k0_hw4 k0_t4 => k0_hw4.2.2.2.1 k0_t4
theorem k0_off81_inb : ∀ (v1 : BitVec 32) (k0_hw4 : k0_chk4 v1) (k0_t4 : Fin (k0_t4_loop v1).trips), ∀ a, (k0_off81 v1 k0_t4) a + S1x8x128.size a ≤ S16x30x512.size a := fun v1 k0_hw4 k0_t4 => k0_hw4.2.2.2.2.1 k0_t4
theorem k0_off82_inb : ∀ (v1 : BitVec 32) (k0_hw4 : k0_chk4 v1) (k0_t4 : Fin (k0_t4_loop v1).trips), ∀ a, (k0_off82 v1 k0_t4) a + S1x8x128.size a ≤ S16x30x512.size a := fun v1 k0_hw4 k0_t4 => k0_hw4.2.2.2.2.2.1 k0_t4
theorem k0_off83_inb : ∀ (v1 : BitVec 32) (k0_hw4 : k0_chk4 v1) (k0_t4 : Fin (k0_t4_loop v1).trips), ∀ a, (k0_off83 v1 k0_t4) a + S1x6x128.size a ≤ S16x30x512.size a := fun v1 k0_hw4 k0_t4 => k0_hw4.2.2.2.2.2.2.1 k0_t4
theorem k0_off84_inb : ∀ (v1 : BitVec 32) (k0_hw4 : k0_chk4 v1) (k0_t4 : Fin (k0_t4_loop v1).trips), ∀ a, (k0_off84 v1 k0_t4) a + S1x8x128.size a ≤ S16x30x512.size a := fun v1 k0_hw4 k0_t4 => k0_hw4.2.2.2.2.2.2.2.1 k0_t4
theorem k0_off85_inb : ∀ (v1 : BitVec 32) (k0_hw4 : k0_chk4 v1) (k0_t4 : Fin (k0_t4_loop v1).trips), ∀ a, (k0_off85 v1 k0_t4) a + S1x8x128.size a ≤ S16x30x512.size a := fun v1 k0_hw4 k0_t4 => k0_hw4.2.2.2.2.2.2.2.2.1 k0_t4
theorem k0_off86_inb : ∀ (v1 : BitVec 32) (k0_hw4 : k0_chk4 v1) (k0_t4 : Fin (k0_t4_loop v1).trips), ∀ a, (k0_off86 v1 k0_t4) a + S1x8x128.size a ≤ S16x30x512.size a := fun v1 k0_hw4 k0_t4 => k0_hw4.2.2.2.2.2.2.2.2.2.1 k0_t4
theorem k0_off87_inb : ∀ (v1 : BitVec 32) (k0_hw4 : k0_chk4 v1) (k0_t4 : Fin (k0_t4_loop v1).trips), ∀ a, (k0_off87 v1 k0_t4) a + S1x6x128.size a ≤ S16x30x512.size a := fun v1 k0_hw4 k0_t4 => k0_hw4.2.2.2.2.2.2.2.2.2.2.1 k0_t4
theorem k0_mult6_dvd : ∀ (v1 : BitVec 32) (k0_hw4 : k0_chk4 v1) (k0_t4 : Fin (k0_t4_loop v1).trips), 4 ∣ (k0_mult6 v1 k0_t4).toNat := fun v1 k0_hw4 k0_t4 => k0_hw4.2.2.2.2.2.2.2.2.2.2.2.1 k0_t4
theorem k0_off88_inb : ∀ (v1 : BitVec 32) (k0_hw4 : k0_chk4 v1) (k0_t4 : Fin (k0_t4_loop v1).trips), ∀ a, (k0_off88 v1 k0_t4) a + S4x128.size a ≤ S15384x128.size a := fun v1 k0_hw4 k0_t4 => k0_hw4.2.2.2.2.2.2.2.2.2.2.2.2.1 k0_t4
theorem k0_off90_inb : ∀ (v1 : BitVec 32) (k0_hw4 : k0_chk4 v1) (k0_t4 : Fin (k0_t4_loop v1).trips), ∀ (k0_h2 : k0_cond2 v1 k0_t4 = 1#1), ∀ a, (k0_off90 v1 k0_t4) a + S1.size a ≤ S16.size a := fun v1 k0_hw4 k0_t4 k0_h2 => k0_hw4.2.2.2.2.2.2.2.2.2.2.2.2.2.1 k0_t4 k0_h2
theorem k0_off91_inb : ∀ (v1 : BitVec 32) (k0_hw4 : k0_chk4 v1) (k0_t4 : Fin (k0_t4_loop v1).trips), ∀ (k0_h2 : k0_cond2 v1 k0_t4 = 1#1), ∀ a, (k0_off91 v1 k0_t4) a + S1x30x512.size a ≤ S16x30x512.size a := fun v1 k0_hw4 k0_t4 k0_h2 => k0_hw4.2.2.2.2.2.2.2.2.2.2.2.2.2.2 k0_t4 k0_h2

def k0_off92 (arg34 : BitVec 32) (v834 : BitVec 32) : Fin 2 → Nat :=
  let c0_i32_525 : BitVec 32 := 0#32
  let c4_i32_521 : BitVec 32 := 4#32
  let v835 : BitVec 32 := Scalar.muli arg34 c4_i32_521
  let v836 : BitVec 32 := Scalar.addi v834 v835
  let c128_i32_522 : BitVec 32 := 128#32
  let v837 : BitVec 32 := Scalar.muli v836 c128_i32_522
  let v838 : BitVec 32 := v837
  ![0, v838.toNat]

def k0_chk12 (v1 : BitVec 32) (k0_t4 : Fin (k0_t4_loop v1).trips) (arg34 : BitVec 32) (v834 : BitVec 32) : Prop :=
  (∀ (k0_h2 : k0_cond2 v1 k0_t4 = 1#1), 128 ∣ (k0_mult7 arg34 v834).toNat) ∧
  (∀ (k0_h2 : k0_cond2 v1 k0_t4 = 1#1), ∀ a, (k0_off92 arg34 v834) a + S30x512.size a ≤ S30x2048000.size a)
theorem k0_mult7_dvd : ∀ (v1 : BitVec 32) (k0_t4 : Fin (k0_t4_loop v1).trips) (arg34 : BitVec 32) (v834 : BitVec 32) (k0_hw12 : k0_chk12 v1 k0_t4 arg34 v834), ∀ (k0_h2 : k0_cond2 v1 k0_t4 = 1#1), 128 ∣ (k0_mult7 arg34 v834).toNat := fun v1 k0_t4 arg34 v834 k0_hw12 k0_h2 => k0_hw12.1 k0_h2
theorem k0_off92_inb : ∀ (v1 : BitVec 32) (k0_t4 : Fin (k0_t4_loop v1).trips) (arg34 : BitVec 32) (v834 : BitVec 32) (k0_hw12 : k0_chk12 v1 k0_t4 arg34 v834), ∀ (k0_h2 : k0_cond2 v1 k0_t4 = 1#1), ∀ a, (k0_off92 arg34 v834) a + S30x512.size a ≤ S30x2048000.size a := fun v1 k0_t4 arg34 v834 k0_hw12 k0_h2 => k0_hw12.2 k0_h2

def k0_off93 (arg31 : BitVec 32) : Fin 1 → Nat :=
  let v816 : Index := Scalar.indexCast arg31
  ![v816.toNat]

def k0_chk9 (arg31 : BitVec 32) : Prop :=
  (∀ a, (k0_off52 arg31) a + S1.size a ≤ S768.size a) ∧
  (∀ a, (k0_off56 arg31) a + S1x8x128.size a ≤ S12x128x128.size a) ∧
  (∀ a, (k0_off57 arg31) a + S1x8x128.size a ≤ S12x128x128.size a) ∧
  (∀ a, (k0_off58 arg31) a + S1x8x128.size a ≤ S12x128x128.size a) ∧
  (∀ a, (k0_off59 arg31) a + S1x8x128.size a ≤ S12x128x128.size a) ∧
  (∀ a, (k0_off60 arg31) a + S1x8x128.size a ≤ S12x128x128.size a) ∧
  (∀ a, (k0_off61 arg31) a + S1x8x128.size a ≤ S12x128x128.size a) ∧
  (∀ a, (k0_off62 arg31) a + S1x8x128.size a ≤ S12x128x128.size a) ∧
  (∀ a, (k0_off63 arg31) a + S1x8x128.size a ≤ S12x128x128.size a) ∧
  (∀ a, (k0_off64 arg31) a + S1x8x128.size a ≤ S12x128x128.size a) ∧
  (∀ a, (k0_off65 arg31) a + S1x8x128.size a ≤ S12x128x128.size a) ∧
  (∀ a, (k0_off66 arg31) a + S1x8x128.size a ≤ S12x128x128.size a) ∧
  (∀ a, (k0_off67 arg31) a + S1x8x128.size a ≤ S12x128x128.size a) ∧
  (∀ a, (k0_off68 arg31) a + S1x8x128.size a ≤ S12x128x128.size a) ∧
  (∀ a, (k0_off69 arg31) a + S1x8x128.size a ≤ S12x128x128.size a) ∧
  (∀ a, (k0_off70 arg31) a + S1x8x128.size a ≤ S12x128x128.size a) ∧
  (∀ a, (k0_off71 arg31) a + S1x8x128.size a ≤ S12x128x128.size a) ∧
  (∀ a, (k0_off93 arg31) a + S1.size a ≤ S768.size a)
theorem k0_off52_inb : ∀ (arg31 : BitVec 32) (k0_hw9 : k0_chk9 arg31), ∀ a, (k0_off52 arg31) a + S1.size a ≤ S768.size a := fun arg31 k0_hw9 => k0_hw9.1
theorem k0_off56_inb : ∀ (arg31 : BitVec 32) (k0_hw9 : k0_chk9 arg31), ∀ a, (k0_off56 arg31) a + S1x8x128.size a ≤ S12x128x128.size a := fun arg31 k0_hw9 => k0_hw9.2.1
theorem k0_off57_inb : ∀ (arg31 : BitVec 32) (k0_hw9 : k0_chk9 arg31), ∀ a, (k0_off57 arg31) a + S1x8x128.size a ≤ S12x128x128.size a := fun arg31 k0_hw9 => k0_hw9.2.2.1
theorem k0_off58_inb : ∀ (arg31 : BitVec 32) (k0_hw9 : k0_chk9 arg31), ∀ a, (k0_off58 arg31) a + S1x8x128.size a ≤ S12x128x128.size a := fun arg31 k0_hw9 => k0_hw9.2.2.2.1
theorem k0_off59_inb : ∀ (arg31 : BitVec 32) (k0_hw9 : k0_chk9 arg31), ∀ a, (k0_off59 arg31) a + S1x8x128.size a ≤ S12x128x128.size a := fun arg31 k0_hw9 => k0_hw9.2.2.2.2.1
theorem k0_off60_inb : ∀ (arg31 : BitVec 32) (k0_hw9 : k0_chk9 arg31), ∀ a, (k0_off60 arg31) a + S1x8x128.size a ≤ S12x128x128.size a := fun arg31 k0_hw9 => k0_hw9.2.2.2.2.2.1
theorem k0_off61_inb : ∀ (arg31 : BitVec 32) (k0_hw9 : k0_chk9 arg31), ∀ a, (k0_off61 arg31) a + S1x8x128.size a ≤ S12x128x128.size a := fun arg31 k0_hw9 => k0_hw9.2.2.2.2.2.2.1
theorem k0_off62_inb : ∀ (arg31 : BitVec 32) (k0_hw9 : k0_chk9 arg31), ∀ a, (k0_off62 arg31) a + S1x8x128.size a ≤ S12x128x128.size a := fun arg31 k0_hw9 => k0_hw9.2.2.2.2.2.2.2.1
theorem k0_off63_inb : ∀ (arg31 : BitVec 32) (k0_hw9 : k0_chk9 arg31), ∀ a, (k0_off63 arg31) a + S1x8x128.size a ≤ S12x128x128.size a := fun arg31 k0_hw9 => k0_hw9.2.2.2.2.2.2.2.2.1
theorem k0_off64_inb : ∀ (arg31 : BitVec 32) (k0_hw9 : k0_chk9 arg31), ∀ a, (k0_off64 arg31) a + S1x8x128.size a ≤ S12x128x128.size a := fun arg31 k0_hw9 => k0_hw9.2.2.2.2.2.2.2.2.2.1
theorem k0_off65_inb : ∀ (arg31 : BitVec 32) (k0_hw9 : k0_chk9 arg31), ∀ a, (k0_off65 arg31) a + S1x8x128.size a ≤ S12x128x128.size a := fun arg31 k0_hw9 => k0_hw9.2.2.2.2.2.2.2.2.2.2.1
theorem k0_off66_inb : ∀ (arg31 : BitVec 32) (k0_hw9 : k0_chk9 arg31), ∀ a, (k0_off66 arg31) a + S1x8x128.size a ≤ S12x128x128.size a := fun arg31 k0_hw9 => k0_hw9.2.2.2.2.2.2.2.2.2.2.2.1
theorem k0_off67_inb : ∀ (arg31 : BitVec 32) (k0_hw9 : k0_chk9 arg31), ∀ a, (k0_off67 arg31) a + S1x8x128.size a ≤ S12x128x128.size a := fun arg31 k0_hw9 => k0_hw9.2.2.2.2.2.2.2.2.2.2.2.2.1
theorem k0_off68_inb : ∀ (arg31 : BitVec 32) (k0_hw9 : k0_chk9 arg31), ∀ a, (k0_off68 arg31) a + S1x8x128.size a ≤ S12x128x128.size a := fun arg31 k0_hw9 => k0_hw9.2.2.2.2.2.2.2.2.2.2.2.2.2.1
theorem k0_off69_inb : ∀ (arg31 : BitVec 32) (k0_hw9 : k0_chk9 arg31), ∀ a, (k0_off69 arg31) a + S1x8x128.size a ≤ S12x128x128.size a := fun arg31 k0_hw9 => k0_hw9.2.2.2.2.2.2.2.2.2.2.2.2.2.2.1
theorem k0_off70_inb : ∀ (arg31 : BitVec 32) (k0_hw9 : k0_chk9 arg31), ∀ a, (k0_off70 arg31) a + S1x8x128.size a ≤ S12x128x128.size a := fun arg31 k0_hw9 => k0_hw9.2.2.2.2.2.2.2.2.2.2.2.2.2.2.2.1
theorem k0_off71_inb : ∀ (arg31 : BitVec 32) (k0_hw9 : k0_chk9 arg31), ∀ a, (k0_off71 arg31) a + S1x8x128.size a ≤ S12x128x128.size a := fun arg31 k0_hw9 => k0_hw9.2.2.2.2.2.2.2.2.2.2.2.2.2.2.2.2.1
theorem k0_off93_inb : ∀ (arg31 : BitVec 32) (k0_hw9 : k0_chk9 arg31), ∀ a, (k0_off93 arg31) a + S1.size a ≤ S768.size a := fun arg31 k0_hw9 => k0_hw9.2.2.2.2.2.2.2.2.2.2.2.2.2.2.2.2.2

def k0_off94 (arg33 : BitVec 32) : Fin 1 → Nat :=
  let v825 : Index := Scalar.indexCast arg33
  ![v825.toNat]

def k0_chk11 (v1 : BitVec 32) (k0_t4 : Fin (k0_t4_loop v1).trips) (arg33 : BitVec 32) : Prop :=
  (∀ (k0_h2 : k0_cond2 v1 k0_t4 = 1#1), ∀ a, (k0_off89 arg33) a + S1.size a ≤ S768.size a) ∧
  (∀ a, (k0_off94 arg33) a + S1.size a ≤ S768.size a)
theorem k0_off89_inb : ∀ (v1 : BitVec 32) (k0_t4 : Fin (k0_t4_loop v1).trips) (arg33 : BitVec 32) (k0_hw11 : k0_chk11 v1 k0_t4 arg33), ∀ (k0_h2 : k0_cond2 v1 k0_t4 = 1#1), ∀ a, (k0_off89 arg33) a + S1.size a ≤ S768.size a := fun v1 k0_t4 arg33 k0_hw11 k0_h2 => k0_hw11.1 k0_h2
theorem k0_off94_inb : ∀ (v1 : BitVec 32) (k0_t4 : Fin (k0_t4_loop v1).trips) (arg33 : BitVec 32) (k0_hw11 : k0_chk11 v1 k0_t4 arg33), ∀ a, (k0_off94 arg33) a + S1.size a ≤ S768.size a := fun v1 k0_t4 arg33 k0_hw11 => k0_hw11.2

def k0_off95 (v12 : BitVec 32) : Fin 2 → Nat :=
  let c0_i32_19 : BitVec 32 := 0#32
  ![v12.toNat, 0]

def k0_chk13 (v12 : BitVec 32) : Prop :=
  (∀ a, (k0_off95 v12) a + S24x128.size a ≤ S16000x128.size a)
theorem k0_off95_inb : ∀ (v12 : BitVec 32) (k0_hw13 : k0_chk13 v12), ∀ a, (k0_off95 v12) a + S24x128.size a ≤ S16000x128.size a := fun v12 k0_hw13 => k0_hw13

def k0_off96 (v23 : BitVec 32) : Fin 2 → Nat :=
  let c0_i32_31 : BitVec 32 := 0#32
  ![v23.toNat, 0]

def k0_chk14 (v23 : BitVec 32) : Prop :=
  (∀ a, (k0_off96 v23) a + S24x128.size a ≤ S16000x128.size a)
theorem k0_off96_inb : ∀ (v23 : BitVec 32) (k0_hw14 : k0_chk14 v23), ∀ a, (k0_off96 v23) a + S24x128.size a ≤ S16000x128.size a := fun v23 k0_hw14 => k0_hw14

def k0_off97 (v34 : BitVec 32) : Fin 2 → Nat :=
  let c0_i32_42 : BitVec 32 := 0#32
  ![v34.toNat, 0]

def k0_chk15 (v34 : BitVec 32) : Prop :=
  (∀ a, (k0_off97 v34) a + S24x128.size a ≤ S16000x128.size a)
theorem k0_off97_inb : ∀ (v34 : BitVec 32) (k0_hw15 : k0_chk15 v34), ∀ a, (k0_off97 v34) a + S24x128.size a ≤ S16000x128.size a := fun v34 k0_hw15 => k0_hw15

def k0_off98 (v45 : BitVec 32) : Fin 2 → Nat :=
  let c0_i32_53 : BitVec 32 := 0#32
  ![v45.toNat, 0]

def k0_chk16 (v45 : BitVec 32) : Prop :=
  (∀ a, (k0_off98 v45) a + S24x128.size a ≤ S16000x128.size a)
theorem k0_off98_inb : ∀ (v45 : BitVec 32) (k0_hw16 : k0_chk16 v45), ∀ a, (k0_off98 v45) a + S24x128.size a ≤ S16000x128.size a := fun v45 k0_hw16 => k0_hw16

def k0_off99 (v56 : BitVec 32) : Fin 2 → Nat :=
  let c0_i32_64 : BitVec 32 := 0#32
  ![v56.toNat, 0]

def k0_chk17 (v56 : BitVec 32) : Prop :=
  (∀ a, (k0_off99 v56) a + S24x128.size a ≤ S16000x128.size a)
theorem k0_off99_inb : ∀ (v56 : BitVec 32) (k0_hw17 : k0_chk17 v56), ∀ a, (k0_off99 v56) a + S24x128.size a ≤ S16000x128.size a := fun v56 k0_hw17 => k0_hw17

def k0_off100 (v67 : BitVec 32) : Fin 2 → Nat :=
  let c0_i32_75 : BitVec 32 := 0#32
  ![v67.toNat, 0]

def k0_chk18 (v67 : BitVec 32) : Prop :=
  (∀ a, (k0_off100 v67) a + S24x128.size a ≤ S16000x128.size a)
theorem k0_off100_inb : ∀ (v67 : BitVec 32) (k0_hw18 : k0_chk18 v67), ∀ a, (k0_off100 v67) a + S24x128.size a ≤ S16000x128.size a := fun v67 k0_hw18 => k0_hw18

def k0_off101 (v78 : BitVec 32) : Fin 2 → Nat :=
  let c0_i32_86 : BitVec 32 := 0#32
  ![v78.toNat, 0]

def k0_chk19 (v78 : BitVec 32) : Prop :=
  (∀ a, (k0_off101 v78) a + S24x128.size a ≤ S16000x128.size a)
theorem k0_off101_inb : ∀ (v78 : BitVec 32) (k0_hw19 : k0_chk19 v78), ∀ a, (k0_off101 v78) a + S24x128.size a ≤ S16000x128.size a := fun v78 k0_hw19 => k0_hw19

def k0_off102 (v89 : BitVec 32) : Fin 2 → Nat :=
  let c0_i32_97 : BitVec 32 := 0#32
  ![v89.toNat, 0]

def k0_chk20 (v89 : BitVec 32) : Prop :=
  (∀ a, (k0_off102 v89) a + S24x128.size a ≤ S16000x128.size a)
theorem k0_off102_inb : ∀ (v89 : BitVec 32) (k0_hw20 : k0_chk20 v89), ∀ a, (k0_off102 v89) a + S24x128.size a ≤ S16000x128.size a := fun v89 k0_hw20 => k0_hw20

@[reducible] def k0_t5_loop : Scf.Loop 32 :=
  let c0_i32_104 : BitVec 32 := 0#32
  let c768_i32_105 : BitVec 32 := 768#32
  let v102 : BitVec 32 := Scalar.addi c0_i32_104 c768_i32_105
  let c1_i32_106 : BitVec 32 := 1#32
  ⟨c0_i32_104, v102, c1_i32_106⟩
def k0_off103 (k0_t5 : Fin k0_t5_loop.trips) : Fin 1 → Nat :=
  let c0_i32_104 : BitVec 32 := 0#32
  let c1_i32_106 : BitVec 32 := 1#32
  let arg30 : BitVec 32 := Scf.iv c0_i32_104 c1_i32_106 k0_t5
  let v249 : Index := Scalar.indexCast arg30
  ![v249.toNat]
def k0_off104 (k0_t5 : Fin k0_t5_loop.trips) : Fin 2 → Nat :=
  let c0_i32_373 : BitVec 32 := 0#32
  let c0_i32_104 : BitVec 32 := 0#32
  let c1_i32_106 : BitVec 32 := 1#32
  let arg30 : BitVec 32 := Scf.iv c0_i32_104 c1_i32_106 k0_t5
  let c7_i32_372 : BitVec 32 := 7#32
  let v248 : BitVec 32 := Scalar.andi arg30 c7_i32_372
  ![0, v248.toNat]
def k0_off105 (k0_t5 : Fin k0_t5_loop.trips) : Fin 3 → Nat :=
  let c0_i32_104 : BitVec 32 := 0#32
  let c1_i32_106 : BitVec 32 := 1#32
  let arg30 : BitVec 32 := Scf.iv c0_i32_104 c1_i32_106 k0_t5
  let c7_i32_372 : BitVec 32 := 7#32
  let v248 : BitVec 32 := Scalar.andi arg30 c7_i32_372
  let c0_i32_374 : BitVec 32 := 0#32
  let c0_i32_375 : BitVec 32 := 0#32
  ![v248.toNat, 0, 0]
def k0_off106 (v250 : BitVec 32) : Fin 2 → Nat :=
  let c0_i32_376 : BitVec 32 := 0#32
  ![v250.toNat, 0]

def k0_chk21 (v250 : BitVec 32) : Prop :=
  (∀ a, (k0_off106 v250) a + S24x128.size a ≤ S16000x128.size a)
theorem k0_off106_inb : ∀ (v250 : BitVec 32) (k0_hw21 : k0_chk21 v250), ∀ a, (k0_off106 v250) a + S24x128.size a ≤ S16000x128.size a := fun v250 k0_hw21 => k0_hw21

def k0_off107 (k0_t5 : Fin k0_t5_loop.trips) : Fin 2 → Nat :=
  let c1_i32_377 : BitVec 32 := 1#32
  let c0_i32_104 : BitVec 32 := 0#32
  let c1_i32_106 : BitVec 32 := 1#32
  let arg30 : BitVec 32 := Scf.iv c0_i32_104 c1_i32_106 k0_t5
  let c7_i32_372 : BitVec 32 := 7#32
  let v248 : BitVec 32 := Scalar.andi arg30 c7_i32_372
  ![1, v248.toNat]
def k0_off108 (k0_t5 : Fin k0_t5_loop.trips) : Fin 3 → Nat :=
  let c0_i32_104 : BitVec 32 := 0#32
  let c1_i32_106 : BitVec 32 := 1#32
  let arg30 : BitVec 32 := Scf.iv c0_i32_104 c1_i32_106 k0_t5
  let c7_i32_372 : BitVec 32 := 7#32
  let v248 : BitVec 32 := Scalar.andi arg30 c7_i32_372
  let c0_i32_378 : BitVec 32 := 0#32
  let c0_i32_379 : BitVec 32 := 0#32
  ![v248.toNat, 0, 0]
def k0_cond3 (k0_t5 : Fin k0_t5_loop.trips) : BitVec 1 :=
  let c0_i32_104 : BitVec 32 := 0#32
  let c1_i32_106 : BitVec 32 := 1#32
  let arg30 : BitVec 32 := Scf.iv c0_i32_104 c1_i32_106 k0_t5
  let c8_i32 : BitVec 32 := 8#32
  let v261 : BitVec 1 := Scalar.cmpi .sge arg30 c8_i32
  let v262 : BitVec 32 := Scalar.extui v261
  let c0_i32_381 : BitVec 32 := 0#32
  let v263 : BitVec 1 := Scalar.cmpi .ne v262 c0_i32_381
  v263

def k0_off109 (k0_t5 : Fin k0_t5_loop.trips) : Fin 2 → Nat :=
  let c0_i32_550 : BitVec 32 := 0#32
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.subi arg30 c8_i32_539
  let c7_i32_540 : BitVec 32 := 7#32
  let v553 : BitVec 32 := Scalar.andi v552 c7_i32_540
  ![0, v553.toNat]
def k0_off110 (k0_t5 : Fin k0_t5_loop.trips) : Fin 5 → Nat :=
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.subi arg30 c8_i32_539
  let c6_i32_541 : BitVec 32 := 6#32
  let v554 : BitVec 32 := Scalar.shrsi v552 c6_i32_541
  let c63_i32_542 : BitVec 32 := 63#32
  let v555 : BitVec 32 := Scalar.andi v552 c63_i32_542
  let c3_i32_543 : BitVec 32 := 3#32
  let v556 : BitVec 32 := Scalar.shrsi v555 c3_i32_543
  let c0_i32_551 : BitVec 32 := 0#32
  let c7_i32_544 : BitVec 32 := 7#32
  let v557 : BitVec 32 := Scalar.andi v555 c7_i32_544
  let c0_i32_552 : BitVec 32 := 0#32
  ![v554.toNat, v556.toNat, 0, v557.toNat, 0]
def k0_off111 (k0_t5 : Fin k0_t5_loop.trips) : Fin 4 → Nat :=
  let c0_i32_549 : BitVec 32 := 0#32
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.subi arg30 c8_i32_539
  let c7_i32_540 : BitVec 32 := 7#32
  let v553 : BitVec 32 := Scalar.andi v552 c7_i32_540
  let c0_i32_553 : BitVec 32 := 0#32
  let c0_i32_554 : BitVec 32 := 0#32
  ![0, v553.toNat, 0, 0]
def k0_off112 (k0_t5 : Fin k0_t5_loop.trips) : Fin 2 → Nat :=
  let c1_i32_556 : BitVec 32 := 1#32
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.subi arg30 c8_i32_539
  let c7_i32_540 : BitVec 32 := 7#32
  let v553 : BitVec 32 := Scalar.andi v552 c7_i32_540
  ![1, v553.toNat]
def k0_off113 (k0_t5 : Fin k0_t5_loop.trips) : Fin 4 → Nat :=
  let c1_i32_555 : BitVec 32 := 1#32
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.subi arg30 c8_i32_539
  let c7_i32_540 : BitVec 32 := 7#32
  let v553 : BitVec 32 := Scalar.andi v552 c7_i32_540
  let c0_i32_559 : BitVec 32 := 0#32
  let c0_i32_560 : BitVec 32 := 0#32
  ![1, v553.toNat, 0, 0]
def k0_off114 (k0_t5 : Fin k0_t5_loop.trips) : Fin 2 → Nat :=
  let c2_i32_562 : BitVec 32 := 2#32
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.subi arg30 c8_i32_539
  let c7_i32_540 : BitVec 32 := 7#32
  let v553 : BitVec 32 := Scalar.andi v552 c7_i32_540
  ![2, v553.toNat]
def k0_off115 (k0_t5 : Fin k0_t5_loop.trips) : Fin 4 → Nat :=
  let c2_i32_561 : BitVec 32 := 2#32
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.subi arg30 c8_i32_539
  let c7_i32_540 : BitVec 32 := 7#32
  let v553 : BitVec 32 := Scalar.andi v552 c7_i32_540
  let c0_i32_565 : BitVec 32 := 0#32
  let c0_i32_566 : BitVec 32 := 0#32
  ![2, v553.toNat, 0, 0]
def k0_off116 (k0_t5 : Fin k0_t5_loop.trips) : Fin 1 → Nat :=
  let c0_i32_104 : BitVec 32 := 0#32
  let c1_i32_106 : BitVec 32 := 1#32
  let arg30 : BitVec 32 := Scf.iv c0_i32_104 c1_i32_106 k0_t5
  let v266 : Index := Scalar.indexCast arg30
  ![v266.toNat]
def k0_off117 (k0_t5 : Fin k0_t5_loop.trips) : Fin 2 → Nat :=
  let c0_i32_104 : BitVec 32 := 0#32
  let c1_i32_106 : BitVec 32 := 1#32
  let arg30 : BitVec 32 := Scf.iv c0_i32_104 c1_i32_106 k0_t5
  let c6_i32_382 : BitVec 32 := 6#32
  let v264 : BitVec 32 := Scalar.shrsi arg30 c6_i32_382
  let v268 : Index := Scalar.indexCast v264
  let c63_i32 : BitVec 32 := 63#32
  let v265 : BitVec 32 := Scalar.andi arg30 c63_i32
  let v269 : Index := Scalar.indexCast v265
  ![v268.toNat, v269.toNat]
def k0_off118 (v270 : BitVec 32) : Fin 1 → Nat :=
  let v271 : Index := Scalar.indexCast v270
  ![v271.toNat]

def k0_chk22 (v270 : BitVec 32) : Prop :=
  (∀ a, (k0_off118 v270) a + S1.size a ≤ S1000.size a)
theorem k0_off118_inb : ∀ (v270 : BitVec 32) (k0_hw22 : k0_chk22 v270), ∀ a, (k0_off118 v270) a + S1.size a ≤ S1000.size a := fun v270 k0_hw22 => k0_hw22

def k0_off119 (k0_t5 : Fin k0_t5_loop.trips) : Fin 2 → Nat :=
  let c0_i32_104 : BitVec 32 := 0#32
  let c1_i32_106 : BitVec 32 := 1#32
  let arg30 : BitVec 32 := Scf.iv c0_i32_104 c1_i32_106 k0_t5
  let c6_i32_382 : BitVec 32 := 6#32
  let v264 : BitVec 32 := Scalar.shrsi arg30 c6_i32_382
  let v273 : Index := Scalar.indexCast v264
  let c63_i32 : BitVec 32 := 63#32
  let v265 : BitVec 32 := Scalar.andi arg30 c63_i32
  let v274 : Index := Scalar.indexCast v265
  ![v273.toNat, v274.toNat]
def k0_off120 (k0_t5 : Fin k0_t5_loop.trips) : Fin 1 → Nat :=
  let c0_i32_104 : BitVec 32 := 0#32
  let c1_i32_106 : BitVec 32 := 1#32
  let arg30 : BitVec 32 := Scf.iv c0_i32_104 c1_i32_106 k0_t5
  let v286 : Index := Scalar.indexCast arg30
  ![v286.toNat]
def k0_mult8 (v287 : BitVec 32) : BitVec 32 :=
  let c4_i32_383 : BitVec 32 := 4#32
  let v288 : BitVec 32 := Scalar.muli v287 c4_i32_383
  v288

def k0_off121 (v287 : BitVec 32) (c0_i32_384 : BitVec 32) : Fin 2 → Nat :=
  let c4_i32_383 : BitVec 32 := 4#32
  let v288 : BitVec 32 := Scalar.muli v287 c4_i32_383
  let v289 : BitVec 32 := v288
  let v292 : BitVec 32 := Scalar.addi v289 c0_i32_384
  let v293 : Index := Scalar.indexCast v292
  let c0_385 : Index := 0#32
  ![v293.toNat, 0]

def k0_chk23 (v287 : BitVec 32) : Prop :=
  (4 ∣ (k0_mult8 v287).toNat) ∧
  (∀ (r : Fin 3), ∀ a, (k0_off121 v287 (BitVec.ofNat 32 (8 * r.val))) a + S8x128.size a ≤ S15384x128.size a)
theorem k0_mult8_dvd : ∀ (v287 : BitVec 32) (k0_hw23 : k0_chk23 v287), 4 ∣ (k0_mult8 v287).toNat := fun v287 k0_hw23 => k0_hw23.1
theorem k0_off121_inb : ∀ (v287 : BitVec 32) (k0_hw23 : k0_chk23 v287), ∀ (r : Fin 3), ∀ a, (k0_off121 v287 (BitVec.ofNat 32 (8 * r.val))) a + S8x128.size a ≤ S15384x128.size a := fun v287 k0_hw23 r => k0_hw23.2 r

def k0_off122 (k0_t5 : Fin k0_t5_loop.trips) : Fin 3 → Nat :=
  let c0_i32_104 : BitVec 32 := 0#32
  let c1_i32_106 : BitVec 32 := 1#32
  let arg30 : BitVec 32 := Scf.iv c0_i32_104 c1_i32_106 k0_t5
  let c7_i32_371 : BitVec 32 := 7#32
  let v247 : BitVec 32 := Scalar.andi arg30 c7_i32_371
  let v341 : Index := Scalar.indexCast v247
  let c0_417 : Index := 0#32
  let c0_418 : Index := 0#32
  ![v341.toNat, 0, 0]
def k0_off123 (k0_t5 : Fin k0_t5_loop.trips) : Fin 3 → Nat :=
  let c0_i32_104 : BitVec 32 := 0#32
  let c1_i32_106 : BitVec 32 := 1#32
  let arg30 : BitVec 32 := Scf.iv c0_i32_104 c1_i32_106 k0_t5
  let c7_i32_371 : BitVec 32 := 7#32
  let v247 : BitVec 32 := Scalar.andi arg30 c7_i32_371
  let v344 : Index := Scalar.indexCast v247
  let c8_419 : Index := 8#32
  let c0_420 : Index := 0#32
  ![v344.toNat, 8, 0]
def k0_off124 (k0_t5 : Fin k0_t5_loop.trips) : Fin 3 → Nat :=
  let c0_i32_104 : BitVec 32 := 0#32
  let c1_i32_106 : BitVec 32 := 1#32
  let arg30 : BitVec 32 := Scf.iv c0_i32_104 c1_i32_106 k0_t5
  let c7_i32_371 : BitVec 32 := 7#32
  let v247 : BitVec 32 := Scalar.andi arg30 c7_i32_371
  let v347 : Index := Scalar.indexCast v247
  let c16_421 : Index := 16#32
  let c0_422 : Index := 0#32
  ![v347.toNat, 16, 0]
def k0_off125 (k0_t5 : Fin k0_t5_loop.trips) : Fin 4 → Nat :=
  let c0_478 : Index := 0#32
  let c0_i32_104 : BitVec 32 := 0#32
  let c1_i32_106 : BitVec 32 := 1#32
  let arg30 : BitVec 32 := Scf.iv c0_i32_104 c1_i32_106 k0_t5
  let c7_i32_371 : BitVec 32 := 7#32
  let v247 : BitVec 32 := Scalar.andi arg30 c7_i32_371
  let v446 : Index := Scalar.indexCast v247
  let c0_479 : Index := 0#32
  let c0_480 : Index := 0#32
  ![0, v446.toNat, 0, 0]
def k0_off126 (k0_t5 : Fin k0_t5_loop.trips) : Fin 4 → Nat :=
  let c1_482 : Index := 1#32
  let c0_i32_104 : BitVec 32 := 0#32
  let c1_i32_106 : BitVec 32 := 1#32
  let arg30 : BitVec 32 := Scf.iv c0_i32_104 c1_i32_106 k0_t5
  let c7_i32_371 : BitVec 32 := 7#32
  let v247 : BitVec 32 := Scalar.andi arg30 c7_i32_371
  let v452 : Index := Scalar.indexCast v247
  let c0_483 : Index := 0#32
  let c0_484 : Index := 0#32
  ![1, v452.toNat, 0, 0]
def k0_off127 (k0_t5 : Fin k0_t5_loop.trips) : Fin 4 → Nat :=
  let c2_486 : Index := 2#32
  let c0_i32_104 : BitVec 32 := 0#32
  let c1_i32_106 : BitVec 32 := 1#32
  let arg30 : BitVec 32 := Scf.iv c0_i32_104 c1_i32_106 k0_t5
  let c7_i32_371 : BitVec 32 := 7#32
  let v247 : BitVec 32 := Scalar.andi arg30 c7_i32_371
  let v458 : Index := Scalar.indexCast v247
  let c0_487 : Index := 0#32
  let c0_488 : Index := 0#32
  ![2, v458.toNat, 0, 0]
def k0_off128 (k0_t5 : Fin k0_t5_loop.trips) : Fin 4 → Nat :=
  let c0_498 : Index := 0#32
  let c0_i32_104 : BitVec 32 := 0#32
  let c1_i32_106 : BitVec 32 := 1#32
  let arg30 : BitVec 32 := Scf.iv c0_i32_104 c1_i32_106 k0_t5
  let c7_i32_371 : BitVec 32 := 7#32
  let v247 : BitVec 32 := Scalar.andi arg30 c7_i32_371
  let v505 : Index := Scalar.indexCast v247
  let c8_499 : Index := 8#32
  let c0_500 : Index := 0#32
  ![0, v505.toNat, 8, 0]
def k0_off129 (k0_t5 : Fin k0_t5_loop.trips) : Fin 4 → Nat :=
  let c1_502 : Index := 1#32
  let c0_i32_104 : BitVec 32 := 0#32
  let c1_i32_106 : BitVec 32 := 1#32
  let arg30 : BitVec 32 := Scf.iv c0_i32_104 c1_i32_106 k0_t5
  let c7_i32_371 : BitVec 32 := 7#32
  let v247 : BitVec 32 := Scalar.andi arg30 c7_i32_371
  let v511 : Index := Scalar.indexCast v247
  let c8_503 : Index := 8#32
  let c0_504 : Index := 0#32
  ![1, v511.toNat, 8, 0]
def k0_off130 (k0_t5 : Fin k0_t5_loop.trips) : Fin 4 → Nat :=
  let c2_506 : Index := 2#32
  let c0_i32_104 : BitVec 32 := 0#32
  let c1_i32_106 : BitVec 32 := 1#32
  let arg30 : BitVec 32 := Scf.iv c0_i32_104 c1_i32_106 k0_t5
  let c7_i32_371 : BitVec 32 := 7#32
  let v247 : BitVec 32 := Scalar.andi arg30 c7_i32_371
  let v517 : Index := Scalar.indexCast v247
  let c8_507 : Index := 8#32
  let c0_508 : Index := 0#32
  ![2, v517.toNat, 8, 0]
def k0_off131 (k0_t5 : Fin k0_t5_loop.trips) : Fin 2 → Nat :=
  let c0_i32_519 : BitVec 32 := 0#32
  let c0_i32_104 : BitVec 32 := 0#32
  let c1_i32_106 : BitVec 32 := 1#32
  let arg30 : BitVec 32 := Scf.iv c0_i32_104 c1_i32_106 k0_t5
  let c7_i32_509 : BitVec 32 := 7#32
  let v521 : BitVec 32 := Scalar.andi arg30 c7_i32_509
  ![0, v521.toNat]
def k0_off132 (k0_t5 : Fin k0_t5_loop.trips) : Fin 5 → Nat :=
  let c0_i32_104 : BitVec 32 := 0#32
  let c1_i32_106 : BitVec 32 := 1#32
  let arg30 : BitVec 32 := Scf.iv c0_i32_104 c1_i32_106 k0_t5
  let c6_i32_510 : BitVec 32 := 6#32
  let v522 : BitVec 32 := Scalar.shrsi arg30 c6_i32_510
  let c63_i32_511 : BitVec 32 := 63#32
  let v523 : BitVec 32 := Scalar.andi arg30 c63_i32_511
  let c3_i32_512 : BitVec 32 := 3#32
  let v524 : BitVec 32 := Scalar.shrsi v523 c3_i32_512
  let c0_i32_520 : BitVec 32 := 0#32
  let c7_i32_513 : BitVec 32 := 7#32
  let v525 : BitVec 32 := Scalar.andi v523 c7_i32_513
  let c0_i32_521 : BitVec 32 := 0#32
  ![v522.toNat, v524.toNat, 0, v525.toNat, 0]
def k0_off133 (k0_t5 : Fin k0_t5_loop.trips) : Fin 4 → Nat :=
  let c0_i32_518 : BitVec 32 := 0#32
  let c0_i32_104 : BitVec 32 := 0#32
  let c1_i32_106 : BitVec 32 := 1#32
  let arg30 : BitVec 32 := Scf.iv c0_i32_104 c1_i32_106 k0_t5
  let c7_i32_509 : BitVec 32 := 7#32
  let v521 : BitVec 32 := Scalar.andi arg30 c7_i32_509
  let c0_i32_522 : BitVec 32 := 0#32
  let c0_i32_523 : BitVec 32 := 0#32
  ![0, v521.toNat, 0, 0]
def k0_off134 (k0_t5 : Fin k0_t5_loop.trips) : Fin 2 → Nat :=
  let c1_i32_525 : BitVec 32 := 1#32
  let c0_i32_104 : BitVec 32 := 0#32
  let c1_i32_106 : BitVec 32 := 1#32
  let arg30 : BitVec 32 := Scf.iv c0_i32_104 c1_i32_106 k0_t5
  let c7_i32_509 : BitVec 32 := 7#32
  let v521 : BitVec 32 := Scalar.andi arg30 c7_i32_509
  ![1, v521.toNat]
def k0_off135 (k0_t5 : Fin k0_t5_loop.trips) : Fin 4 → Nat :=
  let c1_i32_524 : BitVec 32 := 1#32
  let c0_i32_104 : BitVec 32 := 0#32
  let c1_i32_106 : BitVec 32 := 1#32
  let arg30 : BitVec 32 := Scf.iv c0_i32_104 c1_i32_106 k0_t5
  let c7_i32_509 : BitVec 32 := 7#32
  let v521 : BitVec 32 := Scalar.andi arg30 c7_i32_509
  let c0_i32_528 : BitVec 32 := 0#32
  let c0_i32_529 : BitVec 32 := 0#32
  ![1, v521.toNat, 0, 0]
def k0_off136 (k0_t5 : Fin k0_t5_loop.trips) : Fin 2 → Nat :=
  let c2_i32_531 : BitVec 32 := 2#32
  let c0_i32_104 : BitVec 32 := 0#32
  let c1_i32_106 : BitVec 32 := 1#32
  let arg30 : BitVec 32 := Scf.iv c0_i32_104 c1_i32_106 k0_t5
  let c7_i32_509 : BitVec 32 := 7#32
  let v521 : BitVec 32 := Scalar.andi arg30 c7_i32_509
  ![2, v521.toNat]
def k0_off137 (k0_t5 : Fin k0_t5_loop.trips) : Fin 4 → Nat :=
  let c2_i32_530 : BitVec 32 := 2#32
  let c0_i32_104 : BitVec 32 := 0#32
  let c1_i32_106 : BitVec 32 := 1#32
  let arg30 : BitVec 32 := Scf.iv c0_i32_104 c1_i32_106 k0_t5
  let c7_i32_509 : BitVec 32 := 7#32
  let v521 : BitVec 32 := Scalar.andi arg30 c7_i32_509
  let c0_i32_534 : BitVec 32 := 0#32
  let c0_i32_535 : BitVec 32 := 0#32
  ![2, v521.toNat, 0, 0]
def k0_cond4 (k0_t5 : Fin k0_t5_loop.trips) : BitVec 1 :=
  let c0_i32_104 : BitVec 32 := 0#32
  let c1_i32_106 : BitVec 32 := 1#32
  let arg30 : BitVec 32 := Scf.iv c0_i32_104 c1_i32_106 k0_t5
  let c8_i32_536 : BitVec 32 := 8#32
  let v548 : BitVec 32 := Scalar.addi arg30 c8_i32_536
  let c768_i32_537 : BitVec 32 := 768#32
  let v549 : BitVec 1 := Scalar.cmpi .slt v548 c768_i32_537
  let v550 : BitVec 32 := Scalar.extui v549
  let c0_i32_538 : BitVec 32 := 0#32
  let v551 : BitVec 1 := Scalar.cmpi .ne v550 c0_i32_538
  v551

def k0_off138 (k0_t5 : Fin k0_t5_loop.trips) : Fin 1 → Nat :=
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.addi arg30 c8_i32_539
  let v554 : Index := Scalar.indexCast v552
  ![v554.toNat]
def k0_off139 (k0_t5 : Fin k0_t5_loop.trips) : Fin 2 → Nat :=
  let c0_i32_541 : BitVec 32 := 0#32
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.addi arg30 c8_i32_539
  let c7_i32_540 : BitVec 32 := 7#32
  let v553 : BitVec 32 := Scalar.andi v552 c7_i32_540
  ![0, v553.toNat]
def k0_off140 (k0_t5 : Fin k0_t5_loop.trips) : Fin 3 → Nat :=
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.addi arg30 c8_i32_539
  let c7_i32_540 : BitVec 32 := 7#32
  let v553 : BitVec 32 := Scalar.andi v552 c7_i32_540
  let c0_i32_542 : BitVec 32 := 0#32
  let c0_i32_543 : BitVec 32 := 0#32
  ![v553.toNat, 0, 0]
def k0_off141 (v555 : BitVec 32) : Fin 2 → Nat :=
  let c0_i32_544 : BitVec 32 := 0#32
  ![v555.toNat, 0]

def k0_chk24 (k0_t5 : Fin k0_t5_loop.trips) (v555 : BitVec 32) : Prop :=
  (∀ (k0_h4 : k0_cond4 k0_t5 = 1#1), ∀ a, (k0_off141 v555) a + S24x128.size a ≤ S16000x128.size a)
theorem k0_off141_inb : ∀ (k0_t5 : Fin k0_t5_loop.trips) (v555 : BitVec 32) (k0_hw24 : k0_chk24 k0_t5 v555), ∀ (k0_h4 : k0_cond4 k0_t5 = 1#1), ∀ a, (k0_off141 v555) a + S24x128.size a ≤ S16000x128.size a := fun k0_t5 v555 k0_hw24 k0_h4 => k0_hw24 k0_h4

def k0_off142 (k0_t5 : Fin k0_t5_loop.trips) : Fin 2 → Nat :=
  let c1_i32_545 : BitVec 32 := 1#32
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.addi arg30 c8_i32_539
  let c7_i32_540 : BitVec 32 := 7#32
  let v553 : BitVec 32 := Scalar.andi v552 c7_i32_540
  ![1, v553.toNat]
def k0_off143 (k0_t5 : Fin k0_t5_loop.trips) : Fin 3 → Nat :=
  let c0_i32_104 : BitVec 32 := 0#32
  let c1_i32_106 : BitVec 32 := 1#32
  let arg30 : BitVec 32 := Scf.iv c0_i32_104 c1_i32_106 k0_t5
  let c8_i32_539 : BitVec 32 := 8#32
  let v552 : BitVec 32 := Scalar.addi arg30 c8_i32_539
  let c7_i32_540 : BitVec 32 := 7#32
  let v553 : BitVec 32 := Scalar.andi v552 c7_i32_540
  let c0_i32_546 : BitVec 32 := 0#32
  let c0_i32_547 : BitVec 32 := 0#32
  ![v553.toNat, 0, 0]
abbrev stage0_0 : Fin 1 → Memref sig .tc .smem S12x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1000 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x128x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x12 : Shape := ⟨2, ![64, 12]⟩
abbrev S1000 : Shape := ⟨1, ![1000]⟩
abbrev S12x64 : Shape := ⟨2, ![12, 64]⟩
abbrev S12x128x128 : Shape := ⟨3, ![12, 128, 128]⟩
abbrev S2048000x30 : Shape := ⟨2, ![2048000, 30]⟩
abbrev S2048000 : Shape := ⟨1, ![2048000]⟩
abbrev S2048 : Shape := ⟨1, ![2048]⟩
abbrev S_ : Shape := ⟨0, ![]⟩
abbrev S64x12x1 : Shape := ⟨3, ![64, 12, 1]⟩
abbrev S1x1x2048 : Shape := ⟨3, ![1, 1, 2048]⟩
abbrev S64x12x2048 : Shape := ⟨3, ![64, 12, 2048]⟩
abbrev S64x12x2048x1 : Shape := ⟨4, ![64, 12, 2048, 1]⟩
abbrev S64x12x2048x30 : Shape := ⟨4, ![64, 12, 2048, 30]⟩
abbrev S12x30x64 : Shape := ⟨3, ![12, 30, 64]⟩
abbrev S64x12x30 : Shape := ⟨3, ![64, 12, 30]⟩
abbrev S64x12x1x30 : Shape := ⟨4, ![64, 12, 1, 30]⟩

abbrev nBuf : Space → Nat
  | .hbm => 185
  | .vmem => 0
  | .smem => 0
  | _ => 0

abbrev hbmTy0_0 (i : Nat) : BufTy := match i % 128 with
  | 0 => ⟨S64x12, .i32⟩
  | 1 => ⟨S1000, .i32⟩
  | 2 => ⟨S1000, .i32⟩
  | 3 => ⟨S12x64, .f32⟩
  | 4 => ⟨S12x64, .f32⟩
  | 5 => ⟨S12x64, .f32⟩
  | 6 => ⟨S12x64, .f32⟩
  | 7 => ⟨S12x128x128, .i32⟩
  | 8 => ⟨S2048000x30, .i32⟩
  | 9 => ⟨S2048000, .f32⟩
  | 10 => ⟨S2048000, .f32⟩
  | 11 => ⟨S2048, .i32⟩
  | 12 => ⟨S_, .i32⟩
  | 13 => ⟨S64x12, .i32⟩
  | 14 => ⟨S64x12, .i1⟩
  | 15 => ⟨S_, .i32⟩
  | 16 => ⟨S64x12, .i32⟩
  | 17 => ⟨S64x12, .i32⟩
  | 18 => ⟨S64x12, .i32⟩
  | 19 => ⟨S64x12x1, .i32⟩
  | 20 => ⟨S64x12, .i32⟩
  | 21 => ⟨S64x12x1, .i32⟩
  | 22 => ⟨S1x1x2048, .i32⟩
  | 23 => ⟨S64x12x2048, .i32⟩
  | 24 => ⟨S64x12x2048, .i32⟩
  | 25 => ⟨S64x12x2048, .i32⟩
  | 26 => ⟨S_, .i32⟩
  | 27 => ⟨S64x12, .i32⟩
  | 28 => ⟨S64x12, .i1⟩
  | 29 => ⟨S_, .i32⟩
  | 30 => ⟨S64x12, .i32⟩
  | 31 => ⟨S64x12, .i32⟩
  | 32 => ⟨S64x12, .i32⟩
  | 33 => ⟨S64x12x1, .i32⟩
  | 34 => ⟨S64x12, .i32⟩
  | 35 => ⟨S64x12x1, .i32⟩
  | 36 => ⟨S1x1x2048, .i32⟩
  | 37 => ⟨S64x12x2048, .i32⟩
  | 38 => ⟨S64x12x2048, .i32⟩
  | 39 => ⟨S64x12x2048, .i1⟩
  | 40 => ⟨S_, .i32⟩
  | 41 => ⟨S64x12x2048, .i32⟩
  | 42 => ⟨S64x12x2048, .i1⟩
  | 43 => ⟨S_, .i32⟩
  | 44 => ⟨S64x12x2048, .i32⟩
  | 45 => ⟨S64x12x2048, .i32⟩
  | 46 => ⟨S64x12x2048, .i32⟩
  | 47 => ⟨S64x12x2048x1, .i32⟩
  | 48 => ⟨S64x12x2048x30, .i32⟩
  | 49 => ⟨S_, .i32⟩
  | 50 => ⟨S64x12x2048, .i32⟩
  | 51 => ⟨S64x12x2048, .i1⟩
  | 52 => ⟨S_, .i32⟩
  | 53 => ⟨S64x12x2048, .i32⟩
  | 54 => ⟨S64x12x2048, .i32⟩
  | 55 => ⟨S64x12x2048, .i32⟩
  | 56 => ⟨S64x12x2048x1, .i32⟩
  | 57 => ⟨S64x12x2048, .f32⟩
  | 58 => ⟨S_, .i32⟩
  | 59 => ⟨S64x12x2048, .i32⟩
  | 60 => ⟨S64x12x2048, .i1⟩
  | 61 => ⟨S_, .i32⟩
  | 62 => ⟨S64x12x2048, .i32⟩
  | 63 => ⟨S64x12x2048, .i32⟩
  | 64 => ⟨S64x12x2048, .i32⟩
  | 65 => ⟨S64x12x2048x1, .i32⟩
  | 66 => ⟨S64x12x2048, .f32⟩
  | 67 => ⟨S_, .i32⟩
  | 68 => ⟨S64x12x2048, .i32⟩
  | 69 => ⟨S12x30x64, .i32⟩
  | 70 => ⟨S64x12x30, .i32⟩
  | 71 => ⟨S64x12x30, .i32⟩
  | 72 => ⟨S64x12x1x30, .i32⟩
  | 73 => ⟨S64x12x2048x30, .i32⟩
  | 74 => ⟨S64x12x2048x30, .i32⟩
  | 75 => ⟨S64x12x2048x30, .i32⟩
  | 76 => ⟨S64x12x2048x30, .i32⟩
  | 77 => ⟨S_, .i32⟩
  | 78 => ⟨S64x12x2048, .i32⟩
  | 79 => ⟨S_, .i32⟩
  | 80 => ⟨S64x12x2048, .i32⟩
  | 81 => ⟨S64x12x2048, .i32⟩
  | 82 => ⟨S64x12x2048, .i32⟩
  | 83 => ⟨S12x30x64, .i32⟩
  | 84 => ⟨S64x12x30, .i32⟩
  | 85 => ⟨S64x12x30, .i32⟩
  | 86 => ⟨S64x12x1x30, .i32⟩
  | 87 => ⟨S64x12x2048x30, .i32⟩
  | 88 => ⟨S64x12x2048x30, .i32⟩
  | 89 => ⟨S64x12x2048x30, .i32⟩
  | 90 => ⟨S64x12x2048x30, .i32⟩
  | 91 => ⟨S_, .i32⟩
  | 92 => ⟨S64x12x2048, .i32⟩
  | 93 => ⟨S_, .i32⟩
  | 94 => ⟨S64x12x2048, .i32⟩
  | 95 => ⟨S64x12x2048, .i32⟩
  | 96 => ⟨S64x12x2048, .i32⟩
  | 97 => ⟨S12x30x64, .i32⟩
  | 98 => ⟨S64x12x30, .i32⟩
  | 99 => ⟨S64x12x30, .i32⟩
  | 100 => ⟨S64x12x1x30, .i32⟩
  | 101 => ⟨S64x12x2048x30, .i32⟩
  | 102 => ⟨S64x12x2048x30, .i32⟩
  | 103 => ⟨S64x12x2048x30, .i32⟩
  | 104 => ⟨S64x12x2048x30, .i32⟩
  | 105 => ⟨S_, .i32⟩
  | 106 => ⟨S64x12x2048, .i32⟩
  | 107 => ⟨S_, .i32⟩
  | 108 => ⟨S64x12x2048, .i32⟩
  | 109 => ⟨S64x12x2048, .i32⟩
  | 110 => ⟨S64x12x2048, .i32⟩
  | 111 => ⟨S12x30x64, .i32⟩
  | 112 => ⟨S64x12x30, .i32⟩
  | 113 => ⟨S64x12x30, .i32⟩
  | 114 => ⟨S64x12x1x30, .i32⟩
  | 115 => ⟨S64x12x2048x30, .i32⟩
  | 116 => ⟨S64x12x2048x30, .i32⟩
  | 117 => ⟨S64x12x2048x30, .i32⟩
  | 118 => ⟨S64x12x2048x30, .i32⟩
  | 119 => ⟨S_, .i32⟩
  | 120 => ⟨S64x12x2048, .i32⟩
  | 121 => ⟨S_, .i32⟩
  | 122 => ⟨S64x12x2048, .i32⟩
  | 123 => ⟨S64x12x2048, .i32⟩
  | 124 => ⟨S64x12x2048, .i32⟩
  | 125 => ⟨S64x12x2048x30, .i32⟩
  | 126 => ⟨S64x12x2048x30, .i32⟩
  | 127 => ⟨S_, .i32⟩
  | _ => ⟨S64x12, .i32⟩

abbrev hbmTy0_1 (i : Nat) : BufTy := match i % 128 with
  | 0 => ⟨S64x12x2048, .i32⟩
  | 1 => ⟨S64x12, .f32⟩
  | 2 => ⟨S64x12x1, .f32⟩
  | 3 => ⟨S64x12x2048, .f32⟩
  | 4 => ⟨S64x12, .f32⟩
  | 5 => ⟨S64x12x1, .f32⟩
  | 6 => ⟨S64x12x2048, .f32⟩
  | 7 => ⟨S64x12x2048, .f32⟩
  | 8 => ⟨S64x12x2048, .f32⟩
  | 9 => ⟨S64x12, .f32⟩
  | 10 => ⟨S64x12x1, .f32⟩
  | 11 => ⟨S64x12x2048, .f32⟩
  | 12 => ⟨S64x12x2048, .f32⟩
  | 13 => ⟨S64x12x2048, .f32⟩
  | 14 => ⟨S64x12, .f32⟩
  | 15 => ⟨S64x12x1, .f32⟩
  | 16 => ⟨S64x12x2048, .f32⟩
  | 17 => ⟨S64x12x2048, .f32⟩
  | 18 => ⟨S64x12x2048, .f32⟩
  | 19 => ⟨S64x12x2048, .f32⟩
  | 20 => ⟨S64x12x1, .f32⟩
  | 21 => ⟨S64x12x2048, .f32⟩
  | 22 => ⟨S64x12x2048, .f32⟩
  | 23 => ⟨S_, .f32⟩
  | 24 => ⟨S64x12x2048, .f32⟩
  | 25 => ⟨S64x12x2048, .f32⟩
  | 26 => ⟨S64x12x2048, .f32⟩
  | 27 => ⟨S64x12x2048, .f32⟩
  | 28 => ⟨S64x12x2048, .f32⟩
  | 29 => ⟨S64x12x2048, .f32⟩
  | 30 => ⟨S_, .f32⟩
  | 31 => ⟨S64x12x2048, .f32⟩
  | 32 => ⟨S64x12x2048, .f32⟩
  | 33 => ⟨S64x12x2048, .f32⟩
  | 34 => ⟨S64x12x2048, .f32⟩
  | 35 => ⟨S64x12x2048, .f32⟩
  | 36 => ⟨S_, .f32⟩
  | 37 => ⟨S64x12x2048, .f32⟩
  | 38 => ⟨S64x12x2048, .f32⟩
  | 39 => ⟨S64x12x2048, .f32⟩
  | 40 => ⟨S64x12x2048, .f32⟩
  | 41 => ⟨S64x12x2048, .f32⟩
  | 42 => ⟨S_, .f32⟩
  | 43 => ⟨S64x12x2048, .f32⟩
  | 44 => ⟨S64x12x2048, .f32⟩
  | 45 => ⟨S_, .f32⟩
  | 46 => ⟨S_, .f32⟩
  | 47 => ⟨S64x12x2048, .f32⟩
  | 48 => ⟨S64x12x2048, .f32⟩
  | 49 => ⟨S_, .f32⟩
  | 50 => ⟨S_, .f32⟩
  | 51 => ⟨S64x12x2048, .f32⟩
  | 52 => ⟨S64x12x2048, .f32⟩
  | 53 => ⟨S_, .f32⟩
  | 54 => ⟨S_, .f32⟩
  | 55 => ⟨S64x12x2048, .f32⟩
  | 56 => ⟨S64x12x2048, .f32⟩
  | _ => ⟨S64x12, .i32⟩

abbrev hbmTy (i : Nat) : BufTy := match i / 128 with
  | 0 => hbmTy0_0 i
  | 1 => hbmTy0_1 i
  | _ => ⟨S64x12, .i32⟩

abbrev bufTy : (tb : Table) → Fin (tcTables nBuf tb) → BufTy
  | .hbm, ⟨i, _⟩ => hbmTy i
  | _, _ => ⟨S64x12, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_14 : Ref sig .tc := ⟨.hbm, 105, rfl⟩
abbrev main_v79 : Ref sig .tc := ⟨.hbm, 106, rfl⟩
abbrev main_c_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_16 : Ref sig .tc := ⟨.hbm, 119, rfl⟩
abbrev main_v91 : Ref sig .tc := ⟨.hbm, 120, rfl⟩
abbrev main_c_17 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_18 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_19 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_20 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_21 : Ref sig .tc := ⟨.hbm, 170, rfl⟩
abbrev main_v136 : Ref sig .tc := ⟨.hbm, 171, rfl⟩
abbrev main_v137 : Ref sig .tc := ⟨.hbm, 172, rfl⟩
abbrev main_cst_22 : Ref sig .tc := ⟨.hbm, 173, rfl⟩
abbrev main_call0_v0 : Ref sig .tc := ⟨.hbm, 174, rfl⟩
abbrev main_call0_v1 : Ref sig .tc := ⟨.hbm, 175, rfl⟩
abbrev main_v138 : Ref sig .tc := ⟨.hbm, 176, rfl⟩
abbrev main_cst_23 : Ref sig .tc := ⟨.hbm, 177, rfl⟩
abbrev main_call1_v0 : Ref sig .tc := ⟨.hbm, 178, rfl⟩
abbrev main_call1_v1 : Ref sig .tc := ⟨.hbm, 179, rfl⟩
abbrev main_v139 : Ref sig .tc := ⟨.hbm, 180, rfl⟩
abbrev main_cst_24 : Ref sig .tc := ⟨.hbm, 181, rfl⟩
abbrev main_call2_v0 : Ref sig .tc := ⟨.hbm, 182, rfl⟩
abbrev main_call2_v1 : Ref sig .tc := ⟨.hbm, 183, rfl⟩
abbrev main_v140 : Ref sig .tc := ⟨.hbm, 184, rfl⟩

abbrev nD : Nat := 1
abbrev τ : Topo := Topo.v7x

variable {F : FTy → Type} [FloatOps F]
-- ==== Proof.Refs.lean ====
/-
  The memrefs the scan kernel's body is called on, as one structure, and the body's parts at them.
-/
module

public import proofs.«01_k».proof.Proof.Gen.Kernel.Skeleton

@[expose] public section

noncomputable section

namespace Cert.Proof.Kernel

open Idealize.ShloMosaic
open Cert.Kernel Cert.Kernel.Gen

/-- The kernel's operands: the staged inputs (0–7), the arrays left in HBM (8–10), the results (11–13) and the scratch. -/
structure Refs where
  a0 : Memref sig .tc .smem S12x64 .i32
  h0 : a0.IsWhole
  a1 : Memref sig .tc .smem S1000 .i32
  h1 : a1.IsWhole
  a2 : Memref sig .tc .smem S1000 .i32
  h2 : a2.IsWhole
  a3 : Memref sig .tc .smem S12x64 .f32
  h3 : a3.IsWhole
  a4 : Memref sig .tc .smem S12x64 .f32
  h4 : a4.IsWhole
  a5 : Memref sig .tc .smem S12x64 .f32
  h5 : a5.IsWhole
  a6 : Memref sig .tc .smem S12x64 .f32
  h6 : a6.IsWhole
  a7 : Memref sig .tc .vmem S12x128x128 .i32
  h7 : a7.IsWhole
  a8 : Memref sig .tc .hbm S30x2048000 .i32
  h8 : a8.IsWhole
  a9 : Memref sig .tc .hbm S16000x128 .f32
  h9 : a9.IsWhole
  a10 : Memref sig .tc .hbm S16000x128 .f32
  h10 : a10.IsWhole
  a11 : Memref sig .tc .hbm S12x8x16x8x128 .f32
  h11 : a11.IsWhole
  a12 : Memref sig .tc .hbm S12x8x16x8x128 .f32
  h12 : a12.IsWhole
  a13 : Memref sig .tc .hbm S12x8x16x8x128 .f32
  h13 : a13.IsWhole
  a14 : Memref sig .tc .smem S768 .i32
  h14 : a14.IsWhole
  a15 : Memref sig .tc .smem S768 .i32
  h15 : a15.IsWhole
  a16 : Memref sig .tc .smem S768 .i32
  h16 : a16.IsWhole
  a17 : Memref sig .tc .smem S768 .i32
  h17 : a17.IsWhole
  a18 : Memref sig .tc .vmem S16x30x512 .i32
  h18 : a18.IsWhole
  a19 : DmaSems sig S16
  a20 : Memref sig .tc .vmem S64x128 .i32
  h20 : a20.IsWhole
  a21 : Memref sig .tc .vmem S15384x128 .i32
  h21 : a21.IsWhole
  a22 : Memref sig .tc .vmem S15384x128 .i32
  h22 : a22.IsWhole
  a23 : Memref sig .tc .vmem S8x24x128 .f32
  h23 : a23.IsWhole
  a24 : Memref sig .tc .vmem S8x24x128 .f32
  h24 : a24.IsWhole
  a25 : DmaSems sig S2x8
  a26 : Memref sig .tc .vmem S3x24x128 .i32
  h26 : a26.IsWhole
  a27 : Memref sig .tc .vmem S3x24x128 .f32
  h27 : a27.IsWhole
  a28 : Memref sig .tc .vmem S3x8x16x128 .f32
  h28 : a28.IsWhole
  a29 : DmaSems sig S3x8

variable {F : FTy → Type} [FloatOps F] (R : Refs)

abbrev body1 := k0_t1_body (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev body2 := k0_t2_body (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev body3 := k0_t3_body (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev body4 := k0_t4_body (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev body5 := k0_t5_body (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part1 := k0_part1 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part2 := k0_part2 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part3 := k0_part3 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part4 := k0_part4 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part5 := k0_part5 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part6 := k0_part6 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part7 := k0_part7 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part8 := k0_part8 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part9 := k0_part9 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part10 := k0_part10 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part11 := k0_part11 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part12 := k0_part12 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part13 := k0_part13 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part27 := k0_part27 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part28 := k0_part28 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part29 := k0_part29 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part30 := k0_part30 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part31 := k0_part31 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part32 := k0_part32 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part33 := k0_part33 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part34 := k0_part34 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part35 := k0_part35 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part36 := k0_part36 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part37 := k0_part37 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part38 := k0_part38 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part39 := k0_part39 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part40 := k0_part40 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part41 := k0_part41 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part42 := k0_part42 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part43 := k0_part43 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part44 := k0_part44 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev part45 := k0_part45 (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29
abbrev scan := cc0_scan (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29

end Cert.Proof.Kernel

end
-- ==== Proof.Geom.lean ====
/-
  Words as natural numbers, and the kernel's walk over its work list.

  Pair `n` (probe `n / 64`, query `n % 64`) reads `nch n` chunks of 512 columns. `base n` is how many chunks come before
  it; `pos t` is the pair and the chunk within it that step `t` of the flattened list works on.
-/
module

public import Idealize.ShloMosaic.Lib.WordArith
public import Idealize.ShloMosaic.Lib.WordArith.Masks
public import Idealize.ShloMosaic.Lib.Scf
public import Idealize.ShloMosaic.Lib.Pointwise
public import Mathlib.Algebra.BigOperators.Group.Finset.Basic

@[expose] public section

namespace Cert.Proof

open Idealize.ShloMosaic

/-! ## Words -/

/-- The 32-bit word of a number. -/
abbrev w (n : ℕ) : BitVec 32 := BitVec.ofNat 32 n

theorem toNat_w {n : ℕ} (h : n < 2 ^ 31) : (w n).toNat = n := WordArith.toNat_ofNat_of_lt n (by omega)
theorem toInt_w {n : ℕ} (h : n < 2 ^ 31) : (w n).toInt = n := WordArith.toInt_ofNat_small n h
theorem w_toNat (x : BitVec 32) : w x.toNat = x := by simp [w]

theorem addi_w (a b : ℕ) : Scalar.addi (w a) (w b) = w (a + b) := (BitVec.ofNat_add a b).symm
theorem muli_w (a b : ℕ) : Scalar.muli (w a) (w b) = w (a * b) := (BitVec.ofNat_mul a b).symm

theorem subi_w {a b : ℕ} (h : b ≤ a) : Scalar.subi (w a) (w b) = w (a - b) := by
  have : w a = Scalar.addi (w (a - b)) (w b) := by rw [addi_w]; congr 1; omega
  rw [this]; simp [Scalar.subi, Scalar.addi, IntOp.subi, IntOp.addi]

theorem andi_w {a : ℕ} (h : a < 2 ^ 31) (M : BitVec 32) (p : ℕ) (hM : M.toNat = 2 ^ p - 1) : Scalar.andi (w a) M = w (a % 2 ^ p) := by
  apply BitVec.eq_of_toNat_eq
  rw [WordArith.toNat_andi_lowMask _ _ p hM, toNat_w h, toNat_w (lt_of_le_of_lt (Nat.mod_le _ _) h)]

theorem shrsi_w {a : ℕ} (h : a < 2 ^ 31) (k : ℕ) (hk : k < 32) : Scalar.shrsi (w a) (w k) = w (a / 2 ^ k) := by
  have hk' : (w k).toNat = k := toNat_w (by omega)
  unfold Scalar.shrsi IntOp.shrsi
  rw [hk', if_pos hk]
  apply BitVec.eq_of_toInt_eq
  show ((w a).sshiftRight (w k).toNat).toInt = _
  rw [BitVec.toInt_sshiftRight, hk', toInt_w h, toInt_w (lt_of_le_of_lt (Nat.div_le_self _ _) h),
    Int.shiftRight_eq_div_pow]
  norm_cast

theorem sge_w {a b : ℕ} (ha : a < 2 ^ 31) (hb : b < 2 ^ 31) : Scalar.cmpi .sge (w a) (w b) = if b ≤ a then 1#1 else 0#1 := by
  have : (w b).sle (w a) = decide (b ≤ a) := by
    rw [BitVec.sle_eq_decide, toInt_w ha, toInt_w hb]; simp
  show BitVec.ofBool ((w b).sle (w a)) = _
  rw [this]; split_ifs with h <;> simp [h]

theorem slt_w {a b : ℕ} (ha : a < 2 ^ 31) (hb : b < 2 ^ 31) : Scalar.cmpi .slt (w a) (w b) = if a < b then 1#1 else 0#1 := by
  have : (w a).slt (w b) = decide (a < b) := by
    rw [BitVec.slt_eq_decide, toInt_w ha, toInt_w hb]; simp
  show BitVec.ofBool ((w a).slt (w b)) = _
  rw [this]; split_ifs with h <;> simp [h]

theorem minsi_w {a b : ℕ} (ha : a < 2 ^ 31) (hb : b < 2 ^ 31) : Scalar.minsi (w a) (w b) = w (min a b) := by
  apply BitVec.eq_of_toNat_eq
  show (IntOp.minsi (w a) (w b)).toNat = _
  rw [WordArith.toNat_minsi_of_lt _ _ (by rw [toNat_w ha]; exact ha) (by rw [toNat_w hb]; exact hb), toNat_w ha, toNat_w hb, toNat_w (lt_of_le_of_lt (Nat.min_le_left _ _) ha)]

theorem select_ite {α : Type} (p : Prop) [Decidable p] (x y : α) : Scalar.select (if p then 1#1 else 0#1) x y = if p then x else y := by
  split_ifs <;> rfl

theorem ne_zero_ite (p : Prop) [Decidable p] : Scalar.cmpi .ne (Scalar.extui (if p then 1#1 else 0#1) : BitVec 32) 0#32 = if p then 1#1 else 0#1 := by
  split_ifs <;> rfl

theorem ite_eq_one (p : Prop) [Decidable p] : ((if p then 1#1 else 0#1) = 1#1) ↔ p := by split_ifs with h <;> simp [h]

theorem iv_w (k : ℕ) : Scf.iv 0#32 1#32 k = w k := by
  apply BitVec.eq_of_toNat_eq; simp [Scf.iv]

theorem trips_w {n : ℕ} (h : n < 2 ^ 31) : Scf.trips 0#32 (w n) 1#32 = n := by
  unfold Scf.trips
  rw [toInt_w h]; simp

/-! ## Arrays read at natural coordinates -/

/-- The array's element at natural coordinates, `d` off the array. -/
def atN {s : Shape} {α : Type} (d : α) (X : s.Idx → α) (v : Fin s.rank → ℕ) : α := if h : ∀ a, v a < s.size a then X (fun a => ⟨v a, h a⟩) else d

theorem atN_eq {s : Shape} {α : Type} (d : α) (X : s.Idx → α) {v : Fin s.rank → ℕ} (i : s.Idx) (h : ∀ a, v a = (i a).val) : atN d X v = X i := by
  unfold atN
  rw [dif_pos (fun a => by rw [h a]; exact (i a).isLt)]
  congr 1; funext a; exact Fin.ext (h a)

theorem atN_congr {s : Shape} {α : Type} (d : α) (X : s.Idx → α) {v v' : Fin s.rank → ℕ} (h : ∀ a, v a = v' a) : atN d X v = atN d X v' :=
  congrArg _ (funext h)

/-- The one element a load of one word reads. -/
theorem atN_first {s : Shape} {α : Type} (d : α) (X : s.Idx → α) (r : Rect s) (hn : 0 < r.shape.numel) {v : Fin s.rank → ℕ} (h : ∀ a, v a = r.off a) :
    X (r.emb (Shape.Idx.first hn)) = atN d X v := by
  refine (atN_eq d X _ fun a => ?_).symm
  rw [Rect.emb_apply, h a]
  simp [Shape.Idx.first]

/-- An element a rectangle reads. -/
theorem atN_emb {s : Shape} {α : Type} (d : α) (X : s.Idx → α) (r : Rect s) (j : r.shape.Idx) {v : Fin s.rank → ℕ}
    (h : ∀ a, v a = r.off a + r.stride a * (j a).val) : X (r.emb j) = atN d X v :=
  (atN_eq d X _ fun a => by rw [Rect.emb_apply, h a]).symm

/-! ## The work list -/

section Walk

variable (nch : ℕ → ℕ)

/-- The chunks of the pairs before pair `n`. -/
def base (n : ℕ) : ℕ := ∑ i ∈ Finset.range n, nch i

/-- The next item of the list: the pair's next chunk, or the next pair's first. -/
def adv (p : ℕ × ℕ) : ℕ × ℕ := if nch p.1 ≤ p.2 + 1 then (min (p.1 + 1) 767, 0) else (p.1, p.2 + 1)

/-- The pair and chunk of step `t`. -/
def pos : ℕ → ℕ × ℕ
  | 0 => (0, 0)
  | t + 1 => adv nch (pos t)

theorem base_succ (n : ℕ) : base nch (n + 1) = base nch n + nch n := Finset.sum_range_succ _ _

variable {nch} (h1 : ∀ n < 768, 1 ≤ nch n)

include h1 in
theorem pos_lt (t : ℕ) : (pos nch t).1 < 768 ∧ (pos nch t).2 < nch (pos nch t).1 := by
  induction t with
  | zero => exact ⟨(by decide : 0 < 768), h1 0 (by decide)⟩
  | succ t ih =>
    show (adv nch (pos nch t)).1 < 768 ∧ (adv nch (pos nch t)).2 < nch (adv nch (pos nch t)).1
    unfold adv
    split_ifs with h
    · refine ⟨?_, h1 _ ?_⟩ <;> (show min _ _ < _; omega)
    · refine ⟨ih.1, ?_⟩; show _ + 1 < nch (pos nch t).1; omega

include h1 in
theorem pos_base {n : ℕ} (hn : n < 768) : ∀ c, c < nch n → pos nch (base nch n + c) = (n, c) := by
  induction n with
  | zero =>
    intro c
    induction c with
    | zero => intro _; rfl
    | succ c ih =>
      intro hc
      show adv nch (pos nch (base nch 0 + c)) = _
      rw [ih (by omega)]; unfold adv; rw [if_neg (by show ¬ nch 0 ≤ c + 1; omega)]
  | succ n ihn =>
    intro c
    induction c with
    | zero =>
      intro _
      have h0 := h1 n (by omega)
      have := ihn (by omega) (nch n - 1) (by omega)
      rw [base_succ, show base nch n + nch n + 0 = (base nch n + (nch n - 1)) + 1 by omega]
      show adv nch (pos nch (base nch n + (nch n - 1))) = _
      rw [this]; unfold adv; rw [if_pos (by show nch n ≤ nch n - 1 + 1; omega)]
      show (min (n + 1) 767, 0) = _
      rw [min_eq_left (by omega)]
    | succ c ih =>
      intro hc
      show adv nch (pos nch (base nch (n + 1) + c)) = _
      rw [ih (by omega)]; unfold adv; rw [if_neg (by show ¬ nch (n + 1) ≤ c + 1; omega)]

theorem base_le (h5 : ∀ n < 768, nch n ≤ 5) {n : ℕ} (hn : n ≤ 768) : base nch n ≤ 5 * n := by
  induction n with
  | zero => simp [base]
  | succ n ih => rw [base_succ]; have := ih (by omega); have := h5 n (by omega); omega

include h1 in
theorem le_base {n : ℕ} (hn : n ≤ 768) : n ≤ base nch n := by
  induction n with
  | zero => omega
  | succ n ih => rw [base_succ]; have := ih (by omega); have := h1 n (by omega); omega

include h1 in
theorem base_add_le {n : ℕ} (hn : n < 768) : base nch n + nch n ≤ base nch 768 := by
  have : ∀ k, n + 1 + k ≤ 768 → base nch (n + 1) ≤ base nch (n + 1 + k) := by
    intro k; induction k with
    | zero => intro _; exact le_refl _
    | succ k ih => intro hk; have := ih (by omega); rw [← Nat.add_assoc, base_succ nch (n + 1 + k)]; omega
  have := this (767 - n) (by omega)
  rw [show n + 1 + (767 - n) = 768 by omega, base_succ] at this
  exact this

end Walk

/-! ## Rings -/

/-- The index that slot `s` of a ring of `K` carries when the ring's next index is `t`. -/
def slotIx (K t s : ℕ) : ℕ := t + (s + K - t % K) % K

theorem slotIx_self {K : ℕ} (hK : 0 < K) (t : ℕ) : slotIx K t (t % K) = t := by
  unfold slotIx
  have := Nat.mod_lt t hK
  rw [show t % K + K - t % K = K by omega, Nat.mod_self]; rfl

theorem slotIx_succ_self {K : ℕ} (hK : 0 < K) (t : ℕ) : slotIx K (t + 1) (t % K) = t + K := by
  unfold slotIx
  have h := Nat.mod_lt t hK
  rcases Nat.lt_or_ge (t % K + 1) K with h1 | h1
  · have : (t + 1) % K = t % K + 1 := by rw [Nat.add_mod, Nat.mod_eq_of_lt (show 1 < K by omega), Nat.mod_eq_of_lt h1]
    rw [this, show t % K + K - (t % K + 1) = K - 1 by omega, Nat.mod_eq_of_lt (by omega)]; omega
  · have : (t + 1) % K = 0 := by
      rw [← Nat.div_add_mod t K, show K * (t / K) + t % K + 1 = K * (t / K + 1) by rw [Nat.mul_add]; omega]; exact Nat.mul_mod_right _ _
    rw [this, show t % K + K - 0 = K - 1 + K by omega, Nat.add_mod_right, Nat.mod_eq_of_lt (by omega)]; omega

theorem slotIx_succ_of_ne {K : ℕ} (hK : 0 < K) {t s : ℕ} (hs : s < K) (h : s ≠ t % K) : slotIx K (t + 1) s = slotIx K t s := by
  unfold slotIx
  have ht := Nat.mod_lt t hK
  rcases Nat.lt_or_ge (t % K + 1) K with h1 | h1
  · have e : (t + 1) % K = t % K + 1 := by rw [Nat.add_mod, Nat.mod_eq_of_lt (show 1 < K by omega), Nat.mod_eq_of_lt h1]
    rw [e]
    generalize t % K = r at *
    rcases Nat.lt_or_ge s r with h2 | h2
    · rw [Nat.mod_eq_of_lt (show s + K - (r + 1) < K by omega), Nat.mod_eq_of_lt (show s + K - r < K by omega)]; omega
    · have a1 : (s + K - (r + 1)) % K = s - (r + 1) := by
        rw [show s + K - (r + 1) = (s - (r + 1)) + K by omega, Nat.add_mod_right, Nat.mod_eq_of_lt (by omega)]
      have a2 : (s + K - r) % K = s - r := by rw [show s + K - r = (s - r) + K by omega, Nat.add_mod_right, Nat.mod_eq_of_lt (by omega)]
      rw [a1, a2]; omega
  · have e : (t + 1) % K = 0 := by
      rw [← Nat.div_add_mod t K, show K * (t / K) + t % K + 1 = K * (t / K + 1) by rw [Nat.mul_add]; omega]; exact Nat.mul_mod_right _ _
    rw [e, show s + K - 0 = s + K by omega, Nat.add_mod_right, Nat.mod_eq_of_lt hs, Nat.mod_eq_of_lt (show s + K - t % K < K by omega)]; omega

theorem slotIx_of_lt {K s : ℕ} (hs : s < K) : slotIx K 0 s = s := by
  unfold slotIx
  rw [Nat.zero_mod, Nat.zero_add, show s + K - 0 = s + K by omega, Nat.add_mod_right, Nat.mod_eq_of_lt hs]

end Cert.Proof

end
-- ==== Proof.Own.lean ====
/-
  Ownership of PART of a memref at known contents, and the rules of a kernel's memory operations over it.

  `ownsOn c m q A X`: core `c` owns, at share `q`, the elements of the memref `m` whose multi-indices lie in `A`, and
  they read as `X`. Loads, stores and local transfers of a body all act on such assertions, whatever the base buffer is;
  a transfer in flight (`Flight`) carries the destination at what it will hold and the source it reads.
-/
module

public import Idealize.ShloMosaic.Lib.Pipeline.FrameSuffixV
public import Idealize.ShloMosaic.Lib.Transfers
public import Idealize.ShloMosaic.Lib.Memref

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight)

variable {nD : Nat} {τ : Topo} {sig : RefSig} {Val : EltTy → Type}

local notation "𝕄" => MT nD τ sig Unit Val ℕ (Pipeline.UD sig nD τ) ℕ

/-- The elements of `m` at the multi-indices `A`, owned at share `q` and reading `X`. -/
def ownsOn (c : Thread nD τ) {sp : Space} {sh : Shape} {e : EltTy} (m : Memref sig c.2.kind sp sh e)
    (q : PosShare TreeShare) (A : Finset sh.Idx) (X : sh.Idx → Val e) : sProp 𝕄 :=
  iprop(∃ f, ⌜∀ i ∈ A, m.view.read Val f i = X i⌝ ∗ (m.view.loc c ↦[m.view.setOn A]{q} f))

section Basic

variable (c : Thread nD τ) {sp : Space} {sh : Shape} {e : EltTy} (m : Memref sig c.2.kind sp sh e)
  (q : PosShare TreeShare)

/-- From the buffer's elements at contents `f`. -/
theorem ownsOn_intro {A : Finset sh.Idx} {X : sh.Idx → Val e} {f : Buf Val (m.view.loc c)}
    (h : ∀ i ∈ A, m.view.read Val f i = X i) :
    (m.view.loc c ↦[m.view.setOn A]{q} f) ⊢ (ownsOn c m q A X : sProp 𝕄) := by
  unfold ownsOn
  iintro H; iexists f; isplitr
  · ipureintro; exact h
  · iexact H

theorem ownsOn_congr {A : Finset sh.Idx} {X Y : sh.Idx → Val e} (h : ∀ i ∈ A, X i = Y i) :
    (ownsOn c m q A X : sProp 𝕄) ⊢ ownsOn c m q A Y := by
  unfold ownsOn
  iintro ⟨%f, %hf, H⟩; iexists f; isplitr
  · ipureintro; exact fun i hi => (hf i hi).trans (h i hi)
  · iexact H

theorem ownsOn_split {A B : Finset sh.Idx} (hB : B ⊆ A) (X : sh.Idx → Val e) :
    (ownsOn c m q A X : sProp 𝕄) ⊢ iprop(ownsOn c m q B X ∗ ownsOn c m q (A \ B) X) := by
  unfold ownsOn
  iintro ⟨%f, %hf, H⟩
  ihave H' := (pointsTo_split_subset (I := m.view.setOn B) (S := m.view.setOn A) (Finset.map_subset_map.mpr hB)).1 $$ H
  icases H' with ⟨H1, H2⟩
  isplitl [H1]
  · iexists f; isplitr
    · ipureintro; exact fun i hi => hf i (hB hi)
    · iexact H1
  · iexists f; isplitr
    · ipureintro; exact fun i hi => hf i (Finset.mem_sdiff.mp hi).1
    · rw [show m.view.setOn (A \ B) = m.view.setOn A \ m.view.setOn B from by
        simp only [View.setOn]; exact Finset.map_sdiff _ _]
      iexact H2

theorem ownsOn_join {A B : Finset sh.Idx} (hd : Disjoint A B) {X Y Z : sh.Idx → Val e}
    (hX : ∀ i ∈ A, X i = Z i) (hY : ∀ i ∈ B, Y i = Z i) :
    iprop(ownsOn c m q A X ∗ ownsOn c m q B Y) ⊢ (ownsOn c m q (A ∪ B) Z : sProp 𝕄) := by
  unfold ownsOn
  iintro ⟨⟨%f, %hf, H1⟩, ⟨%g, %hg, H2⟩⟩
  have hd' : Disjoint (m.view.setOn A) (m.view.setOn B) := (Finset.disjoint_map _).mpr hd
  iexists (m.view.setOn B).piecewise g f
  isplitr
  · ipureintro
    intro i hi
    by_cases hB : i ∈ B
    · rw [View.read_apply, Finset.piecewise_eq_of_mem _ _ _ (m.view.mem_setOn.mpr hB), ← View.read_apply, hg i hB, hY i hB]
    · have hA : i ∈ A := (Finset.mem_union.mp hi).resolve_right hB
      rw [View.read_apply, Finset.piecewise_eq_of_notMem _ _ _ (fun h => hB (m.view.mem_setOn.mp h)), ← View.read_apply,
        hf i hA, hX i hA]
  · rw [show m.view.setOn (A ∪ B) = m.view.setOn A ∪ m.view.setOn B from by
        simp only [View.setOn]; exact Finset.map_union _ _]
    iapply (pointsTo_join hd')
    isplitl [H1]; · iexact H1
    iexact H2

/-- A part taken out and put back, possibly changed. -/
theorem ownsOn_rejoin {A B : Finset sh.Idx} (hB : B ⊆ A) {X Y Z : sh.Idx → Val e}
    (hX : ∀ i ∈ B, Y i = Z i) (hY : ∀ i ∈ A, i ∉ B → X i = Z i) :
    iprop(ownsOn c m q B Y ∗ ownsOn c m q (A \ B) X) ⊢ (ownsOn c m q A Z : sProp 𝕄) := by
  have h := ownsOn_join (Val := Val) c m q (A := B) (B := A \ B) Finset.disjoint_sdiff (X := Y) (Y := X) (Z := Z) hX
    (fun i hi => hY i (Finset.mem_sdiff.mp hi).1 (Finset.mem_sdiff.mp hi).2)
  rwa [Finset.union_sdiff_of_subset hB] at h

/-- A slice owned is its rectangle's part of the memref owned. -/
theorem ownsOn_slice (r : Rect sh) (hr : ∀ a, r.stride a = 1) (X : sh.Idx → Val e) :
    (ownsOn c m q r.set X : sProp 𝕄) ⊢ ownsOn c (m.slice r hr) q Finset.univ (fun j => X (r.emb j)) := by
  unfold ownsOn
  iintro ⟨%f, %hf, H⟩; iexists f; isplitr
  · ipureintro; exact fun j _ => hf _ (r.idx_mem j)
  · rw [show (m.slice r hr).view.setOn Finset.univ = m.view.setOn r.set from by
      rw [View.setOn_univ, View.set_slice]; rfl]
    iexact H

theorem ownsOn_unslice (r : Rect sh) (hr : ∀ a, r.stride a = 1) {W : r.shape.Idx → Val e} {X : sh.Idx → Val e}
    (hX : ∀ j, W j = X (r.emb j)) :
    (ownsOn c (m.slice r hr) q Finset.univ W : sProp 𝕄) ⊢ ownsOn c m q r.set X := by
  unfold ownsOn
  iintro ⟨%f, %hf, H⟩; iexists f; isplitr
  · ipureintro
    intro i hi
    obtain ⟨j, rfl⟩ := r.exists_idx_of_mem hi
    exact (hf j (Finset.mem_univ _)).trans (hX j)
  · rw [show m.view.setOn r.set = (m.slice r hr).view.setOn Finset.univ from by
      rw [View.setOn_univ, View.set_slice]; rfl]
    iexact H

theorem ownsOn_squeeze (s' : Shape) (h : sh.Squeezes s') (X : sh.Idx → Val e) :
    (ownsOn c m q Finset.univ X : sProp 𝕄)
      ⊢ ownsOn c (m.squeeze s' h) q Finset.univ (fun j => X (Shape.reshapeEquiv h.numel_eq j)) := by
  unfold ownsOn
  iintro ⟨%f, %hf, H⟩; iexists f; isplitr
  · ipureintro; exact fun j _ => hf _ (Finset.mem_univ _)
  · rw [show (m.squeeze s' h).view.setOn Finset.univ = m.view.setOn Finset.univ from by
      rw [View.setOn_univ, View.setOn_univ]; exact View.set_reshape _ _]
    iexact H

theorem ownsOn_unsqueeze (s' : Shape) (h : sh.Squeezes s') {W : s'.Idx → Val e} {X : sh.Idx → Val e}
    (hX : ∀ j, W j = X (Shape.reshapeEquiv h.numel_eq j)) :
    (ownsOn c (m.squeeze s' h) q Finset.univ W : sProp 𝕄) ⊢ ownsOn c m q Finset.univ X := by
  unfold ownsOn
  iintro ⟨%f, %hf, H⟩; iexists f; isplitr
  · ipureintro
    intro i _
    have := (hf ((Shape.reshapeEquiv h.numel_eq).symm i) (Finset.mem_univ _)).trans (hX _)
    rw [Equiv.apply_symm_apply] at this
    rw [← this]
    show _ = m.view.read Val f (Shape.reshapeEquiv h.numel_eq _)
    rw [Equiv.apply_symm_apply]
  · rw [show m.view.setOn Finset.univ = (m.squeeze s' h).view.setOn Finset.univ from by
      rw [View.setOn_univ, View.setOn_univ]; exact (View.set_reshape _ _).symm]
    iexact H

end Basic

section Rules

variable {Λ : Labels} {defs : Defs nD τ sig Val Λ} (𝒱 : Variants) (c : Thread nD τ) (bd : Option 𝒱.V)
variable {α : Type} {Q : α → sProp (MT nD τ sig Unit Val ℕ (Pipeline.UD sig nD τ) ℕ)}

/-- A load of coordinates all owned. -/
theorem wp_loadOn {cs : CoreSpace} {s : Shape} {e : EltTy} {m : Memref sig c.2.kind cs s e} {r : LoadRect s} {hl : m.view.LoadsAt r}
    {k : (r.shape.Idx → Val e) → Prog (TpuEff nD τ sig Val Λ c.2) α} {q : PosShare TreeShare} {A : Finset s.Idx}
    {X : s.Idx → Val e} (h : r.set ⊆ A) :
    (ownsOn c m q A X : sProp 𝕄) ⊢ iprop((∀ w, ⌜w = fun j => X (r.idx j)⌝ -∗ ownsOn c m q A X
        -∗ wp frame (wpE defs 𝒱 c bd) Set.univ (k w) Q)
      -∗ wp frame (wpE defs 𝒱 c bd) Set.univ (.op (.load m r hl) k) Q) := by
  iintro H Hk
  unfold ownsOn
  icases H with ⟨%f, %hf, H⟩
  have hS : m.view.setOn r.set ⊆ m.view.setOn A := Finset.map_subset_map.mpr h
  iapply (wp_load 𝒱 c bd Set.univ (m := m) hS) $$ H
  iintro H
  iapply Hk $$ %_ %(funext fun j => hf _ (h (r.idx_mem j)))
  iexists f; isplitr
  · ipureintro; exact hf
  · iexact H

/-- A load of one word of scalar memory. -/
theorem wp_smemLoadOn {s : Shape} {e : EltTy} {m : Memref sig c.2.kind .smem s e} {r : Rect s}
    {h1 : r.shape.numel = 1} {hp : e.packing = 1}
    {k : Val e → Prog (TpuEff nD τ sig Val Λ c.2) α} {q : PosShare TreeShare} {A : Finset s.Idx}
    {X : s.Idx → Val e} (h : r.set ⊆ A) :
    (ownsOn c m q A X : sProp 𝕄) ⊢ iprop((ownsOn c m q A X
        -∗ wp frame (wpE defs 𝒱 c bd) Set.univ (k (X (r.emb (Shape.Idx.first (h1.symm ▸ Nat.one_pos))))) Q)
      -∗ wp frame (wpE defs 𝒱 c bd) Set.univ ((smemLoad m r h1 hp : Prog (TpuEff nD τ sig Val Λ c.2) _) >>= k) Q) := by
  iintro H Hk
  unfold ownsOn
  icases H with ⟨%f, %hf, H⟩
  have hS : (m.access r).set ⊆ m.view.setOn A := by
    rw [View.set_slice]; exact Finset.map_subset_map.mpr h
  iapply (wp_smemLoadElt 𝒱 c bd Set.univ (m := m) (k := k) (hw := View.loads_smem_one hp h1) hS) $$ H
  iintro H
  rw [show (m.access r).read Val f (Shape.Idx.first (h1.symm ▸ Nat.one_pos)) = X (r.emb (Shape.Idx.first (h1.symm ▸ Nat.one_pos))) from
    hf _ (h (r.idx_mem _))]
  iapply Hk
  iexists f; isplitr
  · ipureintro; exact hf
  · iexact H

/-- A whole store into a rectangle all owned: what the memref then reads is any `Y` that is the payload on the rectangle
    and the old contents off it. -/
theorem wp_storeOn {cs : CoreSpace} {s : Shape} {e : EltTy} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {A : Finset s.Idx}
    {X : s.Idx → Val e} (h : r.set ⊆ A) (Y : s.Idx → Val e) (hY : ∀ j, Y (r.idx j) = w j) (hY' : ∀ i ∈ A, i ∉ r.set → Y i = X i) :
    (ownsOn c m fullShare A X : sProp 𝕄) ⊢ iprop((ownsOn c m fullShare A Y
        -∗ wp frame (wpE defs 𝒱 c bd) Set.univ (k ⟨⟩) Q)
      -∗ wp frame (wpE defs 𝒱 c bd) Set.univ (.op (.store m r w Finset.univ hx hm) k) Q) := by
  iintro H Hk
  unfold ownsOn
  icases H with ⟨%f, %hf, H⟩
  have hS : (m.access r).setOn Finset.univ ⊆ m.view.setOn A := by
    rw [View.setOn_univ, View.set_slice]; exact Finset.map_subset_map.mpr h
  iapply (wp_store 𝒱 c bd Set.univ (m := m) hS) $$ H
  iintro H
  iapply Hk
  iexists _; isplitr
  swap; · iexact H
  ipureintro
  intro i hi
  by_cases hr : i ∈ r.set
  · obtain ⟨j, rfl⟩ := r.exists_idx_of_mem hr
    rw [hY]
    exact View.read_slice_write_emb (v := m.view) (Val := Val) r f w (Finset.mem_univ j)
  · rw [hY' i hi hr, ← hf i hi]
    exact View.read_slice_write_of_not_mem (v := m.view) (Val := Val) r f w Finset.univ (by rwa [Rect.map_emb_univ])

/-- Something held beside a transfer may be carried by it. -/
theorem Flight_frame {EC : UEmb Counters 𝕄} {sm : SemLoc sig} {N : ℕ} {D P : sProp 𝕄} :
    iprop(Flight EC c sm () N D ∗ P) ⊢ (Flight EC c sm () N iprop(D ∗ P) : sProp 𝕄) := by
  unfold Flight
  iintro ⟨⟨⟨%R, HR, %hcap, %hpeek⟩, Hcred⟩, HP⟩
  isplitr [Hcred]
  swap; · iexact Hcred
  iexists iprop(R ∗ P)
  isplitl [HR HP]; · isplitl [HR] <;> iassumption
  isplit
  · ipureintro
    intro K
    refine BIBase.Entails.trans ?_ (hcap K)
    iintro ⟨⟨HR, HP⟩, HK⟩
    isplitl [HR]; · iexact HR
    iintro ⟨Hv, HD⟩
    iapply HK
    isplitl [Hv]; · iexact Hv
    isplitl [HD] <;> iassumption
  · ipureintro
    intro K
    refine BIBase.Entails.trans ?_ (hpeek K)
    iintro ⟨⟨HR, HP⟩, HK⟩
    isplitl [HR]; · iexact HR
    iintro HR
    iapply HK
    isplitl [HR] <;> iassumption

variable (EC : UEmb Counters (MT nD τ sig Unit Val ℕ (Pipeline.UD sig nD τ) ℕ))
  [EC.LandsIn (upEmb : UEmb _ (MT nD τ sig Unit Val ℕ (Pipeline.UD sig nD τ) ℕ))]

/-- A local transfer between two memrefs owned whole. -/
theorem wp_dmaOn {sp sp' : Space} {s : Shape} {e : EltTy}
    {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig Val Λ c.2) α} {q : PosShare TreeShare} {X Z : s.Idx → Val e} (hs : 0 < s.numel) :
    iprop(ownsOn c src q Finset.univ X ∗ ownsOn c dst fullShare Finset.univ Z ∗ semVal (c, .dma sm) 0)
      ⊢ iprop((Flight EC c (.dma sm) () dst.view.dmaCredit iprop(ownsOn c dst fullShare Finset.univ X ∗ ownsOn c src q Finset.univ X)
              -∗ wp frame (wpE defs 𝒱 c bd) Set.univ (k ⟨⟩) Q)
          -∗ wp frame (wpE defs 𝒱 c bd) Set.univ (.op (.enqueueDma src (.here dst) (.dma sm) hsrc hdst hsem) k) Q) := by
  iintro ⟨Hs, Hd, Hv⟩ Hk
  ihave Hs' := (show ownsOn c src q Finset.univ X ⊢ iprop(∃ f, ⌜∀ i ∈ Finset.univ, src.view.read Val f i = X i⌝ ∗ (src.view.loc c ↦[src.view.setOn Finset.univ]{q} f)) from .rfl) $$ Hs
  ihave Hd' := (show ownsOn c dst fullShare Finset.univ Z ⊢ iprop(∃ f, ⌜∀ i ∈ Finset.univ, dst.view.read Val f i = Z i⌝ ∗ (dst.view.loc c ↦[dst.view.setOn Finset.univ]{fullShare} f)) from .rfl) $$ Hd
  icases Hs' with ⟨%fs, %hfs, Hs⟩
  icases Hd' with ⟨%fd, %hfd, Hd⟩
  rw [View.setOn_univ, View.setOn_univ]
  iapply (Transfers.wp_dmaLocal EC 𝒱 c bd (fs := fs) (fd := fd) (Sd := dst.view.set) () dst.view.dmaCredit rfl (dst.view.dmaCredit_pos hs) (Finset.Subset.refl _)) $$ [Hs Hd Hv]
  · isplitl [Hs]; · iexact Hs
    isplitl [Hd] <;> iassumption
  iintro Hf
  iapply Hk
  refine Transfers.Flight_mono EC c ?_
  unfold ownsOn
  iintro ⟨Hd, Hs⟩
  isplitl [Hd]
  · iexists _; isplitr
    swap; · rw [View.setOn_univ]; iexact Hd
    ipureintro
    intro i _
    rw [View.read_apply, View.write_emb_of_mem _ _ (Finset.mem_univ i), cast_cast, cast_eq]
    exact hfs i (Finset.mem_univ i)
  · iexists fs; isplitr
    · ipureintro; exact hfs
    · rw [View.setOn_univ]; iexact Hs

/-- A transfer from a slice to a squeezed slice, each of a memref owned on elements that include the slice's: in flight
    it carries both memrefs' elements, the destination's at any `Y` that is the source on the slice and what it was off it. -/
theorem wp_dmaSlice {sp sp' : Space} {shs shd : Shape} {e : EltTy}
    {ms : Memref sig c.2.kind sp shs e} {md : Memref sig c.2.kind sp' shd e} {rs : Rect shs} {rd : Rect shd}
    {hrs : ∀ a, rs.stride a = 1} {hrd : ∀ a, rd.stride a = 1} {hsq : rd.shape.Squeezes rs.shape}
    {sm sm' : DmaSem sig} (hsm : sm = sm')
    {hsrc : (ms.slice rs hrs).view.WordExact} {hdst : ((md.slice rd hrd).squeeze rs.shape hsq).view.WordExact}
    {hsem : DmaTarget.Typed (nD := nD) sp (.dma sm) (.here ((md.slice rd hrd).squeeze rs.shape hsq))}
    {k : PUnit → Prog (TpuEff nD τ sig Val Λ c.2) α} {q : PosShare TreeShare}
    {B : Finset shs.Idx} {A : Finset shd.Idx} {X : shs.Idx → Val e} {Z : shd.Idx → Val e} (hs : 0 < rs.shape.numel)
    (N : ℕ) (hN : ((md.slice rd hrd).squeeze rs.shape hsq).view.dmaCredit = N)
    (hB : rs.set ⊆ B) (hA : rd.set ⊆ A) (Y : shd.Idx → Val e)
    (hY : ∀ j, Y (rd.emb (Shape.reshapeEquiv hsq.numel_eq j)) = X (rs.emb j)) (hY' : ∀ i ∈ A, i ∉ rd.set → Y i = Z i) :
    iprop(ownsOn c ms q B X ∗ ownsOn c md fullShare A Z ∗ semVal (c, .dma sm') 0)
      ⊢ iprop((Flight EC c (.dma sm') () N iprop(ownsOn c md fullShare A Y ∗ ownsOn c ms q B X)
              -∗ wp frame (wpE defs 𝒱 c bd) Set.univ (k ⟨⟩) Q)
          -∗ wp frame (wpE defs 𝒱 c bd) Set.univ
            (.op (.enqueueDma (ms.slice rs hrs) (.here ((md.slice rd hrd).squeeze rs.shape hsq)) (.dma sm) hsrc hdst hsem) k) Q) := by
  subst hsm hN
  iintro ⟨Hs, Hd, Hv⟩ Hk
  ihave Hs' := (ownsOn_split c ms q hB X) $$ Hs
  ihave Hd' := (ownsOn_split c md fullShare hA Z) $$ Hd
  icases Hs' with ⟨Hs, Hsr⟩
  icases Hd' with ⟨Hd, Hdr⟩
  ihave Hs := (ownsOn_slice c ms q rs hrs X) $$ Hs
  ihave Hd := (ownsOn_slice c md fullShare rd hrd Z) $$ Hd
  ihave Hd := (ownsOn_squeeze c (md.slice rd hrd) fullShare rs.shape hsq _) $$ Hd
  iapply (wp_dmaOn 𝒱 c bd EC hs) $$ [Hs Hd Hv]
  · isplitl [Hs]; · iexact Hs
    isplitl [Hd] <;> iassumption
  iintro Hf
  iapply Hk
  have hfin : iprop((ownsOn c ((md.slice rd hrd).squeeze rs.shape hsq) fullShare Finset.univ (fun j => X (rs.emb j))
        ∗ ownsOn c (ms.slice rs hrs) q Finset.univ (fun j => X (rs.emb j)))
        ∗ (ownsOn c ms q (B \ rs.set) X ∗ ownsOn c md fullShare (A \ rd.set) Z))
      ⊢ (iprop(ownsOn c md fullShare A Y ∗ ownsOn c ms q B X) : sProp 𝕄) := by
    iintro ⟨⟨Hd, Hs⟩, ⟨Hsr, Hdr⟩⟩
    isplitl [Hd Hdr]
    · iapply (ownsOn_rejoin c md fullShare hA (X := Z) (Y := Y) (Z := Y) (fun _ _ => rfl) (fun i hi hr => (hY' i hi hr).symm))
      isplitl [Hd]
      · iapply (ownsOn_unslice c md fullShare rd hrd (W := fun j => Y (rd.emb j)) (fun _ => rfl))
        iapply (ownsOn_unsqueeze c (md.slice rd hrd) fullShare rs.shape hsq (W := fun j => X (rs.emb j)) (fun j => (hY j).symm))
        iexact Hd
      · iexact Hdr
    · iapply (ownsOn_rejoin c ms q hB (X := X) (Y := X) (Z := X) (fun _ _ => rfl) (fun _ _ _ => rfl))
      isplitl [Hs]
      · iapply (ownsOn_unslice c ms q rs hrs (W := fun j => X (rs.emb j)) (fun _ => rfl)); iexact Hs
      · iexact Hsr
  iapply (Transfers.Flight_mono EC c hfin)
  iapply (Flight_frame c)
  isplitl [Hf]; · iexact Hf
  isplitl [Hsr] <;> iassumption

/-- A transfer from a squeezed slice to a squeezed slice. -/
theorem wp_dmaSqueeze {sp sp' : Space} {shs shd s' : Shape} {e : EltTy}
    {ms : Memref sig c.2.kind sp shs e} {md : Memref sig c.2.kind sp' shd e} {rs : Rect shs} {rd : Rect shd}
    {hrs : ∀ a, rs.stride a = 1} {hrd : ∀ a, rd.stride a = 1} {hss : rs.shape.Squeezes s'} {hsq : rd.shape.Squeezes s'}
    {sm sm' : DmaSem sig} (hsm : sm = sm')
    {hsrc : ((ms.slice rs hrs).squeeze s' hss).view.WordExact} {hdst : ((md.slice rd hrd).squeeze s' hsq).view.WordExact}
    {hsem : DmaTarget.Typed (nD := nD) sp (.dma sm) (.here ((md.slice rd hrd).squeeze s' hsq))}
    {k : PUnit → Prog (TpuEff nD τ sig Val Λ c.2) α} {q : PosShare TreeShare}
    {X : shs.Idx → Val e} {Z : shd.Idx → Val e} (hs : 0 < s'.numel)
    (N : ℕ) (hN : ((md.slice rd hrd).squeeze s' hsq).view.dmaCredit = N)
    (Y : shd.Idx → Val e)
    (hY : ∀ j, Y (rd.emb (Shape.reshapeEquiv hsq.numel_eq j)) = X (rs.emb (Shape.reshapeEquiv hss.numel_eq j))) :
    iprop(ownsOn c ms q rs.set X ∗ ownsOn c md fullShare rd.set Z ∗ semVal (c, .dma sm') 0)
      ⊢ iprop((Flight EC c (.dma sm') () N iprop(ownsOn c md fullShare rd.set Y ∗ ownsOn c ms q rs.set X)
              -∗ wp frame (wpE defs 𝒱 c bd) Set.univ (k ⟨⟩) Q)
          -∗ wp frame (wpE defs 𝒱 c bd) Set.univ
            (.op (.enqueueDma ((ms.slice rs hrs).squeeze s' hss) (.here ((md.slice rd hrd).squeeze s' hsq)) (.dma sm) hsrc hdst hsem) k) Q) := by
  subst hsm hN
  iintro ⟨Hs, Hd, Hv⟩ Hk
  ihave Hs := (ownsOn_slice c ms q rs hrs X) $$ Hs
  ihave Hs := (ownsOn_squeeze c (ms.slice rs hrs) q s' hss _) $$ Hs
  ihave Hd := (ownsOn_slice c md fullShare rd hrd Z) $$ Hd
  ihave Hd := (ownsOn_squeeze c (md.slice rd hrd) fullShare s' hsq _) $$ Hd
  iapply (wp_dmaOn 𝒱 c bd EC hs) $$ [Hs Hd Hv]
  · isplitl [Hs]; · iexact Hs
    isplitl [Hd] <;> iassumption
  iintro Hf
  iapply Hk
  refine Transfers.Flight_mono EC c ?_
  iintro ⟨Hd, Hs⟩
  isplitl [Hd]
  · iapply (ownsOn_unslice c md fullShare rd hrd (W := fun j => Y (rd.emb j)) (fun _ => rfl))
    iapply (ownsOn_unsqueeze c (md.slice rd hrd) fullShare s' hsq (fun j => (hY j).symm))
    iexact Hd
  · iapply (ownsOn_unslice c ms q rs hrs (W := fun j => X (rs.emb j)) (fun _ => rfl))
    iapply (ownsOn_unsqueeze c (ms.slice rs hrs) q s' hss (fun _ => rfl))
    iexact Hs

/-- The core owes nothing, whatever waits it has recorded. -/
def owesNone (c : Thread nD τ) : sProp 𝕄 := iprop(∃ W, owes c 0 W)

/-- The wait for a transfer in flight. -/
theorem wp_waitOn {sp sp' : Space} {s s' : Shape} {e e' : EltTy} {κ' : Kind} {sem sem' : DmaSem sig} (hsm : sem = sem')
    {srcw : Memref sig c.2.kind sp' s' e'} {dstw : Memref sig κ' sp s e} {hsrc : srcw.view.WordExact} {hdst : dstw.view.WordExact}
    {k : PUnit → Prog (TpuEff nD τ sig Val Λ c.2) α} {N : ℕ} (hN : dstw.view.dmaCredit = N) {D : sProp 𝕄} :
    iprop(Flight EC c (.dma sem') () N D ∗ owesNone c)
      ⊢ iprop((iprop(D ∗ semVal (c, .dma sem') 0 ∗ owesNone c) -∗ wp frame (wpE defs 𝒱 c bd) Set.univ (k ⟨⟩) Q)
          -∗ wp frame (wpE defs 𝒱 c bd) Set.univ (.op (.waitDma2 sem srcw dstw hsrc hdst) k) Q) := by
  subst hsm
  unfold owesNone
  iintro ⟨Hf, ⟨%W, HO⟩⟩ Hk
  iapply (Transfers.wp_waitLocal EC 𝒱 c bd () hN) $$ [Hf HO]
  · isplitl [Hf] <;> iassumption
  iintro ⟨HD, Hv, HO⟩
  iapply Hk
  isplitl [HD]; · iexact HD
  isplitl [Hv]; · iexact Hv
  iexists _; iexact HO

end Rules

/-- One member of a family taken out and put back as a member of a family that differs from it there alone. -/
theorem bigSep_swap {T : Type} [Fintype T] [DecidableEq T] (S S' : T → sProp 𝕄) (i : T) (h : ∀ j, j ≠ i → S j = S' j) :
    BI.bigSep Finset.univ S ⊢ iprop(S i ∗ (S' i -∗ BI.bigSep Finset.univ S')) := by
  rw [← Finset.insert_erase (Finset.mem_univ i), BI.bigSep_insert (Finset.notMem_erase _ _), BI.bigSep_insert (Finset.notMem_erase _ _),
    BI.bigSep_congr (fun j hj => h j (Finset.ne_of_mem_erase hj))]
  refine (show iprop(S i ∗ BI.bigSep (Finset.univ.erase i) S') ⊢ iprop(S i ∗ (S' i -∗ iprop(S' i ∗ BI.bigSep (Finset.univ.erase i) S'))) from ?_)
  iintro ⟨H, Hr⟩
  isplitl [H]; · iexact H
  iintro H
  isplitl [H] <;> iassumption

/-- The semaphore a one-element slice of an array names. -/
theorem sem_slice_squeeze {α : Type} {s : Shape} (a : SemArray α s) (r : Rect s) {d : Fin 0 → Nat} (h : r.shape.Squeezes ⟨0, d⟩) (i : s.Idx)
    (hi : ∀ b, (i b : Nat) = r.off b) (h1 : ∀ b, r.size b = 1) : ((a.slice r).squeeze ⟨0, d⟩ h).sem = a.ix i := by
  show a.ix (r.emb _) = a.ix i
  congr 1
  funext b
  apply Fin.ext
  have hj := ((Shape.reshapeEquiv h.numel_eq (fun i => i.elim0) : r.shape.Idx) b).isLt
  have h1' : r.shape.size b = 1 := h1 b
  rw [Rect.emb_apply, hi b]
  have : (((Shape.reshapeEquiv h.numel_eq (fun i => i.elim0) : r.shape.Idx) b) : Nat) = 0 := by omega
  rw [this, Nat.mul_zero, Nat.add_zero]

end Cert.Proof

end
-- ==== Proof.Inputs.lean ====
/-
  What the scan kernel's operands hold, and the work list they give: the cluster of each pair, where its columns start,
  how many chunks of 512 columns it reads.
-/
module

public import proofs.«01_k».proof.Proof.Refs
public import proofs.«01_k».proof.Proof.Geom
public import proofs.«01_k».proof.Proof.Own

@[expose] public section

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

/-- The contents of the kernel's eleven inputs. -/
structure Inputs (F : FTy → Type) where
  ids : S12x64.Idx → BitVec 32
  st : S1000.Idx → BitVec 32
  sz : S1000.Idx → BitVec 32
  ca : S12x64.Idx → F .f32
  cb : S12x64.Idx → F .f32
  cc : S12x64.Idx → F .f32
  nq : S12x64.Idx → F .f32
  pl : S12x128x128.Idx → BitVec 32
  codes : S30x2048000.Idx → BitVec 32
  nr : S16000x128.Idx → F .f32
  io : S16000x128.Idx → F .f32

variable {F : FTy → Type} (D : Inputs F)

namespace Inputs

/-- The cluster of pair `n`, its first column and how many columns it has. -/
def idAt (n : ℕ) : ℕ := (atN 0#32 D.ids ![n / 64, n % 64]).toNat
def stAt (n : ℕ) : ℕ := (atN 0#32 D.st ![D.idAt n]).toNat
def szAt (n : ℕ) : ℕ := (atN 0#32 D.sz ![D.idAt n]).toNat
/-- The row of 128 columns the cluster starts in, how far into it, and the chunks that cover it. -/
def row (n : ℕ) : ℕ := D.stAt n / 128
def off (n : ℕ) : ℕ := D.stAt n % 128
def nch (n : ℕ) : ℕ := (D.off n + D.szAt n + 511) / 512
def steps : ℕ := base D.nch 768

/-- Every cluster looked up is one there is, and lies within the columns with room for its last window. -/
structure Ok : Prop where
  id : ∀ n < 768, D.idAt n < 1000
  st : ∀ n < 768, D.stAt n < 2045056
  sz1 : ∀ n < 768, 1 ≤ D.szAt n
  sz : ∀ n < 768, D.szAt n ≤ 2048

variable {D} (h : D.Ok)
include h

theorem Ok.nch1 : ∀ n < 768, 1 ≤ D.nch n := fun n hn => by
  have := h.sz1 n hn; unfold nch; omega
theorem Ok.nch5 : ∀ n < 768, D.nch n ≤ 5 := fun n hn => by
  have := h.sz n hn; have : D.off n < 128 := Nat.mod_lt _ (by decide); unfold nch; omega
theorem Ok.row_lt {n : ℕ} (hn : n < 768) : D.row n < 15977 := by
  have := h.st n hn; unfold row; omega
theorem Ok.col_le {n c : ℕ} (hn : n < 768) (hc : c < D.nch n) : (D.row n + c * 4) * 128 + 512 ≤ 2048000 := by
  have := h.st n hn; have := h.sz n hn
  have e : D.row n * 128 + D.off n = D.stAt n := by unfold row off; omega
  have : c * 512 + 1 ≤ D.off n + D.szAt n := by unfold nch at hc; omega
  omega
theorem Ok.steps_le : D.steps ≤ 3840 := base_le h.nch5 (le_refl _)
theorem Ok.le_steps : 768 ≤ D.steps := le_base h.nch1 (le_refl _)

end Inputs

/-- The model the kernel's assertions are stated in, and a program of its run to a postcondition. -/
abbrev Mk (F : FTy → Type) : Type _ := MT nD τ sig Unit (Elt F) ℕ (Pipeline.UD sig nD τ) ℕ

abbrev Wp {F : FTy → Type} [FloatOps F] (c : Dev nD) {α : Type} (p : Prog (TpuEff nD τ sig (Elt F) Λ₀ .tc) α) (Q : α → sProp (Mk F)) : sProp (Mk F) :=
  wp frame (wpE (defs₀ (F := F)) Variants.none (c : Thread nD τ) none) Set.univ p Q

/-- A memref of the core owned whole. -/
abbrev own {F : FTy → Type} (c : Dev nD) {sp : Space} {sh : Shape} {e : EltTy} (m : Memref sig .tc sp sh e) (X : sh.Idx → Elt F e) : sProp (Mk F) :=
  ownsOn (Val := Elt F) (c : Thread nD τ) m fullShare Finset.univ X

end Cert.Proof.Kernel

end
-- ==== Proof.Loop1.lean ====
/-
  The first loop: it looks every pair's cluster up and writes where its columns start, how many chunks it reads and how
  many chunks come before it.
-/
module

public import proofs.«01_k».proof.Proof.Inputs

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F] (R : Refs) (D : Inputs F) (c : Dev nD)

theorem trips1 : k0_t1_loop.trips = 768 := by decide
theorem lt1 (k : Fin k0_t1_loop.trips) : k.val < 768 := lt_of_lt_of_eq k.isLt trips1

theorem off1 (k : Fin k0_t1_loop.trips) : k0_off1 k = ![k.val / 64, k.val % 64] := by
  have hk := lt1 k
  unfold k0_off1
  simp only [iv_w, Scalar.indexCast]
  rw [andi_w (by omega) 63#32 6 rfl, show (6#32 : BitVec 32) = w 6 from rfl, shrsi_w (by omega) 6 (by omega), toNat_w (by omega), toNat_w (by omega)]
  rfl

theorem off2 (x : BitVec 32) : k0_off2 x = ![x.toNat] := rfl

theorem off3 (k : Fin k0_t1_loop.trips) : k0_off3 k = ![k.val] := by
  have hk := lt1 k
  unfold k0_off3
  simp only [iv_w, Scalar.indexCast]
  rw [toNat_w (by omega)]

/-- The tables hold what the pairs below `n` give. -/
def tabs (n : ℕ) : sProp (Mk F) := iprop(∃ X14 X15 X16 X17,
  ⌜∀ i : S768.Idx, (i 0).val < n → X14 i = w (D.row (i 0).val) ∧ X15 i = w (D.off (i 0).val) ∧ X16 i = w (D.nch (i 0).val) ∧ X17 i = w (base D.nch (i 0).val)⌝
  ∗ own (F := F) c R.a14 X14 ∗ own (F := F) c R.a15 X15 ∗ own (F := F) c R.a16 X16 ∗ own (F := F) c R.a17 X17)

/-- The lookup's operands. -/
def look : sProp (Mk F) := iprop(own (F := F) c R.a0 D.ids ∗ own (F := F) c R.a1 D.st ∗ own (F := F) c R.a2 D.sz)

/-- One store into a table: the value at the pair's place, the rest as it was. -/
def put {α : Type} (X : S768.Idx → α) (n : ℕ) (v : α) : S768.Idx → α := fun i => if (i 0).val = n then v else X i

theorem put_at {α : Type} (X : S768.Idx → α) {n : ℕ} (v : α) {off : Fin 1 → ℕ} {hb} (ho : off = ![n]) (j : (Rect.unit (s := S768) off S1.size hb).shape.Idx) :
    put X n v ((Rect.unit (s := S768) off S1.size hb).idx j) = v := by
  subst ho
  unfold put
  rw [if_pos]
  show n + 1 * (j 0).val = n
  have : (j 0).val < 1 := (j 0).isLt
  omega

theorem put_off {α : Type} (X : S768.Idx → α) {n : ℕ} (v : α) {off : Fin 1 → ℕ} {hb} (ho : off = ![n]) (i : S768.Idx)
    (hi : i ∉ (Rect.unit (s := S768) off S1.size hb).set) : put X n v i = X i := by
  subst ho
  unfold put
  rw [if_neg]
  intro h
  apply hi
  rw [Rect.mem_set_unit]
  intro a
  have ha : a = 0 := Subsingleton.elim _ _
  subst ha
  show n ≤ (i 0).val ∧ (i 0).val < n + 1
  omega

variable {D} in
theorem loop1_step (hD : D.Ok) (k : Fin k0_t1_loop.trips) (acc : BitVec 32) :
    iprop(⌜acc = w (base D.nch k.val)⌝ ∗ tabs R D c k.val ∗ look R D c)
      ⊢ Wp c (body1 (F := F) R k acc) (fun acc' => iprop(⌜acc' = w (base D.nch (k.val + 1))⌝ ∗ tabs R D c (k.val + 1) ∗ look R D c)) := by
  have hk := lt1 k
  have o1 := off1 k
  have o3 := off3 k
  unfold tabs look
  iintro ⟨%ha, ⟨%X14, %X15, %X16, %X17, %hX, H14, H15, H16, H17⟩, ⟨H0, H1, H2⟩⟩
  subst ha
  delta body1 k0_t1_body
  iapply (wp_smemLoadOn Variants.none (c : Thread nD τ) none (m := R.a0) (h1 := numel1_S1x1) (hp := rfl) (Finset.subset_univ _)) $$ H0
  iintro H0
  rw [atN_first 0#32 D.ids _ _ (v := ![k.val / 64, k.val % 64]) (fun a => (congrFun o1 a).symm)]
  generalize hid : atN 0#32 D.ids ![k.val / 64, k.val % 64] = x
  have hxid : x.toNat = D.idAt k.val := by unfold Inputs.idAt; rw [hid]
  have hx : x.toNat < 1000 := hxid ▸ hD.id _ hk
  iapply (wp_assume Variants.none (c : Thread nD τ) none Set.univ (show k0_chk1 x from fun a => by
    have ha : a = 0 := Subsingleton.elim _ _
    subst ha
    show x.toNat + 1 ≤ 1000
    omega))
  iapply (wp_smemLoadOn Variants.none (c : Thread nD τ) none (m := R.a1) (h1 := numel1_S1) (hp := rfl) (Finset.subset_univ _)) $$ H1
  iintro H1
  iapply (wp_smemLoadOn Variants.none (c : Thread nD τ) none (m := R.a2) (h1 := numel1_S1) (hp := rfl) (Finset.subset_univ _)) $$ H2
  iintro H2
  rw [atN_first 0#32 D.st _ _ (v := ![x.toNat]) (fun a => rfl), atN_first 0#32 D.sz _ _ (v := ![x.toNat]) (fun a => rfl)]
  have hs : atN 0#32 D.st ![x.toNat] = w (D.stAt k.val) := by rw [hxid]; exact (w_toNat _).symm
  have hz : atN 0#32 D.sz ![x.toNat] = w (D.szAt k.val) := by rw [hxid]; exact (w_toNat _).symm
  rw [hs, hz]
  have b1 := hD.st _ hk
  have b2 := hD.sz _ hk
  have b3 := hD.sz1 _ hk
  have b4 : D.off k.val < 128 := Nat.mod_lt _ (by decide)
  have v256 : Scalar.andi (w (D.stAt k.val)) 127#32 = w (D.off k.val) := andi_w (by omega) 127#32 7 rfl
  have v261 : Scalar.shrsi (w (D.stAt k.val)) 7#32 = w (D.row k.val) := shrsi_w (by omega) 7 (by omega)
  have v260 : Scalar.shrsi (Scalar.subi (Scalar.addi (Scalar.addi (w (D.off k.val)) (w (D.szAt k.val))) 512#32) 1#32) 9#32 = w (D.nch k.val) := by
    rw [addi_w, show (512#32 : BitVec 32) = w 512 from rfl, addi_w, show (1#32 : BitVec 32) = w 1 from rfl, subi_w (by omega)]
    refine (shrsi_w (by omega) 9 (by omega)).trans ?_
    unfold Inputs.nch
    congr 2
  dsimp only
  rw [v256, v261, v260]
  have hrow : ∀ i : S768.Idx, (i 0).val < k.val + 1 → put X14 k.val (w (D.row k.val)) i = w (D.row (i 0).val) ∧ put X15 k.val (w (D.off k.val)) i = w (D.off (i 0).val)
      ∧ put X16 k.val (w (D.nch k.val)) i = w (D.nch (i 0).val) ∧ put X17 k.val (w (base D.nch k.val)) i = w (base D.nch (i 0).val) := by
    intro i hi
    unfold put
    split_ifs with h
    · rw [h]; exact ⟨rfl, rfl, rfl, rfl⟩
    · exact hX i (by omega)
  iapply (wp_smemLoadOn Variants.none (c : Thread nD τ) none (m := R.a14) (h1 := numel1_S1) (hp := rfl) (Finset.subset_univ _)) $$ H14
  iintro H14
  iapply (wp_storeOn Variants.none (c : Thread nD τ) none (m := R.a14) (Finset.subset_univ _) (put X14 k.val (w (D.row k.val)))
    (fun j => put_at _ _ o3 j) (fun i _ hi => put_off _ _ o3 i hi)) $$ H14
  iintro H14
  iapply (wp_smemLoadOn Variants.none (c : Thread nD τ) none (m := R.a15) (h1 := numel1_S1) (hp := rfl) (Finset.subset_univ _)) $$ H15
  iintro H15
  iapply (wp_storeOn Variants.none (c : Thread nD τ) none (m := R.a15) (Finset.subset_univ _) (put X15 k.val (w (D.off k.val)))
    (fun j => put_at _ _ o3 j) (fun i _ hi => put_off _ _ o3 i hi)) $$ H15
  iintro H15
  iapply (wp_smemLoadOn Variants.none (c : Thread nD τ) none (m := R.a16) (h1 := numel1_S1) (hp := rfl) (Finset.subset_univ _)) $$ H16
  iintro H16
  iapply (wp_storeOn Variants.none (c : Thread nD τ) none (m := R.a16) (Finset.subset_univ _) (put X16 k.val (w (D.nch k.val)))
    (fun j => put_at _ _ o3 j) (fun i _ hi => put_off _ _ o3 i hi)) $$ H16
  iintro H16
  iapply (wp_smemLoadOn Variants.none (c : Thread nD τ) none (m := R.a17) (h1 := numel1_S1) (hp := rfl) (Finset.subset_univ _)) $$ H17
  iintro H17
  iapply (wp_storeOn Variants.none (c : Thread nD τ) none (m := R.a17) (Finset.subset_univ _) (put X17 k.val (w (base D.nch k.val)))
    (fun j => put_at _ _ o3 j) (fun i _ hi => put_off _ _ o3 i hi)) $$ H17
  iintro H17
  iapply (le_wp_ret)
  isplitr
  · ipureintro; rw [addi_w, base_succ]
  isplitl [H14 H15 H16 H17]
  · iexists _, _, _, _
    isplitr
    · ipureintro; exact hrow
    · isplitl [H14]; · iexact H14
      isplitl [H15]; · iexact H15
      isplitl [H16] <;> iassumption
  · isplitl [H0]; · iexact H0
    isplitl [H1] <;> iassumption

/-- One of the pairs' tables. -/
def tab (f : ℕ → ℕ) : S768.Idx → BitVec 32 := fun i => w (f (i 0).val)

/-- The tables, complete. -/
def tables : sProp (Mk F) := iprop(own (F := F) c R.a14 (tab D.row) ∗ own (F := F) c R.a15 (tab D.off) ∗ own (F := F) c R.a16 (tab D.nch) ∗ own (F := F) c R.a17 (tab (base D.nch)))

theorem tables_of_tabs : tabs R D c 768 ⊢ tables R D c := by
  unfold tabs tables
  iintro ⟨%X14, %X15, %X16, %X17, %hX, H14, H15, H16, H17⟩
  have h : ∀ i : S768.Idx, (i 0).val < 768 := fun i => (i 0).isLt
  isplitl [H14]; · iapply (ownsOn_congr (Val := Elt F) (c : Thread nD τ) R.a14 fullShare (fun i _ => (hX i (h i)).1)) $$ H14
  isplitl [H15]; · iapply (ownsOn_congr (Val := Elt F) (c : Thread nD τ) R.a15 fullShare (fun i _ => (hX i (h i)).2.1)) $$ H15
  isplitl [H16]; · iapply (ownsOn_congr (Val := Elt F) (c : Thread nD τ) R.a16 fullShare (fun i _ => (hX i (h i)).2.2.1)) $$ H16
  iapply (ownsOn_congr (Val := Elt F) (c : Thread nD τ) R.a17 fullShare (fun i _ => (hX i (h i)).2.2.2)) $$ H17

/-- A table's word read. -/
theorem wp_tab {α : Type} {m : Memref sig .tc .smem S768 .i32} {f : ℕ → ℕ} {off : Fin 1 → ℕ} {inb} {h1} {hp}
    {k : BitVec 32 → Prog (TpuEff nD τ sig (Elt F) Λ₀ .tc) α} {Q : α → sProp (Mk F)} (n : ℕ) (hn : n < 768) (ho : off 0 = n) :
    own (F := F) c m (tab f) ⊢ iprop((own (F := F) c m (tab f) -∗ Wp c (k (w (f n))) Q)
      -∗ Wp c (smemLoad m (Rect.unit (s := S768) off S1.size inb) h1 hp >>= k) Q) := by
  iintro H Hk
  iapply (wp_smemLoadOn Variants.none (c : Thread nD τ) none (m := m) (h1 := h1) (hp := hp) (Finset.subset_univ _)) $$ H
  iintro H
  rw [atN_first 0#32 (tab f) _ _ (v := ![n]) (fun a => by have : a = 0 := Subsingleton.elim _ _; subst this; exact ho.symm),
    atN_eq 0#32 (tab f) (fun a => ⟨n, by have : a = 0 := Subsingleton.elim _ _; subst this; exact hn⟩) (v := ![n])
      (fun a => by have : a = 0 := Subsingleton.elim _ _; subst this; rfl)]
  iapply Hk $$ H

end Cert.Proof.Kernel

end
-- ==== Proof.Loop2.lean ====
/-
  The ring of code chunks: sixteen slots, each filled by a copy from the codes; the copy that fills a slot carries the
  chunk of one step of the work list. The second loop starts the first sixteen.
-/
module

public import proofs.«01_k».proof.Proof.Loop1
public import Idealize.ShloMosaic.Lib.ValueLayout

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (R : Refs) (D : Inputs F) (c : Dev nD)

abbrev EC : UEmb Counters (Mk F) := countersEmb

/-- The pair and chunk of step `j`. -/
abbrev Inputs.pos (j : ℕ) : ℕ × ℕ := Cert.Proof.pos D.nch j

theorem Inputs.Ok.pos_lt {D : Inputs F} (hD : D.Ok) (j : ℕ) : (D.pos j).1 < 768 ∧ (D.pos j).2 < D.nch (D.pos j).1 := Cert.Proof.pos_lt hD.nch1 j

/-- Slot `s` of the ring, and the chunk of step `j` wherever in the ring it lies. -/
def codeSlot (s : ℕ) : Finset S16x30x512.Idx := Finset.univ.filter fun i => (i 0).val = s
def chunk (j : ℕ) : S16x30x512.Idx → BitVec 32 := fun i => atN 0#32 D.codes ![(i 1).val, (D.row (D.pos j).1 + (D.pos j).2 * 4) * 128 + (i 2).val]

abbrev codeSem (s : Fin 16) : DmaSem sig := R.a19.ix (ix1 s)
abbrev codeN : ℕ := R.a18.view.ref.dmaCredit S30x512 .i32
abbrev codeTok (s : Fin 16) : sProp (Mk F) := ownsOn (Val := Elt F) (c : Thread nD τ) R.a8 (shareTok fullShare 16 s) Finset.univ D.codes
abbrev codeOwn (s : Fin 16) (Z : S16x30x512.Idx → BitVec 32) : sProp (Mk F) := ownsOn (Val := Elt F) (c : Thread nD τ) R.a18 fullShare (codeSlot s.val) Z

def codeIdle (s : Fin 16) : sProp (Mk F) := iprop((∃ Z, codeOwn (F := F) R c s Z) ∗ codeTok R D c s ∗ semVal ((c : Thread nD τ), .dma (codeSem R s)) 0)
def codeBusy (s : Fin 16) (j : ℕ) : sProp (Mk F) := Flight EC (c : Thread nD τ) (.dma (codeSem R s)) () (codeN R) iprop(codeOwn (F := F) R c s (chunk D j) ∗ codeTok R D c s)
/-- Slot `s` when the next step it carries is `j`. -/
def codeSt (s : Fin 16) (j : ℕ) : sProp (Mk F) := if j < D.steps then codeBusy R D c s j else codeIdle R D c s

theorem mem_codeSlot {s : ℕ} {i : S16x30x512.Idx} : i ∈ codeSlot s ↔ (i 0).val = s := by simp [codeSlot]

theorem set_code {offd : Fin 3 → ℕ} {inb} {s : ℕ} (ho : offd = ![s, 0, 0]) (i : S16x30x512.Idx) :
    i ∈ (Rect.unit (s := S16x30x512) offd S1x30x512.size inb).set ↔ (i 0).val = s := by
  subst ho
  rw [Rect.mem_set_unit]
  constructor
  · intro h
    have := h 0
    have h1 : s ≤ (i 0).val ∧ (i 0).val < s + 1 := this
    omega
  · intro h a
    fin_cases a
    · show s ≤ (i 0).val ∧ (i 0).val < s + 1; omega
    · exact ⟨Nat.zero_le _, lt_of_lt_of_eq (i 1).isLt (Nat.zero_add _).symm⟩
    · exact ⟨Nat.zero_le _, lt_of_lt_of_eq (i 2).isLt (Nat.zero_add _).symm⟩

theorem pos_S30x512 : 0 < S30x512.numel := by decide

/-- The copy's elements land where the slot's chunk has them. -/
theorem chunk_copy (j : ℕ) {offd : Fin 3 → ℕ} {offs : Fin 2 → ℕ} {inbd inbs} {s : ℕ} (hd : offd = ![s, 0, 0]) (hs : offs = ![0, (D.row (D.pos j).1 + (D.pos j).2 * 4) * 128])
    (h : S30x512.numel = S1x30x512.numel) (x : S30x512.Idx) :
    chunk D j ((Rect.unit (s := S16x30x512) offd S1x30x512.size inbd).emb (Shape.reshapeEquiv h x)) = D.codes ((Rect.unit (s := S30x2048000) offs S30x512.size inbs).emb x) := by
  subst hd hs
  obtain ⟨x0, x1, rfl⟩ : ∃ x0 x1, x = (ix2 x0 x1 : S30x512.Idx) := ⟨x 0, x 1, eq_ix2 x⟩
  have e := ValueIdx.reshapeEquiv_ix2_1ab h x0 x1
  rw [show Shape.reshapeEquiv h (ix2 x0 x1) = _ from e]
  unfold chunk
  refine Eq.trans ?_ (atN_emb 0#32 D.codes _ _ (v := ![x0.val, (D.row (D.pos j).1 + (D.pos j).2 * 4) * 128 + x1.val]) (fun a => by
    fin_cases a
    · show x0.val = 0 + 1 * x0.val; omega
    · show (D.row (D.pos j).1 + (D.pos j).2 * 4) * 128 + x1.val = (D.row (D.pos j).1 + (D.pos j).2 * 4) * 128 + 1 * x1.val; omega)).symm
  refine atN_congr _ _ fun a => ?_
  fin_cases a
  · show 0 + 1 * x0.val = x0.val; omega
  · show (D.row (D.pos j).1 + (D.pos j).2 * 4) * 128 + (0 + 1 * x1.val) = (D.row (D.pos j).1 + (D.pos j).2 * 4) * 128 + x1.val; omega

set_option maxHeartbeats 2000000 in
/-- The copy of step `j`'s chunk started into an idle slot. -/
theorem code_enq {α : Type} {offd : Fin 3 → ℕ} {offs : Fin 2 → ℕ} {offm : Fin 1 → ℕ} {inbd inbs inbm hr hrd hsq hsq' h1 h2 h3}
    {k : PUnit → Prog (TpuEff nD τ sig (Elt F) Λ₀ .tc) α} {Q : α → sProp (Mk F)}
    (s : Fin 16) (j : ℕ) (hj : j < D.steps) (hd : offd = ![s.val, 0, 0]) (hs : offs = ![0, (D.row (D.pos j).1 + (D.pos j).2 * 4) * 128]) (hm : offm = ![s.val]) :
    codeIdle R D c s ⊢ iprop((codeSt R D c s j -∗ Wp c (k ⟨⟩) Q)
      -∗ Wp c (.op (.enqueueDma (R.a8.slice (Rect.unit (s := S30x2048000) offs S30x512.size inbs) hr)
          (.here ((R.a18.slice (Rect.unit (s := S16x30x512) offd S1x30x512.size inbd) hrd).squeeze S30x512 hsq))
          (.dma ((R.a19.slice (Rect.unit (s := S16) offm S1.size inbm)).squeeze S_ hsq').sem) h1 h2 h3) k) Q) := by
  have hsem : ((R.a19.slice (Rect.unit (s := S16) offm S1.size inbm)).squeeze S_ hsq').sem = codeSem R s :=
    sem_slice_squeeze R.a19 _ hsq' (ix1 s) (fun b => by
      have : b = 0 := Subsingleton.elim _ _
      subst this; rw [show (Rect.unit (s := S16) offm S1.size inbm).off = offm from rfl, hm]; rfl) (fun b => by
      have : b = 0 := Subsingleton.elim _ _
      subst this; rfl)
  unfold codeIdle codeSt
  rw [if_pos hj]
  iintro ⟨⟨%Z, HZ⟩, Ht, Hv⟩ Hk
  iapply (wp_dmaSlice Variants.none (c : Thread nD τ) none EC (ms := R.a8) (md := R.a18) (rs := Rect.unit (s := S30x2048000) offs S30x512.size inbs) (rd := Rect.unit (s := S16x30x512) offd S1x30x512.size inbd) (hrs := hr) (hrd := hrd) (hsq := hsq) (hsrc := h1) (hdst := h2) (hsem := h3) (A := codeSlot s.val) (B := Finset.univ) (X := D.codes) (q := shareTok fullShare 16 s) (Z := Z) hsem pos_S30x512 (codeN R) rfl
    (Finset.subset_univ _) (fun i hi => mem_codeSlot.mpr ((set_code hd i).mp hi)) (chunk D j) (chunk_copy D j hd hs hsq.numel_eq)
    (fun i hi hn => absurd ((set_code hd i).mpr (mem_codeSlot.mp hi)) hn)) $$ [HZ Ht Hv]
  · isplitl [Ht]; · iexact Ht
    isplitl [HZ] <;> iassumption
  iintro Hf
  iapply Hk
  unfold codeBusy
  iexact Hf

/-- The copy of step `j`'s chunk awaited. -/
theorem code_wait {α : Type} {offd : Fin 3 → ℕ} {offs : Fin 2 → ℕ} {offm : Fin 1 → ℕ} {inbd inbs inbm hr hrd hsq hsq' h1 h2}
    {k : PUnit → Prog (TpuEff nD τ sig (Elt F) Λ₀ .tc) α} {Q : α → sProp (Mk F)}
    (s : Fin 16) (j : ℕ) (hj : j < D.steps) (hm : offm = ![s.val]) :
    iprop(codeSt R D c s j ∗ owesNone (c : Thread nD τ)) ⊢ iprop((iprop(codeOwn (F := F) R c s (chunk D j) ∗ codeTok R D c s ∗ semVal ((c : Thread nD τ), .dma (codeSem R s)) 0 ∗ owesNone (c : Thread nD τ)) -∗ Wp c (k ⟨⟩) Q)
      -∗ Wp c (.op (.waitDma2 ((R.a19.slice (Rect.unit (s := S16) offm S1.size inbm)).squeeze S_ hsq').sem (R.a8.slice (Rect.unit (s := S30x2048000) offs S30x512.size inbs) hr)
          ((R.a18.slice (Rect.unit (s := S16x30x512) offd S1x30x512.size inbd) hrd).squeeze S30x512 hsq) h1 h2) k) Q) := by
  have hsem : ((R.a19.slice (Rect.unit (s := S16) offm S1.size inbm)).squeeze S_ hsq').sem = codeSem R s :=
    sem_slice_squeeze R.a19 _ hsq' (ix1 s) (fun b => by
      have : b = 0 := Subsingleton.elim _ _
      subst this; rw [show (Rect.unit (s := S16) offm S1.size inbm).off = offm from rfl, hm]; rfl) (fun b => by
      have : b = 0 := Subsingleton.elim _ _
      subst this; rfl)
  unfold codeSt codeBusy
  rw [if_pos hj]
  iintro ⟨Hf, HO⟩ Hk
  iapply (wp_waitOn Variants.none (c : Thread nD τ) none EC (N := codeN R) hsem rfl) $$ [Hf HO]
  · isplitl [Hf] <;> iassumption
  iintro ⟨⟨Ho, Ht⟩, Hv, HO⟩
  iapply Hk
  isplitl [Ho]; · iexact Ho
  isplitl [Ht]; · iexact Ht
  isplitl [Hv] <;> iassumption

/-! ## The walk in words -/

theorem walk1 (n ch : ℕ) (hn : n < 768) (hc : ch < 2 ^ 30) (h : D.nch n < 2 ^ 30) :
    Scalar.select (Scalar.cmpi .sge (Scalar.addi (w ch) 1#32) (w (D.nch n))) (Scalar.minsi (Scalar.addi (w n) 1#32) 767#32) (w n) = w (adv D.nch (n, ch)).1 := by
  rw [show (1#32 : BitVec 32) = w 1 from rfl, show (767#32 : BitVec 32) = w 767 from rfl, addi_w, addi_w, minsi_w (by omega) (by omega), sge_w (by omega) (by omega), select_ite]
  unfold adv
  split_ifs <;> rfl

theorem walk2 (n ch : ℕ) (hn : n < 768) (hc : ch < 2 ^ 30) (h : D.nch n < 2 ^ 30) :
    Scalar.select (Scalar.cmpi .sge (Scalar.addi (w ch) 1#32) (w (D.nch n))) 0#32 (Scalar.addi (w ch) 1#32) = w (adv D.nch (n, ch)).2 := by
  rw [show (1#32 : BitVec 32) = w 1 from rfl, addi_w, sge_w (by omega) (by omega), select_ite]
  unfold adv
  split_ifs <;> rfl

/-! ## The loop -/

theorem trips2 : k0_t2_loop.trips = 16 := by decide
theorem lt2 (k : Fin k0_t2_loop.trips) : k.val < 16 := lt_of_lt_of_eq k.isLt trips2

theorem off5 (k : Fin k0_t2_loop.trips) : k0_off5 k = ![k.val] := by
  have hk := lt2 k
  unfold k0_off5
  simp only [iv_w]
  rw [toNat_w (by omega)]
theorem off6 (k : Fin k0_t2_loop.trips) : k0_off6 k = ![k.val, 0, 0] := by
  have hk := lt2 k
  unfold k0_off6
  simp only [iv_w]
  rw [toNat_w (by omega)]
/-- The first column of a chunk. -/
theorem col_w {n ch : ℕ} {D : Inputs F} (hD : D.Ok) (hn : n < 768) (hc : ch < D.nch n) :
    (Scalar.muli (Scalar.addi (w (D.row n)) (Scalar.muli (w ch) 4#32)) 128#32).toNat = (D.row n + ch * 4) * 128 := by
  have := hD.col_le hn hc
  rw [show (4#32 : BitVec 32) = w 4 from rfl, show (128#32 : BitVec 32) = w 128 from rfl, muli_w, addi_w, muli_w, toNat_w (by omega)]
theorem off7 {n ch : ℕ} {D : Inputs F} (hD : D.Ok) (hn : n < 768) (hc : ch < D.nch n) : k0_off7 (w ch) (w (D.row n)) = ![0, (D.row n + ch * 4) * 128] := by
  show ![_, _] = _
  rw [← col_w hD hn hc]

def I2 (k : ℕ) (acc : BitVec 32 × BitVec 32) : sProp (Mk F) :=
  iprop(⌜acc = (w (D.pos k).1, w (D.pos k).2)⌝ ∗ tables R D c ∗ BI.bigSep Finset.univ fun s : Fin 16 => codeSt R D c s (if s.val < k then s.val else D.steps))

variable {D} in
theorem loop2_step (hD : D.Ok) (k : Fin k0_t2_loop.trips) (acc : BitVec 32 × BitVec 32) :
    I2 R D c k.val acc ⊢ Wp c (body2 (F := F) R k acc) (I2 R D c (k.val + 1)) := by
  have hk := lt2 k
  have h16 : 768 ≤ D.steps := hD.le_steps
  obtain ⟨hn, hc⟩ := hD.pos_lt k.val
  have h5 := hD.nch5 _ hn
  have hrow := hD.row_lt hn
  unfold I2 tables
  iintro ⟨%ha, ⟨H14, H15, H16, H17⟩, Hb⟩
  subst ha
  have hpos : D.pos (k.val + 1) = adv D.nch (D.pos k.val) := rfl
  delta body2 k0_t2_body
  have hnw : (w (D.pos k.val).1).toNat = (D.pos k.val).1 := toNat_w (by omega)
  have hb1 : ∀ a : Fin 1, (![(w (D.pos k.val).1).toNat] : Fin 1 → ℕ) a + S1.size a ≤ S768.size a := fun a => by
    have : a = 0 := Subsingleton.elim _ _
    subst this; show (w (D.pos k.val).1).toNat + 1 ≤ 768; rw [hnw]; omega
  iapply (wp_assume Variants.none (c : Thread nD τ) none Set.univ (show k0_chk2 (w (D.pos k.val).1) from ⟨hb1, hb1⟩))
  iapply (wp_tab c (m := R.a14) (h1 := numel1_S1) (hp := rfl) (D.pos k.val).1 hn hnw) $$ H14
  iintro H14
  have o7 := off7 hD hn hc
  iapply (wp_assume Variants.none (c : Thread nD τ) none Set.univ (show k0_chk3 (w (D.pos k.val).2) (w (D.row (D.pos k.val).1)) from
    ⟨by
      show 128 ∣ (Scalar.muli (Scalar.addi (w (D.row (D.pos k.val).1)) (Scalar.muli (w (D.pos k.val).2) 4#32)) 128#32).toNat
      rw [col_w hD hn hc]; exact Dvd.intro_left _ rfl,
     by
      rw [o7]; intro a
      have := hD.col_le hn hc
      fin_cases a
      · exact le_refl 30
      · exact this⟩))
  ihave Hb' := (bigSep_swap (fun s : Fin 16 => codeSt R D c s (if s.val < k.val then s.val else D.steps))
    (fun s : Fin 16 => codeSt R D c s (if s.val < k.val + 1 then s.val else D.steps)) ⟨k.val, hk⟩ (fun j hj => by
      have : j.val ≠ k.val := fun h => hj (Fin.ext h)
      by_cases h : j.val < k.val
      · simp only [h, if_true, show j.val < k.val + 1 by omega]
      · simp only [h, if_false, show ¬ j.val < k.val + 1 by omega])) $$ Hb
  simp only [lt_irrefl, if_false, Nat.lt_succ_self, if_true]
  icases Hb' with ⟨Hs, Hb⟩
  ihave Hs := (show codeSt R D c ⟨k.val, hk⟩ D.steps ⊢ codeIdle R D c ⟨k.val, hk⟩ from by unfold codeSt; rw [if_neg (lt_irrefl _)]) $$ Hs
  iapply (code_enq R D c ⟨k.val, hk⟩ k.val (by omega) (off6 k) o7 (off5 k)) $$ Hs
  iintro Hs
  ihave Hb := Hb $$ Hs
  iapply (wp_tab c (m := R.a16) (h1 := numel1_S1) (hp := rfl) (D.pos k.val).1 hn hnw) $$ H16
  iintro H16
  iapply (le_wp_ret)
  isplitr
  · ipureintro
    rw [hpos]
    exact Prod.ext (walk1 D _ _ hn (by omega) (by omega)) (walk2 D _ _ hn (by omega) (by omega))
  isplitl [H14 H15 H16 H17]
  · isplitl [H14]; · iexact H14
    isplitl [H15]; · iexact H15
    isplitl [H16] <;> iassumption
  iexact Hb

end Cert.Proof.Kernel

end
-- ==== Proof.Rings.lean ====
/-
  The two rings of the third phase. One brings the 24 rows of 128 columns a pair's cluster starts in, of the norms and of
  the correlations, eight pairs ahead; the other takes a finished pair's 16 rows of each of the three results away and
  is awaited eight pairs later.
-/
module

public import proofs.«01_k».proof.Proof.Loop2

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (R : Refs) (D : Inputs F) (c : Dev nD)

theorem sem_ix2 {α : Type} {a b : ℕ} (A : SemArray α (⟨2, ![a, b]⟩ : Shape)) (i : Fin a) (j : Fin b) {off : Fin 2 → ℕ} (ho : off = ![i.val, j.val]) {inb}
    (h : (Rect.unit (s := (⟨2, ![a, b]⟩ : Shape)) off S1x1.size inb).shape.Squeezes S_) :
    ((A.slice (Rect.unit (s := (⟨2, ![a, b]⟩ : Shape)) off S1x1.size inb)).squeeze S_ h).sem = A.ix (ix2 i j) := by
  subst ho
  exact sem_slice_squeeze A _ h (ix2 i j) (fun b => by fin_cases b <;> rfl) (fun b => by fin_cases b <;> rfl)

/-! ## The ring of windows -/

def winSlot (s : ℕ) : Finset S8x24x128.Idx := Finset.univ.filter fun i => (i 0).val = s
theorem mem_winSlot {s : ℕ} {i : S8x24x128.Idx} : i ∈ winSlot s ↔ (i 0).val = s := by simp [winSlot]

section Win
variable (ms : Memref sig .tc .hbm S16000x128 .f32) (md : Memref sig .tc .vmem S8x24x128 .f32) (o : Fin 2) (X : S16000x128.Idx → F .f32)

/-- The window of pair `n`. -/
def win (n : ℕ) : S8x24x128.Idx → F .f32 := fun i => atN (Scalar.ofBits .f32 0x00000000#32) X ![D.row n + (i 1).val, (i 2).val]

abbrev winSem (s : Fin 8) : DmaSem sig := R.a25.ix (ix2 o s)
abbrev winN : ℕ := md.view.ref.dmaCredit S24x128 .f32
abbrev winTok (s : Fin 8) : sProp (Mk F) := ownsOn (Val := Elt F) (c : Thread nD τ) ms (shareTok fullShare 8 s) Finset.univ X
abbrev winOwn (s : Fin 8) (Z : S8x24x128.Idx → F .f32) : sProp (Mk F) := ownsOn (Val := Elt F) (c : Thread nD τ) md fullShare (winSlot s.val) Z

def winIdle (s : Fin 8) : sProp (Mk F) := iprop((∃ Z, winOwn (F := F) c md s Z) ∗ winTok c ms X s ∗ semVal ((c : Thread nD τ), .dma (winSem R o s)) 0)
def winBusy (s : Fin 8) (n : ℕ) : sProp (Mk F) := Flight EC (c : Thread nD τ) (.dma (winSem R o s)) () (winN md) iprop(winOwn (F := F) c md s (win D X n) ∗ winTok c ms X s)
/-- Slot `s` when the next pair it carries is `n`. -/
def winSt (s : Fin 8) (n : ℕ) : sProp (Mk F) := if n < 768 then winBusy R D c ms md o X s n else winIdle R c ms md o X s

theorem set_win {offd : Fin 3 → ℕ} {inb} {s : ℕ} (ho : offd = ![s, 0, 0]) (i : S8x24x128.Idx) :
    i ∈ (Rect.unit (s := S8x24x128) offd S1x24x128.size inb).set ↔ (i 0).val = s := by
  subst ho
  rw [Rect.mem_set_unit]
  constructor
  · intro h
    have := h 0
    have h1 : s ≤ (i 0).val ∧ (i 0).val < s + 1 := this
    omega
  · intro h a
    fin_cases a
    · show s ≤ (i 0).val ∧ (i 0).val < s + 1; omega
    · exact ⟨Nat.zero_le _, lt_of_lt_of_eq (i 1).isLt (Nat.zero_add _).symm⟩
    · exact ⟨Nat.zero_le _, lt_of_lt_of_eq (i 2).isLt (Nat.zero_add _).symm⟩

theorem pos_S24x128 : 0 < S24x128.numel := by decide

theorem win_copy (n : ℕ) {offd : Fin 3 → ℕ} {offs : Fin 2 → ℕ} {inbd inbs} {s : ℕ} (hd : offd = ![s, 0, 0]) (hs : offs = ![D.row n, 0])
    (h : S24x128.numel = S1x24x128.numel) (x : S24x128.Idx) :
    win D X n ((Rect.unit (s := S8x24x128) offd S1x24x128.size inbd).emb (Shape.reshapeEquiv h x)) = X ((Rect.unit (s := S16000x128) offs S24x128.size inbs).emb x) := by
  subst hd hs
  obtain ⟨x0, x1, rfl⟩ : ∃ x0 x1, x = (ix2 x0 x1 : S24x128.Idx) := ⟨x 0, x 1, eq_ix2 x⟩
  have e := ValueIdx.reshapeEquiv_ix2_1ab h x0 x1
  rw [show Shape.reshapeEquiv h (ix2 x0 x1) = _ from e]
  unfold win
  refine Eq.trans ?_ (atN_emb (Scalar.ofBits .f32 0x00000000#32) X _ _ (v := ![D.row n + x0.val, x1.val]) (fun a => by
    fin_cases a
    · show D.row n + x0.val = D.row n + 1 * x0.val; omega
    · show x1.val = 0 + 1 * x1.val; omega)).symm
  refine atN_congr _ _ fun a => ?_
  fin_cases a
  · show D.row n + (0 + 1 * x0.val) = D.row n + x0.val; omega
  · show 0 + 1 * x1.val = x1.val; omega

set_option maxHeartbeats 2000000 in
/-- The copy of pair `n`'s window started into an idle slot. -/
theorem win_enq {α : Type} {offd : Fin 3 → ℕ} {offs : Fin 2 → ℕ} {offm : Fin 2 → ℕ} {inbd inbs inbm hr hrd hsq hsq' h1 h2 h3}
    {k : PUnit → Prog (TpuEff nD τ sig (Elt F) Λ₀ .tc) α} {Q : α → sProp (Mk F)}
    (s : Fin 8) (n : ℕ) (hn : n < 768) (hd : offd = ![s.val, 0, 0]) (hs : offs = ![D.row n, 0]) (hm : offm = ![o.val, s.val]) :
    winIdle R c ms md o X s ⊢ iprop((winSt R D c ms md o X s n -∗ Wp c (k ⟨⟩) Q)
      -∗ Wp c (.op (.enqueueDma (ms.slice (Rect.unit (s := S16000x128) offs S24x128.size inbs) hr)
          (.here ((md.slice (Rect.unit (s := S8x24x128) offd S1x24x128.size inbd) hrd).squeeze S24x128 hsq))
          (.dma ((R.a25.slice (Rect.unit (s := S2x8) offm S1x1.size inbm)).squeeze S_ hsq').sem) h1 h2 h3) k) Q) := by
  have hsem : ((R.a25.slice (Rect.unit (s := S2x8) offm S1x1.size inbm)).squeeze S_ hsq').sem = winSem R o s :=
    sem_ix2 R.a25 o s hm hsq'
  unfold winIdle winSt
  rw [if_pos hn]
  iintro ⟨⟨%Z, HZ⟩, Ht, Hv⟩ Hk
  iapply (wp_dmaSlice Variants.none (c : Thread nD τ) none EC (ms := ms) (md := md) (rs := Rect.unit (s := S16000x128) offs S24x128.size inbs) (rd := Rect.unit (s := S8x24x128) offd S1x24x128.size inbd) (hrs := hr) (hrd := hrd) (hsq := hsq) (hsrc := h1) (hdst := h2) (hsem := h3) (A := winSlot s.val) (B := Finset.univ) (X := X) (q := shareTok fullShare 8 s) (Z := Z) hsem pos_S24x128 (winN md) rfl
    (Finset.subset_univ _) (fun i hi => mem_winSlot.mpr ((set_win hd i).mp hi)) (win D X n) (win_copy D X n hd hs hsq.numel_eq)
    (fun i hi hn => absurd ((set_win hd i).mpr (mem_winSlot.mp hi)) hn)) $$ [HZ Ht Hv]
  · isplitl [Ht]; · iexact Ht
    isplitl [HZ] <;> iassumption
  iintro Hf
  iapply Hk
  unfold winBusy
  iexact Hf

/-- The copy of pair `n`'s window awaited. -/
theorem win_wait {α : Type} {offd : Fin 3 → ℕ} {offs : Fin 2 → ℕ} {offm : Fin 2 → ℕ} {inbd inbs inbm hr hrd hsq hsq' h1 h2}
    {k : PUnit → Prog (TpuEff nD τ sig (Elt F) Λ₀ .tc) α} {Q : α → sProp (Mk F)}
    (s : Fin 8) (n : ℕ) (hn : n < 768) (hm : offm = ![o.val, s.val]) :
    iprop(winSt R D c ms md o X s n ∗ owesNone (c : Thread nD τ)) ⊢ iprop((iprop(winOwn (F := F) c md s (win D X n) ∗ winTok c ms X s ∗ semVal ((c : Thread nD τ), .dma (winSem R o s)) 0 ∗ owesNone (c : Thread nD τ)) -∗ Wp c (k ⟨⟩) Q)
      -∗ Wp c (.op (.waitDma2 ((R.a25.slice (Rect.unit (s := S2x8) offm S1x1.size inbm)).squeeze S_ hsq').sem (ms.slice (Rect.unit (s := S16000x128) offs S24x128.size inbs) hr)
          ((md.slice (Rect.unit (s := S8x24x128) offd S1x24x128.size inbd) hrd).squeeze S24x128 hsq) h1 h2) k) Q) := by
  have hsem : ((R.a25.slice (Rect.unit (s := S2x8) offm S1x1.size inbm)).squeeze S_ hsq').sem = winSem R o s :=
    sem_ix2 R.a25 o s hm hsq'
  unfold winSt winBusy
  rw [if_pos hn]
  iintro ⟨Hf, HO⟩ Hk
  iapply (wp_waitOn Variants.none (c : Thread nD τ) none EC (N := winN md) hsem rfl) $$ [Hf HO]
  · isplitl [Hf] <;> iassumption
  iintro ⟨⟨Ho, Ht⟩, Hv, HO⟩
  iapply Hk
  isplitl [Ho]; · iexact Ho
  isplitl [Ht]; · iexact Ht
  isplitl [Hv] <;> iassumption

end Win

/-! ## The ring of results -/

def outSlot (o s : ℕ) : Finset S3x8x16x128.Idx := Finset.univ.filter fun i => (i 0).val = o ∧ (i 1).val = s
theorem mem_outSlot {o s : ℕ} {i : S3x8x16x128.Idx} : i ∈ outSlot o s ↔ (i 0).val = o ∧ (i 1).val = s := by simp [outSlot]
/-- The pair an element of a result belongs to. -/
def pairOf (i : S12x8x16x8x128.Idx) : ℕ := (i 0).val * 64 + (i 1).val * 8 + (i 3).val
def outPair (n : ℕ) : Finset S12x8x16x8x128.Idx := Finset.univ.filter fun i => pairOf i = n
theorem mem_outPair {n : ℕ} {i : S12x8x16x8x128.Idx} : i ∈ outPair n ↔ pairOf i = n := by simp [outPair]
theorem pairOf_lt (i : S12x8x16x8x128.Idx) : pairOf i < 768 := by
  have h0 : (i 0).val < 12 := (i 0).isLt
  have h1 : (i 1).val < 8 := (i 1).isLt
  have h3 : (i 3).val < 8 := (i 3).isLt
  unfold pairOf; omega

theorem set_slot {offd : Fin 4 → ℕ} {inb} {o s : ℕ} (ho : offd = ![o, s, 0, 0]) :
    (Rect.unit (s := S3x8x16x128) offd S1x1x16x128.size inb).set = outSlot o s := by
  subst ho
  ext i
  rw [Rect.mem_set_unit, mem_outSlot]
  constructor
  · intro h
    have h0 : o ≤ (i 0).val ∧ (i 0).val < o + 1 := h 0
    have h1 : s ≤ (i 1).val ∧ (i 1).val < s + 1 := h 1
    omega
  · intro h a
    fin_cases a
    · show o ≤ (i 0).val ∧ (i 0).val < o + 1; omega
    · show s ≤ (i 1).val ∧ (i 1).val < s + 1; omega
    · exact ⟨Nat.zero_le _, lt_of_lt_of_eq (i 2).isLt (Nat.zero_add _).symm⟩
    · exact ⟨Nat.zero_le _, lt_of_lt_of_eq (i 3).isLt (Nat.zero_add _).symm⟩

theorem set_pair {offd : Fin 5 → ℕ} {inb} {n : ℕ} (ho : offd = ![n / 64, n % 64 / 8, 0, n % 8, 0]) :
    (Rect.unit (s := S12x8x16x8x128) offd S1x1x16x1x128.size inb).set = outPair n := by
  subst ho
  ext i
  have b1 : (i 1).val < 8 := (i 1).isLt
  have b3 : (i 3).val < 8 := (i 3).isLt
  rw [Rect.mem_set_unit, mem_outPair]
  unfold pairOf
  constructor
  · intro h
    have h0 : n / 64 ≤ (i 0).val ∧ (i 0).val < n / 64 + 1 := h 0
    have h1 : n % 64 / 8 ≤ (i 1).val ∧ (i 1).val < n % 64 / 8 + 1 := h 1
    have h3 : n % 8 ≤ (i 3).val ∧ (i 3).val < n % 8 + 1 := h 3
    omega
  · intro h a
    fin_cases a
    · show n / 64 ≤ (i 0).val ∧ (i 0).val < n / 64 + 1; omega
    · show n % 64 / 8 ≤ (i 1).val ∧ (i 1).val < n % 64 / 8 + 1; omega
    · exact ⟨Nat.zero_le _, lt_of_lt_of_eq (i 2).isLt (Nat.zero_add _).symm⟩
    · show n % 8 ≤ (i 3).val ∧ (i 3).val < n % 8 + 1; omega
    · exact ⟨Nat.zero_le _, lt_of_lt_of_eq (i 4).isLt (Nat.zero_add _).symm⟩

theorem pos_S16x128 : 0 < S16x128.numel := by decide

section Out
variable (mo : Memref sig .tc .hbm S12x8x16x8x128 .f32) (o : Fin 3) (f : ℕ → ℕ → F .f32)

/-- A result whose pair `n` has `f n` along its columns. -/
def outG : S12x8x16x8x128.Idx → F .f32 := fun i => f (pairOf i) ((i 2).val * 128 + (i 4).val)
/-- A slot holding one pair. -/
def outV (n : ℕ) : S3x8x16x128.Idx → F .f32 := fun i => f n ((i 2).val * 128 + (i 3).val)

abbrev outSem (s : Fin 8) : DmaSem sig := R.a29.ix (ix2 o s)
abbrev outN : ℕ := mo.view.ref.dmaCredit S16x128 .f32
abbrev slotOwn (s : Fin 8) (Z : S3x8x16x128.Idx → F .f32) : sProp (Mk F) := ownsOn (Val := Elt F) (c : Thread nD τ) R.a28 fullShare (outSlot o.val s.val) Z
abbrev pairOwn (n : ℕ) (Z : S12x8x16x8x128.Idx → F .f32) : sProp (Mk F) := ownsOn (Val := Elt F) (c : Thread nD τ) mo fullShare (outPair n) Z

def outFree (s : Fin 8) : sProp (Mk F) := iprop((∃ Z, slotOwn (F := F) R c o s Z) ∗ semVal ((c : Thread nD τ), .dma (outSem R o s)) 0)
def outBusy (s : Fin 8) (n : ℕ) : sProp (Mk F) := iprop(∃ Z, Flight EC (c : Thread nD τ) (.dma (outSem R o s)) () (outN mo) iprop(pairOwn (F := F) c mo n (outG f) ∗ slotOwn (F := F) R c o s Z))
/-- Slot `s` when the next pair it takes is `n`. -/
def outSt (s : Fin 8) (n : ℕ) : sProp (Mk F) := if n < 8 then outFree (F := F) R c o s else outBusy R c mo o f s (n - 8)

theorem out_copy (n : ℕ) {offd : Fin 5 → ℕ} {offs : Fin 4 → ℕ} {inbd inbs} {o s : ℕ} (hd : offd = ![n / 64, n % 64 / 8, 0, n % 8, 0]) (hs : offs = ![o, s, 0, 0])
    (h : S16x128.numel = S1x1x16x1x128.numel) (h' : S16x128.numel = S1x1x16x128.numel) (x : S16x128.Idx) :
    outG f ((Rect.unit (s := S12x8x16x8x128) offd S1x1x16x1x128.size inbd).emb (Shape.reshapeEquiv h x)) = outV f n ((Rect.unit (s := S3x8x16x128) offs S1x1x16x128.size inbs).emb (Shape.reshapeEquiv h' x)) := by
  subst hd hs
  obtain ⟨x0, x1, rfl⟩ : ∃ x0 x1, x = (ix2 x0 x1 : S16x128.Idx) := ⟨x 0, x 1, eq_ix2 x⟩
  have e := ValueIdx.reshapeEquiv_ix2_11ab h' x0 x1
  rw [show Shape.reshapeEquiv h' (ix2 x0 x1) = _ from e]
  rw [show Shape.reshapeEquiv h (ix2 x0 x1) = (ix5 (⟨0, Nat.one_pos⟩ : Fin 1) (⟨0, Nat.one_pos⟩ : Fin 1) x0 (⟨0, Nat.one_pos⟩ : Fin 1) x1 : S1x1x16x1x128.Idx) from
    Shape.reshapeEquiv_eq_of_rowMajor h (by
      rw [Shape.rowMajor_val_five, Shape.rowMajor_val_two]
      show ((((0 * 1 + 0) * 16 + x0.val) * 1 + 0) * 128 + x1.val) = x0.val * 128 + x1.val
      omega)]
  have h3 : n / 64 * 64 + n % 64 / 8 * 8 + n % 8 = n := by omega
  show f ((n / 64 + 1 * 0) * 64 + (n % 64 / 8 + 1 * 0) * 8 + (n % 8 + 1 * 0)) ((0 + 1 * x0.val) * 128 + (0 + 1 * x1.val)) = f n ((0 + 1 * x0.val) * 128 + (0 + 1 * x1.val))
  rw [show (n / 64 + 1 * 0) * 64 + (n % 64 / 8 + 1 * 0) * 8 + (n % 8 + 1 * 0) = n by omega]

set_option maxHeartbeats 2000000 in
/-- A finished slot's copy out started. -/
theorem out_enq {α : Type} {offd : Fin 5 → ℕ} {offs : Fin 4 → ℕ} {offm : Fin 2 → ℕ} {inbd inbs inbm hr hrd hss hsq hsq' h1 h2 h3}
    {k : PUnit → Prog (TpuEff nD τ sig (Elt F) Λ₀ .tc) α} {Q : α → sProp (Mk F)}
    (s : Fin 8) (n : ℕ) (Z : S12x8x16x8x128.Idx → F .f32) (hd : offd = ![n / 64, n % 64 / 8, 0, n % 8, 0]) (hs : offs = ![o.val, s.val, 0, 0]) (hm : offm = ![o.val, s.val]) :
    iprop(slotOwn R c o s (outV f n) ∗ pairOwn c mo n Z ∗ semVal ((c : Thread nD τ), .dma (outSem R o s)) 0) ⊢ iprop((outSt R c mo o f s (n + 8) -∗ Wp c (k ⟨⟩) Q)
      -∗ Wp c (.op (.enqueueDma ((R.a28.slice (Rect.unit (s := S3x8x16x128) offs S1x1x16x128.size inbs) hr).squeeze S16x128 hss)
          (.here ((mo.slice (Rect.unit (s := S12x8x16x8x128) offd S1x1x16x1x128.size inbd) hrd).squeeze S16x128 hsq))
          (.dma ((R.a29.slice (Rect.unit (s := S3x8) offm S1x1.size inbm)).squeeze S_ hsq').sem) h1 h2 h3) k) Q) := by
  have hsem : ((R.a29.slice (Rect.unit (s := S3x8) offm S1x1.size inbm)).squeeze S_ hsq').sem = outSem R o s :=
    sem_ix2 R.a29 o s hm hsq'
  unfold outSt
  rw [if_neg (show ¬ n + 8 < 8 by omega), Nat.add_sub_cancel]
  unfold slotOwn pairOwn outBusy
  rw [← set_slot (inb := inbs) hs, ← set_pair (inb := inbd) hd]
  iintro ⟨Hs, Hp, Hv⟩ Hk
  iapply (wp_dmaSqueeze Variants.none (c : Thread nD τ) none EC (ms := R.a28) (md := mo) (rs := Rect.unit (s := S3x8x16x128) offs S1x1x16x128.size inbs) (rd := Rect.unit (s := S12x8x16x8x128) offd S1x1x16x1x128.size inbd) (hrs := hr) (hrd := hrd) (hss := hss) (hsq := hsq) (hsrc := h1) (hdst := h2) (hsem := h3) (X := outV f n) (q := fullShare) (Z := Z) hsem pos_S16x128 (outN mo) rfl
    (outG f) (out_copy f n hd hs hsq.numel_eq hss.numel_eq)) $$ [Hs Hp Hv]
  · isplitl [Hs]; · iexact Hs
    isplitl [Hp] <;> iassumption
  iintro Hf
  iapply Hk
  rw [set_slot (inb := inbs) hs, set_pair (inb := inbd) hd]
  iexists _
  iexact Hf

/-- A slot's copy out awaited. -/
theorem out_wait {α : Type} {offd : Fin 5 → ℕ} {offs : Fin 4 → ℕ} {offm : Fin 2 → ℕ} {inbd inbs inbm hr hrd hss hsq hsq' h1 h2}
    {k : PUnit → Prog (TpuEff nD τ sig (Elt F) Λ₀ .tc) α} {Q : α → sProp (Mk F)}
    (s : Fin 8) (n : ℕ) (hn : 8 ≤ n) (hm : offm = ![o.val, s.val]) :
    iprop(outSt R c mo o f s n ∗ owesNone (c : Thread nD τ)) ⊢ iprop((iprop(outFree (F := F) R c o s ∗ pairOwn c mo (n - 8) (outG f) ∗ owesNone (c : Thread nD τ)) -∗ Wp c (k ⟨⟩) Q)
      -∗ Wp c (.op (.waitDma2 ((R.a29.slice (Rect.unit (s := S3x8) offm S1x1.size inbm)).squeeze S_ hsq').sem ((R.a28.slice (Rect.unit (s := S3x8x16x128) offs S1x1x16x128.size inbs) hr).squeeze S16x128 hss)
          ((mo.slice (Rect.unit (s := S12x8x16x8x128) offd S1x1x16x1x128.size inbd) hrd).squeeze S16x128 hsq) h1 h2) k) Q) := by
  have hsem : ((R.a29.slice (Rect.unit (s := S3x8) offm S1x1.size inbm)).squeeze S_ hsq').sem = outSem R o s :=
    sem_ix2 R.a29 o s hm hsq'
  unfold outSt outBusy
  rw [if_neg (show ¬ n < 8 by omega)]
  iintro ⟨⟨%Z, Hf⟩, HO⟩ Hk
  iapply (wp_waitOn Variants.none (c : Thread nD τ) none EC (N := outN mo) hsem rfl) $$ [Hf HO]
  · isplitl [Hf] <;> iassumption
  iintro ⟨⟨Hp, Hs⟩, Hv, HO⟩
  iapply Hk
  isplitl [Hs Hv]
  · unfold outFree
    isplitl [Hs]
    · iexists _; iexact Hs
    · iexact Hv
  isplitl [Hp] <;> iassumption

/-! ### A result's stream: its slots, the pairs done, the pairs to do -/

def doneSet (t : ℕ) : Finset S12x8x16x8x128.Idx := Finset.univ.filter fun i => pairOf i + 8 < t
def todoSet (t : ℕ) : Finset S12x8x16x8x128.Idx := Finset.univ.filter fun i => t ≤ pairOf i
abbrev doneOwn (t : ℕ) : sProp (Mk F) := ownsOn (Val := Elt F) (c : Thread nD τ) mo fullShare (doneSet t) (outG f)
def todoOwn (t : ℕ) : sProp (Mk F) := iprop(∃ Z : S12x8x16x8x128.Idx → F .f32, ownsOn (Val := Elt F) (c : Thread nD τ) mo fullShare (todoSet t) Z)

theorem done_step (t : ℕ) (ht : 8 ≤ t) : iprop(doneOwn c mo f t ∗ pairOwn c mo (t - 8) (outG f)) ⊢ doneOwn c mo f (t + 1) := by
  have e : doneSet (t + 1) = doneSet t ∪ outPair (t - 8) := by
    ext i; simp only [doneSet, outPair, Finset.mem_filter, Finset.mem_univ, true_and, Finset.mem_union]; omega
  unfold doneOwn
  rw [e]
  exact ownsOn_join (Val := Elt F) (c : Thread nD τ) mo fullShare (Finset.disjoint_left.mpr fun i h1 h2 => by
    simp only [doneSet, outPair, Finset.mem_filter, Finset.mem_univ, true_and] at h1 h2; omega) (fun _ _ => rfl) (fun _ _ => rfl)

theorem done_step0 (t : ℕ) (ht : t < 8) : (doneOwn c mo f t : sProp (Mk F)) ⊢ doneOwn c mo f (t + 1) := by
  have e : doneSet (t + 1) = doneSet t := by
    ext i; simp only [doneSet, Finset.mem_filter, Finset.mem_univ, true_and]; omega
  unfold doneOwn
  rw [e]

theorem todo_step (t : ℕ) : todoOwn (F := F) c mo t ⊢ iprop((∃ Z, pairOwn c mo t Z) ∗ todoOwn (F := F) c mo (t + 1)) := by
  have e : todoSet (t + 1) = todoSet t \ outPair t := by
    ext i; simp only [todoSet, outPair, Finset.mem_filter, Finset.mem_univ, true_and, Finset.mem_sdiff]; omega
  have hs : outPair t ⊆ todoSet t := fun i h => by
    simp only [todoSet, outPair, Finset.mem_filter, Finset.mem_univ, true_and] at h ⊢; omega
  unfold todoOwn
  rw [e]
  iintro ⟨%Z, H⟩
  ihave H := (ownsOn_split (Val := Elt F) (c : Thread nD τ) mo fullShare hs Z) $$ H
  icases H with ⟨H1, H2⟩
  isplitl [H1] <;> (iexists Z; iassumption)

/-- The stream before pair `t`. -/
def stream (t : ℕ) : sProp (Mk F) := iprop(bigSep Finset.univ (fun s : Fin 8 => outSt R c mo o f s (slotIx 8 t s.val)) ∗ doneOwn c mo f t ∗ todoOwn (F := F) c mo t)

theorem stream_open (t : ℕ) (s : Fin 8) (hs : s.val = t % 8) : stream R c mo o f t ⊢ iprop(outSt R c mo o f s t ∗ doneOwn c mo f t ∗ (∃ Z, pairOwn c mo t Z)
    ∗ (iprop(outSt R c mo o f s (t + 8) ∗ doneOwn c mo f (t + 1)) -∗ stream R c mo o f (t + 1))) := by
  unfold stream
  iintro ⟨HB, HD, HT⟩
  ihave HB := (bigSep_swap (fun s : Fin 8 => outSt R c mo o f s (slotIx 8 t s.val)) (fun s : Fin 8 => outSt R c mo o f s (slotIx 8 (t + 1) s.val)) s (fun j hj => by
      rw [slotIx_succ_of_ne (by decide) j.isLt (fun h => hj (Fin.ext (h.trans hs.symm)))])) $$ HB
  rw [hs, slotIx_self (by decide), slotIx_succ_self (by decide)]
  icases HB with ⟨HC, HB⟩
  ihave HT := (todo_step c mo t) $$ HT
  icases HT with ⟨HZ, HT⟩
  isplitl [HC]; · iexact HC
  isplitl [HD]; · iexact HD
  isplitl [HZ]; · iexact HZ
  iintro ⟨HC, HD⟩
  ihave HB := HB $$ HC
  isplitl [HB]; · iexact HB
  isplitl [HD] <;> iassumption

/-- The stream after the last pair, `j` of its slots awaited. -/
def drain (j : ℕ) : sProp (Mk F) := iprop(bigSep Finset.univ (fun s : Fin 8 => if s.val < j then outFree (F := F) R c o s else outSt R c mo o f s (768 + s.val)) ∗ doneOwn c mo f (768 + j))

theorem drain_of_stream : stream R c mo o f 768 ⊢ iprop(drain R c mo o f 0 ∗ todoOwn (F := F) c mo 768) := by
  unfold stream drain
  rw [show (fun s : Fin 8 => outSt R c mo o f s (slotIx 8 768 s.val)) = (fun s : Fin 8 => if s.val < 0 then outFree (F := F) R c o s else outSt R c mo o f s (768 + s.val)) from funext fun s => by
    rw [if_neg (Nat.not_lt_zero _)]
    congr 1
    unfold slotIx
    have := s.isLt
    omega]
  iintro ⟨HB, HD, HT⟩
  isplitl [HB HD]
  · isplitl [HB]; · iexact HB
    iexact HD
  iexact HT

theorem drain_wait {α : Type} {offd : Fin 5 → ℕ} {offs : Fin 4 → ℕ} {offm : Fin 2 → ℕ} {inbd inbs inbm hr hrd hss hsq hsq' h1 h2}
    {k : PUnit → Prog (TpuEff nD τ sig (Elt F) Λ₀ .tc) α} {Q : α → sProp (Mk F)}
    (j : ℕ) (hj : j < 8) (hm : offm = ![o.val, j]) :
    iprop(drain R c mo o f j ∗ owesNone (c : Thread nD τ)) ⊢ iprop((iprop(drain R c mo o f (j + 1) ∗ owesNone (c : Thread nD τ)) -∗ Wp c (k ⟨⟩) Q)
      -∗ Wp c (.op (.waitDma2 ((R.a29.slice (Rect.unit (s := S3x8) offm S1x1.size inbm)).squeeze S_ hsq').sem ((R.a28.slice (Rect.unit (s := S3x8x16x128) offs S1x1x16x128.size inbs) hr).squeeze S16x128 hss)
          ((mo.slice (Rect.unit (s := S12x8x16x8x128) offd S1x1x16x1x128.size inbd) hrd).squeeze S16x128 hsq) h1 h2) k) Q) := by
  unfold drain
  iintro ⟨⟨HB, HD⟩, HO⟩ Hk
  ihave HB := (bigSep_swap (fun s : Fin 8 => if s.val < j then outFree (F := F) R c o s else outSt R c mo o f s (768 + s.val)) (fun s : Fin 8 => if s.val < j + 1 then outFree (F := F) R c o s else outSt R c mo o f s (768 + s.val)) ⟨j, hj⟩ (fun i hi => by
      have : i.val ≠ j := fun h => hi (Fin.ext h)
      congr 1
      exact propext (by omega))) $$ HB
  rw [if_neg (show ¬ ((⟨j, hj⟩ : Fin 8).val < j) from Nat.lt_irrefl j), if_pos (show (⟨j, hj⟩ : Fin 8).val < j + 1 from Nat.lt_succ_self j)]
  icases HB with ⟨HC, HB⟩
  iapply (out_wait R c mo o f (offd := offd) (offs := offs) (offm := offm) ⟨j, hj⟩ (768 + j) (by omega) hm) $$ [HC HO]
  · isplitl [HC]; · iexact HC
    iexact HO
  iintro ⟨HC, HP, HO⟩
  iapply Hk
  isplitr [HO]
  · isplitl [HB HC]
    · iapply HB $$ HC
    · iapply (done_step c mo f (768 + j) (by omega)) $$ [HD HP]
      isplitl [HD] <;> iassumption
  iexact HO

end Out

end Cert.Proof.Kernel

end
-- ==== Proof.Values.lean ====
/-
  What a step of the main loop computes from the planes and a chunk: per column, the code's set bits and the weighted
  count of its bits in common with the query's four planes.
-/
module

public import proofs.«01_k».proof.Proof.Loop2
public import Idealize.ShloMosaic.Lib.Pointwise

@[expose] public section

set_option maxRecDepth 16384

noncomputable section

namespace Cert.Proof.Kernel

open Idealize.ShloMosaic Idealize.ShloMosaic.TcCoe
open Cert.Kernel Cert.Kernel.Gen

variable {F : FTy → Type} [FloatOps F]

/-! ## One word's counts -/

/-- The set bits of four words. -/
def pop4 (a b c d : BitVec 32) : BitVec 32 :=
  IntOp.addi (IntOp.addi (IntOp.addi (IntOp.addi 0#32 (IntOp.ctpop a)) (IntOp.ctpop b)) (IntOp.ctpop c)) (IntOp.ctpop d)

/-- The set bits four code words share with plane `p`'s. -/
def and4 (P C : ℕ → BitVec 32) (p : ℕ) : BitVec 32 :=
  pop4 (IntOp.andi (C 0) (P (4 * p))) (IntOp.andi (C 1) (P (4 * p + 1))) (IntOp.andi (C 2) (P (4 * p + 2))) (IntOp.andi (C 3) (P (4 * p + 3)))

def dbl (x y : BitVec 32) : BitVec 32 := IntOp.addi (IntOp.addi x x) y

/-- The four planes' counts weighted by the planes' place values. -/
def ipE (P C : ℕ → BitVec 32) : BitVec 32 := dbl (dbl (dbl (and4 P C 3) (and4 P C 2)) (and4 P C 1)) (and4 P C 0)
def pxE (C : ℕ → BitVec 32) : BitVec 32 := pop4 (C 0) (C 1) (C 2) (C 3)

/-- The sum of eight words. -/
def sum8 (f : ℕ → BitVec 32) : BitVec 32 :=
  IntOp.addi (IntOp.addi (IntOp.addi (IntOp.addi (IntOp.addi (IntOp.addi (IntOp.addi (IntOp.addi 0#32 (f 0)) (f 1)) (f 2)) (f 3)) (f 4)) (f 5)) (f 6)) (f 7)

abbrev V8 : Type := S8x128.Idx → BitVec 32

def ipV (P C : ℕ → V8) : V8 := fun i => ipE (fun q => P q i) (fun k => C k i)
def pxV (C : ℕ → V8) : V8 := fun i => pxE (fun k => C k i)

/-! ## The vectors of a step -/

section Data
variable (D : Inputs F)

/-- Word `x` of the pair's planes, and word `r` of a chunk's column `x` (none past the thirtieth). -/
def planeW (n x : ℕ) : BitVec 32 := atN 0#32 D.pl ![n / 64, x, n % 64]
def codeW (j r x : ℕ) : BitVec 32 := if r < 30 then atN 0#32 D.codes ![r, (D.row (D.pos j).1 + (D.pos j).2 * 4) * 128 + x] else 0#32

def planeV (n q : ℕ) : V8 := fun i => planeW D n (8 * q + (i 0).val)
def codeV (j g k : ℕ) : V8 := fun i => codeW D j (8 * k + (i 0).val) (128 * g + (i 1).val)

def planeRaw (n q : ℕ) : S1x8x128.Idx → BitVec 32 := fun i => atN 0#32 D.pl ![n / 64, 8 * q + (i 1).val, (i 2).val]
def codeRaw (j g k : ℕ) : S1x8x128.Idx → BitVec 32 := fun i => atN 0#32 D.codes ![8 * k + (i 1).val, (D.row (D.pos j).1 + (D.pos j).2 * 4) * 128 + (128 * g + (i 2).val)]
def codeRaw6 (j g : ℕ) : S1x6x128.Idx → BitVec 32 := fun i => atN 0#32 D.codes ![24 + (i 1).val, (D.row (D.pos j).1 + (D.pos j).2 * 4) * 128 + (128 * g + (i 2).val)]

/-- What a step stores for column `l` of its chunk's group `g`. -/
def ipOut (j g l : ℕ) : BitVec 32 := sum8 fun r => ipE (fun q => planeW D (D.pos j).1 (8 * q + r)) (fun k => codeW D j (8 * k + r) (128 * g + l))
def pxOut (j g l : ℕ) : BitVec 32 := sum8 fun r => pxE (fun k => codeW D j (8 * k + r) (128 * g + l))

theorem pay_code (j g k : ℕ) (hk : k < 3) : k0_pay18 (F := F) (codeRaw D j g k) = codeV D j g k := by
  funext i
  obtain ⟨a, b, rfl⟩ : ∃ a b, i = (ix2 a b : S8x128.Idx) := ⟨i 0, i 1, eq_ix2 i⟩
  pointwise [k0_pay18]
  unfold codeRaw codeV codeW
  rw [if_pos (by have : (ix2 a b 0).val = a.val := rfl; omega)]
  rfl

theorem pay_code6 (j g : ℕ) : k0_pay21 (F := F) (broadcast S2x128 0#32) (codeRaw6 D j g) = codeV D j g 3 := by
  funext i
  obtain ⟨a, b, rfl⟩ : ∃ a b, i = (ix2 a b : S8x128.Idx) := ⟨i 0, i 1, eq_ix2 i⟩
  pointwise [k0_pay21]
  unfold codeRaw6 codeV codeW
  split_ifs with h1 h2 h2
  · rfl
  · exact absurd h2 (by have : (ix2 a b 0).val = a.val := rfl; omega)
  · exact absurd h2 (by have : (ix2 a b 0).val = a.val := rfl; omega)
  · rfl

theorem pay_plane (n q : ℕ) (hn : n < 768) : k0_pay2 (F := F) (w n) (planeRaw D n q) = planeV D n q := by
  funext i
  obtain ⟨a, b, rfl⟩ : ∃ a b, i = (ix2 a b : S8x128.Idx) := ⟨i 0, i 1, eq_ix2 i⟩
  have h63 : Scalar.andi (w n) 63#32 = w (n % 64) := andi_w (by omega) 63#32 6 rfl
  have hm : n % 64 < 64 := Nat.mod_lt _ (by decide)
  have hc : IntOp.cmpi .slt (w (n % 64)) 0#32 = 0#1 := (slt_w (b := 0) (by omega) (by decide)).trans (if_neg (by omega))
  pointwise [k0_pay2, k0_pay1]
  simp only [h63, hc]
  show planeRaw D n q (ix3 0 a ⟨(w (n % 64)).toNat % 128, _⟩) = _
  unfold planeRaw planeV planeW
  refine atN_congr _ _ fun x => ?_
  fin_cases x
  · rfl
  · rfl
  · show (w (n % 64)).toNat % 128 = n % 64
    rw [toNat_w (by omega), Nat.mod_eq_of_lt (by omega)]

end Data

/-! ## The four groups -/

section Groups
variable (p0 p1 p2 p3 p4 p5 p6 p7 p8 p9 p10 p11 p12 p13 p14 p15 : V8) (v2 : IVec S2x128 32) (L0 L1 L2 : Vec F S1x8x128 .i32) (L3 : Vec F S1x6x128 .i32)

abbrev pick16 (p0 p1 p2 p3 p4 p5 p6 p7 p8 p9 p10 p11 p12 p13 p14 p15 : V8) : ℕ → V8
  | 0 => p0 | 1 => p1 | 2 => p2 | 3 => p3 | 4 => p4 | 5 => p5 | 6 => p6 | 7 => p7
  | 8 => p8 | 9 => p9 | 10 => p10 | 11 => p11 | 12 => p12 | 13 => p13 | 14 => p14 | _ => p15
abbrev pick4 (c0 c1 c2 c3 : V8) : ℕ → V8
  | 0 => c0 | 1 => c1 | 2 => c2 | _ => c3

theorem ip_g0 : k0_pay26 (k0_pay24 p0 p1 p2 p3 (k0_pay18 L0) (k0_pay19 L1) (k0_pay20 L2) (k0_pay21 v2 L3))
    (k0_pay25 p4 p5 p6 p7 p8 p9 p10 p11 p13 p14 p15 (k0_pay18 L0) (k0_pay19 L1) (k0_pay20 L2) (k0_pay21 v2 L3) (k0_pay23 p12 L0)) = ipV (pick16 p0 p1 p2 p3 p4 p5 p6 p7 p8 p9 p10 p11 p12 p13 p14 p15) (pick4 (k0_pay18 L0) (k0_pay18 L1) (k0_pay18 L2) (k0_pay21 v2 L3)) := by
  unfold k0_pay26
  exact shapeCast_id _ _

theorem px_g0 : k0_pay27 (k0_pay22 v2 L0 L1 L2 L3) = pxV (pick4 (k0_pay18 L0) (k0_pay18 L1) (k0_pay18 L2) (k0_pay21 v2 L3)) := by
  unfold k0_pay27
  exact shapeCast_id _ _

theorem ip_g1 : k0_pay35 p0 p1 p2 p3 p4 p5 p6 p7 p9 p10 p11 (k0_pay28 L0) (k0_pay29 L1) (k0_pay30 L2) (k0_pay31 v2 L3)
    (k0_pay33 v2 p12 p13 p14 p15 L0 L1 L2 L3) (k0_pay34 p8 L0) = ipV (pick16 p0 p1 p2 p3 p4 p5 p6 p7 p8 p9 p10 p11 p12 p13 p14 p15) (pick4 (k0_pay18 L0) (k0_pay18 L1) (k0_pay18 L2) (k0_pay21 v2 L3)) := by
  unfold k0_pay35
  exact shapeCast_id _ _

theorem px_g1 : k0_pay36 (k0_pay32 v2 L0 L1 L2 L3) = pxV (pick4 (k0_pay18 L0) (k0_pay18 L1) (k0_pay18 L2) (k0_pay21 v2 L3)) := by
  unfold k0_pay36
  exact shapeCast_id _ _

theorem ip_g2 : k0_pay44 p0 p1 p2 p3 p5 p6 p7 (k0_pay37 L0) (k0_pay38 L1) (k0_pay39 L2) (k0_pay40 v2 L3)
    (k0_pay42 v2 p8 p9 p10 p11 p12 p13 p14 p15 L0 L1 L2 L3) (k0_pay43 p4 L0) = ipV (pick16 p0 p1 p2 p3 p4 p5 p6 p7 p8 p9 p10 p11 p12 p13 p14 p15) (pick4 (k0_pay18 L0) (k0_pay18 L1) (k0_pay18 L2) (k0_pay21 v2 L3)) := by
  unfold k0_pay44
  exact shapeCast_id _ _

theorem px_g2 : k0_pay45 (k0_pay41 v2 L0 L1 L2 L3) = pxV (pick4 (k0_pay18 L0) (k0_pay18 L1) (k0_pay18 L2) (k0_pay21 v2 L3)) := by
  unfold k0_pay45
  exact shapeCast_id _ _

theorem ip_g3 : k0_pay52 p0 p1 p2 p3 (k0_pay46 L0) (k0_pay47 L1) (k0_pay48 L2) (k0_pay49 v2 L3)
    (k0_pay51 v2 p4 p5 p6 p7 p8 p9 p10 p11 p12 p13 p14 p15 (k0_pay46 L0) (k0_pay47 L1) (k0_pay48 L2) L3) = ipV (pick16 p0 p1 p2 p3 p4 p5 p6 p7 p8 p9 p10 p11 p12 p13 p14 p15) (pick4 (k0_pay18 L0) (k0_pay18 L1) (k0_pay18 L2) (k0_pay21 v2 L3)) := by
  unfold k0_pay52
  exact shapeCast_id _ _

theorem px_g3 : k0_pay53 (k0_pay50 v2 (k0_pay46 L0) (k0_pay47 L1) (k0_pay48 L2) L3) = pxV (pick4 (k0_pay18 L0) (k0_pay18 L1) (k0_pay18 L2) (k0_pay21 v2 L3)) := by
  unfold k0_pay53
  exact shapeCast_id _ _

end Groups

/-! ## The lanes' sums -/

/-- The scratch the counts are staged in: eight vectors, one over the other. -/
def redA (V : ℕ → V8) : S64x128.Idx → BitVec 32 := fun i => V ((i 0).val / 8) (ix2 ⟨(i 0).val % 8, Nat.mod_lt _ (by decide)⟩ (i 1))

/-- One row of each of the eight. -/
def redRow (V : ℕ → V8) (s : Fin 8) : V8 := fun i => V (i 0).val (ix2 s (i 1))

theorem sum_ip (V : ℕ → V8) (i : S4x128.Idx) :
    k0_pay56 (F := F) (k0_pay54 (F := F) (redRow V 0) (redRow V 1) (redRow V 2) (redRow V 3) (redRow V 4) (redRow V 5) (redRow V 6)) (redRow V 7) i
      = sum8 fun r => if h : r < 8 then V (i 0).val (ix2 ⟨r, h⟩ (i 1)) else 0#32 := by
  have h4 : (i 0).val < 4 := (i 0).isLt
  unfold k0_pay56
  rw [shapeCast_id]
  refine (extractStridedSlice_apply ![0, 0] _ slices_S8x128_o0_0_S4x128 i (ix2 ⟨0 + (i 0).val, by omega⟩ (i 1)) (fun x => by
    fin_cases x
    · rfl
    · exact (Nat.zero_add _).symm)).trans ?_
  simp only [Nat.zero_add]
  rfl

theorem sum_px (V : ℕ → V8) (i : S4x128.Idx) :
    k0_pay57 (F := F) (k0_pay54 (F := F) (redRow V 0) (redRow V 1) (redRow V 2) (redRow V 3) (redRow V 4) (redRow V 5) (redRow V 6)) (redRow V 7) i
      = sum8 fun r => if h : r < 8 then V (4 + (i 0).val) (ix2 ⟨r, h⟩ (i 1)) else 0#32 := by
  have h4 : (i 0).val < 4 := (i 0).isLt
  unfold k0_pay57
  rw [shapeCast_id]
  refine (extractStridedSlice_apply ![4, 0] _ slices_S8x128_o4_0_S4x128 i (ix2 ⟨4 + (i 0).val, by omega⟩ (i 1)) (fun x => by
    fin_cases x
    · rfl
    · exact (Nat.zero_add _).symm)).trans ?_
  rfl

end Cert.Proof.Kernel

end
-- ==== Proof.Step.lean ====
/-
  The reads and writes of one step of the third loop: the planes of the step's pair, the codes of its chunk, and the
  array of half sums.
-/
module

public import proofs.«01_k».proof.Proof.Values

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (R : Refs) (D : Inputs F) (c : Dev nD)

/-- A program run and then the rest of it. -/
theorem wp_call {α β : Type} {P : sProp (Mk F)} {p : Prog (TpuEff nD τ sig (Elt F) Λ₀ .tc) α} {Φ : α → sProp (Mk F)}
    {k : α → Prog (TpuEff nD τ sig (Elt F) Λ₀ .tc) β} {Q : β → sProp (Mk F)} (h : P ⊢ Wp c p Φ) :
    P ⊢ iprop((∀ a, Φ a -∗ Wp c (k a) Q) -∗ Wp c (p >>= k) Q) := by
  show P ⊢ iprop((∀ a, Φ a -∗ Wp c (k a) Q) -∗ wp frame (wpE (defs₀ (F := F)) Variants.none (c : Thread nD τ) none) Set.univ (p >>= k) Q)
  rw [wp_bind]
  iintro H Hk
  ihave H := h $$ H
  iapply (wp_wand_r (Fr := frame) (wpE := wpE (defs₀ (F := F)) Variants.none (c : Thread nD τ) none) (E := Set.univ))
  isplitl [H] <;> iassumption

theorem sh6 {n : ℕ} (hn : n < 768) : (Scalar.shrsi (w n) 6#32).toNat = n / 64 := by
  rw [show (6#32 : BitVec 32) = w 6 from rfl, shrsi_w (by omega) 6 (by decide), toNat_w (by omega)]; rfl
theorem slotW {k : ℕ} (hk : k < 2 ^ 31) : (Scalar.andi (Scf.iv 0#32 1#32 k) 15#32).toNat = k % 16 := by
  rw [iv_w, andi_w hk 15#32 4 rfl, toNat_w (by omega)]; rfl

/-- Eight rows of a pair's planes. -/
theorem plane_load {α : Type} {off : Fin 3 → ℕ} {inb hl} {k : (S1x8x128.Idx → BitVec 32) → Prog (TpuEff nD τ sig (Elt F) Λ₀ .tc) α} {Q : α → sProp (Mk F)}
    (n q : ℕ) (ho : off = ![n / 64, 8 * q, 0]) :
    own (F := F) c R.a7 D.pl ⊢ iprop((own (F := F) c R.a7 D.pl -∗ Wp c (k (planeRaw D n q)) Q)
      -∗ Wp c (.op (.load R.a7 (Rect.unit (s := S12x128x128) off S1x8x128.size inb).toLoadRect hl) k) Q) := by
  iintro H Hk
  iapply (wp_loadOn Variants.none (c : Thread nD τ) none (m := R.a7) (r := (Rect.unit (s := S12x128x128) off S1x8x128.size inb).toLoadRect) (Finset.subset_univ _)) $$ H
  iintro %v %hv H
  subst hv
  rw [show (fun j => D.pl ((Rect.unit (s := S12x128x128) off S1x8x128.size inb).toLoadRect.idx j)) = planeRaw D n q from funext fun j => by
    subst ho
    obtain ⟨x0, x1, x2, rfl⟩ : ∃ x0 x1 x2, j = (ix3 x0 x1 x2 : S1x8x128.Idx) := ⟨j 0, j 1, j 2, eq_ix3 j⟩
    exact atN_emb 0#32 D.pl (Rect.unit (s := S12x128x128) ![n / 64, 8 * q, 0] S1x8x128.size inb) (ix3 x0 x1 x2) (v := ![n / 64, 8 * q + x1.val, x2.val]) (fun a => by
      fin_cases a
      · show n / 64 = n / 64 + 1 * x0.val; omega
      · show 8 * q + x1.val = 8 * q + 1 * x1.val; omega
      · show x2.val = 0 + 1 * x2.val; omega)]
  iapply Hk $$ H

/-- Eight rows of a slot's chunk. -/
theorem code_load {α : Type} {off : Fin 3 → ℕ} {inb hl} {k : (S1x8x128.Idx → BitVec 32) → Prog (TpuEff nD τ sig (Elt F) Λ₀ .tc) α} {Q : α → sProp (Mk F)}
    (s : Fin 16) (j g r : ℕ) (hr : r < 3) (hg : g < 4) (ho : off = ![s.val, 8 * r, 128 * g]) :
    codeOwn (F := F) R c s (chunk D j) ⊢ iprop((codeOwn (F := F) R c s (chunk D j) -∗ Wp c (k (codeRaw D j g r)) Q)
      -∗ Wp c (.op (.load R.a18 (Rect.unit (s := S16x30x512) off S1x8x128.size inb).toLoadRect hl) k) Q) := by
  iintro H Hk
  iapply (wp_loadOn Variants.none (c : Thread nD τ) none (m := R.a18) (r := (Rect.unit (s := S16x30x512) off S1x8x128.size inb).toLoadRect) (A := codeSlot s.val)
    (fun i hi => mem_codeSlot.mpr (by
      subst ho
      have h0 := (Rect.mem_set_unit.mp hi) 0
      have h1 : s.val ≤ (i 0).val ∧ (i 0).val < s.val + 1 := h0
      omega))) $$ H
  iintro %v %hv H
  subst hv
  rw [show (fun i => chunk D j ((Rect.unit (s := S16x30x512) off S1x8x128.size inb).toLoadRect.idx i)) = codeRaw D j g r from funext fun i => by
    subst ho
    obtain ⟨x0, x1, x2, rfl⟩ : ∃ x0 x1 x2, i = (ix3 x0 x1 x2 : S1x8x128.Idx) := ⟨i 0, i 1, i 2, eq_ix3 i⟩
    unfold chunk codeRaw
    refine atN_congr _ _ fun a => ?_
    fin_cases a
    · show 8 * r + 1 * x1.val = 8 * r + x1.val; omega
    · show (D.row (D.pos j).1 + (D.pos j).2 * 4) * 128 + (128 * g + 1 * x2.val) = (D.row (D.pos j).1 + (D.pos j).2 * 4) * 128 + (128 * g + x2.val); omega]
  iapply Hk $$ H

/-- Its last six rows. -/
theorem code_load6 {α : Type} {off : Fin 3 → ℕ} {inb hl} {k : (S1x6x128.Idx → BitVec 32) → Prog (TpuEff nD τ sig (Elt F) Λ₀ .tc) α} {Q : α → sProp (Mk F)}
    (s : Fin 16) (j g : ℕ) (hg : g < 4) (ho : off = ![s.val, 24, 128 * g]) :
    codeOwn (F := F) R c s (chunk D j) ⊢ iprop((codeOwn (F := F) R c s (chunk D j) -∗ Wp c (k (codeRaw6 D j g)) Q)
      -∗ Wp c (.op (.load R.a18 (Rect.unit (s := S16x30x512) off S1x6x128.size inb).toLoadRect hl) k) Q) := by
  iintro H Hk
  iapply (wp_loadOn Variants.none (c : Thread nD τ) none (m := R.a18) (r := (Rect.unit (s := S16x30x512) off S1x6x128.size inb).toLoadRect) (A := codeSlot s.val)
    (fun i hi => mem_codeSlot.mpr (by
      subst ho
      have h0 := (Rect.mem_set_unit.mp hi) 0
      have h1 : s.val ≤ (i 0).val ∧ (i 0).val < s.val + 1 := h0
      omega))) $$ H
  iintro %v %hv H
  subst hv
  rw [show (fun i => chunk D j ((Rect.unit (s := S16x30x512) off S1x6x128.size inb).toLoadRect.idx i)) = codeRaw6 D j g from funext fun i => by
    subst ho
    obtain ⟨x0, x1, x2, rfl⟩ : ∃ x0 x1 x2, i = (ix3 x0 x1 x2 : S1x6x128.Idx) := ⟨i 0, i 1, i 2, eq_ix3 i⟩
    unfold chunk codeRaw6
    refine atN_congr _ _ fun a => ?_
    fin_cases a
    · show 24 + 1 * x1.val = 24 + x1.val; omega
    · show (D.row (D.pos j).1 + (D.pos j).2 * 4) * 128 + (128 * g + 1 * x2.val) = (D.row (D.pos j).1 + (D.pos j).2 * 4) * 128 + (128 * g + x2.val); omega]
  iapply Hk $$ H

/-- A load whose value is not used. -/
theorem dead_load {sh : Shape} {α : Type} {m : Memref sig .tc .vmem sh .i32} {X : sh.Idx → BitVec 32} {r : LoadRect sh} {hl}
    {k : (r.shape.Idx → BitVec 32) → Prog (TpuEff nD τ sig (Elt F) Λ₀ .tc) α} {Q : α → sProp (Mk F)} :
    own (F := F) c m X ⊢ iprop((∀ v, own (F := F) c m X -∗ Wp c (k v) Q) -∗ Wp c (.op (.load m r hl) k) Q) := by
  iintro H Hk
  iapply (wp_loadOn Variants.none (c : Thread nD τ) none (m := m) (r := r) (Finset.subset_univ _)) $$ H
  iintro %v %hv H
  iapply Hk $$ %v H

/-- Eight rows of the half sums written. -/
theorem red_store {α : Type} {off : Fin 2 → ℕ} {inb hx hm} {val : V8} {k : PUnit → Prog (TpuEff nD τ sig (Elt F) Λ₀ .tc) α} {Q : α → sProp (Mk F)}
    (V : ℕ → V8) (q : ℕ) (ho : off = ![8 * q, 0]) :
    own (F := F) c R.a20 (redA V) ⊢ iprop((own (F := F) c R.a20 (redA (Function.update V q val)) -∗ Wp c (k ⟨⟩) Q)
      -∗ Wp c (.op (.store R.a20 (Rect.unit (s := S64x128) off S8x128.size inb) val Finset.univ hx hm) k) Q) := by
  subst ho
  iintro H Hk
  iapply (wp_storeOn Variants.none (c : Thread nD τ) none (m := R.a20) (r := Rect.unit (s := S64x128) ![8 * q, 0] S8x128.size inb) (w := val) (hx := hx) (hm := hm) (Finset.subset_univ _)
    (redA (Function.update V q val)) (fun j => by
      obtain ⟨x0, x1, rfl⟩ : ∃ x0 x1, j = (ix2 x0 x1 : S8x128.Idx) := ⟨j 0, j 1, eq_ix2 j⟩
      show Function.update V q val ((8 * q + 1 * x0.val) / 8) (ix2 ⟨(8 * q + 1 * x0.val) % 8, _⟩ ⟨0 + 1 * x1.val, _⟩) = val (ix2 x0 x1)
      have hx0 : x0.val < 8 := x0.isLt
      rw [show (8 * q + 1 * x0.val) / 8 = q by omega, Function.update_self]
      refine congrArg val (congrArg₂ ix2 (Fin.ext ?_) (Fin.ext ?_))
      · show (8 * q + 1 * x0.val) % 8 = x0.val; omega
      · show 0 + 1 * x1.val = x1.val; omega)
    (fun i _ hi => by
      unfold redA
      rw [Function.update_of_ne]
      intro h
      refine hi (Rect.mem_set_unit.mpr fun a => ?_)
      fin_cases a
      · show 8 * q ≤ (i 0).val ∧ (i 0).val < 8 * q + 8; omega
      · exact ⟨Nat.zero_le _, lt_of_lt_of_eq (i 1).isLt (Nat.zero_add _).symm⟩)) $$ H
  iexact Hk

/-- Row `s` of every group's half sums. -/
theorem red_load {α : Type} (V : ℕ → V8) (s : Fin 8) {off : Fin 2 → ℕ} {inb} {hl : R.a20.view.LoadsAt (⟨off, S8x128.size, ![8, 1], inb⟩ : LoadRect S64x128)}
    {k : V8 → Prog (TpuEff nD τ sig (Elt F) Λ₀ .tc) α} {Q : α → sProp (Mk F)} (ho : off = ![s.val, 0]) :
    own (F := F) c R.a20 (redA V) ⊢ iprop((own (F := F) c R.a20 (redA V) -∗ Wp c (k (redRow V s)) Q)
      -∗ Wp c (.op (.load R.a20 (⟨off, S8x128.size, ![8, 1], inb⟩ : LoadRect S64x128) hl) k) Q) := by
  subst ho
  iintro H Hk
  iapply (wp_loadOn Variants.none (c : Thread nD τ) none (m := R.a20) (r := (⟨![s.val, 0], S8x128.size, ![8, 1], inb⟩ : LoadRect S64x128)) (Finset.subset_univ _)) $$ H
  iintro %v %hv H
  subst hv
  rw [show (fun j => redA V ((⟨![s.val, 0], S8x128.size, ![8, 1], inb⟩ : LoadRect S64x128).idx j)) = redRow V s from funext fun j => by
    obtain ⟨x0, x1, rfl⟩ : ∃ x0 x1, j = (ix2 x0 x1 : S8x128.Idx) := ⟨j 0, j 1, eq_ix2 j⟩
    show V ((s.val + 8 * x0.val) / 8) (ix2 ⟨(s.val + 8 * x0.val) % 8, _⟩ ⟨0 + 1 * x1.val, _⟩) = V x0.val (ix2 s x1)
    have hs := s.isLt
    rw [show (s.val + 8 * x0.val) / 8 = x0.val by omega]
    refine congrArg (V x0.val) (congrArg₂ ix2 (Fin.ext ?_) (Fin.ext ?_))
    · show (s.val + 8 * x0.val) % 8 = s.val; omega
    · show 0 + 1 * x1.val = x1.val; omega]
  iapply Hk $$ H

end Cert.Proof.Kernel

end
-- ==== Proof.Roll.lean ====
/-
  Aligning a pair's columns. A cluster starts part way into a row of 128 columns: the kernel rotates each block of eight
  rows along its lanes, lays three rotated blocks under each other in a scratch, and takes a lane from a row or from the
  row below it as it did not or did come around the end.
-/
module

public import proofs.«01_k».proof.Proof.Rings
public import proofs.«01_k».proof.Proof.Step
public import Idealize.ShloMosaic.Lib.KernelVsHost

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F] (R : Refs) (D : Inputs F) (c : Dev nD)

abbrev Blk (α : Type) := S8x128.Idx → α

/-- A block under a leading axis of one, and without it. -/
def up3 {α : Type} (x : Blk α) : S1x8x128.Idx → α := fun j => x (ix2 (j 1) (j 2))
def dn3 {α : Type} (y : S1x8x128.Idx → α) : Blk α := fun i => y (ix3 (0 : Fin 1) (i 0) (i 1))

theorem dn3_up3 {α : Type} (x : Blk α) : dn3 (up3 x) = x := funext fun i => congrArg x (eq_ix2 i).symm
theorem cast_up {α : Type} (x : Blk α) (h) : shapeCast S1x8x128 x h = up3 x := funext fun j => by
  obtain ⟨j0, j1, j2, rfl⟩ : ∃ j0 j1 j2, j = (ix3 j0 j1 j2 : S1x8x128.Idx) := ⟨j 0, j 1, j 2, eq_ix3 j⟩
  refine congrArg x (Shape.reshapeEquiv_eq_of_rowMajor _ ?_)
  rw [Shape.rowMajor_val_three, Shape.rowMajor_val_two]
  have h0 : j0.val < 1 := j0.isLt
  show j1.val * 128 + j2.val = (j0.val * 8 + j1.val) * 128 + j2.val
  omega
theorem cast_dn {α : Type} (y : S1x8x128.Idx → α) (h) : shapeCast S8x128 y h = dn3 y := funext fun i => by
  obtain ⟨i0, i1, rfl⟩ : ∃ i0 i1, i = (ix2 i0 i1 : S8x128.Idx) := ⟨i 0, i 1, eq_ix2 i⟩
  refine congrArg y (Shape.reshapeEquiv_eq_of_rowMajor _ ?_)
  rw [Shape.rowMajor_val_three, Shape.rowMajor_val_two]
  show (0 * 8 + i0.val) * 128 + i1.val = i0.val * 128 + i1.val
  omega
theorem cast_up4 {α : Type} (x : Blk α) (h) : shapeCast S1x1x8x128 x h = fun j => x (ix2 (j 2) (j 3)) := funext fun j => by
  refine congrArg x (Shape.reshapeEquiv_eq_of_rowMajor _ ?_)
  rw [Shape.rowMajor_val_four, Shape.rowMajor_val_two]
  have h0 : (j 0).val < 1 := (j 0).isLt
  have h1 : (j 1).val < 1 := (j 1).isLt
  show (j 2).val * 128 + (j 3).val = (((j 0).val * 1 + (j 1).val) * 8 + (j 2).val) * 128 + (j 3).val
  omega

/-! ## The scratch -/

/-- Three slabs of three blocks: block `q` of slab `s` is `V (3 * s + q)`. -/
def rollA {α : Type} (V : ℕ → Blk α) : S3x24x128.Idx → α := fun i => V (3 * (i 0).val + (i 1).val / 8) (ix2 ⟨(i 1).val % 8, Nat.mod_lt _ (by decide)⟩ (i 2))
/-- Eight rows of slab `s` from row `r`. -/
def rollRow {α : Type} (V : ℕ → Blk α) (s r : ℕ) : S1x8x128.Idx → α := fun j => V (3 * s + (r + (j 1).val) / 8) (ix2 ⟨(r + (j 1).val) % 8, Nat.mod_lt _ (by decide)⟩ (j 2))

theorem rollA_eq {α : Type} (X : S3x24x128.Idx → α) : ∃ V, X = rollA V := by
  refine ⟨fun n i => X (ix3 ⟨n / 3 % 3, Nat.mod_lt _ (by decide)⟩ ⟨8 * (n % 3) + (i 0).val, ?_⟩ (i 1)), funext fun i => ?_⟩
  · have h0 : (i 0).val < 8 := (i 0).isLt
    show 8 * (n % 3) + (i 0).val < 24
    omega
  · obtain ⟨i0, i1, i2, rfl⟩ : ∃ i0 i1 i2, i = (ix3 i0 i1 i2 : S3x24x128.Idx) := ⟨i 0, i 1, i 2, eq_ix3 i⟩
    have h0 : i0.val < 3 := i0.isLt
    have h1 : i1.val < 24 := i1.isLt
    refine congrArg X ?_
    refine congrFun (congrArg₂ ix3 (Fin.ext ?_) (Fin.ext ?_)) i2
    · show i0.val = (3 * i0.val + i1.val / 8) / 3 % 3; omega
    · show i1.val = 8 * ((3 * i0.val + i1.val / 8) % 3) + i1.val % 8; omega

theorem dead_loadF {sh : Shape} {e : EltTy} {α : Type} {m : Memref sig .tc .vmem sh e} {A : Finset sh.Idx} {X : sh.Idx → Elt F e} {r : LoadRect sh} (hA : r.set ⊆ A) {hl}
    {k : (r.shape.Idx → Elt F e) → Prog (TpuEff nD τ sig (Elt F) Λ₀ .tc) α} {Q : α → sProp (Mk F)} :
    ownsOn (Val := Elt F) (c : Thread nD τ) m fullShare A X ⊢ iprop((∀ v, ownsOn (Val := Elt F) (c : Thread nD τ) m fullShare A X -∗ Wp c (k v) Q) -∗ Wp c (.op (.load m r hl) k) Q) := by
  iintro H Hk
  iapply (wp_loadOn Variants.none (c : Thread nD τ) none (m := m) (r := r) hA) $$ H
  iintro %v %hv H
  iapply Hk $$ %v H

theorem roll_store {e : EltTy} {α : Type} {m : Memref sig .tc .vmem S3x24x128 e} {off : Fin 3 → ℕ} {inb hx hm} {val : S1x8x128.Idx → Elt F e} {k : PUnit → Prog (TpuEff nD τ sig (Elt F) Λ₀ .tc) α} {Q : α → sProp (Mk F)}
    (V : ℕ → Blk (Elt F e)) (s q : ℕ) (hq : q < 3) (ho : off = ![s, 8 * q, 0]) :
    own (F := F) c m (rollA V) ⊢ iprop((own (F := F) c m (rollA (Function.update V (3 * s + q) (dn3 val))) -∗ Wp c (k ⟨⟩) Q)
      -∗ Wp c (.op (.store m (Rect.unit (s := S3x24x128) off S1x8x128.size inb) val Finset.univ hx hm) k) Q) := by
  subst ho
  iintro H Hk
  iapply (wp_storeOn Variants.none (c : Thread nD τ) none (m := m) (r := Rect.unit (s := S3x24x128) ![s, 8 * q, 0] S1x8x128.size inb) (w := val) (hx := hx) (hm := hm) (Finset.subset_univ _)
    (rollA (Function.update V (3 * s + q) (dn3 val))) (fun j => by
      obtain ⟨x0, x1, x2, rfl⟩ : ∃ x0 x1 x2, j = (ix3 x0 x1 x2 : S1x8x128.Idx) := ⟨j 0, j 1, j 2, eq_ix3 j⟩
      show Function.update V (3 * s + q) (dn3 val) (3 * (s + 1 * x0.val) + (8 * q + 1 * x1.val) / 8) (ix2 ⟨(8 * q + 1 * x1.val) % 8, _⟩ ⟨0 + 1 * x2.val, _⟩) = val (ix3 x0 x1 x2)
      have hx0 : x0.val < 1 := x0.isLt
      have hx1 : x1.val < 8 := x1.isLt
      rw [show 3 * (s + 1 * x0.val) + (8 * q + 1 * x1.val) / 8 = 3 * s + q by omega, Function.update_self]
      refine congrArg val (funext fun a => Fin.ext ?_)
      fin_cases a
      · show 0 = x0.val; omega
      · show (8 * q + 1 * x1.val) % 8 = x1.val; omega
      · show 0 + 1 * x2.val = x2.val; omega)
    (fun i _ hi => by
      unfold rollA
      rw [Function.update_of_ne]
      intro h
      have h1 : (i 1).val < 24 := (i 1).isLt
      refine hi (Rect.mem_set_unit.mpr fun a => ?_)
      fin_cases a
      · show s ≤ (i 0).val ∧ (i 0).val < s + 1; omega
      · show 8 * q ≤ (i 1).val ∧ (i 1).val < 8 * q + 8; omega
      · exact ⟨Nat.zero_le _, lt_of_lt_of_eq (i 2).isLt (Nat.zero_add _).symm⟩)) $$ H
  iintro H
  iapply Hk $$ H

theorem roll_load {e : EltTy} {α : Type} {m : Memref sig .tc .vmem S3x24x128 e} {off : Fin 3 → ℕ} {inb hl} {k : (S1x8x128.Idx → Elt F e) → Prog (TpuEff nD τ sig (Elt F) Λ₀ .tc) α} {Q : α → sProp (Mk F)}
    (V : ℕ → Blk (Elt F e)) (s r : ℕ) (ho : off = ![s, r, 0]) :
    own (F := F) c m (rollA V) ⊢ iprop((own (F := F) c m (rollA V) -∗ Wp c (k (rollRow V s r)) Q)
      -∗ Wp c (.op (.load m (Rect.unit (s := S3x24x128) off S1x8x128.size inb).toLoadRect hl) k) Q) := by
  iintro H Hk
  iapply (wp_loadOn Variants.none (c : Thread nD τ) none (m := m) (r := (Rect.unit (s := S3x24x128) off S1x8x128.size inb).toLoadRect) (Finset.subset_univ _)) $$ H
  iintro %v %hv H
  subst hv
  rw [show (fun j => rollA V ((Rect.unit (s := S3x24x128) off S1x8x128.size inb).toLoadRect.idx j)) = rollRow V s r from funext fun j => by
    subst ho
    obtain ⟨x0, x1, x2, rfl⟩ : ∃ x0 x1 x2, j = (ix3 x0 x1 x2 : S1x8x128.Idx) := ⟨j 0, j 1, j 2, eq_ix3 j⟩
    have hx0 : x0.val < 1 := x0.isLt
    show V (3 * (s + 1 * x0.val) + (r + 1 * x1.val) / 8) (ix2 ⟨(r + 1 * x1.val) % 8, _⟩ ⟨0 + 1 * x2.val, _⟩) = V (3 * s + (r + x1.val) / 8) (ix2 ⟨(r + x1.val) % 8, _⟩ x2)
    rw [show 3 * (s + 1 * x0.val) + (r + 1 * x1.val) / 8 = 3 * s + (r + x1.val) / 8 by omega]
    refine congrArg (V _) (congrArg₂ ix2 (Fin.ext ?_) (Fin.ext ?_))
    · show (r + 1 * x1.val) % 8 = (r + x1.val) % 8; omega
    · show 0 + 1 * x2.val = x2.val; omega]
  iapply Hk $$ H

/-! ## What the aligned blocks hold -/

/-- Block `q` of a run of columns, and a block rotated `off` lanes down. -/
def blk {α : Type} (f : ℕ → α) (q : ℕ) : Blk α := fun i => f (128 * (8 * q + (i 0).val) + (i 1).val)
def rot {α : Type} (off : ℕ) (x : Blk α) : Blk α := fun i => x (ix2 (i 0) ⟨((i 1).val + off) % 128, Nat.mod_lt _ (by decide)⟩)
/-- Block `h` of the run starting `off` columns in. -/
def flat {α : Type} (f : ℕ → α) (off h : ℕ) : Blk α := fun i => f (off + (128 * (8 * h + (i 0).val) + (i 1).val))

theorem rotate_w {α : Type} {off : ℕ} (ho : off < 128) (x : Blk α) (h) : dynamicRotate 1 (w (128 - off)) none x h = rot off x := funext fun i => by
  refine Idealize.ShloMosaic.dynamicRotate_apply 1 _ x h i _ fun b => ?_
  have h1 : (i 1).val < 128 := (i 1).isLt
  rw [toNat_w (by omega)]
  fin_cases b
  · rfl
  · show ((i 1).val + off) % 128 = ((i 1).val + 128 - (128 - off) % 128) % 128
    omega

theorem aligned {α : Type} (f : ℕ → α) {off : ℕ} (ho : off < 128) (V : ℕ → Blk α) (s h : ℕ) (hh : h < 2) (hV : ∀ q < 3, V (3 * s + q) = rot off (blk f q)) :
    select (cmpi .slt (iota .tc S8x128 32 [1] iota_S8x128_d1_w32) (broadcast S8x128 (w (128 - off)))) (dn3 (rollRow V s (8 * h))) (dn3 (rollRow V s (8 * h + 1))) = flat f off h := by
  funext i
  obtain ⟨a, l, rfl⟩ : ∃ a l, i = (ix2 a l : S8x128.Idx) := ⟨i 0, i 1, eq_ix2 i⟩
  have ha : a.val < 8 := a.isLt
  have hl : l.val < 128 := l.isLt
  have e : select (cmpi .slt (iota .tc S8x128 32 [1] iota_S8x128_d1_w32) (broadcast S8x128 (w (128 - off)))) (dn3 (rollRow V s (8 * h))) (dn3 (rollRow V s (8 * h + 1))) (ix2 a l)
      = Scalar.select (Scalar.cmpi .slt (w l.val) (w (128 - off))) (dn3 (rollRow V s (8 * h)) (ix2 a l)) (dn3 (rollRow V s (8 * h + 1)) (ix2 a l)) := by
    pointwise
    rfl
  rw [e, slt_w (by omega) (by omega), select_ite]
  unfold flat
  split_ifs with hc
  · show V (3 * s + (8 * h + a.val) / 8) (ix2 ⟨(8 * h + a.val) % 8, _⟩ l) = f (off + (128 * (8 * h + a.val) + l.val))
    rw [hV _ (by omega)]
    show f (128 * (8 * ((8 * h + a.val) / 8) + (8 * h + a.val) % 8) + (l.val + off) % 128) = _
    congr 1
    omega
  · show V (3 * s + (8 * h + 1 + a.val) / 8) (ix2 ⟨(8 * h + 1 + a.val) % 8, _⟩ l) = f (off + (128 * (8 * h + a.val) + l.val))
    rw [hV _ (by omega)]
    show f (128 * (8 * ((8 * h + 1 + a.val) / 8) + (8 * h + 1 + a.val) % 8) + (l.val + off) % 128) = _
    congr 1
    omega

end Cert.Proof.Kernel

end
-- ==== Proof.Vals5.lean ====
/-
  What one pair's outputs hold, as the third phase computes them from the packed counts, the norms and the correlations.
-/
module

public import proofs.«01_k».proof.Proof.Roll

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F] (R : Refs) (D : Inputs F) (c : Dev nD)

def zeroF : F .f32 := Scalar.ofBits .f32 0x00000000#32
def oneF : F .f32 := Scalar.ofBits .f32 0x3F800000#32
def twoF : F .f32 := Scalar.ofBits .f32 0x40000000#32
def epsF : F .f32 := Scalar.ofBits .f32 0x3DFB4E8B#32

/-- A coefficient of pair `n`, and the entry `p` columns after the start of its first row. -/
def at2 (X : S12x64.Idx → F .f32) (n : ℕ) : F .f32 := atN zeroF X ![n / 64, n % 64]
def colF (X : S16000x128.Idx → F .f32) (n p : ℕ) : F .f32 := atN zeroF X ![D.row n + p / 128, p % 128]
/-- The packed counts, as read back from the two tables of sums, and as they are. -/
def pack (x y : BitVec 32) : BitVec 32 := Scalar.ori x (IntOp.shli .vector y 16#32)
def pkX (X Y : S15384x128.Idx → BitVec 32) (b p : ℕ) : BitVec 32 := pack (atN 0#32 X ![4 * b + p / 128, p % 128]) (atN 0#32 Y ![4 * b + p / 128, p % 128])
def pkT (n p : ℕ) : BitVec 32 := pack (ipOut D (base D.nch n + p / 512) (p / 128 % 4) (p % 128)) (pxOut D (base D.nch n + p / 512) (p / 128 % 4) (p % 128))

def estP (P : ℕ → BitVec 32) (n p : ℕ) : F .f32 :=
  FloatOps.mulf (FloatOps.addf (FloatOps.addf (FloatOps.mulf (FloatOps.sitofp .f32 (Scalar.andi (P p) 65535#32)) (at2 D.ca n))
    (FloatOps.mulf (FloatOps.sitofp .f32 (IntOp.shrsi .vector (P p) 16#32)) (at2 D.cb n))) (at2 D.cc n)) (FloatOps.divf oneF (colF D D.io n p))
def distP (P : ℕ → BitVec 32) (n p : ℕ) : F .f32 :=
  FloatOps.subf (FloatOps.addf (FloatOps.mulf (colF D D.nr n p) (colF D D.nr n p)) (Scalar.mulf (at2 D.nq n) (at2 D.nq n)))
    (FloatOps.mulf (FloatOps.mulf (Scalar.mulf twoF (at2 D.nq n)) (colF D D.nr n p)) (estP D P n p))
def errP (n p : ℕ) : F .f32 :=
  FloatOps.mulf (FloatOps.mulf (FloatOps.mulf (colF D D.nr n p) (FloatOps.sqrt (FloatOps.subf oneF (FloatOps.mulf (colF D D.io n p) (colF D D.io n p)))))
    (FloatOps.divf oneF (colF D D.io n p))) (Scalar.mulf epsF (at2 D.nq n))

def fill (g : ℕ → F .f32) (n col : ℕ) : F .f32 := if col < D.szAt n then g (D.off n + col) else zeroF
/-- The three results of pair `n` at column `col` of its cluster. -/
def outF (o : Fin 3) (n col : ℕ) : F .f32 := fill D (![distP D (pkT D n) n, errP D n, estP D (pkT D n) n] o) n col

variable {D}

theorem pk_eq {X Y : S15384x128.Idx → BitVec 32} (hD : D.Ok)
    (hX : ∀ i : S15384x128.Idx, (i 0).val < 4 * D.steps → X i = ipOut D ((i 0).val / 4) ((i 0).val % 4) (i 1).val)
    (hY : ∀ i : S15384x128.Idx, (i 0).val < 4 * D.steps → Y i = pxOut D ((i 0).val / 4) ((i 0).val % 4) (i 1).val)
    {n col : ℕ} (hn : n < 768) (hc : col < D.szAt n) : pkX X Y (base D.nch n) (D.off n + col) = pkT D n (D.off n + col) := by
  have hst := hD.steps_le
  have hoff : D.off n < 128 := Nat.mod_lt _ (by decide)
  have hch : (D.off n + col) / 512 < D.nch n := by unfold Inputs.nch; omega
  have hb : base D.nch n + D.nch n ≤ D.steps := by
    exact base_add_le hD.nch1 hn
  unfold pkX pkT
  generalize D.off n + col = p at *
  have hr : 4 * base D.nch n + p / 128 < 15384 := by omega
  have e : ∀ (Z : S15384x128.Idx → BitVec 32), atN 0#32 Z ![4 * base D.nch n + p / 128, p % 128] = Z (ix2 ⟨4 * base D.nch n + p / 128, hr⟩ ⟨p % 128, Nat.mod_lt _ (by decide)⟩) := fun Z =>
    atN_eq 0#32 Z _ (fun a => by fin_cases a <;> rfl)
  rw [e, e, hX _ (show 4 * base D.nch n + p / 128 < 4 * D.steps by omega), hY _ (show 4 * base D.nch n + p / 128 < 4 * D.steps by omega)]
  show pack (ipOut D ((4 * base D.nch n + p / 128) / 4) ((4 * base D.nch n + p / 128) % 4) (p % 128)) (pxOut D ((4 * base D.nch n + p / 128) / 4) ((4 * base D.nch n + p / 128) % 4) (p % 128)) = _
  rw [show (4 * base D.nch n + p / 128) / 4 = base D.nch n + p / 512 by omega, show (4 * base D.nch n + p / 128) % 4 = p / 128 % 4 by omega]

variable (D)

/-! ## The payloads of a pair -/

abbrev rowsI : IVec S8x128 32 := iota .tc S8x128 32 [0] iota_S8x128_d0_w32
abbrev lanesI : IVec S8x128 32 := iota .tc S8x128 32 [1] iota_S8x128_d1_w32
abbrev cmpI (off : ℕ) : IVec S8x128 1 := cmpi .slt lanesI (broadcast S8x128 (w (128 - off)))

/-- Eight rows of a table of sums from a pair's. -/
def rowsX (X : S15384x128.Idx → BitVec 32) (b q : ℕ) : Blk (BitVec 32) := fun i => atN 0#32 X ![4 * b + (8 * q + (i 0).val), (i 1).val]

theorem pk_blk (X Y : S15384x128.Idx → BitVec 32) (b q : ℕ) : ori (rowsX X b q) (shli (rowsX Y b q) (broadcast S8x128 16#32)) = blk (pkX X Y b) q := by
  funext i
  have h1 : (i 1).val < 128 := (i 1).isLt
  show pack (atN 0#32 X ![4 * b + (8 * q + (i 0).val), (i 1).val]) (atN 0#32 Y ![4 * b + (8 * q + (i 0).val), (i 1).val]) = pack (atN 0#32 X ![4 * b + (128 * (8 * q + (i 0).val) + (i 1).val) / 128, (128 * (8 * q + (i 0).val) + (i 1).val) % 128]) (atN 0#32 Y ![4 * b + (128 * (8 * q + (i 0).val) + (i 1).val) / 128, (128 * (8 * q + (i 0).val) + (i 1).val) % 128])
  rw [show (128 * (8 * q + (i 0).val) + (i 1).val) / 128 = 8 * q + (i 0).val by omega, show (128 * (8 * q + (i 0).val) + (i 1).val) % 128 = (i 1).val by omega]

theorem pay117_eq {off : ℕ} (ho : off < 128) (X Y : S15384x128.Idx → BitVec 32) (b : ℕ) : dn3 (k0_pay117 (F := F) (w (128 - off)) (rowsX X b 0) (rowsX Y b 0)) = rot off (blk (pkX X Y b) 0) := by
  show dn3 (shapeCast S1x8x128 (dynamicRotate 1 (w (128 - off)) none (ori (rowsX X b 0) (shli (rowsX Y b 0) (broadcast S8x128 16#32))) rotates_S8x128_d1) shapeCasts_S8x128_S1x8x128) = _
  rw [pk_blk, rotate_w ho, cast_up, dn3_up3]
theorem pay118_eq {off : ℕ} (ho : off < 128) (X Y : S15384x128.Idx → BitVec 32) (b : ℕ) : k0_pay118 (F := F) (w (128 - off)) (rowsX X b 1) (rowsX Y b 1) = rot off (blk (pkX X Y b) 1) := by
  show dynamicRotate 1 (w (128 - off)) none (ori (rowsX X b 1) (shli (rowsX Y b 1) (broadcast S8x128 16#32))) rotates_S8x128_d1 = _
  rw [pk_blk, rotate_w ho]
theorem pay116_eq (X Y : S15384x128.Idx → BitVec 32) (b : ℕ) : k0_pay116 (F := F) (rowsX X b 2) (rowsX Y b 2) = blk (pkX X Y b) 2 := pk_blk X Y b 2
theorem pay119_eq (x : Blk (BitVec 32)) : dn3 (k0_pay119 x) = x := by
  show dn3 (shapeCast S1x8x128 x shapeCasts_S8x128_S1x8x128) = x
  rw [cast_up, dn3_up3]
theorem pay120_eq {off : ℕ} (ho : off < 128) (x : Blk (BitVec 32)) : dn3 (k0_pay120 (w (128 - off)) x) = rot off x := by
  show dn3 (shapeCast S1x8x128 (dynamicRotate 1 (w (128 - off)) none x rotates_S8x128_d1) shapeCasts_S8x128_S1x8x128) = _
  rw [rotate_w ho, cast_up, dn3_up3]
theorem pay124_eq {off : ℕ} (ho : off < 128) (x : Blk (F .f32)) : dn3 (k0_pay124 (w (128 - off)) (up3 x)) = rot off x := by
  show dn3 (shapeCast S1x8x128 (dynamicRotate 1 (w (128 - off)) none (shapeCast S8x128 (up3 x) shapeCasts_S1x8x128_S8x128) rotates_S8x128_d1) shapeCasts_S8x128_S1x8x128) = _
  rw [cast_dn, dn3_up3, rotate_w ho, cast_up, dn3_up3]
theorem pay125_eq {off : ℕ} (ho : off < 128) (x : Blk (F .f32)) : k0_pay125 (w (128 - off)) (up3 x) = rot off x := by
  show dynamicRotate 1 (w (128 - off)) none (shapeCast S8x128 (up3 x) shapeCasts_S1x8x128_S8x128) rotates_S8x128_d1 = _
  rw [cast_dn, dn3_up3, rotate_w ho]
theorem pay123_eq (x : Blk (F .f32)) : k0_pay123 (up3 x) = x := by
  show shapeCast S8x128 (up3 x) shapeCasts_S1x8x128_S8x128 = x
  rw [cast_dn, dn3_up3]
theorem pay126_eq (x : Blk (F .f32)) : dn3 (k0_pay126 x) = x := by
  show dn3 (shapeCast S1x8x128 x shapeCasts_S8x128_S1x8x128) = x
  rw [cast_up, dn3_up3]
theorem pay127_eq {off : ℕ} (ho : off < 128) (x : Blk (F .f32)) : dn3 (k0_pay127 (w (128 - off)) x) = rot off x := by
  show dn3 (shapeCast S1x8x128 (dynamicRotate 1 (w (128 - off)) none x rotates_S8x128_d1) shapeCasts_S8x128_S1x8x128) = _
  rw [rotate_w ho, cast_up, dn3_up3]

theorem aligned' {α : Type} (f : ℕ → α) {off : ℕ} (ho : off < 128) (V : ℕ → Blk α) (s h : ℕ) (hh : h < 2) (hV : ∀ q < 3, V (3 * s + q) = rot off (blk f q)) :
    select (cmpI off) (shapeCast S8x128 (rollRow V s (8 * h)) shapeCasts_S1x8x128_S8x128) (shapeCast S8x128 (rollRow V s (8 * h + 1)) shapeCasts_S1x8x128_S8x128) = flat f off h := by
  rw [cast_dn, cast_dn]
  exact aligned f ho V s h hh hV

/-- Three blocks written over a slab. -/
theorem three {α : Type} (V : ℕ → Blk α) (s : ℕ) (x0 x1 x2 : Blk α) (g : ℕ → Blk α) (h0 : x0 = g 0) (h1 : x1 = g 1) (h2 : x2 = g 2) :
    ∀ q < 3, Function.update (Function.update (Function.update V (3 * s + 0) x0) (3 * s + 1) x1) (3 * s + 2) x2 (3 * s + q) = g q := by
  intro q hq
  subst h0 h1 h2
  interval_cases q
  · rw [Function.update_of_ne (by omega), Function.update_of_ne (by omega), Function.update_self]
  · rw [Function.update_of_ne (by omega), Function.update_self]
  · rw [Function.update_self]

variable {D}

theorem valid_eq (hD : D.Ok) {n : ℕ} (hn : n < 768) {h : ℕ} (hh : h < 2) :
    cmpi .slt (addi (muli (addi rowsI (broadcast S8x128 (w (8 * h)))) (broadcast S8x128 128#32)) lanesI) (broadcast S8x128 (w (D.szAt n)))
      = fun i => if 128 * (8 * h + (i 0).val) + (i 1).val < D.szAt n then 1#1 else 0#1 := by
  funext i
  obtain ⟨a, l, rfl⟩ : ∃ a l, i = (ix2 a l : S8x128.Idx) := ⟨i 0, i 1, eq_ix2 i⟩
  have ha : a.val < 8 := a.isLt
  have hl : l.val < 128 := l.isLt
  have hz := hD.sz n hn
  have e : cmpi .slt (addi (muli (addi rowsI (broadcast S8x128 (w (8 * h)))) (broadcast S8x128 128#32)) lanesI) (broadcast S8x128 (w (D.szAt n))) (ix2 a l)
      = Scalar.cmpi .slt (Scalar.addi (Scalar.muli (Scalar.addi (w a.val) (w (8 * h))) (w 128)) (w l.val)) (w (D.szAt n)) := by
    pointwise
    rfl
  rw [e, addi_w, muli_w, addi_w, slt_w (by omega) (by omega)]
  show (if (a.val + 8 * h) * 128 + l.val < D.szAt n then 1#1 else 0#1) = if 128 * (8 * h + a.val) + l.val < D.szAt n then 1#1 else 0#1
  rw [show (a.val + 8 * h) * 128 + l.val = 128 * (8 * h + a.val) + l.val by ring]

theorem fill_eq (hD : D.Ok) {n : ℕ} (hn : n < 768) {h : ℕ} (hh : h < 2) (g : ℕ → F .f32) (hc) (j : S1x1x8x128.Idx) :
    shapeCast S1x1x8x128 (select (cmpi .slt (addi (muli (addi rowsI (broadcast S8x128 (w (8 * h)))) (broadcast S8x128 128#32)) lanesI) (broadcast S8x128 (w (D.szAt n)))) (flat g (D.off n) h)
      (broadcast S8x128 (Scalar.ofBits .f32 0x00000000#32 : F .f32))) hc j = fill D g n (128 * (8 * h + (j 2).val) + (j 3).val) := by
  rw [cast_up4, valid_eq hD hn hh]
  show Scalar.select (if 128 * (8 * h + (j 2).val) + (j 3).val < D.szAt n then 1#1 else 0#1) (flat g (D.off n) h (ix2 (j 2) (j 3))) (zeroF : F .f32) = _
  rw [select_ite]
  rfl

variable (P : ℕ → BitVec 32) (n : ℕ)

/-- The aligned norms and correlations of pair `n`, block `h`. -/
abbrev nrB (D : Inputs F) (n h : ℕ) : FVec F S8x128 .f32 := flat (colF D D.nr n) (D.off n) h
abbrev ioB (D : Inputs F) (n h : ℕ) : FVec F S8x128 .f32 := flat (colF D D.io n) (D.off n) h

theorem pay138_eq (v : IVec S8x128 1) (r1 r2 : S1x8x128.Idx → F .f32) (h : k0_pay135 v r1 r2 = ioB D n 0) :
    k0_pay138 (at2 D.ca n) (at2 D.cb n) (at2 D.cc n) v (flat P (D.off n) 0) r1 r2 = flat (estP D P n) (D.off n) 0 := by
  unfold k0_pay138 k0_pay137
  rw [h]
  rfl
theorem pay137_eq (v : IVec S8x128 1) (r1 r2 : S1x8x128.Idx → F .f32) (h : k0_pay135 v r1 r2 = ioB D n 0) :
    k0_pay137 v r1 r2 = flat (fun p => FloatOps.divf oneF (colF D D.io n p)) (D.off n) 0 := by
  unfold k0_pay137
  rw [h]
  rfl
theorem pay146_eq : k0_pay146 (at2 D.ca n) (at2 D.cb n) (at2 D.cc n) (flat P (D.off n) 1) (ioB D n 1) = flat (estP D P n) (D.off n) 1 := rfl
theorem pay147_eq : k0_pay147 (at2 D.nq n) (nrB D n 1) (ioB D n 1) = flat (errP D n) (D.off n) 1 := rfl

variable {n} (hD : D.Ok) (hn : n < 768) (j : S1x1x8x128.Idx)
include hD hn

theorem pay142_eq : k0_pay142 rowsI lanesI (w (D.szAt n)) (at2 D.nq n) (nrB D n 0) (flat (estP D P n) (D.off n) 0) (k0_pay139 (nrB D n 0)) (k0_pay140 (at2 D.nq n)) j
    = fill D (distP D P n) n (128 * (8 * 0 + (j 2).val) + (j 3).val) := fill_eq hD hn (h := 0) (by decide) (distP D P n) shapeCasts_S8x128_S1x1x8x128 j
theorem pay143_eq : k0_pay143 rowsI lanesI (w (D.szAt n)) (at2 D.nq n) (nrB D n 0) (ioB D n 0) (flat (fun p => FloatOps.divf oneF (colF D D.io n p)) (D.off n) 0) j
    = fill D (errP D n) n (128 * (8 * 0 + (j 2).val) + (j 3).val) := fill_eq hD hn (h := 0) (by decide) (errP D n) shapeCasts_S8x128_S1x1x8x128 j
theorem pay144_eq : k0_pay144 rowsI lanesI (w (D.szAt n)) (flat (estP D P n) (D.off n) 0) j
    = fill D (estP D P n) n (128 * (8 * 0 + (j 2).val) + (j 3).val) := fill_eq hD hn (h := 0) (by decide) (estP D P n) shapeCasts_S8x128_S1x1x8x128 j
theorem pay149_eq : k0_pay149 rowsI lanesI (w (D.szAt n)) (at2 D.ca n) (at2 D.cb n) (at2 D.cc n) (at2 D.nq n) (flat P (D.off n) 1) (nrB D n 1) (ioB D n 1) j
    = fill D (distP D P n) n (128 * (8 * 1 + (j 2).val) + (j 3).val) := fill_eq hD hn (h := 1) (by decide) (distP D P n) shapeCasts_S8x128_S1x1x8x128 j
theorem pay150_eq : k0_pay150 (flat (errP D n) (D.off n) 1) (k0_pay148 (F := F) rowsI lanesI (w (D.szAt n))) j
    = fill D (errP D n) n (128 * (8 * 1 + (j 2).val) + (j 3).val) := fill_eq hD hn (h := 1) (by decide) (errP D n) shapeCasts_S8x128_S1x1x8x128 j
theorem pay151_eq : k0_pay151 (flat (estP D P n) (D.off n) 1) (k0_pay148 (F := F) rowsI lanesI (w (D.szAt n))) j
    = fill D (estP D P n) n (128 * (8 * 1 + (j 2).val) + (j 3).val) := fill_eq hD hn (h := 1) (by decide) (estP D P n) shapeCasts_S8x128_S1x1x8x128 j

end Cert.Proof.Kernel

end
-- ==== Proof.Parts5.lean ====
/-
  The third phase, in the eight parts of its loop's body: the pair's windows awaited, its sums and norms aligned, its
  results computed and laid in a slot.
-/
module

public import proofs.«01_k».proof.Proof.Vals5

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (R : Refs) (D : Inputs F) (c : Dev nD)

variable {D} (k : Fin k0_t5_loop.trips) (s : Fin 8)

theorem trips5 : k0_t5_loop.trips = 768 := by
  show Scf.trips _ _ _ = 768
  decide
theorem lt5 : k.val < 768 := lt_of_lt_of_eq k.isLt trips5

theorem iv5 : (Scf.iv 0#32 1#32 k.val) = w k.val := iv_w _
theorem slot8 : (Scalar.andi (Scf.iv 0#32 1#32 k.val) 7#32).toNat = k.val % 8 := by
  have := lt5 k
  rw [iv_w, andi_w (by omega) 7#32 3 rfl, toNat_w (by omega)]; rfl
theorem slot8' (h : 8 ≤ k.val) : (Scalar.andi (Scalar.subi (Scf.iv 0#32 1#32 k.val) 8#32) 7#32).toNat = k.val % 8 := by
  have := lt5 k
  rw [iv_w, show (8#32 : BitVec 32) = w 8 from rfl, subi_w (by omega), andi_w (by omega) 7#32 3 rfl, toNat_w (by omega)]
  omega
theorem slot8'' : (Scalar.andi (Scalar.addi (Scf.iv 0#32 1#32 k.val) 8#32) 7#32).toNat = k.val % 8 := by
  have := lt5 k
  rw [iv_w, show (8#32 : BitVec 32) = w 8 from rfl, addi_w, andi_w (by omega) 7#32 3 rfl, toNat_w (by omega)]
  omega
theorem ivN : (Scf.iv 0#32 1#32 k.val).toNat = k.val := by
  have := lt5 k
  rw [iv_w, toNat_w (by omega)]
theorem iv8N : (Scalar.addi (Scf.iv 0#32 1#32 k.val) 8#32).toNat = k.val + 8 := by
  have := lt5 k
  rw [iv_w, show (8#32 : BitVec 32) = w 8 from rfl, addi_w, toNat_w (by omega)]
theorem hi6 : (Scalar.shrsi (Scf.iv 0#32 1#32 k.val) 6#32).toNat = k.val / 64 := by
  have := lt5 k
  rw [iv_w, show (6#32 : BitVec 32) = w 6 from rfl, shrsi_w (by omega) 6 (by omega), toNat_w (by omega)]; rfl
theorem lo6 : (Scalar.andi (Scf.iv 0#32 1#32 k.val) 63#32).toNat = k.val % 64 := by
  have := lt5 k
  rw [iv_w, andi_w (by omega) 63#32 6 rfl, toNat_w (by omega)]; rfl
theorem mid3 : (Scalar.shrsi (Scalar.andi (Scf.iv 0#32 1#32 k.val) 63#32) 3#32).toNat = k.val % 64 / 8 := by
  have := lt5 k
  rw [iv_w, andi_w (by omega) 63#32 6 rfl, show (3#32 : BitVec 32) = w 3 from rfl, shrsi_w (by omega) 3 (by omega), toNat_w (by omega)]; rfl
theorem lo3 : (Scalar.andi (Scalar.andi (Scf.iv 0#32 1#32 k.val) 63#32) 7#32).toNat = k.val % 8 := by
  have := lt5 k
  rw [iv_w, andi_w (by omega) 63#32 6 rfl, andi_w (by omega) 7#32 3 rfl, toNat_w (by omega)]
  omega

theorem off132 : k0_off132 k = ![k.val / 64, k.val % 64 / 8, 0, k.val % 8, 0] := by
  show ![(Scalar.shrsi (Scf.iv 0#32 1#32 k.val) 6#32).toNat, (Scalar.shrsi (Scalar.andi (Scf.iv 0#32 1#32 k.val) 63#32) 3#32).toNat, 0, (Scalar.andi (Scalar.andi (Scf.iv 0#32 1#32 k.val) 63#32) 7#32).toNat, 0] = _
  rw [hi6, mid3, lo3]
theorem off119 : k0_off119 k = ![k.val / 64, k.val % 64] := by
  show ![(Scalar.shrsi (Scf.iv 0#32 1#32 k.val) 6#32).toNat, (Scalar.andi (Scf.iv 0#32 1#32 k.val) 63#32).toNat] = _
  rw [hi6, lo6]
theorem off117 : k0_off117 k = ![k.val / 64, k.val % 64] := off119 k

theorem cond3_w : k0_cond3 k = 1#1 ↔ 8 ≤ k.val := by
  have := lt5 k
  show Scalar.cmpi .ne (Scalar.extui (Scalar.cmpi .sge (Scf.iv 0#32 1#32 k.val) (w 8))) 0#32 = 1#1 ↔ _
  rw [iv_w, sge_w (by omega) (by omega)]
  split_ifs with h
  · exact ⟨fun _ => h, fun _ => by decide⟩
  · exact ⟨fun e => absurd e (by decide), fun e => absurd e h⟩
theorem cond4_w : k0_cond4 k = 1#1 ↔ k.val + 8 < 768 := by
  have := lt5 k
  show Scalar.cmpi .ne (Scalar.extui (Scalar.cmpi .slt (Scalar.addi (Scf.iv 0#32 1#32 k.val) (w 8)) (w 768))) 0#32 = 1#1 ↔ _
  rw [iv_w, addi_w, slt_w (by omega) (by omega)]
  split_ifs with h
  · exact ⟨fun _ => h, fun _ => by decide⟩
  · exact ⟨fun e => absurd e (by decide), fun e => absurd e h⟩

/-- The window of a pair lies within the columns. -/
theorem row_ok (hD : D.Ok) {n : ℕ} (hn : n < 768) : ∀ a, (![(w (D.row n)).toNat, 0] : Fin 2 → ℕ) a + S24x128.size a ≤ S16000x128.size a := fun a => by
  have := hD.st n hn
  have hr : D.row n = D.stAt n / 128 := rfl
  rw [toNat_w (by omega)]
  fin_cases a
  · show D.row n + 24 ≤ 16000; omega
  · exact le_refl 128
theorem row_off (hD : D.Ok) {n : ℕ} (hn : n < 768) : (![(w (D.row n)).toNat, 0] : Fin 2 → ℕ) = ![D.row n, 0] := by
  have := hD.st n hn
  have hr : D.row n = D.stAt n / 128 := rfl
  rw [toNat_w (by omega)]

/-- A pair's rows of the tables of sums. -/
theorem sum_off (hD : D.Ok) {n : ℕ} (hn : n < 768) (q : ℕ) (hq : q < 3) : k0_off121 (w (base D.nch n)) (w (8 * q)) = ![4 * base D.nch n + 8 * q, 0] := by
  have h1 := base_add_le hD.nch1 hn
  have h2 := hD.steps_le
  unfold Inputs.steps at h2
  show ![(Scalar.addi (Scalar.muli (w (base D.nch n)) (w 4)) (w (8 * q))).toNat, 0] = _
  rw [muli_w, addi_w, toNat_w (by omega), Nat.mul_comm]
theorem base_lt (hD : D.Ok) {n : ℕ} (hn : n < 768) : base D.nch n < 3840 := by
  have h1 := base_add_le hD.nch1 hn
  have h2 := hD.steps_le
  have h3 := hD.nch1 n hn
  unfold Inputs.steps at h2
  omega
theorem sum_ok (hD : D.Ok) {n : ℕ} (hn : n < 768) : k0_chk23 (w (base D.nch n)) := by
  have hb := base_lt hD hn
  refine ⟨?_, fun r a => ?_⟩
  · show 4 ∣ (Scalar.muli (w (base D.nch n)) (w 4)).toNat
    rw [muli_w, toNat_w (by omega)]
    exact Dvd.intro_left _ rfl
  · rw [show (BitVec.ofNat 32 (8 * r.val)) = w (8 * r.val) from rfl, sum_off hD hn r.val r.isLt]
    have hr := r.isLt
    fin_cases a
    · show 4 * base D.nch n + 8 * r.val + 8 ≤ 15384; omega
    · exact le_refl 128

/-- Eight rows of a table of sums. -/
theorem rows_load {α : Type} {m : Memref sig .tc .vmem S15384x128 .i32} {X : S15384x128.Idx → BitVec 32} {off : Fin 2 → ℕ} {inb hl} {k : (S8x128.Idx → BitVec 32) → Prog (TpuEff nD τ sig (Elt F) Λ₀ .tc) α} {Q : α → sProp (Mk F)}
    (b q : ℕ) (ho : off = ![4 * b + 8 * q, 0]) :
    own (F := F) c m X ⊢ iprop((own (F := F) c m X -∗ Wp c (k (rowsX X b q)) Q)
      -∗ Wp c (.op (.load m (Rect.unit (s := S15384x128) off S8x128.size inb).toLoadRect hl) k) Q) := by
  iintro H Hk
  iapply (wp_loadOn Variants.none (c : Thread nD τ) none (m := m) (r := (Rect.unit (s := S15384x128) off S8x128.size inb).toLoadRect) (Finset.subset_univ _)) $$ H
  iintro %v %hv H
  subst hv
  rw [show (fun j => X ((Rect.unit (s := S15384x128) off S8x128.size inb).toLoadRect.idx j)) = rowsX X b q from funext fun j => by
    subst ho
    obtain ⟨x0, x1, rfl⟩ : ∃ x0 x1, j = (ix2 x0 x1 : S8x128.Idx) := ⟨j 0, j 1, eq_ix2 j⟩
    exact atN_emb 0#32 X (Rect.unit (s := S15384x128) ![4 * b + 8 * q, 0] S8x128.size inb) (ix2 x0 x1) (v := ![4 * b + (8 * q + x0.val), x1.val]) (fun a => by
      fin_cases a
      · show 4 * b + (8 * q + x0.val) = 4 * b + 8 * q + 1 * x0.val; omega
      · show x1.val = 0 + 1 * x1.val; omega)]
  iapply Hk $$ H

/-- Eight rows of a slot's window. -/
theorem win_load {α : Type} {md : Memref sig .tc .vmem S8x24x128 .f32} {X : S16000x128.Idx → F .f32} {off : Fin 3 → ℕ} {inb hl} {k : (S1x8x128.Idx → F .f32) → Prog (TpuEff nD τ sig (Elt F) Λ₀ .tc) α} {Q : α → sProp (Mk F)}
    (n q : ℕ) (hq : q < 3) (ho : off = ![s.val, 8 * q, 0]) :
    winOwn (F := F) c md s (win D X n) ⊢ iprop((winOwn (F := F) c md s (win D X n) -∗ Wp c (k (up3 (blk (colF D X n) q))) Q)
      -∗ Wp c (.op (.load md (Rect.unit (s := S8x24x128) off S1x8x128.size inb).toLoadRect hl) k) Q) := by
  iintro H Hk
  iapply (wp_loadOn Variants.none (c : Thread nD τ) none (m := md) (r := (Rect.unit (s := S8x24x128) off S1x8x128.size inb).toLoadRect) (fun i hi => by
    subst ho
    have h := (Rect.mem_set_unit (s := S8x24x128)).mp hi 0
    have h' : s.val ≤ (i 0).val ∧ (i 0).val < s.val + 1 := h
    exact mem_winSlot.mpr (by omega))) $$ H
  iintro %v %hv H
  subst hv
  rw [show (fun j => win D X n ((Rect.unit (s := S8x24x128) off S1x8x128.size inb).toLoadRect.idx j)) = up3 (blk (colF D X n) q) from funext fun j => by
    subst ho
    obtain ⟨x0, x1, x2, rfl⟩ : ∃ x0 x1 x2, j = (ix3 x0 x1 x2 : S1x8x128.Idx) := ⟨j 0, j 1, j 2, eq_ix3 j⟩
    have hx2 : x2.val < 128 := x2.isLt
    show atN _ X ![D.row n + (8 * q + 1 * x1.val), 0 + 1 * x2.val] = atN _ X ![D.row n + (128 * (8 * q + x1.val) + x2.val) / 128, (128 * (8 * q + x1.val) + x2.val) % 128]
    refine atN_congr _ _ fun a => ?_
    fin_cases a
    · show D.row n + (8 * q + 1 * x1.val) = D.row n + (128 * (8 * q + x1.val) + x2.val) / 128; omega
    · show 0 + 1 * x2.val = (128 * (8 * q + x1.val) + x2.val) % 128; omega]
  iapply Hk $$ H

theorem sub_slot {o : Fin 3} {off : Fin 4 → ℕ} {inb} {q : ℕ} (ho : off = ![o.val, s.val, 8 * q, 0]) : (Rect.unit (s := S3x8x16x128) off S1x1x8x128.size inb).set ⊆ outSlot o.val s.val := fun i hi => by
  subst ho
  have h0 := (Rect.mem_set_unit (s := S3x8x16x128)).mp hi 0
  have h1 := (Rect.mem_set_unit (s := S3x8x16x128)).mp hi 1
  have h0' : o.val ≤ (i 0).val ∧ (i 0).val < o.val + 1 := h0
  have h1' : s.val ≤ (i 1).val ∧ (i 1).val < s.val + 1 := h1
  exact mem_outSlot.mpr ⟨by omega, by omega⟩

/-- Eight of a slot's sixteen rows written. -/
def half (f : ℕ → ℕ → F .f32) (n q : ℕ) (Z : S3x8x16x128.Idx → F .f32) : S3x8x16x128.Idx → F .f32 := fun i => if (i 2).val / 8 = q then outV f n i else Z i

theorem slot_store {α : Type} {off : Fin 4 → ℕ} {inb hl hx hm} {val : S1x1x8x128.Idx → F .f32} {k : PUnit → Prog (TpuEff nD τ sig (Elt F) Λ₀ .tc) α} {Q : α → sProp (Mk F)}
    (o : Fin 3) (f : ℕ → ℕ → F .f32) (n q : ℕ) (Z : S3x8x16x128.Idx → F .f32) (ho : off = ![o.val, s.val, 8 * q, 0]) (hv : ∀ j, val j = f n (128 * (8 * q + (j 2).val) + (j 3).val)) :
    slotOwn (F := F) R c o s Z ⊢ iprop((slotOwn (F := F) R c o s (half f n q Z) -∗ Wp c (k ⟨⟩) Q)
      -∗ Wp c (.op (.load R.a28 (Rect.unit (s := S3x8x16x128) off S1x1x8x128.size inb).toLoadRect hl) fun _ => .op (.store R.a28 (Rect.unit (s := S3x8x16x128) off S1x1x8x128.size inb) val Finset.univ hx hm) k) Q) := by
  iintro H Hk
  iapply (dead_loadF c (m := R.a28) (r := (Rect.unit (s := S3x8x16x128) off S1x1x8x128.size inb).toLoadRect) (A := outSlot o.val s.val) (sub_slot s ho)) $$ H
  iintro %_ H
  have hs := sub_slot (inb := inb) s ho
  subst ho
  iapply (wp_storeOn Variants.none (c : Thread nD τ) none (m := R.a28) (r := Rect.unit (s := S3x8x16x128) ![o.val, s.val, 8 * q, 0] S1x1x8x128.size inb) (w := val) (hx := hx) (hm := hm) hs
    (half f n q Z) (fun j => by
      rw [hv j]
      have h2 : (j 2).val < 8 := (j 2).isLt
      have h3 : (j 3).val < 128 := (j 3).isLt
      show (if (8 * q + 1 * (j 2).val) / 8 = q then f n ((8 * q + 1 * (j 2).val) * 128 + (0 + 1 * (j 3).val)) else _) = _
      rw [if_pos (by omega)]
      congr 1
      omega)
    (fun i hi hn => by
      obtain ⟨h0, h1⟩ := mem_outSlot.mp hi
      unfold half
      rw [if_neg]
      intro h
      refine hn (Rect.mem_set_unit.mpr fun a => ?_)
      fin_cases a
      · show o.val ≤ (i 0).val ∧ (i 0).val < o.val + 1; omega
      · show s.val ≤ (i 1).val ∧ (i 1).val < s.val + 1; omega
      · show 8 * q ≤ (i 2).val ∧ (i 2).val < 8 * q + 8; omega
      · exact ⟨Nat.zero_le _, lt_of_lt_of_eq (i 3).isLt (Nat.zero_add _).symm⟩)) $$ H
  iintro H
  iapply Hk $$ H

theorem slot_full (o : Fin 3) (f : ℕ → ℕ → F .f32) (n : ℕ) (Z : S3x8x16x128.Idx → F .f32) : slotOwn (F := F) R c o s (half f n 1 (half f n 0 Z)) ⊢ slotOwn (F := F) R c o s (outV f n) :=
  ownsOn_congr (Val := Elt F) (c : Thread nD τ) R.a28 fullShare (fun i _ => by
    have h2 : (i 2).val < 16 := (i 2).isLt
    unfold half
    split_ifs
    · rfl
    · rfl
    · omega)

/-- A coefficient looked up. -/
theorem coef_load {α : Type} {m : Memref sig .tc .smem S12x64 .f32} {X : S12x64.Idx → F .f32} {off : Fin 2 → ℕ} {inb} {h1} {hp}
    {k : F .f32 → Prog (TpuEff nD τ sig (Elt F) Λ₀ .tc) α} {Q : α → sProp (Mk F)} (n : ℕ) (ho : off = ![n / 64, n % 64]) :
    own (F := F) c m X ⊢ iprop((own (F := F) c m X -∗ Wp c (k (at2 X n)) Q)
      -∗ Wp c (smemLoad m (Rect.unit (s := S12x64) off S1x1.size inb) h1 hp >>= k) Q) := by
  iintro H Hk
  iapply (wp_smemLoadOn Variants.none (c : Thread nD τ) none (m := m) (h1 := h1) (hp := hp) (Finset.subset_univ _)) $$ H
  iintro H
  rw [atN_first zeroF X _ _ (v := ![n / 64, n % 64]) (fun a => (congrFun ho a).symm)]
  iapply Hk $$ H

set_option maxHeartbeats 4000000 in
theorem part28_run (hD : D.Ok) (X Y : S15384x128.Idx → BitVec 32) (V : ℕ → Blk (BitVec 32)) (a30 : BitVec 32) :
    iprop(own (F := F) c R.a17 (tab (base D.nch)) ∗ own (F := F) c R.a21 X ∗ own (F := F) c R.a22 Y ∗ own (F := F) c R.a26 (rollA V))
      ⊢ Wp c (part28 (F := F) R lanesI k a30 (w (128 - D.off k.val))) fun a => iprop(⌜a = ⟨cmpI (D.off k.val), blk (pkX X Y (base D.nch k.val)) 2, (rot (D.off k.val) (blk (pkX X Y (base D.nch k.val)) 1))⟩⌝
        ∗ own (F := F) c R.a17 (tab (base D.nch)) ∗ own (F := F) c R.a21 X ∗ own (F := F) c R.a22 Y ∗ own (F := F) c R.a26 (rollA (Function.update V (3 * 0 + 0) (rot (D.off k.val) (blk (pkX X Y (base D.nch k.val)) 0))))) := by
  have hn := lt5 k
  have hoff : D.off k.val < 128 := Nat.mod_lt _ (by decide)
  delta part28
  rw [k0_part28_eq_skeleton]
  delta k0_part28_skel
  iintro ⟨H17, H21, H22, H26⟩
  iapply (wp_tab c (m := R.a17) (h1 := numel1_S1) (hp := rfl) k.val hn (ivN k)) $$ H17
  iintro H17
  iapply (wp_assume Variants.none (c : Thread nD τ) none Set.univ (sum_ok hD hn))
  iapply (rows_load c (m := R.a21) (base D.nch k.val) 0 (sum_off hD hn 0 (by decide))) $$ H21
  iintro H21
  iapply (rows_load c (m := R.a22) (base D.nch k.val) 0 (sum_off hD hn 0 (by decide))) $$ H22
  iintro H22
  iapply (rows_load c (m := R.a21) (base D.nch k.val) 1 (sum_off hD hn 1 (by decide))) $$ H21
  iintro H21
  iapply (rows_load c (m := R.a22) (base D.nch k.val) 1 (sum_off hD hn 1 (by decide))) $$ H22
  iintro H22
  iapply (rows_load c (m := R.a21) (base D.nch k.val) 2 (sum_off hD hn 2 (by decide))) $$ H21
  iintro H21
  iapply (rows_load c (m := R.a22) (base D.nch k.val) 2 (sum_off hD hn 2 (by decide))) $$ H22
  iintro H22
  iapply (dead_loadF c (m := R.a26) (Finset.subset_univ _)) $$ H26
  iintro %_ H26
  iapply (roll_store c (m := R.a26) _ 0 0 (by decide) rfl) $$ H26
  iintro H26
  rw [pay117_eq hoff X Y (base D.nch k.val)]
  iapply (le_wp_ret)
  isplitr
  · ipureintro
    rw [pay118_eq hoff, pay116_eq]
    rfl
  isplitl [H17]; · iexact H17
  isplitl [H21]; · iexact H21
  isplitl [H22] <;> iassumption

set_option maxHeartbeats 4000000 in
theorem part29_run (hsv : s.val = k.val % 8) (P : ℕ → BitVec 32) (V : ℕ → Blk (BitVec 32)) (V' : ℕ → Blk (F .f32)) (v247 : BitVec 32) :
    iprop(own (F := F) c R.a26 (rollA (Function.update V (3 * 0 + 0) (rot (D.off k.val) (blk P 0)))) ∗ winOwn c R.a23 s (win D D.nr k.val) ∗ own (F := F) c R.a27 (rollA V'))
      ⊢ Wp c (part29 (F := F) R k v247 (w (128 - D.off k.val)) (cmpI (D.off k.val)) (blk P 2) (rot (D.off k.val) (blk P 1))) fun a => iprop(⌜a = ⟨flat P (D.off k.val) 0, flat P (D.off k.val) 1, blk (colF D D.nr k.val) 2, (rot (D.off k.val) (blk (colF D D.nr k.val) 1))⟩⌝
        ∗ (∃ V, own (F := F) c R.a26 (rollA V)) ∗ winOwn c R.a23 s (win D D.nr k.val) ∗ own (F := F) c R.a27 (rollA (Function.update V' (3 * 1 + 0) (rot (D.off k.val) (blk (colF D D.nr k.val) 0))))) := by
  have hn := lt5 k
  have hoff : D.off k.val < 128 := Nat.mod_lt _ (by decide)
  have hs : ∀ q, (![(Scalar.andi (Scf.iv 0#32 1#32 k.val) 7#32).toNat, 8 * q, 0] : Fin 3 → ℕ) = ![s.val, 8 * q, 0] := fun q => by rw [slot8, hsv]
  delta part29
  rw [k0_part29_eq_skeleton]
  delta k0_part29_skel
  iintro ⟨H26, H23, H27⟩
  iapply (dead_loadF c (m := R.a26) (Finset.subset_univ _)) $$ H26
  iintro %_ H26
  iapply (roll_store c (m := R.a26) _ 0 1 (by decide) rfl) $$ H26
  iintro H26
  iapply (dead_loadF c (m := R.a26) (Finset.subset_univ _)) $$ H26
  iintro %_ H26
  iapply (roll_store c (m := R.a26) _ 0 2 (by decide) rfl) $$ H26
  iintro H26
  iapply (roll_load c (m := R.a26) _ 0 0 rfl) $$ H26
  iintro H26
  iapply (roll_load c (m := R.a26) _ 0 1 rfl) $$ H26
  iintro H26
  iapply (roll_load c (m := R.a26) _ 0 8 rfl) $$ H26
  iintro H26
  iapply (roll_load c (m := R.a26) _ 0 9 rfl) $$ H26
  iintro H26
  iapply (win_load c s (md := R.a23) k.val 0 (by decide) (hs 0)) $$ H23
  iintro H23
  iapply (win_load c s (md := R.a23) k.val 1 (by decide) (hs 1)) $$ H23
  iintro H23
  iapply (win_load c s (md := R.a23) k.val 2 (by decide) (hs 2)) $$ H23
  iintro H23
  iapply (dead_loadF c (m := R.a27) (Finset.subset_univ _)) $$ H27
  iintro %_ H27
  iapply (roll_store c (m := R.a27) _ 1 0 (by decide) rfl) $$ H27
  iintro H27
  rw [pay124_eq hoff (blk (colF D D.nr k.val) 0), pay119_eq, pay120_eq hoff]
  have hV := three V 0 _ _ _ (fun q => (rot (D.off k.val) (blk P q))) (show (rot (D.off k.val) (blk P 0)) = _ from rfl) (show (rot (D.off k.val) (blk P 1)) = _ from rfl) (show (rot (D.off k.val) (blk P 2)) = _ from rfl)
  iapply (le_wp_ret)
  isplitr
  · ipureintro
    rw [pay125_eq hoff, pay123_eq]
    refine congrArg₂ (fun (x y : IVec S8x128 32) => (⟨x, y, _, _⟩ : Σ' (_ : IVec S8x128 32) (_ : IVec S8x128 32) (_ : FVec F S8x128 .f32), FVec F S8x128 .f32)) ?_ ?_
    · exact aligned' P hoff _ 0 0 (by decide) hV
    · exact aligned' P hoff _ 0 1 (by decide) hV
  isplitl [H26]; · iexists _; iexact H26
  isplitl [H23] <;> iassumption

set_option maxHeartbeats 4000000 in
theorem part30_run (hsv : s.val = k.val % 8) (V' : ℕ → Blk (F .f32)) (v247 : BitVec 32) :
    iprop(winOwn c R.a24 s (win D D.io k.val) ∗ own (F := F) c R.a27 (rollA (Function.update V' (3 * 1 + 0) (rot (D.off k.val) (blk (colF D D.nr k.val) 0)))))
      ⊢ Wp c (part30 (F := F) R k v247 (w (128 - D.off k.val)) (cmpI (D.off k.val)) (blk (colF D D.nr k.val) 2) (rot (D.off k.val) (blk (colF D D.nr k.val) 1))) fun a => iprop(⌜a = ⟨nrB D k.val 0, nrB D k.val 1, blk (colF D D.io k.val) 1, blk (colF D D.io k.val) 2⟩⌝
        ∗ winOwn c R.a24 s (win D D.io k.val) ∗ (∃ V, own (F := F) c R.a27 (rollA (Function.update V (3 * 2 + 0) (rot (D.off k.val) (blk (colF D D.io k.val) 0)))))) := by
  have hn := lt5 k
  have hoff : D.off k.val < 128 := Nat.mod_lt _ (by decide)
  have hs : ∀ q, (![(Scalar.andi (Scf.iv 0#32 1#32 k.val) 7#32).toNat, 8 * q, 0] : Fin 3 → ℕ) = ![s.val, 8 * q, 0] := fun q => by rw [slot8, hsv]
  delta part30
  rw [k0_part30_eq_skeleton]
  delta k0_part30_skel
  iintro ⟨H24, H27⟩
  iapply (dead_loadF c (m := R.a27) (Finset.subset_univ _)) $$ H27
  iintro %_ H27
  iapply (roll_store c (m := R.a27) _ 1 1 (by decide) rfl) $$ H27
  iintro H27
  iapply (dead_loadF c (m := R.a27) (Finset.subset_univ _)) $$ H27
  iintro %_ H27
  iapply (roll_store c (m := R.a27) _ 1 2 (by decide) rfl) $$ H27
  iintro H27
  iapply (roll_load c (m := R.a27) _ 1 0 rfl) $$ H27
  iintro H27
  iapply (roll_load c (m := R.a27) _ 1 1 rfl) $$ H27
  iintro H27
  iapply (roll_load c (m := R.a27) _ 1 8 rfl) $$ H27
  iintro H27
  iapply (roll_load c (m := R.a27) _ 1 9 rfl) $$ H27
  iintro H27
  iapply (win_load c s (md := R.a24) k.val 0 (by decide) (hs 0)) $$ H24
  iintro H24
  iapply (win_load c s (md := R.a24) k.val 1 (by decide) (hs 1)) $$ H24
  iintro H24
  iapply (win_load c s (md := R.a24) k.val 2 (by decide) (hs 2)) $$ H24
  iintro H24
  iapply (dead_loadF c (m := R.a27) (Finset.subset_univ _)) $$ H27
  iintro %_ H27
  iapply (roll_store c (m := R.a27) _ 2 0 (by decide) rfl) $$ H27
  iintro H27
  rw [pay124_eq hoff (blk (colF D D.io k.val) 0) |> fun e => (show dn3 (k0_pay132 (w (128 - D.off k.val)) (up3 (blk (colF D D.io k.val) 0))) = _ from e), pay126_eq, pay127_eq hoff]
  have hV := three V' 1 _ _ _ (fun q => (rot (D.off k.val) (blk (colF D D.nr k.val) q))) (show (rot (D.off k.val) (blk (colF D D.nr k.val) 0)) = _ from rfl) (show (rot (D.off k.val) (blk (colF D D.nr k.val) 1)) = _ from rfl) (show (rot (D.off k.val) (blk (colF D D.nr k.val) 2)) = _ from rfl)
  iapply (le_wp_ret)
  isplitr
  · ipureintro
    rw [show k0_pay130 (up3 (blk (colF D D.io k.val) 1)) = _ from pay123_eq _, show k0_pay131 (up3 (blk (colF D D.io k.val) 2)) = _ from pay123_eq _]
    refine congrArg₂ (fun (x y : FVec F S8x128 .f32) => (⟨x, y, _, _⟩ : Σ' (_ : FVec F S8x128 .f32) (_ : FVec F S8x128 .f32) (_ : FVec F S8x128 .f32), FVec F S8x128 .f32)) ?_ ?_
    · exact aligned' (colF D D.nr k.val) hoff _ 1 0 (by decide) hV
    · exact aligned' (colF D D.nr k.val) hoff _ 1 1 (by decide) hV
  isplitl [H24]; · iexact H24
  iexists _; iexact H27

set_option maxHeartbeats 4000000 in
theorem part31_run (P : ℕ → BitVec 32) (V' : ℕ → Blk (F .f32)) :
    own (F := F) c R.a27 (rollA (Function.update V' (3 * 2 + 0) (rot (D.off k.val) (blk (colF D D.io k.val) 0))))
      ⊢ Wp c (part31 (F := F) R (at2 D.ca k.val) (at2 D.cb k.val) (at2 D.cc k.val) (at2 D.nq k.val) (w (128 - D.off k.val)) (cmpI (D.off k.val)) (flat P (D.off k.val) 0) (nrB D k.val 0) (blk (colF D D.io k.val) 1) (blk (colF D D.io k.val) 2)) fun a =>
        iprop(⌜a = ⟨ioB D k.val 0, ioB D k.val 1, flat (fun p => FloatOps.divf oneF (colF D D.io k.val p)) (D.off k.val) 0, flat (estP D P k.val) (D.off k.val) 0, k0_pay139 (nrB D k.val 0), k0_pay140 (at2 D.nq k.val)⟩⌝
        ∗ (∃ V, own (F := F) c R.a27 (rollA V))) := by
  have hn := lt5 k
  have hoff : D.off k.val < 128 := Nat.mod_lt _ (by decide)
  delta part31
  rw [k0_part31_eq_skeleton]
  delta k0_part31_skel
  iintro H27
  iapply (dead_loadF c (m := R.a27) (Finset.subset_univ _)) $$ H27
  iintro %_ H27
  iapply (roll_store c (m := R.a27) _ 2 1 (by decide) rfl) $$ H27
  iintro H27
  iapply (dead_loadF c (m := R.a27) (Finset.subset_univ _)) $$ H27
  iintro %_ H27
  iapply (roll_store c (m := R.a27) _ 2 2 (by decide) rfl) $$ H27
  iintro H27
  iapply (roll_load c (m := R.a27) _ 2 0 rfl) $$ H27
  iintro H27
  iapply (roll_load c (m := R.a27) _ 2 1 rfl) $$ H27
  iintro H27
  iapply (roll_load c (m := R.a27) _ 2 8 rfl) $$ H27
  iintro H27
  iapply (roll_load c (m := R.a27) _ 2 9 rfl) $$ H27
  iintro H27
  rw [show dn3 (k0_pay133 (w (128 - D.off k.val)) (blk (colF D D.io k.val) 1)) = _ from pay127_eq hoff _, show dn3 (k0_pay134 (w (128 - D.off k.val)) (blk (colF D D.io k.val) 2)) = _ from pay127_eq hoff _]
  have hV := three V' 2 _ _ _ (fun q => (rot (D.off k.val) (blk (colF D D.io k.val) q))) (show (rot (D.off k.val) (blk (colF D D.io k.val) 0)) = _ from rfl) (show (rot (D.off k.val) (blk (colF D D.io k.val) 1)) = _ from rfl) (show (rot (D.off k.val) (blk (colF D D.io k.val) 2)) = _ from rfl)
  iapply (le_wp_ret)
  isplitr
  · ipureintro
    have h0 := aligned' (colF D D.io k.val) hoff _ 2 0 (by decide) hV
    have h1 := aligned' (colF D D.io k.val) hoff _ 2 1 (by decide) hV
    rw [pay138_eq P k.val _ _ _ h0, pay137_eq k.val _ _ _ h0]
    refine congrArg₂ (fun (x y : FVec F S8x128 .f32) => (⟨x, y, _, _, _, _⟩ : Σ' (_ : FVec F S8x128 .f32) (_ : FVec F S8x128 .f32) (_ : FVec F S8x128 .f32) (_ : FVec F S8x128 .f32) (_ : FVec F S8x128 .f32), FVec F S8x128 .f32)) h0 h1
  iexists _; iexact H27

variable (f0 f1 f2 : ℕ → ℕ → F .f32) (P : ℕ → BitVec 32)

/-- The three results agree with what the pair's sums give. -/
def Agree (D : Inputs F) (n : ℕ) (P : ℕ → BitVec 32) (f0 f1 f2 : ℕ → ℕ → F .f32) : Prop :=
  (∀ col, fill D (distP D P n) n col = f0 n col) ∧ (∀ col, fill D (errP D n) n col = f1 n col) ∧ (∀ col, fill D (estP D P n) n col = f2 n col)

set_option maxHeartbeats 4000000 in
theorem part32_run (hD : D.Ok) (hsv : s.val = k.val % 8) (hf : Agree D k.val P f0 f1 f2) (Z0 Z1 Z2 : S3x8x16x128.Idx → F .f32) (v247 : BitVec 32) :
    iprop(slotOwn (F := F) R c 0 s Z0 ∗ slotOwn (F := F) R c 1 s Z1 ∗ slotOwn (F := F) R c 2 s Z2)
      ⊢ Wp c (part32 (F := F) R rowsI lanesI k v247 (w (D.szAt k.val)) (at2 D.nq k.val) (nrB D k.val 0) (ioB D k.val 0) (flat (fun p => FloatOps.divf oneF (colF D D.io k.val p)) (D.off k.val) 0) (flat (estP D P k.val) (D.off k.val) 0) (k0_pay139 (nrB D k.val 0)) (k0_pay140 (at2 D.nq k.val))) fun _ =>
        iprop(slotOwn (F := F) R c 0 s (half f0 k.val 0 Z0) ∗ slotOwn (F := F) R c 1 s (half f1 k.val 0 Z1) ∗ slotOwn (F := F) R c 2 s (half f2 k.val 0 Z2)) := by
  have hn := lt5 k
  have hs : ∀ o q, (![o, (Scalar.andi (Scf.iv 0#32 1#32 k.val) 7#32).toNat, 8 * q, 0] : Fin 4 → ℕ) = ![o, s.val, 8 * q, 0] := fun o q => by rw [slot8, hsv]
  delta part32
  rw [k0_part32_eq_skeleton]
  delta k0_part32_skel
  iintro ⟨H0, H1, H2⟩
  iapply (slot_store R c s 0 f0 k.val 0 Z0 (hs 0 0) (fun j => (pay142_eq P hD hn j).trans (hf.1 _))) $$ H0
  iintro H0
  iapply (slot_store R c s 1 f1 k.val 0 Z1 (hs 1 0) (fun j => (pay143_eq hD hn j).trans (hf.2.1 _))) $$ H1
  iintro H1
  iapply (slot_store R c s 2 f2 k.val 0 Z2 (hs 2 0) (fun j => (pay144_eq P hD hn j).trans (hf.2.2 _))) $$ H2
  iintro H2
  iapply (le_wp_ret)
  isplitl [H0]; · iexact H0
  isplitl [H1] <;> iassumption

set_option maxHeartbeats 4000000 in
theorem part33_run (hD : D.Ok) (hsv : s.val = k.val % 8) (hf : Agree D k.val P f0 f1 f2) (Z0 : S3x8x16x128.Idx → F .f32) (v247 : BitVec 32) :
    slotOwn (F := F) R c 0 s Z0
      ⊢ Wp c (part33 (F := F) R rowsI lanesI k v247 (w (D.szAt k.val)) (at2 D.ca k.val) (at2 D.cb k.val) (at2 D.cc k.val) (at2 D.nq k.val) (flat P (D.off k.val) 1) (nrB D k.val 1) (ioB D k.val 1)) fun a =>
        iprop(⌜a = ⟨flat (estP D P k.val) (D.off k.val) 1, flat (errP D k.val) (D.off k.val) 1, k0_pay148 (F := F) rowsI lanesI (w (D.szAt k.val))⟩⌝ ∗ slotOwn (F := F) R c 0 s (half f0 k.val 1 Z0)) := by
  have hn := lt5 k
  have hs : ∀ o q, (![o, (Scalar.andi (Scf.iv 0#32 1#32 k.val) 7#32).toNat, 8 * q, 0] : Fin 4 → ℕ) = ![o, s.val, 8 * q, 0] := fun o q => by rw [slot8, hsv]
  delta part33
  rw [k0_part33_eq_skeleton]
  delta k0_part33_skel
  iintro H0
  iapply (slot_store R c s 0 f0 k.val 1 Z0 (hs 0 1) (fun j => (pay149_eq P hD hn j).trans (hf.1 _))) $$ H0
  iintro H0
  iapply (le_wp_ret)
  isplitr
  · ipureintro
    rw [pay146_eq, pay147_eq]
  iexact H0

set_option maxHeartbeats 4000000 in
theorem part34_run (hD : D.Ok) (hsv : s.val = k.val % 8) (hf : Agree D k.val P f0 f1 f2) (Z0 Z1 Z2 : S3x8x16x128.Idx → F .f32) (ZP : S12x8x16x8x128.Idx → F .f32) (a30 v247 : BitVec 32) :
    iprop(slotOwn (F := F) R c 0 s (half f0 k.val 1 (half f0 k.val 0 Z0)) ∗ slotOwn (F := F) R c 1 s (half f1 k.val 0 Z1) ∗ slotOwn (F := F) R c 2 s (half f2 k.val 0 Z2) ∗ pairOwn c R.a11 k.val ZP ∗ semVal ((c : Thread nD τ), .dma (outSem R 0 s)) 0)
      ⊢ Wp c (part34 (F := F) R k a30 v247 (flat (estP D P k.val) (D.off k.val) 1) (flat (errP D k.val) (D.off k.val) 1) (k0_pay148 (F := F) rowsI lanesI (w (D.szAt k.val)))) fun _ =>
        iprop(outSt R c R.a11 0 f0 s (k.val + 8) ∗ slotOwn (F := F) R c 1 s (outV f1 k.val) ∗ slotOwn (F := F) R c 2 s (outV f2 k.val)) := by
  have hn := lt5 k
  have hs : ∀ o q, (![o, (Scalar.andi (Scf.iv 0#32 1#32 k.val) 7#32).toNat, 8 * q, 0] : Fin 4 → ℕ) = ![o, s.val, 8 * q, 0] := fun o q => by rw [slot8, hsv]
  delta part34
  rw [k0_part34_eq_skeleton]
  delta k0_part34_skel
  iintro ⟨H0, H1, H2, HP, HS⟩
  iapply (slot_store R c s 1 f1 k.val 1 _ (hs 1 1) (fun j => (pay150_eq hD hn j).trans (hf.2.1 _))) $$ H1
  iintro H1
  iapply (slot_store R c s 2 f2 k.val 1 _ (hs 2 1) (fun j => (pay151_eq P hD hn j).trans (hf.2.2 _))) $$ H2
  iintro H2
  ihave H0 := (slot_full R c s 0 f0 k.val Z0) $$ H0
  ihave H1 := (slot_full R c s 1 f1 k.val Z1) $$ H1
  ihave H2 := (slot_full R c s 2 f2 k.val Z2) $$ H2
  iapply (out_enq R c R.a11 0 f0 s k.val ZP (off132 k) (show (![0, (Scalar.andi (Scf.iv 0#32 1#32 k.val) 7#32).toNat, 0, 0] : Fin 4 → ℕ) = ![0, s.val, 0, 0] from hs 0 0)
    (show (![0, (Scalar.andi (Scf.iv 0#32 1#32 k.val) 7#32).toNat] : Fin 2 → ℕ) = ![0, s.val] by rw [slot8, hsv])) $$ [H0 HP HS]
  · isplitl [H0]; · iexact H0
    isplitl [HP] <;> iassumption
  iintro H0
  iapply (le_wp_ret)
  isplitl [H0]; · iexact H0
  isplitl [H1] <;> iassumption

end Cert.Proof.Kernel

end
-- ==== Proof.Loop5.lean ====
/-
  The third phase: one pair per step. Its windows are awaited, the slot of results used eight pairs ago is reclaimed, the
  pair's results are computed and sent away, and the windows of the pair eight ahead are asked for.
-/
module

public import proofs.«01_k».proof.Proof.Parts5

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (R : Refs) (D : Inputs F) (c : Dev nD)

variable {D} (k : Fin k0_t5_loop.trips) (s : Fin 8)

def coefs (D : Inputs F) : sProp (Mk F) := iprop(own (F := F) c R.a3 D.ca ∗ own (F := F) c R.a4 D.cb ∗ own (F := F) c R.a5 D.cc ∗ own (F := F) c R.a6 D.nq)

theorem win_rest (ms : Memref sig .tc .hbm S16000x128 .f32) (md : Memref sig .tc .vmem S8x24x128 .f32) (o : Fin 2) (X : S16000x128.Idx → F .f32) {n : ℕ} (s : Fin 8) (h : ¬ n < 768) (Z : S8x24x128.Idx → F .f32) :
    iprop(winOwn (F := F) c md s Z ∗ winTok c ms X s ∗ semVal ((c : Thread nD τ), .dma (winSem R o s)) 0) ⊢ winSt R D c ms md o X s n := by
  unfold winSt
  rw [if_neg h]
  unfold winIdle
  iintro ⟨HC, HT, HS⟩
  isplitl [HC]; · iexists _; iexact HC
  isplitl [HT] <;> iassumption

theorem prog_ret_bind' {E : Type → Type} {α β : Type} (a : α) (k : α → Prog E β) : (Prog.ret a).bind k = k a := rfl

theorem out_first (mo : Memref sig .tc .hbm S12x8x16x8x128 .f32) (o : Fin 3) (f : ℕ → ℕ → F .f32) {n : ℕ} (s : Fin 8) (h : n < 8) : outSt R c mo o f s n ⊢ outFree R c o s := by
  unfold outSt
  rw [if_pos h]

theorem out_free (o : Fin 3) (s : Fin 8) : outFree (F := F) R c o s ⊢ iprop((∃ Z, slotOwn (F := F) R c o s Z) ∗ semVal ((c : Thread nD τ), .dma (outSem R o s)) 0) := by
  unfold outFree
  exact BIBase.Entails.rfl

theorem tables_open : tables R D c ⊢ iprop(own (F := F) c R.a14 (tab D.row) ∗ own (F := F) c R.a15 (tab D.off) ∗ own (F := F) c R.a16 (tab D.nch) ∗ own (F := F) c R.a17 (tab (base D.nch))) := by
  unfold tables
  exact BIBase.Entails.rfl

abbrev ret27 (D : Inputs F) (n : ℕ) : Σ' (_ : BitVec 32) (_ : BitVec 32) (_ : BitVec 32) (_ : F .f32) (_ : F .f32) (_ : F .f32) (_ : F .f32), BitVec 32 :=
  ⟨w n, Scalar.andi (w n) 7#32, w (D.szAt n), at2 D.ca n, at2 D.cb n, at2 D.cc n, at2 D.nq n, w (128 - D.off n)⟩

theorem ids_load {α : Type} {off : Fin 2 → ℕ} {inb} {h1} {hp}
    {k : BitVec 32 → Prog (TpuEff nD τ sig (Elt F) Λ₀ .tc) α} {Q : α → sProp (Mk F)} (n : ℕ) (ho : off = ![n / 64, n % 64]) :
    own (F := F) c R.a0 D.ids ⊢ iprop((own (F := F) c R.a0 D.ids -∗ Wp c (k (w (D.idAt n))) Q)
      -∗ Wp c (smemLoad R.a0 (Rect.unit (s := S12x64) off S1x1.size inb) h1 hp >>= k) Q) := by
  iintro H Hk
  iapply (wp_smemLoadOn Variants.none (c : Thread nD τ) none (m := R.a0) (h1 := h1) (hp := hp) (Finset.subset_univ _)) $$ H
  iintro H
  rw [atN_first 0#32 D.ids _ _ (v := ![n / 64, n % 64]) (fun a => (congrFun ho a).symm), show atN 0#32 D.ids ![n / 64, n % 64] = w (D.idAt n) from (w_toNat _).symm]
  iapply Hk $$ H

theorem sz_load {α : Type} {off : Fin 1 → ℕ} {inb} {h1} {hp}
    {k : BitVec 32 → Prog (TpuEff nD τ sig (Elt F) Λ₀ .tc) α} {Q : α → sProp (Mk F)} (n : ℕ) (ho : off = ![D.idAt n]) :
    own (F := F) c R.a2 D.sz ⊢ iprop((own (F := F) c R.a2 D.sz -∗ Wp c (k (w (D.szAt n))) Q)
      -∗ Wp c (smemLoad R.a2 (Rect.unit (s := S1000) off S1.size inb) h1 hp >>= k) Q) := by
  iintro H Hk
  iapply (wp_smemLoadOn Variants.none (c : Thread nD τ) none (m := R.a2) (h1 := h1) (hp := hp) (Finset.subset_univ _)) $$ H
  iintro H
  rw [atN_first 0#32 D.sz _ _ (v := ![D.idAt n]) (fun a => (congrFun ho a).symm), show atN 0#32 D.sz ![D.idAt n] = w (D.szAt n) from (w_toNat _).symm]
  iapply Hk $$ H

set_option maxHeartbeats 4000000 in
theorem part27_run (hD : D.Ok) (hsv : s.val = k.val % 8) (f0 f1 f2 : ℕ → ℕ → F .f32) :
    iprop(tables R D c ∗ look R D c ∗ coefs R c D ∗ winSt R D c R.a9 R.a23 0 D.nr s k.val ∗ winSt R D c R.a10 R.a24 1 D.io s k.val
        ∗ (outSt R c R.a11 0 f0 s k.val ∗ doneOwn c R.a11 f0 k.val) ∗ (outSt R c R.a12 1 f1 s k.val ∗ doneOwn c R.a12 f1 k.val) ∗ (outSt R c R.a13 2 f2 s k.val ∗ doneOwn c R.a13 f2 k.val)
        ∗ owesNone (c : Thread nD τ))
      ⊢ Wp c (part27 (F := F) R 0#32 1#32 k) fun a => iprop(⌜a = ret27 D k.val⌝ ∗ tables R D c ∗ look R D c ∗ coefs R c D
        ∗ (winOwn c R.a23 s (win D D.nr k.val) ∗ winTok c R.a9 D.nr s ∗ semVal ((c : Thread nD τ), .dma (winSem R 0 s)) 0)
        ∗ (winOwn c R.a24 s (win D D.io k.val) ∗ winTok c R.a10 D.io s ∗ semVal ((c : Thread nD τ), .dma (winSem R 1 s)) 0)
        ∗ (outFree R c 0 s ∗ doneOwn c R.a11 f0 (k.val + 1)) ∗ (outFree R c 1 s ∗ doneOwn c R.a12 f1 (k.val + 1)) ∗ (outFree R c 2 s ∗ doneOwn c R.a13 f2 (k.val + 1))
        ∗ owesNone (c : Thread nD τ)) := by
  have hn := lt5 k
  have hc3 := cond3_w k
  have hid := hD.id _ hn
  have hoff : D.off k.val < 128 := Nat.mod_lt _ (by decide)
  have v285 : Scalar.subi 128#32 (w (D.off k.val)) = w (128 - D.off k.val) := subi_w (a := 128) (by omega)
  have hs : ∀ o : ℕ, (![o, (Scalar.andi (Scf.iv 0#32 1#32 k.val) 7#32).toNat] : Fin 2 → ℕ) = ![o, s.val] := fun o => by rw [slot8, hsv]
  unfold tables look coefs
  delta part27
  rw [k0_part27_eq_skeleton]
  delta k0_part27_skel
  iintro ⟨⟨H14, H15, H16, H17⟩, ⟨H0, H1, H2⟩, ⟨H3, H4, H5, H6⟩, HW0, HW1, ⟨HA0, HD0⟩, ⟨HA1, HD1⟩, ⟨HA2, HD2⟩, HO⟩
  iapply (wp_tab c (m := R.a14) (f := D.row) (h1 := numel1_S1) (hp := rfl) k.val hn (ivN k)) $$ H14
  iintro H14
  iapply (wp_assume Variants.none (c : Thread nD τ) none Set.univ (show k0_chk21 (w (D.row k.val)) from row_ok hD hn))
  iapply (win_wait R D c R.a9 R.a23 0 D.nr (offd := k0_off105 k) (offs := k0_off106 (w (D.row k.val))) (offm := k0_off104 k) s k.val hn (hs 0)) $$ [HW0 HO]
  · isplitl [HW0]; · iexact HW0
    iexact HO
  iintro ⟨HW0, HT0, HS0, HO⟩
  iapply (win_wait R D c R.a10 R.a24 1 D.io (offd := k0_off108 k) (offs := k0_off106 (w (D.row k.val))) (offm := k0_off107 k) s k.val hn (hs 1)) $$ [HW1 HO]
  · isplitl [HW1]; · iexact HW1
    iexact HO
  iintro ⟨HW1, HT1, HS1, HO⟩
  by_cases h : 8 ≤ k.val
  · rw [dif_pos (hc3.mpr h)]
    have hs' : ∀ o : ℕ, (![o, (Scalar.andi (Scalar.subi (Scf.iv 0#32 1#32 k.val) 8#32) 7#32).toNat] : Fin 2 → ℕ) = ![o, s.val] := fun o => by rw [slot8' k h, hsv]
    iapply (out_wait R c R.a11 0 f0 (offd := k0_off110 k) (offs := k0_off111 k) (offm := k0_off109 k) s k.val h (hs' 0)) $$ [HA0 HO]
    · isplitl [HA0]; · iexact HA0
      iexact HO
    iintro ⟨HA0, HP0, HO⟩
    ihave HD0 := (done_step c R.a11 f0 k.val h) $$ [HD0 HP0]
    · isplitl [HD0] <;> iassumption
    iapply (out_wait R c R.a12 1 f1 (offd := k0_off110 k) (offs := k0_off113 k) (offm := k0_off112 k) s k.val h (hs' 1)) $$ [HA1 HO]
    · isplitl [HA1]; · iexact HA1
      iexact HO
    iintro ⟨HA1, HP1, HO⟩
    ihave HD1 := (done_step c R.a12 f1 k.val h) $$ [HD1 HP1]
    · isplitl [HD1] <;> iassumption
    iapply (out_wait R c R.a13 2 f2 (offd := k0_off110 k) (offs := k0_off115 k) (offm := k0_off114 k) s k.val h (hs' 2)) $$ [HA2 HO]
    · isplitl [HA2]; · iexact HA2
      iexact HO
    iintro ⟨HA2, HP2, HO⟩
    ihave HD2 := (done_step c R.a13 f2 k.val h) $$ [HD2 HP2]
    · isplitl [HD2] <;> iassumption
    iapply (wp_tab c (m := R.a15) (f := D.off) (h1 := numel1_S1) (hp := rfl) k.val hn (ivN k)) $$ H15
    iintro H15
    iapply (ids_load R c (D := D) (h1 := numel1_S1x1) (hp := rfl) k.val (off117 k)) $$ H0
    iintro H0
    iapply (wp_assume Variants.none (c : Thread nD τ) none Set.univ (show k0_chk22 (w (D.idAt k.val)) from fun a => by
      have ha : a = 0 := Subsingleton.elim _ _
      subst ha
      show (w (D.idAt k.val)).toNat + 1 ≤ 1000
      rw [toNat_w (by omega)]; omega))
    iapply (sz_load R c (D := D) (h1 := numel1_S1) (hp := rfl) k.val (show (![(w (D.idAt k.val)).toNat] : Fin 1 → ℕ) = ![D.idAt k.val] by rw [toNat_w (by omega)])) $$ H2
    iintro H2
    iapply (coef_load c (m := R.a3) (X := D.ca) (h1 := numel1_S1x1) (hp := rfl) k.val (off119 k)) $$ H3
    iintro H3
    iapply (coef_load c (m := R.a4) (X := D.cb) (h1 := numel1_S1x1) (hp := rfl) k.val (off119 k)) $$ H4
    iintro H4
    iapply (coef_load c (m := R.a5) (X := D.cc) (h1 := numel1_S1x1) (hp := rfl) k.val (off119 k)) $$ H5
    iintro H5
    iapply (coef_load c (m := R.a6) (X := D.nq) (h1 := numel1_S1x1) (hp := rfl) k.val (off119 k)) $$ H6
    iintro H6
    iapply (le_wp_ret)
    isplitr
    · ipureintro
      show _ = ret27 D k.val
      unfold ret27
      rw [← v285, ← iv5 k]
    isplitl [H14 H15 H16 H17]
    · isplitl [H14]; · iexact H14
      isplitl [H15]; · iexact H15
      isplitl [H16] <;> iassumption
    isplitl [H0 H1 H2]
    · isplitl [H0]; · iexact H0
      isplitl [H1] <;> iassumption
    isplitl [H3 H4 H5 H6]
    · isplitl [H3]; · iexact H3
      isplitl [H4]; · iexact H4
      isplitl [H5] <;> iassumption
    isplitl [HW0 HT0 HS0]
    · isplitl [HW0]; · iexact HW0
      isplitl [HT0] <;> iassumption
    isplitl [HW1 HT1 HS1]
    · isplitl [HW1]; · iexact HW1
      isplitl [HT1] <;> iassumption
    isplitl [HA0 HD0]; · isplitl [HA0] <;> iassumption
    isplitl [HA1 HD1]; · isplitl [HA1] <;> iassumption
    isplitl [HA2 HD2]; · isplitl [HA2] <;> iassumption
    iexact HO
  · rw [dif_neg (fun e => h (hc3.mp e))]
    rw [prog_ret_bind']
    beta_reduce
    have h' : k.val < 8 := by omega
    ihave HA0 := (out_first R c R.a11 0 f0 s h') $$ HA0
    ihave HD0 := (done_step0 (F := F) c R.a11 f0 k.val h') $$ HD0
    ihave HA1 := (out_first R c R.a12 1 f1 s h') $$ HA1
    ihave HD1 := (done_step0 (F := F) c R.a12 f1 k.val h') $$ HD1
    ihave HA2 := (out_first R c R.a13 2 f2 s h') $$ HA2
    ihave HD2 := (done_step0 (F := F) c R.a13 f2 k.val h') $$ HD2
    iapply (wp_tab c (m := R.a15) (f := D.off) (h1 := numel1_S1) (hp := rfl) k.val hn (ivN k)) $$ H15
    iintro H15
    iapply (ids_load R c (D := D) (h1 := numel1_S1x1) (hp := rfl) k.val (off117 k)) $$ H0
    iintro H0
    iapply (wp_assume Variants.none (c : Thread nD τ) none Set.univ (show k0_chk22 (w (D.idAt k.val)) from fun a => by
      have ha : a = 0 := Subsingleton.elim _ _
      subst ha
      show (w (D.idAt k.val)).toNat + 1 ≤ 1000
      rw [toNat_w (by omega)]; omega))
    iapply (sz_load R c (D := D) (h1 := numel1_S1) (hp := rfl) k.val (show (![(w (D.idAt k.val)).toNat] : Fin 1 → ℕ) = ![D.idAt k.val] by rw [toNat_w (by omega)])) $$ H2
    iintro H2
    iapply (coef_load c (m := R.a3) (X := D.ca) (h1 := numel1_S1x1) (hp := rfl) k.val (off119 k)) $$ H3
    iintro H3
    iapply (coef_load c (m := R.a4) (X := D.cb) (h1 := numel1_S1x1) (hp := rfl) k.val (off119 k)) $$ H4
    iintro H4
    iapply (coef_load c (m := R.a5) (X := D.cc) (h1 := numel1_S1x1) (hp := rfl) k.val (off119 k)) $$ H5
    iintro H5
    iapply (coef_load c (m := R.a6) (X := D.nq) (h1 := numel1_S1x1) (hp := rfl) k.val (off119 k)) $$ H6
    iintro H6
    iapply (le_wp_ret)
    isplitr
    · ipureintro
      show _ = ret27 D k.val
      unfold ret27
      rw [← v285, ← iv5 k]
    isplitl [H14 H15 H16 H17]
    · isplitl [H14]; · iexact H14
      isplitl [H15]; · iexact H15
      isplitl [H16] <;> iassumption
    isplitl [H0 H1 H2]
    · isplitl [H0]; · iexact H0
      isplitl [H1] <;> iassumption
    isplitl [H3 H4 H5 H6]
    · isplitl [H3]; · iexact H3
      isplitl [H4]; · iexact H4
      isplitl [H5] <;> iassumption
    isplitl [HW0 HT0 HS0]
    · isplitl [HW0]; · iexact HW0
      isplitl [HT0] <;> iassumption
    isplitl [HW1 HT1 HS1]
    · isplitl [HW1]; · iexact HW1
      isplitl [HT1] <;> iassumption
    isplitl [HA0 HD0]; · isplitl [HA0] <;> iassumption
    isplitl [HA1 HD1]; · isplitl [HA1] <;> iassumption
    isplitl [HA2 HD2]; · isplitl [HA2] <;> iassumption
    iexact HO

/-- What holds before pair `t`: the tables, the windows of eight pairs on their way or come, the results of the pairs
before sent away. -/
def I5 (X Y : S15384x128.Idx → BitVec 32) (f0 f1 f2 : ℕ → ℕ → F .f32) (t : ℕ) (_ : Unit) : sProp (Mk F) :=
  iprop(tables R D c ∗ look R D c ∗ coefs R c D
    ∗ (BI.bigSep Finset.univ fun s : Fin 8 => winSt R D c R.a9 R.a23 0 D.nr s (slotIx 8 t s.val))
    ∗ (BI.bigSep Finset.univ fun s : Fin 8 => winSt R D c R.a10 R.a24 1 D.io s (slotIx 8 t s.val))
    ∗ stream R c R.a11 0 f0 t ∗ stream R c R.a12 1 f1 t ∗ stream R c R.a13 2 f2 t
    ∗ own (F := F) c R.a21 X ∗ own (F := F) c R.a22 Y ∗ (∃ V, own (F := F) c R.a26 (rollA V)) ∗ (∃ V, own (F := F) c R.a27 (rollA V)) ∗ owesNone (c : Thread nD τ))

set_option maxHeartbeats 8000000 in
theorem loop5_step (hD : D.Ok) (v89 : BitVec 32) (hw20 : k0_chk20 v89) (X Y : S15384x128.Idx → BitVec 32) (f0 f1 f2 : ℕ → ℕ → F .f32)
    (hf : Agree D k.val (pkX X Y (base D.nch k.val)) f0 f1 f2) (acc : Unit) :
    I5 R c (D := D) X Y f0 f1 f2 k.val acc ⊢ Wp c (body5 (F := F) R v89 hw20 rowsI lanesI k acc) (I5 R c (D := D) X Y f0 f1 f2 (k.val + 1)) := by
  have hn := lt5 k
  have hc4 := cond4_w k
  have hm : k.val % 8 < 8 := Nat.mod_lt _ (by decide)
  obtain ⟨s, hsv⟩ : ∃ s : Fin 8, s.val = k.val % 8 := ⟨⟨k.val % 8, hm⟩, rfl⟩
  have hs : ∀ o : ℕ, (![o, (Scalar.andi (Scf.iv 0#32 1#32 k.val) 7#32).toNat] : Fin 2 → ℕ) = ![o, s.val] := fun o => by rw [slot8, hsv]
  have hs4 : ∀ o : ℕ, (![o, (Scalar.andi (Scf.iv 0#32 1#32 k.val) 7#32).toNat, 0, 0] : Fin 4 → ℕ) = ![o, s.val, 0, 0] := fun o => by rw [slot8, hsv]
  have hsA : ∀ o : ℕ, (![o, (Scalar.andi (Scalar.addi (Scf.iv 0#32 1#32 k.val) 8#32) 7#32).toNat] : Fin 2 → ℕ) = ![o, s.val] := fun o => by rw [slot8'', hsv]
  have hsA3 : (![(Scalar.andi (Scalar.addi (Scf.iv 0#32 1#32 k.val) 8#32) 7#32).toNat, 0, 0] : Fin 3 → ℕ) = ![s.val, 0, 0] := by rw [slot8'', hsv]
  unfold I5
  iintro ⟨HT, HL, HK, HB0, HB1, HR0, HR1, HR2, H21, H22, ⟨%V26, H26⟩, ⟨%V27, H27⟩, HO⟩
  delta body5 k0_t5_body
  ihave HB0 := (bigSep_swap (fun s : Fin 8 => winSt R D c R.a9 R.a23 0 D.nr s (slotIx 8 k.val s.val)) (fun s : Fin 8 => winSt R D c R.a9 R.a23 0 D.nr s (slotIx 8 (k.val + 1) s.val)) s (fun j hj => by
      rw [slotIx_succ_of_ne (by decide) j.isLt (fun h => hj (Fin.ext (h.trans hsv.symm)))])) $$ HB0
  ihave HB1 := (bigSep_swap (fun s : Fin 8 => winSt R D c R.a10 R.a24 1 D.io s (slotIx 8 k.val s.val)) (fun s : Fin 8 => winSt R D c R.a10 R.a24 1 D.io s (slotIx 8 (k.val + 1) s.val)) s (fun j hj => by
      rw [slotIx_succ_of_ne (by decide) j.isLt (fun h => hj (Fin.ext (h.trans hsv.symm)))])) $$ HB1
  ihave HR0 := (stream_open R c R.a11 0 f0 k.val s hsv) $$ HR0
  icases HR0 with ⟨HA0, HD0, ⟨%ZP0, HP0⟩, HR0⟩
  ihave HR1 := (stream_open R c R.a12 1 f1 k.val s hsv) $$ HR1
  icases HR1 with ⟨HA1, HD1, ⟨%ZP1, HP1⟩, HR1⟩
  ihave HR2 := (stream_open R c R.a13 2 f2 k.val s hsv) $$ HR2
  icases HR2 with ⟨HA2, HD2, ⟨%ZP2, HP2⟩, HR2⟩
  rw [hsv, slotIx_self (by decide), slotIx_succ_self (by decide)]
  icases HB0 with ⟨HW0, HB0⟩
  icases HB1 with ⟨HW1, HB1⟩
  iapply (wp_call c (part27_run R c k s hD hsv f0 f1 f2)) $$ [HT HL HK HW0 HW1 HA0 HD0 HA1 HD1 HA2 HD2 HO]
  · isplitl [HT]; · iexact HT
    isplitl [HL]; · iexact HL
    isplitl [HK]; · iexact HK
    isplitl [HW0]; · iexact HW0
    isplitl [HW1]; · iexact HW1
    isplitl [HA0 HD0]; · isplitl [HA0] <;> iassumption
    isplitl [HA1 HD1]; · isplitl [HA1] <;> iassumption
    isplitl [HA2 HD2]; · isplitl [HA2] <;> iassumption
    iexact HO
  iintro %a1 ⟨%e1, HT, HL, HK, ⟨HW0, HK0, HV0⟩, ⟨HW1, HK1, HV1⟩, ⟨HA0, HD0⟩, ⟨HA1, HD1⟩, ⟨HA2, HD2⟩, HO⟩
  subst e1
  try dsimp only
  ihave HT := (tables_open R c) $$ HT
  ihave HA0 := (out_free R c 0 s) $$ HA0
  ihave HA1 := (out_free R c 1 s) $$ HA1
  ihave HA2 := (out_free R c 2 s) $$ HA2
  icases HT with ⟨H14, H15, H16, H17⟩
  icases HA0 with ⟨⟨%Z0, HZ0⟩, HS0⟩
  icases HA1 with ⟨⟨%Z1, HZ1⟩, HS1⟩
  icases HA2 with ⟨⟨%Z2, HZ2⟩, HS2⟩
  iapply (wp_call c (part28_run R c k hD X Y V26 _)) $$ [H17 H21 H22 H26]
  · isplitl [H17]; · iexact H17
    isplitl [H21]; · iexact H21
    isplitl [H22] <;> iassumption
  iintro %a2 ⟨%e2, H17, H21, H22, H26⟩
  subst e2
  try dsimp only
  iapply (wp_call c (part29_run R c k s hsv (pkX X Y (base D.nch k.val)) V26 V27 _)) $$ [H26 HW0 H27]
  · isplitl [H26]; · iexact H26
    isplitl [HW0] <;> iassumption
  iintro %a3 ⟨%e3, ⟨%V26', H26⟩, HW0, H27⟩
  subst e3
  try dsimp only
  iapply (wp_call c (part30_run R c k s hsv V27 _)) $$ [HW1 H27]
  · isplitl [HW1] <;> iassumption
  iintro %a4 ⟨%e4, HW1, ⟨%V27', H27⟩⟩
  subst e4
  try dsimp only
  iapply (wp_call c (part31_run R c k (pkX X Y (base D.nch k.val)) V27')) $$ [H27]
  · iexact H27
  iintro %a5 ⟨%e5, ⟨%V27'', H27⟩⟩
  subst e5
  try dsimp only
  iapply (wp_call c (part32_run R c k s f0 f1 f2 (pkX X Y (base D.nch k.val)) hD hsv hf Z0 Z1 Z2 _)) $$ [HZ0 HZ1 HZ2]
  · isplitl [HZ0]; · iexact HZ0
    isplitl [HZ1] <;> iassumption
  iintro %a6 ⟨HZ0, HZ1, HZ2⟩
  iapply (wp_call c (part33_run R c k s f0 f1 f2 (pkX X Y (base D.nch k.val)) hD hsv hf _ _)) $$ [HZ0]
  · iexact HZ0
  iintro %a7 ⟨%e7, HZ0⟩
  subst e7
  try dsimp only
  iapply (wp_call c (part34_run R c k s f0 f1 f2 (pkX X Y (base D.nch k.val)) hD hsv hf Z0 Z1 Z2 ZP0 _ _)) $$ [HZ0 HZ1 HZ2 HP0 HS0]
  · isplitl [HZ0]; · iexact HZ0
    isplitl [HZ1]; · iexact HZ1
    isplitl [HZ2]; · iexact HZ2
    isplitl [HP0] <;> iassumption
  iintro %a8 ⟨HA0, HZ1, HZ2⟩
  iapply (out_enq R c R.a12 1 f1 (offd := k0_off132 k) (offs := k0_off135 k) (offm := k0_off134 k) s k.val ZP1 (off132 k) (hs4 1) (hs 1)) $$ [HZ1 HP1 HS1]
  · isplitl [HZ1]; · iexact HZ1
    isplitl [HP1] <;> iassumption
  iintro HA1
  iapply (out_enq R c R.a13 2 f2 (offd := k0_off132 k) (offs := k0_off137 k) (offm := k0_off136 k) s k.val ZP2 (off132 k) (hs4 2) (hs 2)) $$ [HZ2 HP2 HS2]
  · isplitl [HZ2]; · iexact HZ2
    isplitl [HP2] <;> iassumption
  iintro HA2
  ihave HR0 := HR0 $$ [HA0 HD0]
  · isplitl [HA0] <;> iassumption
  ihave HR1 := HR1 $$ [HA1 HD1]
  · isplitl [HA1] <;> iassumption
  ihave HR2 := HR2 $$ [HA2 HD2]
  · isplitl [HA2] <;> iassumption
  by_cases h : k.val + 8 < 768
  · rw [dif_pos (hc4.mpr h)]
    iapply (wp_tab c (m := R.a14) (f := D.row) (h1 := numel1_S1) (hp := rfl) (k.val + 8) h (iv8N k)) $$ H14
    iintro H14
    iapply (wp_assume Variants.none (c : Thread nD τ) none Set.univ (show k0_chk24 k (w (D.row (k.val + 8))) from fun _ => row_ok hD h))
    iapply (win_enq R D c R.a9 R.a23 0 D.nr (offd := k0_off140 k) (offs := k0_off141 (w (D.row (k.val + 8)))) (offm := k0_off139 k) s (k.val + 8) h hsA3 (row_off hD h) (hsA 0)) $$ [HW0 HK0 HV0]
    · unfold winIdle
      isplitl [HW0]; · iexists _; iexact HW0
      isplitl [HK0] <;> iassumption
    iintro HW0
    iapply (win_enq R D c R.a10 R.a24 1 D.io (offd := k0_off143 k) (offs := k0_off141 (w (D.row (k.val + 8)))) (offm := k0_off142 k) s (k.val + 8) h hsA3 (row_off hD h) (hsA 1)) $$ [HW1 HK1 HV1]
    · unfold winIdle
      isplitl [HW1]; · iexists _; iexact HW1
      isplitl [HK1] <;> iassumption
    iintro HW1
    iapply (le_wp_ret)
    ihave HB0 := HB0 $$ HW0
    ihave HB1 := HB1 $$ HW1
    isplitl [H14 H15 H16 H17]
    · unfold tables
      isplitl [H14]; · iexact H14
      isplitl [H15]; · iexact H15
      isplitl [H16] <;> iassumption
    isplitl [HL]; · iexact HL
    isplitl [HK]; · iexact HK
    isplitl [HB0]; · iexact HB0
    isplitl [HB1]; · iexact HB1
    isplitl [HR0]; · iexact HR0
    isplitl [HR1]; · iexact HR1
    isplitl [HR2]; · iexact HR2
    isplitl [H21]; · iexact H21
    isplitl [H22]; · iexact H22
    isplitl [H26]; · iexists _; iexact H26
    isplitl [H27]; · iexists _; iexact H27
    iexact HO
  · rw [dif_neg (fun e => h (hc4.mp e))]
    rw [prog_ret_bind']
    beta_reduce
    ihave HW0 := (win_rest R c R.a9 R.a23 0 D.nr s h (win D D.nr k.val)) $$ [HW0 HK0 HV0]
    · isplitl [HW0]; · iexact HW0
      isplitl [HK0] <;> iassumption
    ihave HW1 := (win_rest R c R.a10 R.a24 1 D.io s h (win D D.io k.val)) $$ [HW1 HK1 HV1]
    · isplitl [HW1]; · iexact HW1
      isplitl [HK1] <;> iassumption
    iapply (le_wp_ret)
    ihave HB0 := HB0 $$ HW0
    ihave HB1 := HB1 $$ HW1
    isplitl [H14 H15 H16 H17]
    · unfold tables
      isplitl [H14]; · iexact H14
      isplitl [H15]; · iexact H15
      isplitl [H16] <;> iassumption
    isplitl [HL]; · iexact HL
    isplitl [HK]; · iexact HK
    isplitl [HB0]; · iexact HB0
    isplitl [HB1]; · iexact HB1
    isplitl [HR0]; · iexact HR0
    isplitl [HR1]; · iexact HR1
    isplitl [HR2]; · iexact HR2
    isplitl [H21]; · iexact H21
    isplitl [H22]; · iexact H22
    isplitl [H26]; · iexists _; iexact H26
    isplitl [H27]; · iexists _; iexact H27
    iexact HO

end Cert.Proof.Kernel

end
-- ==== Proof.Parts3.lean ====
/-
  The third loop, in the twelve parts of its body that read the step's planes and codes and write the half sums.
-/
module

public import proofs.«01_k».proof.Proof.Step

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (R : Refs) (D : Inputs F) (c : Dev nD)

variable {D} {v1 : BitVec 32} {hw4 : k0_chk4 v1} (k : Fin (k0_t3_loop v1).trips) (s : Fin 16) (j n : ℕ)

theorem tabInb {n : ℕ} (hn : n < 768) : ∀ a : Fin 1, (![(w n).toNat] : Fin 1 → ℕ) a + S1.size a ≤ S768.size a := fun a => by
  have : a = 0 := Subsingleton.elim _ _
  subst this; show (w n).toNat + 1 ≤ 768; rw [toNat_w (by omega)]; omega
theorem plInb {n : ℕ} (hn : n < 768) (q : ℕ) (hq : q < 16) : ∀ a : Fin 3, (![(Scalar.shrsi (w n) 6#32).toNat, 8 * q, 0] : Fin 3 → ℕ) a + S1x8x128.size a ≤ S12x128x128.size a := fun a => by
  rw [sh6 hn]
  fin_cases a
  · show n / 64 + 1 ≤ 12; omega
  · show 8 * q + 8 ≤ 128; omega
  · exact le_refl 128
theorem planeOff {n : ℕ} (hn : n < 768) (q : ℕ) : (![(Scalar.shrsi (w n) 6#32).toNat, 8 * q, 0] : Fin 3 → ℕ) = ![n / 64, 8 * q, 0] := by rw [sh6 hn]
theorem codeOff {k s : ℕ} (hk : k < 2 ^ 31) (hs : s = k % 16) (x y : ℕ) : (![(Scalar.andi (Scf.iv 0#32 1#32 k) 15#32).toNat, x, y] : Fin 3 → ℕ) = ![s, x, y] := by rw [slotW hk, hs]
theorem codeOff1 {k s : ℕ} (hk : k < 2 ^ 31) (hs : s = k % 16) : (![(Scalar.andi (Scf.iv 0#32 1#32 k) 15#32).toNat] : Fin 1 → ℕ) = ![s] := by rw [slotW hk, hs]

theorem chk5_w (hn : n < 768) : k0_chk5 (w n) :=
  ⟨tabInb hn, plInb hn 0 (by decide), plInb hn 1 (by decide), plInb hn 2 (by decide), plInb hn 3 (by decide), plInb hn 4 (by decide), plInb hn 5 (by decide), plInb hn 6 (by decide), plInb hn 7 (by decide), plInb hn 8 (by decide), plInb hn 9 (by decide), plInb hn 10 (by decide), plInb hn 11 (by decide), plInb hn 12 (by decide), plInb hn 13 (by decide), plInb hn 14 (by decide), plInb hn 15 (by decide), tabInb hn⟩

theorem part2_run (hn : n < 768) (h5 : k0_chk5 (w n)) (v259 : BitVec 32) (v : IVec S8x128 32) :
    own (F := F) c R.a7 D.pl ⊢ Wp c (part2 (F := F) R (w n) h5 v259 v) fun a => iprop(⌜a = ⟨k0_pay4 (F := F) v (planeRaw D n 2), k0_pay5 (F := F) v (planeRaw D n 3), k0_pay6 (F := F) v (planeRaw D n 4), k0_pay7 (F := F) v (planeRaw D n 5)⟩⌝ ∗ own (F := F) c R.a7 D.pl) := by
  delta part2
  rw [k0_part2_eq_skeleton]
  delta k0_part2_skel
  iintro H
  iapply (plane_load R D c n 2 (planeOff hn 2)) $$ H
  iintro H
  iapply (plane_load R D c n 3 (planeOff hn 3)) $$ H
  iintro H
  iapply (plane_load R D c n 4 (planeOff hn 4)) $$ H
  iintro H
  iapply (plane_load R D c n 5 (planeOff hn 5)) $$ H
  iintro H
  iapply (le_wp_ret)
  isplitr
  · ipureintro; rfl
  iexact H

theorem part3_run (hn : n < 768) (h5 : k0_chk5 (w n)) (v259 : BitVec 32) (v : IVec S8x128 32) :
    own (F := F) c R.a7 D.pl ⊢ Wp c (part3 (F := F) R (w n) h5 v259 v) fun a => iprop(⌜a = ⟨k0_pay8 (F := F) v (planeRaw D n 6), k0_pay9 (F := F) v (planeRaw D n 7), k0_pay10 (F := F) v (planeRaw D n 8), k0_pay11 (F := F) v (planeRaw D n 9)⟩⌝ ∗ own (F := F) c R.a7 D.pl) := by
  delta part3
  rw [k0_part3_eq_skeleton]
  delta k0_part3_skel
  iintro H
  iapply (plane_load R D c n 6 (planeOff hn 6)) $$ H
  iintro H
  iapply (plane_load R D c n 7 (planeOff hn 7)) $$ H
  iintro H
  iapply (plane_load R D c n 8 (planeOff hn 8)) $$ H
  iintro H
  iapply (plane_load R D c n 9 (planeOff hn 9)) $$ H
  iintro H
  iapply (le_wp_ret)
  isplitr
  · ipureintro; rfl
  iexact H

theorem part4_run (hn : n < 768) (h5 : k0_chk5 (w n)) (v259 : BitVec 32) (v : IVec S8x128 32) :
    own (F := F) c R.a7 D.pl ⊢ Wp c (part4 (F := F) R (w n) h5 v259 v) fun a => iprop(⌜a = ⟨k0_pay12 (F := F) v (planeRaw D n 10), k0_pay13 (F := F) v (planeRaw D n 11), k0_pay14 (F := F) v (planeRaw D n 12), k0_pay15 (F := F) v (planeRaw D n 13)⟩⌝ ∗ own (F := F) c R.a7 D.pl) := by
  delta part4
  rw [k0_part4_eq_skeleton]
  delta k0_part4_skel
  iintro H
  iapply (plane_load R D c n 10 (planeOff hn 10)) $$ H
  iintro H
  iapply (plane_load R D c n 11 (planeOff hn 11)) $$ H
  iintro H
  iapply (plane_load R D c n 12 (planeOff hn 12)) $$ H
  iintro H
  iapply (plane_load R D c n 13 (planeOff hn 13)) $$ H
  iintro H
  iapply (le_wp_ret)
  isplitr
  · ipureintro; rfl
  iexact H

set_option maxHeartbeats 2000000 in
theorem part5_run (hk : k.val < 2 ^ 31) (hs : s.val = k.val % 16) (hn : n < 768) (h5 : k0_chk5 (w n)) (v2 : IVec S2x128 32) (v247 v259 : BitVec 32) (v261 v404 : IVec S8x128 32) :
    iprop(own (F := F) c R.a7 D.pl ∗ codeOwn (F := F) R c s (chunk D j)) ⊢ Wp c (part5 (F := F) R v1 hw4 v2 k (w n) h5 v247 v259 v261 v404) fun a => iprop(⌜a = ⟨k0_pay16 (F := F) v261 (planeRaw D n 14), k0_pay17 (F := F) v261 (planeRaw D n 15), k0_pay18 (F := F) (codeRaw D j 0 0), k0_pay19 (F := F) (codeRaw D j 0 1), k0_pay20 (F := F) (codeRaw D j 0 2), k0_pay21 (F := F) v2 (codeRaw6 D j 0), k0_pay22 (F := F) v2 (codeRaw D j 0 0) (codeRaw D j 0 1) (codeRaw D j 0 2) (codeRaw6 D j 0), k0_pay23 (F := F) v404 (codeRaw D j 0 0)⟩⌝ ∗ own (F := F) c R.a7 D.pl ∗ codeOwn (F := F) R c s (chunk D j)) := by
  delta part5
  rw [k0_part5_eq_skeleton]
  delta k0_part5_skel
  iintro ⟨H, HC⟩
  iapply (plane_load R D c n 14 (planeOff hn 14)) $$ H
  iintro H
  iapply (plane_load R D c n 15 (planeOff hn 15)) $$ H
  iintro H
  iapply (code_load R D c s j 0 0 (by decide) (by decide) (codeOff hk hs (8 * 0) (128 * 0))) $$ HC
  iintro HC
  iapply (code_load R D c s j 0 1 (by decide) (by decide) (codeOff hk hs (8 * 1) (128 * 0))) $$ HC
  iintro HC
  iapply (code_load R D c s j 0 2 (by decide) (by decide) (codeOff hk hs (8 * 2) (128 * 0))) $$ HC
  iintro HC
  iapply (code_load6 R D c s j 0 (by decide) (codeOff hk hs 24 (128 * 0))) $$ HC
  iintro HC
  iapply (le_wp_ret)
  isplitr
  · ipureintro; rfl
  isplitl [H] <;> iassumption

theorem part6_run (P : sProp (Mk F)) (v272 v283 v294 v305 v316 v327 v338 v349 v360 v371 v382 v393 v415 v426 v437 v440 v443 v446 v450 v460 : IVec S8x128 32) :
    P ⊢ Wp c (part6 (F := F) R v272 v283 v294 v305 v316 v327 v338 v349 v360 v371 v382 v393 v415 v426 v437 v440 v443 v446 v450 v460) fun a =>
      iprop(⌜a = ⟨k0_pay24 v272 v283 v294 v305 v440 v443 v446 v450, k0_pay25 v316 v327 v338 v349 v360 v371 v382 v393 v415 v426 v437 v440 v443 v446 v450 v460⟩⌝ ∗ P) := by
  delta part6
  rw [k0_part6_eq_skeleton]
  delta k0_part6_skel
  iintro H
  iapply (le_wp_ret)
  isplitr
  · ipureintro; rfl
  iexact H

set_option maxHeartbeats 2000000 in
theorem part7_run (hk : k.val < 2 ^ 31) (hs : s.val = k.val % 16) (V : ℕ → V8) (v2 : IVec S2x128 32) (v247 : BitVec 32) (v360 v404 v415 v426 v437 v459 v515 v516 : IVec S8x128 32) :
    iprop(own (F := F) c R.a20 (redA V) ∗ codeOwn (F := F) R c s (chunk D j)) ⊢ Wp c (part7 (F := F) R v1 hw4 v2 k v247 v360 v404 v415 v426 v437 v459 v515 v516) fun a => iprop(⌜a = ⟨k0_pay28 (F := F) (codeRaw D j 1 0), k0_pay29 (F := F) (codeRaw D j 1 1), k0_pay30 (F := F) (codeRaw D j 1 2), k0_pay31 (F := F) v2 (codeRaw6 D j 1), k0_pay32 (F := F) v2 (codeRaw D j 1 0) (codeRaw D j 1 1) (codeRaw D j 1 2) (codeRaw6 D j 1), k0_pay33 (F := F) v2 v404 v415 v426 v437 (codeRaw D j 1 0) (codeRaw D j 1 1) (codeRaw D j 1 2) (codeRaw6 D j 1), k0_pay34 (F := F) v360 (codeRaw D j 1 0)⟩⌝ ∗ own (F := F) c R.a20 (redA (Function.update (Function.update V 0 (k0_pay26 v515 v516)) 4 (k0_pay27 v459))) ∗ codeOwn (F := F) R c s (chunk D j)) := by
  delta part7
  rw [k0_part7_eq_skeleton]
  delta k0_part7_skel
  iintro ⟨HV, HC⟩
  iapply (dead_load c (m := R.a20)) $$ HV
  iintro %_ HV
  iapply (red_store R c _ 0 rfl) $$ HV
  iintro HV
  iapply (dead_load c (m := R.a20)) $$ HV
  iintro %_ HV
  iapply (red_store R c _ 4 rfl) $$ HV
  iintro HV
  iapply (code_load R D c s j 1 0 (by decide) (by decide) (codeOff hk hs (8 * 0) (128 * 1))) $$ HC
  iintro HC
  iapply (code_load R D c s j 1 1 (by decide) (by decide) (codeOff hk hs (8 * 1) (128 * 1))) $$ HC
  iintro HC
  iapply (code_load R D c s j 1 2 (by decide) (by decide) (codeOff hk hs (8 * 2) (128 * 1))) $$ HC
  iintro HC
  iapply (code_load6 R D c s j 1 (by decide) (codeOff hk hs 24 (128 * 1))) $$ HC
  iintro HC
  iapply (le_wp_ret)
  isplitr
  · ipureintro; rfl
  isplitl [HV] <;> iassumption

set_option maxHeartbeats 2000000 in
theorem part8_run (V : ℕ → V8) (v247 : BitVec 32) (v272 v283 v294 v305 v316 v327 v338 v349 v371 v382 v393 v526 v529 v532 v536 v545 v558 v560 : IVec S8x128 32) :
    own (F := F) c R.a20 (redA V) ⊢ Wp c (part8 (F := F) R v247 v272 v283 v294 v305 v316 v327 v338 v349 v371 v382 v393 v526 v529 v532 v536 v545 v558 v560) fun a => iprop(⌜a = ⟨⟩⌝ ∗ own (F := F) c R.a20 (redA (Function.update (Function.update V 1 (k0_pay35 v272 v283 v294 v305 v316 v327 v338 v349 v371 v382 v393 v526 v529 v532 v536 v558 v560)) 5 (k0_pay36 v545)))) := by
  delta part8
  rw [k0_part8_eq_skeleton]
  delta k0_part8_skel
  iintro HV
  iapply (dead_load c (m := R.a20)) $$ HV
  iintro %_ HV
  iapply (red_store R c _ 1 rfl) $$ HV
  iintro HV
  iapply (dead_load c (m := R.a20)) $$ HV
  iintro %_ HV
  iapply (red_store R c _ 5 rfl) $$ HV
  iintro HV
  iapply (le_wp_ret)
  isplitr
  · ipureintro; rfl
  iexact HV

set_option maxHeartbeats 2000000 in
theorem part9_run (hk : k.val < 2 ^ 31) (hs : s.val = k.val % 16) (v2 : IVec S2x128 32) (v247 : BitVec 32) (v316 v360 v371 v382 v393 v404 v415 v426 v437 : IVec S8x128 32) :
    codeOwn (F := F) R c s (chunk D j) ⊢ Wp c (part9 (F := F) R v1 hw4 v2 k v247 v316 v360 v371 v382 v393 v404 v415 v426 v437) fun a => iprop(⌜a = ⟨k0_pay37 (F := F) (codeRaw D j 2 0), k0_pay38 (F := F) (codeRaw D j 2 1), k0_pay39 (F := F) (codeRaw D j 2 2), k0_pay40 (F := F) v2 (codeRaw6 D j 2), k0_pay41 (F := F) v2 (codeRaw D j 2 0) (codeRaw D j 2 1) (codeRaw D j 2 2) (codeRaw6 D j 2), k0_pay42 (F := F) v2 v360 v371 v382 v393 v404 v415 v426 v437 (codeRaw D j 2 0) (codeRaw D j 2 1) (codeRaw D j 2 2) (codeRaw6 D j 2), k0_pay43 (F := F) v316 (codeRaw D j 2 0)⟩⌝ ∗ codeOwn (F := F) R c s (chunk D j)) := by
  delta part9
  rw [k0_part9_eq_skeleton]
  delta k0_part9_skel
  iintro HC
  iapply (code_load R D c s j 2 0 (by decide) (by decide) (codeOff hk hs (8 * 0) (128 * 2))) $$ HC
  iintro HC
  iapply (code_load R D c s j 2 1 (by decide) (by decide) (codeOff hk hs (8 * 1) (128 * 2))) $$ HC
  iintro HC
  iapply (code_load R D c s j 2 2 (by decide) (by decide) (codeOff hk hs (8 * 2) (128 * 2))) $$ HC
  iintro HC
  iapply (code_load6 R D c s j 2 (by decide) (codeOff hk hs 24 (128 * 2))) $$ HC
  iintro HC
  iapply (le_wp_ret)
  isplitr
  · ipureintro; rfl
  iexact HC

set_option maxHeartbeats 2000000 in
theorem part10_run (hk : k.val < 2 ^ 31) (hs : s.val = k.val % 16) (V : ℕ → V8) (v247 : BitVec 32) (v272 v283 v294 v305 v327 v338 v349 v612 v615 v618 v622 v631 v659 v660 : IVec S8x128 32) :
    iprop(own (F := F) c R.a20 (redA V) ∗ codeOwn (F := F) R c s (chunk D j)) ⊢ Wp c (part10 (F := F) R v1 hw4 k v247 v272 v283 v294 v305 v327 v338 v349 v612 v615 v618 v622 v631 v659 v660) fun a => iprop(⌜a = ⟨k0_pay46 (F := F) (codeRaw D j 3 0), k0_pay47 (F := F) (codeRaw D j 3 1), k0_pay48 (F := F) (codeRaw D j 3 2)⟩⌝ ∗ own (F := F) c R.a20 (redA (Function.update (Function.update V 2 (k0_pay44 v272 v283 v294 v305 v327 v338 v349 v612 v615 v618 v622 v659 v660)) 6 (k0_pay45 v631))) ∗ codeOwn (F := F) R c s (chunk D j)) := by
  delta part10
  rw [k0_part10_eq_skeleton]
  delta k0_part10_skel
  iintro ⟨HV, HC⟩
  iapply (dead_load c (m := R.a20)) $$ HV
  iintro %_ HV
  iapply (red_store R c _ 2 rfl) $$ HV
  iintro HV
  iapply (dead_load c (m := R.a20)) $$ HV
  iintro %_ HV
  iapply (red_store R c _ 6 rfl) $$ HV
  iintro HV
  iapply (code_load R D c s j 3 0 (by decide) (by decide) (codeOff hk hs (8 * 0) (128 * 3))) $$ HC
  iintro HC
  iapply (code_load R D c s j 3 1 (by decide) (by decide) (codeOff hk hs (8 * 1) (128 * 3))) $$ HC
  iintro HC
  iapply (code_load R D c s j 3 2 (by decide) (by decide) (codeOff hk hs (8 * 2) (128 * 3))) $$ HC
  iintro HC
  iapply (le_wp_ret)
  isplitr
  · ipureintro; rfl
  isplitl [HV] <;> iassumption

set_option maxHeartbeats 2000000 in
theorem part11_run (hk : k.val < 2 ^ 31) (hs : s.val = k.val % 16) (v2 : IVec S2x128 32) (v316 v327 v338 v349 v360 v371 v382 v393 v404 v415 v426 v437 v698 v701 v704 : IVec S8x128 32) :
    codeOwn (F := F) R c s (chunk D j) ⊢ Wp c (part11 (F := F) R v1 hw4 v2 k v316 v327 v338 v349 v360 v371 v382 v393 v404 v415 v426 v437 v698 v701 v704) fun a => iprop(⌜a = ⟨k0_pay49 (F := F) v2 (codeRaw6 D j 3), k0_pay50 (F := F) v2 v698 v701 v704 (codeRaw6 D j 3), k0_pay51 (F := F) v2 v316 v327 v338 v349 v360 v371 v382 v393 v404 v415 v426 v437 v698 v701 v704 (codeRaw6 D j 3)⟩⌝ ∗ codeOwn (F := F) R c s (chunk D j)) := by
  delta part11
  rw [k0_part11_eq_skeleton]
  delta k0_part11_skel
  iintro HC
  iapply (code_load6 R D c s j 3 (by decide) (codeOff hk hs 24 (128 * 3))) $$ HC
  iintro HC
  iapply (le_wp_ret)
  isplitr
  · ipureintro; rfl
  iexact HC

set_option maxHeartbeats 2000000 in
theorem part12_run (V V' : ℕ → V8) (v272 v283 v294 v305 v698 v701 v704 v708 v717 v760 : IVec S8x128 32) (hV : (Function.update (Function.update V 3 (k0_pay52 v272 v283 v294 v305 v698 v701 v704 v708 v760)) 7 (k0_pay53 v717)) = V') :
    own (F := F) c R.a20 (redA V) ⊢ Wp c (part12 (F := F) R v272 v283 v294 v305 v698 v701 v704 v708 v717 v760) fun a => iprop(⌜a = k0_pay54 (F := F) (redRow V' 0) (redRow V' 1) (redRow V' 2) (redRow V' 3) (redRow V' 4) (redRow V' 5) (redRow V' 6)⌝ ∗ own (F := F) c R.a20 (redA V')) := by
  delta part12
  rw [k0_part12_eq_skeleton]
  delta k0_part12_skel
  iintro HV
  iapply (dead_load c (m := R.a20)) $$ HV
  iintro %_ HV
  iapply (red_store R c _ 3 rfl) $$ HV
  iintro HV
  iapply (dead_load c (m := R.a20)) $$ HV
  iintro %_ HV
  iapply (red_store R c _ 7 rfl) $$ HV
  iintro HV
  rw [hV]
  iapply (red_load R c V' 0 rfl) $$ HV
  iintro HV
  iapply (red_load R c V' 1 rfl) $$ HV
  iintro HV
  iapply (red_load R c V' 2 rfl) $$ HV
  iintro HV
  iapply (red_load R c V' 3 rfl) $$ HV
  iintro HV
  iapply (red_load R c V' 4 rfl) $$ HV
  iintro HV
  iapply (red_load R c V' 5 rfl) $$ HV
  iintro HV
  iapply (red_load R c V' 6 rfl) $$ HV
  iintro HV
  iapply (le_wp_ret)
  isplitr
  · ipureintro; rfl
  iexact HV

end Cert.Proof.Kernel

end
-- ==== Proof.Loop3.lean ====
/-
  The third loop: one step counts the bits of its chunk's codes against its pair's planes, and starts the copy of the chunk
  sixteen steps on into the slot it has used.
-/
module

public import proofs.«01_k».proof.Proof.Parts3

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (R : Refs) (D : Inputs F) (c : Dev nD)

section Step
variable (n j : ℕ)

/-- What a step stores before the sums over a word's eight rows. -/
def ipG (g : ℕ) : V8 := fun i => ipE (fun q => planeW D n (8 * q + (i 0).val)) (fun k => codeW D j (8 * k + (i 0).val) (128 * g + (i 1).val))
def pxG (g : ℕ) : V8 := fun i => pxE (fun k => codeW D j (8 * k + (i 0).val) (128 * g + (i 1).val))

theorem ipV_pick (g : ℕ) : ipV (pick16 (planeV D n 0) (planeV D n 1) (planeV D n 2) (planeV D n 3) (planeV D n 4) (planeV D n 5) (planeV D n 6) (planeV D n 7) (planeV D n 8) (planeV D n 9) (planeV D n 10) (planeV D n 11) (planeV D n 12) (planeV D n 13) (planeV D n 14) (planeV D n 15)) (pick4 (codeV D j g 0) (codeV D j g 1) (codeV D j g 2) (codeV D j g 3)) = ipG D n j g := rfl
theorem pxV_pick (g : ℕ) : pxV (pick4 (codeV D j g 0) (codeV D j g 1) (codeV D j g 2) (codeV D j g 3)) = pxG D j g := rfl

theorem pick_code (g : ℕ) : pick4 (k0_pay18 (F := F) (codeRaw D j g 0)) (k0_pay18 (F := F) (codeRaw D j g 1)) (k0_pay18 (F := F) (codeRaw D j g 2)) (k0_pay21 (F := F) (broadcast S2x128 (0#32 : BitVec 32)) (codeRaw6 D j g))
    = pick4 (codeV D j g 0) (codeV D j g 1) (codeV D j g 2) (codeV D j g 3) := by
  rw [pay_code D j g 0 (by decide), pay_code D j g 1 (by decide), pay_code D j g 2 (by decide), pay_code6]

theorem ip_step0 : k0_pay26 (k0_pay24 (planeV D n 0) (planeV D n 1) (planeV D n 2) (planeV D n 3) (k0_pay18 (F := F) (codeRaw D j 0 0)) (k0_pay19 (F := F) (codeRaw D j 0 1)) (k0_pay20 (F := F) (codeRaw D j 0 2)) (k0_pay21 (F := F) (broadcast S2x128 (0#32 : BitVec 32)) (codeRaw6 D j 0))) (k0_pay25 (planeV D n 4) (planeV D n 5) (planeV D n 6) (planeV D n 7) (planeV D n 8) (planeV D n 9) (planeV D n 10) (planeV D n 11) (planeV D n 13) (planeV D n 14) (planeV D n 15) (k0_pay18 (F := F) (codeRaw D j 0 0)) (k0_pay19 (F := F) (codeRaw D j 0 1)) (k0_pay20 (F := F) (codeRaw D j 0 2)) (k0_pay21 (F := F) (broadcast S2x128 (0#32 : BitVec 32)) (codeRaw6 D j 0)) (k0_pay23 (F := F) (planeV D n 12) (codeRaw D j 0 0))) = ipG D n j 0 :=
  (ip_g0 (planeV D n 0) (planeV D n 1) (planeV D n 2) (planeV D n 3) (planeV D n 4) (planeV D n 5) (planeV D n 6) (planeV D n 7) (planeV D n 8) (planeV D n 9) (planeV D n 10) (planeV D n 11) (planeV D n 12) (planeV D n 13) (planeV D n 14) (planeV D n 15) (broadcast S2x128 (0#32 : BitVec 32)) (codeRaw D j 0 0) (codeRaw D j 0 1) (codeRaw D j 0 2) (codeRaw6 D j 0)).trans (by rw [pick_code, ipV_pick])
theorem px_step0 : k0_pay27 (k0_pay22 (F := F) (broadcast S2x128 (0#32 : BitVec 32)) (codeRaw D j 0 0) (codeRaw D j 0 1) (codeRaw D j 0 2) (codeRaw6 D j 0)) = pxG D j 0 :=
  (px_g0 (broadcast S2x128 (0#32 : BitVec 32)) (codeRaw D j 0 0) (codeRaw D j 0 1) (codeRaw D j 0 2) (codeRaw6 D j 0)).trans (by rw [pick_code, pxV_pick])

theorem ip_step1 : k0_pay35 (planeV D n 0) (planeV D n 1) (planeV D n 2) (planeV D n 3) (planeV D n 4) (planeV D n 5) (planeV D n 6) (planeV D n 7) (planeV D n 9) (planeV D n 10) (planeV D n 11) (k0_pay28 (F := F) (codeRaw D j 1 0)) (k0_pay29 (F := F) (codeRaw D j 1 1)) (k0_pay30 (F := F) (codeRaw D j 1 2)) (k0_pay31 (F := F) (broadcast S2x128 (0#32 : BitVec 32)) (codeRaw6 D j 1)) (k0_pay33 (F := F) (broadcast S2x128 (0#32 : BitVec 32)) (planeV D n 12) (planeV D n 13) (planeV D n 14) (planeV D n 15) (codeRaw D j 1 0) (codeRaw D j 1 1) (codeRaw D j 1 2) (codeRaw6 D j 1)) (k0_pay34 (F := F) (planeV D n 8) (codeRaw D j 1 0)) = ipG D n j 1 :=
  (ip_g1 (planeV D n 0) (planeV D n 1) (planeV D n 2) (planeV D n 3) (planeV D n 4) (planeV D n 5) (planeV D n 6) (planeV D n 7) (planeV D n 8) (planeV D n 9) (planeV D n 10) (planeV D n 11) (planeV D n 12) (planeV D n 13) (planeV D n 14) (planeV D n 15) (broadcast S2x128 (0#32 : BitVec 32)) (codeRaw D j 1 0) (codeRaw D j 1 1) (codeRaw D j 1 2) (codeRaw6 D j 1)).trans (by rw [pick_code, ipV_pick])
theorem px_step1 : k0_pay36 (k0_pay32 (F := F) (broadcast S2x128 (0#32 : BitVec 32)) (codeRaw D j 1 0) (codeRaw D j 1 1) (codeRaw D j 1 2) (codeRaw6 D j 1)) = pxG D j 1 :=
  (px_g1 (broadcast S2x128 (0#32 : BitVec 32)) (codeRaw D j 1 0) (codeRaw D j 1 1) (codeRaw D j 1 2) (codeRaw6 D j 1)).trans (by rw [pick_code, pxV_pick])

theorem ip_step2 : k0_pay44 (planeV D n 0) (planeV D n 1) (planeV D n 2) (planeV D n 3) (planeV D n 5) (planeV D n 6) (planeV D n 7) (k0_pay37 (F := F) (codeRaw D j 2 0)) (k0_pay38 (F := F) (codeRaw D j 2 1)) (k0_pay39 (F := F) (codeRaw D j 2 2)) (k0_pay40 (F := F) (broadcast S2x128 (0#32 : BitVec 32)) (codeRaw6 D j 2)) (k0_pay42 (F := F) (broadcast S2x128 (0#32 : BitVec 32)) (planeV D n 8) (planeV D n 9) (planeV D n 10) (planeV D n 11) (planeV D n 12) (planeV D n 13) (planeV D n 14) (planeV D n 15) (codeRaw D j 2 0) (codeRaw D j 2 1) (codeRaw D j 2 2) (codeRaw6 D j 2)) (k0_pay43 (F := F) (planeV D n 4) (codeRaw D j 2 0)) = ipG D n j 2 :=
  (ip_g2 (planeV D n 0) (planeV D n 1) (planeV D n 2) (planeV D n 3) (planeV D n 4) (planeV D n 5) (planeV D n 6) (planeV D n 7) (planeV D n 8) (planeV D n 9) (planeV D n 10) (planeV D n 11) (planeV D n 12) (planeV D n 13) (planeV D n 14) (planeV D n 15) (broadcast S2x128 (0#32 : BitVec 32)) (codeRaw D j 2 0) (codeRaw D j 2 1) (codeRaw D j 2 2) (codeRaw6 D j 2)).trans (by rw [pick_code, ipV_pick])
theorem px_step2 : k0_pay45 (k0_pay41 (F := F) (broadcast S2x128 (0#32 : BitVec 32)) (codeRaw D j 2 0) (codeRaw D j 2 1) (codeRaw D j 2 2) (codeRaw6 D j 2)) = pxG D j 2 :=
  (px_g2 (broadcast S2x128 (0#32 : BitVec 32)) (codeRaw D j 2 0) (codeRaw D j 2 1) (codeRaw D j 2 2) (codeRaw6 D j 2)).trans (by rw [pick_code, pxV_pick])

theorem ip_step3 : k0_pay52 (planeV D n 0) (planeV D n 1) (planeV D n 2) (planeV D n 3) (k0_pay46 (F := F) (codeRaw D j 3 0)) (k0_pay47 (F := F) (codeRaw D j 3 1)) (k0_pay48 (F := F) (codeRaw D j 3 2)) (k0_pay49 (F := F) (broadcast S2x128 (0#32 : BitVec 32)) (codeRaw6 D j 3)) (k0_pay51 (F := F) (broadcast S2x128 (0#32 : BitVec 32)) (planeV D n 4) (planeV D n 5) (planeV D n 6) (planeV D n 7) (planeV D n 8) (planeV D n 9) (planeV D n 10) (planeV D n 11) (planeV D n 12) (planeV D n 13) (planeV D n 14) (planeV D n 15) (k0_pay46 (F := F) (codeRaw D j 3 0)) (k0_pay47 (F := F) (codeRaw D j 3 1)) (k0_pay48 (F := F) (codeRaw D j 3 2)) (codeRaw6 D j 3)) = ipG D n j 3 :=
  (ip_g3 (planeV D n 0) (planeV D n 1) (planeV D n 2) (planeV D n 3) (planeV D n 4) (planeV D n 5) (planeV D n 6) (planeV D n 7) (planeV D n 8) (planeV D n 9) (planeV D n 10) (planeV D n 11) (planeV D n 12) (planeV D n 13) (planeV D n 14) (planeV D n 15) (broadcast S2x128 (0#32 : BitVec 32)) (codeRaw D j 3 0) (codeRaw D j 3 1) (codeRaw D j 3 2) (codeRaw6 D j 3)).trans (by rw [pick_code, ipV_pick])
theorem px_step3 : k0_pay53 (k0_pay50 (F := F) (broadcast S2x128 (0#32 : BitVec 32)) (k0_pay46 (F := F) (codeRaw D j 3 0)) (k0_pay47 (F := F) (codeRaw D j 3 1)) (k0_pay48 (F := F) (codeRaw D j 3 2)) (codeRaw6 D j 3)) = pxG D j 3 :=
  (px_g3 (broadcast S2x128 (0#32 : BitVec 32)) (codeRaw D j 3 0) (codeRaw D j 3 1) (codeRaw D j 3 2) (codeRaw6 D j 3)).trans (by rw [pick_code, pxV_pick])

/-- The half sums once a step has written them. -/
def redV (V : ℕ → V8) : ℕ → V8 := Function.update (Function.update (Function.update (Function.update (Function.update (Function.update (Function.update (Function.update V 0 (ipG D n j 0)) 4 (pxG D j 0)) 1 (ipG D n j 1)) 5 (pxG D j 1)) 2 (ipG D n j 2)) 6 (pxG D j 2)) 3 (ipG D n j 3)) 7 (pxG D j 3)

theorem redV_ip (V : ℕ → V8) (g : ℕ) (hg : g < 4) : redV D n j V g = ipG D n j g := by
  unfold redV; interval_cases g <;> simp [Function.update]
theorem redV_px (V : ℕ → V8) (g : ℕ) (hg : g < 4) : redV D n j V (4 + g) = pxG D j g := by
  unfold redV; interval_cases g <;> simp [Function.update]

end Step

/-- Step `j`'s rows of the two count arrays written. -/
def setRows (j : ℕ) (f : ℕ → ℕ → BitVec 32) (X : S15384x128.Idx → BitVec 32) : S15384x128.Idx → BitVec 32 := fun i =>
  if (i 0).val / 4 = j then f ((i 0).val % 4) (i 1).val else X i

variable {D} in
theorem sum_step_ip (j : ℕ) (V : ℕ → V8) (i : S4x128.Idx) :
    k0_pay56 (F := F) (k0_pay54 (F := F) (redRow (redV D (D.pos j).1 j V) 0) (redRow (redV D (D.pos j).1 j V) 1) (redRow (redV D (D.pos j).1 j V) 2) (redRow (redV D (D.pos j).1 j V) 3) (redRow (redV D (D.pos j).1 j V) 4) (redRow (redV D (D.pos j).1 j V) 5) (redRow (redV D (D.pos j).1 j V) 6)) (redRow (redV D (D.pos j).1 j V) 7) i
      = ipOut D j (i 0).val (i 1).val := by
  rw [sum_ip, redV_ip D _ j V _ (i 0).isLt]; rfl

variable {D} in
theorem sum_step_px (j : ℕ) (V : ℕ → V8) (i : S4x128.Idx) :
    k0_pay57 (F := F) (k0_pay54 (F := F) (redRow (redV D (D.pos j).1 j V) 0) (redRow (redV D (D.pos j).1 j V) 1) (redRow (redV D (D.pos j).1 j V) 2) (redRow (redV D (D.pos j).1 j V) 3) (redRow (redV D (D.pos j).1 j V) 4) (redRow (redV D (D.pos j).1 j V) 5) (redRow (redV D (D.pos j).1 j V) 6)) (redRow (redV D (D.pos j).1 j V) 7) i
      = pxOut D j (i 0).val (i 1).val := by
  rw [sum_px, redV_px D _ j V _ (i 0).isLt]; rfl

theorem rows_store {α : Type} {m : Memref sig .tc .vmem S15384x128 .i32} {off : Fin 2 → ℕ} {inb hx hm} {val : S4x128.Idx → BitVec 32} {X : S15384x128.Idx → BitVec 32}
    {k : PUnit → Prog (TpuEff nD τ sig (Elt F) Λ₀ .tc) α} {Q : α → sProp (Mk F)} (j : ℕ) (f : ℕ → ℕ → BitVec 32) (ho : off = ![j * 4, 0]) (hf : ∀ i : S4x128.Idx, val i = f (i 0).val (i 1).val) :
    own (F := F) c m X ⊢ iprop((own (F := F) c m (setRows j f X) -∗ Wp c (k ⟨⟩) Q)
      -∗ Wp c (.op (.store m (Rect.unit (s := S15384x128) off S4x128.size inb) val Finset.univ hx hm) k) Q) := by
  subst ho
  iintro H Hk
  iapply (wp_storeOn Variants.none (c : Thread nD τ) none (m := m) (r := Rect.unit (s := S15384x128) ![j * 4, 0] S4x128.size inb) (w := val) (hx := hx) (hm := hm) (Finset.subset_univ _)
    (setRows j f X) (fun x => by
      obtain ⟨x0, x1, rfl⟩ : ∃ x0 x1, x = (ix2 x0 x1 : S4x128.Idx) := ⟨x 0, x 1, eq_ix2 x⟩
      have hx0 : x0.val < 4 := x0.isLt
      rw [hf]
      show (if (j * 4 + 1 * x0.val) / 4 = j then f ((j * 4 + 1 * x0.val) % 4) (0 + 1 * x1.val) else _) = f x0.val x1.val
      rw [if_pos (by omega), show (j * 4 + 1 * x0.val) % 4 = x0.val by omega, show 0 + 1 * x1.val = x1.val by omega])
    (fun i _ hi => by
      unfold setRows
      rw [if_neg]
      intro h
      refine hi (Rect.mem_set_unit.mpr fun a => ?_)
      fin_cases a
      · show j * 4 ≤ (i 0).val ∧ (i 0).val < j * 4 + 4; omega
      · exact ⟨Nat.zero_le _, lt_of_lt_of_eq (i 1).isLt (Nat.zero_add _).symm⟩)) $$ H
  iexact Hk

variable {D} {v1 : BitVec 32} {hw4 : k0_chk4 v1} (k : Fin (k0_t3_loop v1).trips) (s : Fin 16)

theorem chk7_w {n : ℕ} (hn : n < 768) : k0_chk7 v1 k (w n) := ⟨fun _ => tabInb hn, tabInb hn⟩

/-- The chunk a copy starts at is aligned, and lies within the codes. -/
theorem chunk_ok (hD : D.Ok) {n ch : ℕ} (hn : n < 768) (hc : ch < D.nch n) : (128 ∣ (Scalar.muli (Scalar.addi (w (D.row n)) (Scalar.muli (w ch) 4#32)) 128#32).toNat) ∧
    (∀ a, (k0_off7 (w ch) (w (D.row n))) a + S30x512.size a ≤ S30x2048000.size a) :=
  ⟨by rw [col_w hD hn hc]; exact Dvd.intro_left _ rfl,
   by
    rw [off7 hD hn hc]; intro a
    have := hD.col_le hn hc
    fin_cases a
    · exact le_refl 30
    · exact this⟩

set_option maxHeartbeats 2000000 in
theorem part1_run (hD : D.Ok) (j n' : ℕ) (hk : k.val < 2 ^ 31) (hs : s.val = k.val % 16) (hj : j < D.steps) (hn' : n' < 768) :
    iprop(own (F := F) c R.a14 (tab D.row) ∗ own (F := F) c R.a7 D.pl ∗ codeSt R D c s j ∗ owesNone (c : Thread nD τ))
      ⊢ Wp c (part1 (F := F) R v1 hw4 0#32 1#32 k (w (D.pos j).1) (w (D.pos j).2) (w n')) fun a =>
        iprop(⌜a = ⟨chk7_w k hn', chk5_w _ (hD.pos_lt j).1, Scf.iv 0#32 1#32 k, Scalar.andi (Scf.iv 0#32 1#32 k) 15#32, Scalar.shrsi (w (D.pos j).1) 6#32, k0_pay1 (w (D.pos j).1), planeV D (D.pos j).1 0, planeV D (D.pos j).1 1⟩⌝
          ∗ own (F := F) c R.a14 (tab D.row) ∗ own (F := F) c R.a7 D.pl ∗ codeOwn (F := F) R c s (chunk D j) ∗ codeTok R D c s ∗ semVal ((c : Thread nD τ), .dma (codeSem R s)) 0 ∗ owesNone (c : Thread nD τ)) := by
  obtain ⟨hn, hc⟩ := hD.pos_lt j
  delta part1
  rw [k0_part1_eq_skeleton]
  delta k0_part1_skel
  iintro ⟨H14, H7, HC, HO⟩
  iapply (wp_assume Variants.none (c : Thread nD τ) none Set.univ (chk7_w k hn'))
  iapply (wp_assume Variants.none (c : Thread nD τ) none Set.univ (chk5_w _ hn))
  iapply (wp_tab c (m := R.a14) (h1 := numel1_S1) (hp := rfl) (D.pos j).1 hn (toNat_w (by omega))) $$ H14
  iintro H14
  iapply (wp_assume Variants.none (c : Thread nD τ) none Set.univ (show k0_chk6 (w (D.pos j).2) (w (D.row (D.pos j).1)) from chunk_ok hD hn hc))
  iapply (code_wait R D c s j hj (codeOff1 hk hs)) $$ [HC HO]
  · isplitl [HC] <;> iassumption
  iintro ⟨HC, HT, HV, HO⟩
  iapply (plane_load R D c (D.pos j).1 0 (planeOff hn 0)) $$ H7
  iintro H7
  iapply (plane_load R D c (D.pos j).1 1 (planeOff hn 1)) $$ H7
  iintro H7
  iapply (le_wp_ret)
  isplitr
  · ipureintro
    rw [show k0_pay2 (F := F) (w (D.pos j).1) (planeRaw D (D.pos j).1 0) = planeV D (D.pos j).1 0 from pay_plane D _ 0 hn,
      show k0_pay3 (F := F) (w (D.pos j).1) (planeRaw D (D.pos j).1 1) = planeV D (D.pos j).1 1 from pay_plane D _ 1 hn]
  isplitl [H14]; · iexact H14
  isplitl [H7]; · iexact H7
  isplitl [HC]; · iexact HC
  isplitl [HT]; · iexact HT
  isplitl [HV] <;> iassumption

end Cert.Proof.Kernel

end
-- ==== Proof.Loop3b.lean ====
/-
  The third loop's step and its invariant.
-/
module

public import proofs.«01_k».proof.Proof.Loop3

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (R : Refs) (D : Inputs F) (c : Dev nD)

theorem pos_next (j : ℕ) : D.pos (j + 1 + 16) = adv D.nch ((D.pos (j + 16)).1, (D.pos (j + 16)).2) := by
  have e : j + 1 + 16 = j + 16 + 1 := by omega
  rw [e]
  rfl

theorem pos_next1 (j : ℕ) : D.pos (j + 1) = adv D.nch ((D.pos j).1, (D.pos j).2) := rfl

attribute [local irreducible] Cert.Proof.pos Cert.Proof.base

variable {D} {v1 : BitVec 32} {hw4 : k0_chk4 v1} (k : Fin (k0_t3_loop v1).trips) (s : Fin 16)

theorem cond1_w {v1 : BitVec 32} (k : Fin (k0_t3_loop v1).trips) {N : ℕ} (hN : N < 2 ^ 30) (hk : k.val < N) (h1 : v1 = w N) : k0_cond1 v1 k = 1#1 ↔ k.val + 16 < N := by
  subst h1
  show Scalar.cmpi .ne (Scalar.extui (Scalar.cmpi .slt (Scalar.addi (Scf.iv 0#32 1#32 k) (w 16)) (w N))) 0#32 = 1#1 ↔ _
  rw [iv_w, addi_w, slt_w (by omega) (by omega)]
  split_ifs with h
  · exact ⟨fun _ => h, fun _ => by decide⟩
  · exact ⟨fun e => absurd e (by decide), fun e => absurd e h⟩

/-- The step's return value. -/
def ret13 (D : Inputs F) (j : ℕ) : Σ' (_ : BitVec 32) (_ : BitVec 32) (_ : BitVec 1) (_ : BitVec 32), BitVec 32 :=
  ⟨w (D.pos (j + 1)).1, w (D.pos (j + 1)).2, Scalar.cmpi .sge (Scalar.addi (w (D.pos (j + 16)).2) 1#32) (w (D.nch (D.pos (j + 16)).1)), Scalar.addi (w (D.pos (j + 16)).1) 1#32, 767#32⟩

def cnts (D : Inputs F) (j : ℕ) (V : ℕ → V8) (X Y : S15384x128.Idx → BitVec 32) : sProp (Mk F) :=
  iprop(own (F := F) c R.a20 (redA V) ∗ own (F := F) c R.a21 X ∗ own (F := F) c R.a22 Y)

theorem code_rest {j : ℕ} (s : Fin 16) (h : ¬ j < D.steps) : codeIdle R D c s ⊢ codeSt R D c s j := by
  unfold codeSt
  rw [if_neg h]

theorem prog_ret_bind {E : Type → Type} {α β : Type} (a : α) (k : α → Prog E β) : (Prog.ret a).bind k = k a := rfl

set_option maxHeartbeats 8000000 in
theorem part13_run (hD : D.Ok) (h1 : v1 = w D.steps) (hk : k.val < D.steps) (hs : s.val = k.val % 16) (V : ℕ → V8) (X Y : S15384x128.Idx → BitVec 32) :
    iprop(tables R D c ∗ own (F := F) c R.a7 D.pl ∗ codeSt R D c s k.val ∗ own (F := F) c R.a20 (redA V) ∗ own (F := F) c R.a21 X ∗ own (F := F) c R.a22 Y ∗ owesNone (c : Thread nD τ))
      ⊢ Wp c (part13 (F := F) R v1 hw4 (broadcast S2x128 0#32) 0#32 1#32 k (w (D.pos k.val).1) (w (D.pos k.val).2) (w (D.pos (k.val + 16)).1) (w (D.pos (k.val + 16)).2)) fun a =>
        iprop(⌜a = ret13 D k.val⌝ ∗ tables R D c ∗ own (F := F) c R.a7 D.pl ∗ codeSt R D c s (k.val + 16) ∗ own (F := F) c R.a20 (redA (redV D (D.pos k.val).1 k.val V))
          ∗ own (F := F) c R.a21 (setRows k.val (ipOut D k.val) X) ∗ own (F := F) c R.a22 (setRows k.val (pxOut D k.val) Y) ∗ owesNone (c : Thread nD τ)) := by
  obtain ⟨hn, hc⟩ := hD.pos_lt k.val
  obtain ⟨hn', hc'⟩ := hD.pos_lt (k.val + 16)
  have h5 := hD.nch5 _ hn
  have h5' := hD.nch5 _ hn'
  have hst := hD.steps_le
  have hk' : k.val < 2 ^ 31 := by omega
  have hcond := cond1_w k (by omega) hk h1
  unfold tables
  iintro ⟨⟨H14, H15, H16, H17⟩, H7, HC, H20, H21, H22, HO⟩
  delta part13
  rw [k0_part13_eq_skeleton]
  delta k0_part13_skel
  iapply (wp_call c (part1_run R c k s hD k.val (D.pos (k.val + 16)).1 hk' hs hk hn')) $$ [H14 H7 HC HO]
  · isplitl [H14]; · iexact H14
    isplitl [H7]; · iexact H7
    isplitl [HC] <;> iassumption
  iintro %a1 ⟨%e1, H14, H7, HC, HT, HS, HO⟩
  subst e1
  try dsimp only
  iapply (wp_call c (part2_run R c (D := D) (D.pos k.val).1 hn (chk5_w _ hn) _ _)) $$ [H7]
  · iexact H7
  iintro %a2 ⟨%e2, H7⟩
  rw [show k0_pay4 (F := F) (k0_pay1 (w (D.pos k.val).1)) (planeRaw D (D.pos k.val).1 2) = planeV D (D.pos k.val).1 2 from pay_plane D _ 2 hn,
    show k0_pay5 (F := F) (k0_pay1 (w (D.pos k.val).1)) (planeRaw D (D.pos k.val).1 3) = planeV D (D.pos k.val).1 3 from pay_plane D _ 3 hn,
    show k0_pay6 (F := F) (k0_pay1 (w (D.pos k.val).1)) (planeRaw D (D.pos k.val).1 4) = planeV D (D.pos k.val).1 4 from pay_plane D _ 4 hn,
    show k0_pay7 (F := F) (k0_pay1 (w (D.pos k.val).1)) (planeRaw D (D.pos k.val).1 5) = planeV D (D.pos k.val).1 5 from pay_plane D _ 5 hn] at e2
  subst e2
  try dsimp only
  iapply (wp_call c (part3_run R c (D := D) (D.pos k.val).1 hn (chk5_w _ hn) _ _)) $$ [H7]
  · iexact H7
  iintro %a3 ⟨%e3, H7⟩
  rw [show k0_pay8 (F := F) (k0_pay1 (w (D.pos k.val).1)) (planeRaw D (D.pos k.val).1 6) = planeV D (D.pos k.val).1 6 from pay_plane D _ 6 hn,
    show k0_pay9 (F := F) (k0_pay1 (w (D.pos k.val).1)) (planeRaw D (D.pos k.val).1 7) = planeV D (D.pos k.val).1 7 from pay_plane D _ 7 hn,
    show k0_pay10 (F := F) (k0_pay1 (w (D.pos k.val).1)) (planeRaw D (D.pos k.val).1 8) = planeV D (D.pos k.val).1 8 from pay_plane D _ 8 hn,
    show k0_pay11 (F := F) (k0_pay1 (w (D.pos k.val).1)) (planeRaw D (D.pos k.val).1 9) = planeV D (D.pos k.val).1 9 from pay_plane D _ 9 hn] at e3
  subst e3
  try dsimp only
  iapply (wp_call c (part4_run R c (D := D) (D.pos k.val).1 hn (chk5_w _ hn) _ _)) $$ [H7]
  · iexact H7
  iintro %a4 ⟨%e4, H7⟩
  rw [show k0_pay12 (F := F) (k0_pay1 (w (D.pos k.val).1)) (planeRaw D (D.pos k.val).1 10) = planeV D (D.pos k.val).1 10 from pay_plane D _ 10 hn,
    show k0_pay13 (F := F) (k0_pay1 (w (D.pos k.val).1)) (planeRaw D (D.pos k.val).1 11) = planeV D (D.pos k.val).1 11 from pay_plane D _ 11 hn,
    show k0_pay14 (F := F) (k0_pay1 (w (D.pos k.val).1)) (planeRaw D (D.pos k.val).1 12) = planeV D (D.pos k.val).1 12 from pay_plane D _ 12 hn,
    show k0_pay15 (F := F) (k0_pay1 (w (D.pos k.val).1)) (planeRaw D (D.pos k.val).1 13) = planeV D (D.pos k.val).1 13 from pay_plane D _ 13 hn] at e4
  subst e4
  try dsimp only
  iapply (wp_call c (part5_run R c k s k.val (D.pos k.val).1 hk' hs hn (chk5_w _ hn) _ _ _ _ _)) $$ [H7 HC]
  · isplitl [H7] <;> iassumption
  iintro %a5 ⟨%e5, H7, HC⟩
  rw [show k0_pay16 (F := F) (k0_pay1 (w (D.pos k.val).1)) (planeRaw D (D.pos k.val).1 14) = planeV D (D.pos k.val).1 14 from pay_plane D _ 14 hn,
    show k0_pay17 (F := F) (k0_pay1 (w (D.pos k.val).1)) (planeRaw D (D.pos k.val).1 15) = planeV D (D.pos k.val).1 15 from pay_plane D _ 15 hn] at e5
  subst e5
  try dsimp only
  ihave HE : iprop(emp) $$ []
  · iempintro
  iapply (wp_call c (part6_run R c (iprop(emp)) _ _ _ _ _ _ _ _ _ _ _ _ _ _ _ _ _ _ _ _)) $$ [HE]
  · iexact HE
  iintro %a6 ⟨%e6, HE⟩
  subst e6
  try dsimp only
  iapply (wp_call c (part7_run R c k s k.val hk' hs V _ _ _ _ _ _ _ _ _ _)) $$ [H20 HC]
  · isplitl [H20] <;> iassumption
  iintro %a7 ⟨%e7, H20, HC⟩
  subst e7
  try dsimp only
  rw [ip_step0, px_step0]
  iapply (wp_call c (part8_run R c _ _ _ _ _ _ _ _ _ _ _ _ _ _ _ _ _ _ _ _)) $$ [H20]
  · iexact H20
  iintro %a8 ⟨%e8, H20⟩
  subst e8
  try dsimp only
  rw [ip_step1, px_step1]
  iapply (wp_call c (part9_run R c k s k.val hk' hs _ _ _ _ _ _ _ _ _ _ _)) $$ [HC]
  · iexact HC
  iintro %a9 ⟨%e9, HC⟩
  subst e9
  try dsimp only
  iapply (wp_call c (part10_run R c k s k.val hk' hs _ _ _ _ _ _ _ _ _ _ _ _ _ _ _ _)) $$ [H20 HC]
  · isplitl [H20] <;> iassumption
  iintro %a10 ⟨%e10, H20, HC⟩
  subst e10
  try dsimp only
  rw [ip_step2, px_step2]
  iapply (wp_call c (part11_run R c k s k.val hk' hs _ _ _ _ _ _ _ _ _ _ _ _ _ _ _ _)) $$ [HC]
  · iexact HC
  iintro %a11 ⟨%e11, HC⟩
  subst e11
  try dsimp only
  iapply (wp_call c (part12_run R c _ (redV D (D.pos k.val).1 k.val V) _ _ _ _ _ _ _ _ _ _ (by rw [ip_step3, px_step3]; rfl))) $$ [H20]
  · iexact H20
  iintro %a12 ⟨%e12, H20⟩
  subst e12
  try dsimp only
  iapply (red_load R c _ 7 rfl) $$ H20
  iintro H20
  have o45 : k0_off45 v1 k = ![k.val * 4, 0] := by
    show ![(Scalar.muli (Scf.iv 0#32 1#32 k) (w 4)).toNat, 0] = _
    rw [iv_w, muli_w, toNat_w (by omega)]
  iapply (dead_load c (m := R.a21)) $$ H21
  iintro %_ H21
  iapply (rows_store c (m := R.a21) k.val (ipOut D k.val) o45 (fun i => sum_step_ip k.val V i)) $$ H21
  iintro H21
  iapply (dead_load c (m := R.a22)) $$ H22
  iintro %_ H22
  iapply (rows_store c (m := R.a22) k.val (pxOut D k.val) o45 (fun i => sum_step_px k.val V i)) $$ H22
  iintro H22
  by_cases h : k.val + 16 < D.steps
  · rw [dif_pos (hcond.mpr h)]
    iapply (wp_tab c (m := R.a14) (h1 := numel1_S1) (hp := rfl) (D.pos (k.val + 16)).1 hn' (toNat_w (by omega))) $$ H14
    iintro H14
    iapply (wp_assume Variants.none (c : Thread nD τ) none Set.univ (show k0_chk8 v1 k (w (D.pos (k.val + 16)).2) (w (D.row (D.pos (k.val + 16)).1)) from
      ⟨fun _ => (chunk_ok hD hn' hc').1, fun _ => (chunk_ok hD hn' hc').2⟩))
    iapply (code_enq R D c s (k.val + 16) h (codeOff hk' hs 0 0) (off7 hD hn' hc') (codeOff1 hk' hs)) $$ [HC HT HS]
    · unfold codeIdle
      isplitl [HC]; · iexists _; iexact HC
      isplitl [HT] <;> iassumption
    iintro HC
    iapply (wp_tab c (m := R.a16) (h1 := numel1_S1) (hp := rfl) (D.pos k.val).1 hn (toNat_w (by omega))) $$ H16
    iintro H16
    iapply (wp_tab c (m := R.a16) (h1 := numel1_S1) (hp := rfl) (D.pos (k.val + 16)).1 hn' (toNat_w (by omega))) $$ H16
    iintro H16
    iapply (le_wp_ret)
    isplitr
    · ipureintro
      show _ = ret13 D k.val
      unfold ret13
      rw [walk1 D _ _ hn (by omega) (by omega), walk2 D _ _ hn (by omega) (by omega), pos_next1 (D := D) k.val]
    isplitl [H14 H15 H16 H17]
    · isplitl [H14]; · iexact H14
      isplitl [H15]; · iexact H15
      isplitl [H16] <;> iassumption
    isplitl [H7]; · iexact H7
    isplitl [HC]; · iexact HC
    isplitl [H20]; · iexact H20
    isplitl [H21]; · iexact H21
    isplitl [H22] <;> iassumption
  · rw [dif_neg (fun e => h (hcond.mp e))]
    rw [prog_ret_bind]
    ihave HC := (code_rest R c s h) $$ [HC HT HS]
    · unfold codeIdle
      isplitl [HC]; · iexists _; iexact HC
      isplitl [HT] <;> iassumption
    iapply (wp_tab c (m := R.a16) (h1 := numel1_S1) (hp := rfl) (D.pos k.val).1 hn (toNat_w (by omega))) $$ H16
    iintro H16
    iapply (wp_tab c (m := R.a16) (h1 := numel1_S1) (hp := rfl) (D.pos (k.val + 16)).1 hn' (toNat_w (by omega))) $$ H16
    iintro H16
    iapply (le_wp_ret)
    isplitr
    · ipureintro
      show _ = ret13 D k.val
      unfold ret13
      rw [walk1 D _ _ hn (by omega) (by omega), walk2 D _ _ hn (by omega) (by omega), pos_next1 (D := D) k.val]
    isplitl [H14 H15 H16 H17]
    · isplitl [H14]; · iexact H14
      isplitl [H15]; · iexact H15
      isplitl [H16] <;> iassumption
    isplitl [H7]; · iexact H7
    isplitl [HC]; · iexact HC
    isplitl [H20]; · iexact H20
    isplitl [H21]; · iexact H21
    isplitl [H22] <;> iassumption

theorem trips3 {v1 : BitVec 32} {N : ℕ} (hN : N < 2 ^ 30) (h1 : v1 = w N) : (k0_t3_loop v1).trips = N := by
  subst h1
  show Scf.trips 0#32 (Scalar.addi 0#32 (Scalar.muli (Scalar.divsi (Scalar.subi (w N) 0#32) 1#32) 1#32)) 1#32 = N
  have e : Scalar.divsi (Scalar.subi (w N) 0#32) 1#32 = w N := by
    rw [show Scalar.subi (w N) 0#32 = w N from BitVec.sub_zero _]
    show (if _ then _ else _) = _
    rw [if_neg (by rintro (h | h); · exact absurd h (by decide)
                   · exact absurd h.2 (by decide))]
    exact BitVec.sdiv_one
  rw [e, show Scalar.muli (w N) 1#32 = w N from BitVec.mul_one _, show Scalar.addi 0#32 (w N) = w N from BitVec.zero_add _]
  exact trips_w (by omega)

def I3 (t : ℕ) (acc : BitVec 32 × BitVec 32 × BitVec 32 × BitVec 32) : sProp (Mk F) :=
  iprop(⌜acc = (w (D.pos t).1, w (D.pos t).2, w (D.pos (t + 16)).1, w (D.pos (t + 16)).2)⌝ ∗ tables R D c ∗ own (F := F) c R.a7 D.pl
    ∗ (BI.bigSep Finset.univ fun s : Fin 16 => codeSt R D c s (slotIx 16 t s.val)) ∗ (∃ V, own (F := F) c R.a20 (redA V))
    ∗ (∃ X, ⌜∀ i : S15384x128.Idx, (i 0).val < 4 * t → X i = ipOut D ((i 0).val / 4) ((i 0).val % 4) (i 1).val⌝ ∗ own (F := F) c R.a21 X)
    ∗ (∃ X, ⌜∀ i : S15384x128.Idx, (i 0).val < 4 * t → X i = pxOut D ((i 0).val / 4) ((i 0).val % 4) (i 1).val⌝ ∗ own (F := F) c R.a22 X)
    ∗ owesNone (c : Thread nD τ))

theorem setRows_inv {t : ℕ} {f : ℕ → ℕ → ℕ → BitVec 32} {X : S15384x128.Idx → BitVec 32}
    (h : ∀ i : S15384x128.Idx, (i 0).val < 4 * t → X i = f ((i 0).val / 4) ((i 0).val % 4) (i 1).val) (i : S15384x128.Idx) (hi : (i 0).val < 4 * (t + 1)) :
    setRows t (f t) X i = f ((i 0).val / 4) ((i 0).val % 4) (i 1).val := by
  unfold setRows
  split_ifs with e
  · rw [e]
  · exact h i (by omega)

set_option maxHeartbeats 4000000 in
theorem loop3_step (hD : D.Ok) (h1 : v1 = w D.steps) (acc : BitVec 32 × BitVec 32 × BitVec 32 × BitVec 32) :
    I3 R (D := D) c k.val acc ⊢ Wp c (body3 (F := F) R v1 hw4 k acc) (I3 R (D := D) c (k.val + 1)) := by
  have hst := hD.steps_le
  have hk : k.val < D.steps := lt_of_lt_of_eq k.isLt (trips3 (by omega) h1)
  have hm : k.val % 16 < 16 := Nat.mod_lt _ (by decide)
  obtain ⟨hn', hc'⟩ := hD.pos_lt (k.val + 16)
  have h5' := hD.nch5 _ hn'
  unfold I3
  iintro ⟨%ha, HT, H7, HB, ⟨%V, H20⟩, ⟨%X, %hX, H21⟩, ⟨%Y, %hY, H22⟩, HO⟩
  subst ha
  delta body3 k0_t3_body
  ihave HB := (bigSep_swap (fun s : Fin 16 => codeSt R D c s (slotIx 16 k.val s.val)) (fun s : Fin 16 => codeSt R D c s (slotIx 16 (k.val + 1) s.val)) ⟨k.val % 16, hm⟩ (fun j hj => by
      rw [slotIx_succ_of_ne (by decide) j.isLt (fun h => hj (Fin.ext h))])) $$ HB
  rw [slotIx_self (by decide), slotIx_succ_self (by decide)]
  icases HB with ⟨HC, HB⟩
  iapply (wp_call c (part13_run R c k ⟨k.val % 16, hm⟩ hD h1 hk rfl V X Y)) $$ [HT H7 HC H20 H21 H22 HO]
  · isplitl [HT]; · iexact HT
    isplitl [H7]; · iexact H7
    isplitl [HC]; · iexact HC
    isplitl [H20]; · iexact H20
    isplitl [H21]; · iexact H21
    isplitl [H22] <;> iassumption
  iintro %a ⟨%e, HT, H7, HC, H20, H21, H22, HO⟩
  subst e
  ihave HB := HB $$ HC
  iapply (le_wp_ret)
  isplitr
  · ipureintro
    rw [pos_next]
    exact Prod.ext rfl (Prod.ext rfl (Prod.ext (walk1 D (D.pos (k.val + 16)).1 (D.pos (k.val + 16)).2 hn' (by omega) (by omega)) (walk2 D (D.pos (k.val + 16)).1 (D.pos (k.val + 16)).2 hn' (by omega) (by omega))))
  isplitl [HT]; · iexact HT
  isplitl [H7]; · iexact H7
  isplitl [HB]; · iexact HB
  isplitl [H20]; · iexists _; iexact H20
  isplitl [H21]
  · iexists _; isplitr
    · ipureintro; exact setRows_inv hX
    iexact H21
  isplitl [H22]
  · iexists _; isplitr
    · ipureintro; exact setRows_inv hY
    iexact H22
  iexact HO

end Cert.Proof.Kernel

end
-- ==== Proof.Scan.lean ====
/-
  The scan kernel's body whole: the tables, the ring of codes filled, every step's counts, the ring of windows filled,
  every pair's results, and the last eight pairs' results awaited.
-/
module

public import proofs.«01_k».proof.Proof.Loop5
public import proofs.«01_k».proof.Proof.Loop3b
public import Idealize.ShloMosaic.Lib.LoopRemainder

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (R : Refs) (D : Inputs F) (c : Dev nD)

theorem inb3 {off : Fin 3 → ℕ} {sz : Fin 3 → ℕ} {s x y : ℕ} (ho : off = ![s, x, y]) (hs : s < 16) (h0 : sz 0 = 1) (h1 : x + sz 1 ≤ 30) (h2 : y + sz 2 ≤ 512) :
    ∀ a, off a + sz a ≤ S16x30x512.size a := by
  subst ho
  intro a
  fin_cases a
  · show s + sz 0 ≤ 16; omega
  · exact h1
  · exact h2

variable {D} in
theorem chk4_w (hD : D.Ok) : k0_chk4 (w D.steps) := by
  have hst := hD.steps_le
  have ht : ∀ t : Fin (k0_t3_loop (w D.steps)).trips, t.val < D.steps := fun t => lt_of_lt_of_eq t.isLt (trips3 (by omega) rfl)
  have h31 : ∀ t : Fin (k0_t3_loop (w D.steps)).trips, t.val < 2 ^ 31 := fun t => by have := ht t; omega
  have no4 : ∀ t : Fin (k0_t4_loop (w D.steps)).trips, False := fun t => Scf.rem_no_trip 0#32 (Scalar.subi (w D.steps) 0#32) t
  have hm : ∀ n : ℕ, n % 16 < 16 := fun n => Nat.mod_lt _ (by decide)
  have e5 : ∀ x : BitVec 32, Scalar.subi x 0#32 = x := fun x => BitVec.sub_zero _
  have c1 : ∀ t : Fin (k0_t3_loop (w D.steps)).trips, ∀ a, (![(Scalar.andi (Scf.iv 0#32 1#32 t.val) 15#32).toNat] : Fin 1 → ℕ) a + S1.size a ≤ S16.size a := fun t a => by
    rw [codeOff1 (h31 t) rfl]
    have ha : a = 0 := Subsingleton.elim _ _
    subst ha
    have := hm t.val
    show t.val % 16 + 1 ≤ 16
    omega
  have c8 : ∀ x y, x + 8 ≤ 30 → y + 128 ≤ 512 → ∀ t : Fin (k0_t3_loop (w D.steps)).trips, ∀ a, (![(Scalar.andi (Scf.iv 0#32 1#32 t.val) 15#32).toNat, x, y] : Fin 3 → ℕ) a + S1x8x128.size a ≤ S16x30x512.size a :=
    fun x y hx hy t => inb3 (codeOff (h31 t) rfl x y) (hm _) rfl hx hy
  have c6 : ∀ x y, x + 6 ≤ 30 → y + 128 ≤ 512 → ∀ t : Fin (k0_t3_loop (w D.steps)).trips, ∀ a, (![(Scalar.andi (Scf.iv 0#32 1#32 t.val) 15#32).toNat, x, y] : Fin 3 → ℕ) a + S1x6x128.size a ≤ S16x30x512.size a :=
    fun x y hx hy t => inb3 (codeOff (h31 t) rfl x y) (hm _) rfl hx hy
  have c30 : ∀ t : Fin (k0_t3_loop (w D.steps)).trips, ∀ a, (![(Scalar.andi (Scf.iv 0#32 1#32 t.val) 15#32).toNat, 0, 0] : Fin 3 → ℕ) a + S1x30x512.size a ≤ S16x30x512.size a :=
    fun t => inb3 (codeOff (h31 t) rfl 0 0) (hm _) rfl (le_refl _) (le_refl _)
  have m4 : ∀ t : Fin (k0_t3_loop (w D.steps)).trips, (Scalar.muli (Scf.iv 0#32 1#32 t.val) 4#32).toNat = t.val * 4 := fun t => by
    have := ht t
    rw [iv_w, show (4#32 : BitVec 32) = w 4 from rfl, muli_w, toNat_w (by omega)]
  have r4 : ∀ t : Fin (k0_t3_loop (w D.steps)).trips, ∀ a, (![(Scalar.muli (Scf.iv 0#32 1#32 t.val) 4#32).toNat, 0] : Fin 2 → ℕ) a + S4x128.size a ≤ S15384x128.size a := fun t a => by
    have := ht t
    rw [m4 t]
    fin_cases a
    · show t.val * 4 + 4 ≤ 15384; omega
    · exact le_refl 128
  have d4 : ∀ t : Fin (k0_t3_loop (w D.steps)).trips, 4 ∣ (Scalar.muli (Scf.iv 0#32 1#32 t.val) 4#32).toNat := fun t => by
    rw [m4 t]; exact Dvd.intro_left _ rfl
  have ok3 : (k0_t3_loop (w D.steps)).OK := by
    refine ⟨(by decide : (0 : ℤ) < (1#32).toInt), ?_⟩
    rw [show Scf.trips (k0_t3_loop (w D.steps)).lb (k0_t3_loop (w D.steps)).ub (k0_t3_loop (w D.steps)).st = D.steps from trips3 (by omega) rfl]
    show (0 : ℤ) + (D.steps : ℤ) * 1 < 2 ^ 31
    omega
  have ok4 : (k0_t4_loop (w D.steps)).OK := by
    refine ⟨(by decide : (0 : ℤ) < (1#32).toInt), ?_⟩
    rw [show Scf.trips (k0_t4_loop (w D.steps)).lb (k0_t4_loop (w D.steps)).ub (k0_t4_loop (w D.steps)).st = 0 from Scf.rem_trips 0#32 (Scalar.subi (w D.steps) 0#32)]
    show (Scalar.addi 0#32 (Scalar.muli (Scalar.divsi (Scalar.subi (w D.steps) 0#32) 1#32) 1#32)).toInt + (0 : ℤ) * 1 < 2 ^ 31
    have e : Scalar.addi 0#32 (Scalar.muli (Scalar.divsi (Scalar.subi (w D.steps) 0#32) 1#32) 1#32) = w D.steps := by
      rw [Scalar.muli_divsi_one, e5]
      exact BitVec.zero_add _
    rw [e, toInt_w (by omega)]
    omega
  have e5 := e5
  refine ⟨⟨ok3, c1, c30, c8 0 0 (by decide) (by decide), c8 8 0 (by decide) (by decide), c8 16 0 (by decide) (by decide), c6 24 0 (by decide) (by decide), c8 0 128 (by decide) (by decide), c8 8 128 (by decide) (by decide), c8 16 128 (by decide) (by decide), c6 24 128 (by decide) (by decide), c8 0 256 (by decide) (by decide), c8 8 256 (by decide) (by decide), c8 16 256 (by decide) (by decide), c6 24 256 (by decide) (by decide), c8 0 384 (by decide) (by decide), c8 8 384 (by decide) (by decide), c8 16 384 (by decide) (by decide), c6 24 384 (by decide) (by decide), d4, r4, fun t _ => c1 t, fun t _ => c30 t, ok4, fun t => (no4 t).elim, fun t => (no4 t).elim, fun t => (no4 t).elim, fun t => (no4 t).elim, fun t => (no4 t).elim, fun t => (no4 t).elim, fun t => (no4 t).elim, fun t => (no4 t).elim⟩, fun t => (no4 t).elim, fun t => (no4 t).elim, fun t => (no4 t).elim, fun t => (no4 t).elim, fun t => (no4 t).elim, fun t => (no4 t).elim, fun t => (no4 t).elim, fun t => (no4 t).elim, fun t => (no4 t).elim, fun t => (no4 t).elim, fun t => (no4 t).elim, fun t => (no4 t).elim, fun t => (no4 t).elim, fun t => (no4 t).elim⟩

variable {D}

theorem base_zero : (0#32 : BitVec 32) = w (base D.nch 0) := by
  unfold base
  rfl

theorem pos_zero (hD : D.Ok) : ((0#32, 0#32) : BitVec 32 × BitVec 32) = (w (D.pos 0).1, w (D.pos 0).2) := by
  rfl
theorem pos_zero4 (hD : D.Ok) : ((0#32, 0#32, w (D.pos 16).1, w (D.pos 16).2) : BitVec 32 × BitVec 32 × BitVec 32 × BitVec 32) = (w (D.pos 0).1, w (D.pos 0).2, w (D.pos (0 + 16)).1, w (D.pos (0 + 16)).2) := by
  rfl

attribute [local irreducible] Cert.Proof.pos Cert.Proof.base

def idles (D : Inputs F) : sProp (Mk F) := BI.bigSep Finset.univ fun s : Fin 16 => codeIdle R D c s

/-- The sums of every step are in the table. -/
def Full (D : Inputs F) (f : ℕ → ℕ → ℕ → BitVec 32) (X : S15384x128.Idx → BitVec 32) : Prop :=
  ∀ i : S15384x128.Idx, (i 0).val < 4 * D.steps → X i = f ((i 0).val / 4) ((i 0).val % 4) (i 1).val

theorem idles_start : idles R c D ⊢ BI.bigSep Finset.univ fun s : Fin 16 => codeSt R D c s (if s.val < 0 then s.val else D.steps) := by
  unfold idles
  rw [show (fun s : Fin 16 => codeSt R D c s (if s.val < 0 then s.val else D.steps)) = fun s : Fin 16 => codeIdle R D c s from funext fun s => by
    unfold codeSt
    rw [if_neg (Nat.not_lt_zero _), if_neg (lt_irrefl _)]]

theorem I2_end (hD : D.Ok) (acc : BitVec 32 × BitVec 32) {t : ℕ} (ht : t = 16) : I2 R D c t acc ⊢ iprop(⌜acc = (w (D.pos 16).1, w (D.pos 16).2)⌝ ∗ tables R D c ∗ BI.bigSep Finset.univ fun s : Fin 16 => codeSt R D c s (slotIx 16 0 s.val)) := by
  subst ht
  unfold I2
  rw [show (fun s : Fin 16 => codeSt R D c s (slotIx 16 0 s.val)) = fun s : Fin 16 => codeSt R D c s (if s.val < 16 then s.val else D.steps) from funext fun s => by
    rw [slotIx_of_lt s.isLt, if_pos s.isLt]]

theorem I3_end (acc : BitVec 32 × BitVec 32 × BitVec 32 × BitVec 32) {t : ℕ} (ht : t = D.steps) : I3 R (D := D) c t acc ⊢ iprop(tables R D c ∗ own (F := F) c R.a7 D.pl ∗ idles R c D
    ∗ (∃ V, own (F := F) c R.a20 (redA V)) ∗ (∃ X, ⌜Full D (ipOut D) X⌝ ∗ own (F := F) c R.a21 X) ∗ (∃ X, ⌜Full D (pxOut D) X⌝ ∗ own (F := F) c R.a22 X) ∗ owesNone (c : Thread nD τ)) := by
  subst ht
  unfold I3 idles
  rw [show (fun s : Fin 16 => codeSt R D c s (slotIx 16 D.steps s.val)) = fun s : Fin 16 => codeIdle R D c s from funext fun s => by
    unfold codeSt
    rw [if_neg (show ¬ slotIx 16 D.steps s.val < D.steps from Nat.not_lt.mpr (Nat.le_add_right _ _))]]
  iintro ⟨-, HT, H7, HB, H20, H21, H22, HO⟩
  isplitl [HT]; · iexact HT
  isplitl [H7]; · iexact H7
  isplitl [HB]; · iexact HB
  isplitl [H20]; · iexact H20
  isplitl [H21]; · iexact H21
  isplitl [H22]; · iexact H22
  iexact HO

/-! ## The windows of the first eight pairs -/

section Start
variable (ms : Memref sig .tc .hbm S16000x128 .f32) (md : Memref sig .tc .vmem S8x24x128 .f32) (o : Fin 2) (X : S16000x128.Idx → F .f32)

def winStart (D : Inputs F) (j : ℕ) : sProp (Mk F) := BI.bigSep Finset.univ fun s : Fin 8 => if s.val < j then winSt R D c ms md o X s s.val else winIdle R c ms md o X s
def winIdles : sProp (Mk F) := BI.bigSep Finset.univ fun s : Fin 8 => winIdle R c ms md o X s

theorem winStart_zero : winIdles R c ms md o X ⊢ winStart R c ms md o X D 0 := by
  unfold winIdles winStart
  rw [show (fun s : Fin 8 => if s.val < 0 then winSt R D c ms md o X s s.val else winIdle R c ms md o X s) = fun s : Fin 8 => winIdle R c ms md o X s from funext fun s => if_neg (Nat.not_lt_zero _)]

theorem winStart_all : winStart R c ms md o X D 8 ⊢ BI.bigSep Finset.univ fun s : Fin 8 => winSt R D c ms md o X s (slotIx 8 0 s.val) := by
  unfold winStart
  rw [show (fun s : Fin 8 => if s.val < 8 then winSt R D c ms md o X s s.val else winIdle R c ms md o X s) = fun s : Fin 8 => winSt R D c ms md o X s (slotIx 8 0 s.val) from funext fun s => by
    rw [slotIx_of_lt s.isLt, if_pos s.isLt]]

theorem win_done : (BI.bigSep Finset.univ fun s : Fin 8 => winSt R D c ms md o X s (slotIx 8 768 s.val)) ⊢ winIdles R c ms md o X := by
  unfold winIdles
  rw [show (fun s : Fin 8 => winSt R D c ms md o X s (slotIx 8 768 s.val)) = fun s : Fin 8 => winIdle R c ms md o X s from funext fun s => by
    unfold winSt
    rw [if_neg (show ¬ slotIx 8 768 s.val < 768 from Nat.not_lt.mpr (Nat.le_add_right _ _))]]

theorem start_enq {α : Type} {offd : Fin 3 → ℕ} {offs : Fin 2 → ℕ} {offm : Fin 2 → ℕ} {inbd inbs inbm hr hrd hsq hsq' h1 h2 h3}
    {k : PUnit → Prog (TpuEff nD τ sig (Elt F) Λ₀ .tc) α} {Q : α → sProp (Mk F)}
    (j : ℕ) (hj : j < 8) (hd : offd = ![j, 0, 0]) (hs : offs = ![D.row j, 0]) (hm : offm = ![o.val, j]) :
    winStart R c ms md o X D j ⊢ iprop((winStart R c ms md o X D (j + 1) -∗ Wp c (k ⟨⟩) Q)
      -∗ Wp c (.op (.enqueueDma (ms.slice (Rect.unit (s := S16000x128) offs S24x128.size inbs) hr)
          (.here ((md.slice (Rect.unit (s := S8x24x128) offd S1x24x128.size inbd) hrd).squeeze S24x128 hsq))
          (.dma ((R.a25.slice (Rect.unit (s := S2x8) offm S1x1.size inbm)).squeeze S_ hsq').sem) h1 h2 h3) k) Q) := by
  unfold winStart
  iintro HB Hk
  ihave HB := (bigSep_swap (fun s : Fin 8 => if s.val < j then winSt R D c ms md o X s s.val else winIdle R c ms md o X s) (fun s : Fin 8 => if s.val < j + 1 then winSt R D c ms md o X s s.val else winIdle R c ms md o X s) ⟨j, hj⟩ (fun i hi => by
      have : i.val ≠ j := fun h => hi (Fin.ext h)
      congr 1
      exact propext (by omega))) $$ HB
  rw [if_neg (show ¬ ((⟨j, hj⟩ : Fin 8).val < j) from Nat.lt_irrefl j), if_pos (show (⟨j, hj⟩ : Fin 8).val < j + 1 from Nat.lt_succ_self j)]
  icases HB with ⟨HC, HB⟩
  iapply (win_enq R D c ms md o X (offd := offd) (offs := offs) (offm := offm) ⟨j, hj⟩ j (by omega) hd hs hm) $$ HC
  iintro HC
  iapply Hk
  iapply HB $$ HC

end Start

abbrev ws0 (D : Inputs F) (j : ℕ) : sProp (Mk F) := winStart R c R.a9 R.a23 0 D.nr D j
abbrev ws1 (D : Inputs F) (j : ℕ) : sProp (Mk F) := winStart R c R.a10 R.a24 1 D.io D j

set_option maxHeartbeats 1000000 in
theorem part35_run (hD : D.Ok) :
    iprop(tabs R D c 0 ∗ look R D c ∗ own (F := F) c R.a7 D.pl ∗ idles R c D ∗ (∃ V, own (F := F) c R.a20 (redA V)) ∗ (∃ X, own (F := F) c R.a21 X) ∗ (∃ X, own (F := F) c R.a22 X)
        ∗ ws0 R c D 0 ∗ ws1 R c D 0 ∗ owesNone (c : Thread nD τ))
      ⊢ Wp c (part35 (F := F) R) fun a => iprop(⌜a = w (D.row 1)⌝ ∗ tables R D c ∗ look R D c ∗ own (F := F) c R.a7 D.pl ∗ idles R c D ∗ (∃ V, own (F := F) c R.a20 (redA V))
        ∗ (∃ X, ⌜Full D (ipOut D) X⌝ ∗ own (F := F) c R.a21 X) ∗ (∃ X, ⌜Full D (pxOut D) X⌝ ∗ own (F := F) c R.a22 X) ∗ ws0 R c D 1 ∗ ws1 R c D 1 ∗ owesNone (c : Thread nD τ)) := by
  have hst := hD.steps_le
  delta part35
  rw [k0_part35_eq_skeleton]
  delta k0_part35_skel
  iintro ⟨HT, HL, H7, HB, H20, ⟨%X21, H21⟩, ⟨%X22, H22⟩, HW0, HW1, HO⟩
  iapply (Scf.wp_for_bind frame (wpE (defs₀ (F := F)) Variants.none (c : Thread nD τ) none) Set.univ k0_t1_loop.lb k0_t1_loop.ub k0_t1_loop.st k0_t1_ok 0#32 (body1 (F := F) R)
    (fun t acc => iprop(⌜acc = w (base D.nch t)⌝ ∗ tabs R D c t ∗ look R D c)) (fun k acc => loop1_step R c hD k acc)) $$ [HT HL]
  · isplitr
    · ipureintro; exact base_zero
    isplitl [HT] <;> iassumption
  iintro %acc ⟨%ea, HT, HL⟩
  rw [show Scf.trips k0_t1_loop.lb k0_t1_loop.ub k0_t1_loop.st = 768 from trips1] at ea
  subst ea
  ihave HT := (show tabs R D c (Scf.trips k0_t1_loop.lb k0_t1_loop.ub k0_t1_loop.st) ⊢ tables R D c from by rw [show Scf.trips k0_t1_loop.lb k0_t1_loop.ub k0_t1_loop.st = 768 from trips1]; exact tables_of_tabs R D c) $$ HT
  iapply (wp_assume Variants.none (c : Thread nD τ) none Set.univ (show k0_chk4 (w (base D.nch 768)) from chk4_w hD))
  ihave HB := (idles_start R c (D := D)) $$ HB
  iapply (Scf.wp_for_bind frame (wpE (defs₀ (F := F)) Variants.none (c : Thread nD τ) none) Set.univ k0_t2_loop.lb k0_t2_loop.ub k0_t2_loop.st k0_t2_ok (0#32, 0#32) (body2 (F := F) R)
    (I2 R D c) (fun k acc => loop2_step R c hD k acc)) $$ [HT HB]
  · unfold I2
    isplitr
    · ipureintro; exact pos_zero hD
    isplitl [HT] <;> iassumption
  iintro %acc2 HI
  ihave HI := (I2_end R c hD acc2 trips2) $$ HI
  icases HI with ⟨%e2, HT, HB⟩
  subst e2
  try dsimp only
  iapply (Scf.wp_for_bind frame (wpE (defs₀ (F := F)) Variants.none (c : Thread nD τ) none) Set.univ (k0_t3_loop (w D.steps)).lb (k0_t3_loop (w D.steps)).ub (k0_t3_loop (w D.steps)).st (k0_t3_ok (w D.steps) (chk4_w hD)) (0#32, 0#32, w (D.pos 16).1, w (D.pos 16).2) (body3 (F := F) R (w D.steps) (chk4_w hD))
    (I3 R (D := D) c) (fun k acc => loop3_step R c k hD rfl acc)) $$ [HT H7 HB H20 H21 H22 HO]
  · unfold I3
    isplitr
    · ipureintro; exact pos_zero4 hD
    isplitl [HT]; · iexact HT
    isplitl [H7]; · iexact H7
    isplitl [HB]; · iexact HB
    isplitl [H20]; · iexact H20
    isplitl [H21]
    · iexists X21; isplitr
      · ipureintro; intro i hi; exact absurd hi (Nat.not_lt_zero _)
      iexact H21
    isplitl [H22]
    · iexists X22; isplitr
      · ipureintro; intro i hi; exact absurd hi (Nat.not_lt_zero _)
      iexact H22
    iexact HO
  iintro %acc3 HI
  ihave HI := (I3_end R c acc3 (trips3 (by omega) rfl)) $$ HI
  icases HI with ⟨HT, H7, HB, H20, H21, H22, HO⟩
  obtain ⟨p0, p1, p2, p3⟩ := acc3
  try dsimp only
  rw [show (Scf.Loop.for (k0_t4_loop (w (base D.nch 768))) (k0_t4_ok (w (base D.nch 768)) (chk4_w hD)) (p0, p1, p2, p3) (k0_t4_body (F := F) R.a0 R.h0 R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.a20 R.h20 R.a21 R.h21 R.a22 R.h22 R.a23 R.h23 R.a24 R.h24 R.a25 R.a26 R.h26 R.a27 R.h27 R.a28 R.h28 R.a29 (w (base D.nch 768)) (chk4_w hD) _) : Prog (TpuEff nD τ sig (Elt F) Λ₀ .tc) _) = .ret (p0, p1, p2, p3) from Scf.for_rem_eq 0#32 (Scalar.subi (w (base D.nch 768)) 0#32) _ _ _]
  ihave HT := (tables_open R c) $$ HT
  icases HT with ⟨H14, H15, H16, H17⟩
  iapply (wp_tab c (m := R.a14) (f := D.row) (h1 := numel1_S1) (hp := rfl) 0 (by decide) rfl) $$ H14
  iintro H14
  iapply (wp_assume Variants.none (c : Thread nD τ) none Set.univ (show k0_chk13 (w (D.row 0)) from row_ok hD (by decide)))
  iapply (start_enq R c R.a9 R.a23 0 D.nr (D := D) (offd := ![0, 0, 0]) (offs := k0_off95 (w (D.row 0))) (offm := ![0, 0]) 0 (by decide) rfl (row_off hD (by decide)) rfl) $$ HW0
  iintro HW0
  iapply (start_enq R c R.a10 R.a24 1 D.io (D := D) (offd := ![0, 0, 0]) (offs := k0_off95 (w (D.row 0))) (offm := ![1, 0]) 0 (by decide) rfl (row_off hD (by decide)) rfl) $$ HW1
  iintro HW1
  iapply (wp_tab c (m := R.a14) (f := D.row) (h1 := numel1_S1) (hp := rfl) 1 (by decide) rfl) $$ H14
  iintro H14
  iapply (le_wp_ret)
  isplitr
  · ipureintro; rfl
  isplitl [H14 H15 H16 H17]
  · unfold tables
    isplitl [H14]; · iexact H14
    isplitl [H15]; · iexact H15
    isplitl [H16] <;> iassumption
  isplitl [HL]; · iexact HL
  isplitl [H7]; · iexact H7
  isplitl [HB]; · iexact HB
  isplitl [H20]; · iexact H20
  isplitl [H21]; · iexact H21
  isplitl [H22]; · iexact H22
  isplitl [HW0]; · iexact HW0
  isplitl [HW1] <;> iassumption

set_option maxHeartbeats 4000000 in
theorem part36_run (hD : D.Ok) : iprop(own (F := F) c R.a14 (tab D.row) ∗ ws0 R c D 1 ∗ ws1 R c D 1)
    ⊢ Wp c (part36 (F := F) R (w (D.row 1))) fun a => iprop(⌜a = ⟨w (D.row 3), (row_ok hD (by decide))⟩⌝ ∗ own (F := F) c R.a14 (tab D.row) ∗ ws0 R c D 3 ∗ ws1 R c D 3) := by
  delta part36
  rw [k0_part36_eq_skeleton]
  delta k0_part36_skel
  iintro ⟨H14, HW0, HW1⟩
  iapply (wp_assume Variants.none (c : Thread nD τ) none Set.univ (show k0_chk14 (w (D.row 1)) from row_ok hD (by decide)))
  iapply (start_enq R c R.a9 R.a23 0 D.nr (D := D) (offd := ![1, 0, 0]) (offs := k0_off96 (w (D.row 1))) (offm := ![0, 1]) 1 (by decide) rfl (row_off hD (by decide)) rfl) $$ HW0
  iintro HW0
  iapply (start_enq R c R.a10 R.a24 1 D.io (D := D) (offd := ![1, 0, 0]) (offs := k0_off96 (w (D.row 1))) (offm := ![1, 1]) 1 (by decide) rfl (row_off hD (by decide)) rfl) $$ HW1
  iintro HW1
  iapply (wp_tab c (m := R.a14) (f := D.row) (h1 := numel1_S1) (hp := rfl) 2 (by decide) rfl) $$ H14
  iintro H14
  iapply (wp_assume Variants.none (c : Thread nD τ) none Set.univ (show k0_chk15 (w (D.row 2)) from row_ok hD (by decide)))
  iapply (start_enq R c R.a9 R.a23 0 D.nr (D := D) (offd := ![2, 0, 0]) (offs := k0_off97 (w (D.row 2))) (offm := ![0, 2]) 2 (by decide) rfl (row_off hD (by decide)) rfl) $$ HW0
  iintro HW0
  iapply (start_enq R c R.a10 R.a24 1 D.io (D := D) (offd := ![2, 0, 0]) (offs := k0_off97 (w (D.row 2))) (offm := ![1, 2]) 2 (by decide) rfl (row_off hD (by decide)) rfl) $$ HW1
  iintro HW1
  iapply (wp_tab c (m := R.a14) (f := D.row) (h1 := numel1_S1) (hp := rfl) 3 (by decide) rfl) $$ H14
  iintro H14
  iapply (wp_assume Variants.none (c : Thread nD τ) none Set.univ (show k0_chk16 (w (D.row 3)) from row_ok hD (by decide)))
  iapply (le_wp_ret)
  isplitr
  · ipureintro; rfl
  isplitl [H14]; · iexact H14
  isplitl [HW0] <;> iassumption

set_option maxHeartbeats 4000000 in
theorem part37_run (hD : D.Ok) : iprop(own (F := F) c R.a14 (tab D.row) ∗ ws0 R c D 3 ∗ ws1 R c D 3)
    ⊢ Wp c (part37 (F := F) R (w (D.row 3)) (row_ok hD (by decide))) fun a => iprop(⌜a = ⟨w (D.row 5), (row_ok hD (by decide))⟩⌝ ∗ own (F := F) c R.a14 (tab D.row) ∗ ws0 R c D 5 ∗ ws1 R c D 5) := by
  delta part37
  rw [k0_part37_eq_skeleton]
  delta k0_part37_skel
  iintro ⟨H14, HW0, HW1⟩
  iapply (start_enq R c R.a9 R.a23 0 D.nr (D := D) (offd := ![3, 0, 0]) (offs := k0_off98 (w (D.row 3))) (offm := ![0, 3]) 3 (by decide) rfl (row_off hD (by decide)) rfl) $$ HW0
  iintro HW0
  iapply (start_enq R c R.a10 R.a24 1 D.io (D := D) (offd := ![3, 0, 0]) (offs := k0_off98 (w (D.row 3))) (offm := ![1, 3]) 3 (by decide) rfl (row_off hD (by decide)) rfl) $$ HW1
  iintro HW1
  iapply (wp_tab c (m := R.a14) (f := D.row) (h1 := numel1_S1) (hp := rfl) 4 (by decide) rfl) $$ H14
  iintro H14
  iapply (wp_assume Variants.none (c : Thread nD τ) none Set.univ (show k0_chk17 (w (D.row 4)) from row_ok hD (by decide)))
  iapply (start_enq R c R.a9 R.a23 0 D.nr (D := D) (offd := ![4, 0, 0]) (offs := k0_off99 (w (D.row 4))) (offm := ![0, 4]) 4 (by decide) rfl (row_off hD (by decide)) rfl) $$ HW0
  iintro HW0
  iapply (start_enq R c R.a10 R.a24 1 D.io (D := D) (offd := ![4, 0, 0]) (offs := k0_off99 (w (D.row 4))) (offm := ![1, 4]) 4 (by decide) rfl (row_off hD (by decide)) rfl) $$ HW1
  iintro HW1
  iapply (wp_tab c (m := R.a14) (f := D.row) (h1 := numel1_S1) (hp := rfl) 5 (by decide) rfl) $$ H14
  iintro H14
  iapply (wp_assume Variants.none (c : Thread nD τ) none Set.univ (show k0_chk18 (w (D.row 5)) from row_ok hD (by decide)))
  iapply (le_wp_ret)
  isplitr
  · ipureintro; rfl
  isplitl [H14]; · iexact H14
  isplitl [HW0] <;> iassumption

set_option maxHeartbeats 4000000 in
theorem part38_run (hD : D.Ok) : iprop(own (F := F) c R.a14 (tab D.row) ∗ ws0 R c D 5 ∗ ws1 R c D 5)
    ⊢ Wp c (part38 (F := F) R (w (D.row 5)) (row_ok hD (by decide))) fun a => iprop(⌜a = ⟨w (D.row 7), (row_ok hD (by decide))⟩⌝ ∗ own (F := F) c R.a14 (tab D.row) ∗ ws0 R c D 8 ∗ ws1 R c D 7) := by
  delta part38
  rw [k0_part38_eq_skeleton]
  delta k0_part38_skel
  iintro ⟨H14, HW0, HW1⟩
  iapply (start_enq R c R.a9 R.a23 0 D.nr (D := D) (offd := ![5, 0, 0]) (offs := k0_off100 (w (D.row 5))) (offm := ![0, 5]) 5 (by decide) rfl (row_off hD (by decide)) rfl) $$ HW0
  iintro HW0
  iapply (start_enq R c R.a10 R.a24 1 D.io (D := D) (offd := ![5, 0, 0]) (offs := k0_off100 (w (D.row 5))) (offm := ![1, 5]) 5 (by decide) rfl (row_off hD (by decide)) rfl) $$ HW1
  iintro HW1
  iapply (wp_tab c (m := R.a14) (f := D.row) (h1 := numel1_S1) (hp := rfl) 6 (by decide) rfl) $$ H14
  iintro H14
  iapply (wp_assume Variants.none (c : Thread nD τ) none Set.univ (show k0_chk19 (w (D.row 6)) from row_ok hD (by decide)))
  iapply (start_enq R c R.a9 R.a23 0 D.nr (D := D) (offd := ![6, 0, 0]) (offs := k0_off101 (w (D.row 6))) (offm := ![0, 6]) 6 (by decide) rfl (row_off hD (by decide)) rfl) $$ HW0
  iintro HW0
  iapply (start_enq R c R.a10 R.a24 1 D.io (D := D) (offd := ![6, 0, 0]) (offs := k0_off101 (w (D.row 6))) (offm := ![1, 6]) 6 (by decide) rfl (row_off hD (by decide)) rfl) $$ HW1
  iintro HW1
  iapply (wp_tab c (m := R.a14) (f := D.row) (h1 := numel1_S1) (hp := rfl) 7 (by decide) rfl) $$ H14
  iintro H14
  iapply (wp_assume Variants.none (c : Thread nD τ) none Set.univ (show k0_chk20 (w (D.row 7)) from row_ok hD (by decide)))
  iapply (start_enq R c R.a9 R.a23 0 D.nr (D := D) (offd := ![7, 0, 0]) (offs := k0_off102 (w (D.row 7))) (offm := ![0, 7]) 7 (by decide) rfl (row_off hD (by decide)) rfl) $$ HW0
  iintro HW0
  iapply (le_wp_ret)
  isplitr
  · ipureintro; rfl
  isplitl [H14]; · iexact H14
  isplitl [HW0] <;> iassumption

/-! ## The results' streams -/

variable (f : Fin 3 → ℕ → ℕ → F .f32)

abbrev dr (o : Fin 3) (mo : Memref sig .tc .hbm S12x8x16x8x128 .f32) (j : ℕ) : sProp (Mk F) := drain R c mo o (f o) j

section Streams
variable (mo : Memref sig .tc .hbm S12x8x16x8x128 .f32) (o : Fin 3) (fo : ℕ → ℕ → F .f32)

def outFrees : sProp (Mk F) := BI.bigSep Finset.univ fun s : Fin 8 => outFree (F := F) R c o s

theorem stream_start (Z : S12x8x16x8x128.Idx → F .f32) : iprop(outFrees (F := F) R c o ∗ own (F := F) c mo Z) ⊢ stream R c mo o fo 0 := by
  unfold outFrees stream todoOwn
  rw [show (fun s : Fin 8 => outSt R c mo o fo s (slotIx 8 0 s.val)) = fun s : Fin 8 => outFree (F := F) R c o s from funext fun s => by
    rw [slotIx_of_lt s.isLt]
    unfold outSt
    rw [if_pos s.isLt]]
  iintro ⟨HB, H⟩
  isplitl [HB]; · iexact HB
  have e0 : doneSet 0 = ∅ := by ext i; simp [doneSet]
  have e1 : todoSet 0 = Finset.univ := by ext i; simp [todoSet]
  have hs : doneSet 0 ⊆ (Finset.univ : Finset S12x8x16x8x128.Idx) := Finset.subset_univ _
  ihave H := (ownsOn_split (Val := Elt F) (c : Thread nD τ) mo fullShare hs Z) $$ H
  icases H with ⟨H1, H2⟩
  rw [show (Finset.univ : Finset S12x8x16x8x128.Idx) \ doneSet 0 = todoSet 0 by rw [e0, e1]; simp]
  isplitl [H1]
  · iapply (ownsOn_congr (Val := Elt F) (c : Thread nD τ) mo fullShare (fun i hi => by rw [e0] at hi; simp at hi)) $$ H1
  · iexists Z; iexact H2

theorem drain_end : drain R c mo o fo 8 ⊢ iprop(outFrees (F := F) R c o ∗ own (F := F) c mo (outG fo)) := by
  unfold outFrees drain doneOwn
  rw [show (fun s : Fin 8 => if s.val < 8 then outFree (F := F) R c o s else outSt R c mo o fo s (768 + s.val)) = fun s : Fin 8 => outFree (F := F) R c o s from funext fun s => if_pos s.isLt]
  rw [show doneSet (768 + 8) = (Finset.univ : Finset S12x8x16x8x128.Idx) from by
    ext i
    have := pairOf_lt i
    simp only [doneSet, Finset.mem_filter, Finset.mem_univ, true_and, iff_true]
    omega]

end Streams

theorem I5_end (X Y : S15384x128.Idx → BitVec 32) (acc : Unit) {t : ℕ} (ht : t = 768) : I5 R c (D := D) X Y (f 0) (f 1) (f 2) t acc ⊢ iprop(tables R D c ∗ look R D c ∗ coefs R c D
    ∗ winIdles R c R.a9 R.a23 0 D.nr ∗ winIdles R c R.a10 R.a24 1 D.io ∗ dr R c f 0 R.a11 0 ∗ dr R c f 1 R.a12 0 ∗ dr R c f 2 R.a13 0
    ∗ own (F := F) c R.a21 X ∗ own (F := F) c R.a22 Y ∗ (∃ V, own (F := F) c R.a26 (rollA V)) ∗ (∃ V, own (F := F) c R.a27 (rollA V)) ∗ owesNone (c : Thread nD τ)) := by
  subst ht
  unfold I5
  iintro ⟨HT, HL, HK, HB0, HB1, HR0, HR1, HR2, H21, H22, H26, H27, HO⟩
  ihave HB0 := (win_done R c R.a9 R.a23 0 D.nr) $$ HB0
  ihave HB1 := (win_done R c R.a10 R.a24 1 D.io) $$ HB1
  ihave HR0 := (drain_of_stream R c R.a11 0 (f 0)) $$ HR0
  ihave HR1 := (drain_of_stream R c R.a12 1 (f 1)) $$ HR1
  ihave HR2 := (drain_of_stream R c R.a13 2 (f 2)) $$ HR2
  icases HR0 with ⟨HR0, -⟩
  icases HR1 with ⟨HR1, -⟩
  icases HR2 with ⟨HR2, -⟩
  isplitl [HT]; · iexact HT
  isplitl [HL]; · iexact HL
  isplitl [HK]; · iexact HK
  isplitl [HB0]; · iexact HB0
  isplitl [HB1]; · iexact HB1
  isplitl [HR0]; · iexact HR0
  isplitl [HR1]; · iexact HR1
  isplitl [HR2]; · iexact HR2
  isplitl [H21]; · iexact H21
  isplitl [H22]; · iexact H22
  isplitl [H26]; · iexact H26
  isplitl [H27] <;> iassumption

set_option maxHeartbeats 4000000 in
theorem part39_run (hD : D.Ok) (X Y : S15384x128.Idx → BitVec 32) (hf : ∀ n < 768, Agree D n (pkX X Y (base D.nch n)) (f 0) (f 1) (f 2)) :
    iprop(tables R D c ∗ look R D c ∗ coefs R c D ∗ ws0 R c D 8 ∗ ws1 R c D 7 ∗ stream R c R.a11 0 (f 0) 0 ∗ stream R c R.a12 1 (f 1) 0 ∗ stream R c R.a13 2 (f 2) 0
        ∗ own (F := F) c R.a21 X ∗ own (F := F) c R.a22 Y ∗ (∃ V, own (F := F) c R.a26 (rollA V)) ∗ (∃ V, own (F := F) c R.a27 (rollA V)) ∗ owesNone (c : Thread nD τ))
      ⊢ Wp c (part39 (F := F) R (w (D.row 7)) (row_ok hD (by decide))) fun _ => iprop(tables R D c ∗ look R D c ∗ coefs R c D
    ∗ winIdles R c R.a9 R.a23 0 D.nr ∗ winIdles R c R.a10 R.a24 1 D.io ∗ dr R c f 0 R.a11 1 ∗ dr R c f 1 R.a12 1 ∗ dr R c f 2 R.a13 0
    ∗ own (F := F) c R.a21 X ∗ own (F := F) c R.a22 Y ∗ (∃ V, own (F := F) c R.a26 (rollA V)) ∗ (∃ V, own (F := F) c R.a27 (rollA V)) ∗ owesNone (c : Thread nD τ)) := by
  delta part39
  rw [k0_part39_eq_skeleton]
  delta k0_part39_skel
  iintro ⟨HT, HL, HK, HW0, HW1, HR0, HR1, HR2, H21, H22, H26, H27, HO⟩
  iapply (start_enq R c R.a10 R.a24 1 D.io (D := D) (offd := ![7, 0, 0]) (offs := k0_off102 (w (D.row 7))) (offm := ![1, 7]) 7 (by decide) rfl (row_off hD (by decide)) rfl) $$ HW1
  iintro HW1
  ihave HB0 := (winStart_all R c R.a9 R.a23 0 D.nr) $$ HW0
  ihave HB1 := (winStart_all R c R.a10 R.a24 1 D.io) $$ HW1
  iapply (Scf.wp_for_bind frame (wpE (defs₀ (F := F)) Variants.none (c : Thread nD τ) none) Set.univ k0_t5_loop.lb k0_t5_loop.ub k0_t5_loop.st k0_t5_ok ⟨⟩ (body5 (F := F) R (w (D.row 7)) (row_ok hD (by decide)) rowsI lanesI)
    (I5 R c (D := D) X Y (f 0) (f 1) (f 2)) (fun k acc => loop5_step R c k hD (w (D.row 7)) (row_ok hD (by decide)) X Y (f 0) (f 1) (f 2) (hf k.val (lt5 k)) acc)) $$ [HT HL HK HB0 HB1 HR0 HR1 HR2 H21 H22 H26 H27 HO]
  · unfold I5
    isplitl [HT]; · iexact HT
    isplitl [HL]; · iexact HL
    isplitl [HK]; · iexact HK
    isplitl [HB0]; · iexact HB0
    isplitl [HB1]; · iexact HB1
    isplitl [HR0]; · iexact HR0
    isplitl [HR1]; · iexact HR1
    isplitl [HR2]; · iexact HR2
    isplitl [H21]; · iexact H21
    isplitl [H22]; · iexact H22
    isplitl [H26]; · iexact H26
    isplitl [H27] <;> iassumption
  iintro %acc HI
  ihave HI := (I5_end R c f X Y acc trips5) $$ HI
  icases HI with ⟨HT, HL, HK, HB0, HB1, HR0, HR1, HR2, H21, H22, H26, H27, HO⟩
  iapply (drain_wait R c R.a11 0 (f 0) (offd := ![11, 7, 0, 0, 0]) (offs := ![0, 0, 0, 0]) (offm := ![0, 0]) 0 (by decide) rfl) $$ [HR0 HO]
  · isplitl [HR0] <;> iassumption
  iintro ⟨HR0, HO⟩
  iapply (drain_wait R c R.a12 1 (f 1) (offd := ![11, 7, 0, 0, 0]) (offs := ![1, 0, 0, 0]) (offm := ![1, 0]) 0 (by decide) rfl) $$ [HR1 HO]
  · isplitl [HR1] <;> iassumption
  iintro ⟨HR1, HO⟩
  iapply (le_wp_ret)
  isplitl [HT]; · iexact HT
  isplitl [HL]; · iexact HL
  isplitl [HK]; · iexact HK
  isplitl [HB0]; · iexact HB0
  isplitl [HB1]; · iexact HB1
  isplitl [HR0]; · iexact HR0
  isplitl [HR1]; · iexact HR1
  isplitl [HR2]; · iexact HR2
  isplitl [H21]; · iexact H21
  isplitl [H22]; · iexact H22
  isplitl [H26]; · iexact H26
  isplitl [H27] <;> iassumption

/-- The three streams after the last pair, so many of each one's slots awaited. -/
def drains (j0 j1 j2 : ℕ) : sProp (Mk F) := iprop(dr R c f 0 R.a11 j0 ∗ dr R c f 1 R.a12 j1 ∗ dr R c f 2 R.a13 j2 ∗ owesNone (c : Thread nD τ))

set_option maxHeartbeats 4000000 in
theorem part40_run : drains R c f 1 1 0 ⊢ Wp c (part40 (F := F) R) fun _ => drains R c f 2 2 1 := by
  delta part40
  rw [k0_part40_eq_skeleton]
  delta k0_part40_skel
  unfold drains dr
  iintro ⟨HR0, HR1, HR2, HO⟩
  iapply (drain_wait R c R.a13 2 (f 2) (offd := ![11, 7, 0, 0, 0]) (offs := ![2, 0, 0, 0]) (offm := ![2, 0]) 0 (by decide) rfl) $$ [HR2 HO]
  · isplitl [HR2] <;> iassumption
  iintro ⟨HR2, HO⟩
  iapply (drain_wait R c R.a11 0 (f 0) (offd := ![11, 7, 0, 1, 0]) (offs := ![0, 1, 0, 0]) (offm := ![0, 1]) 1 (by decide) rfl) $$ [HR0 HO]
  · isplitl [HR0] <;> iassumption
  iintro ⟨HR0, HO⟩
  iapply (drain_wait R c R.a12 1 (f 1) (offd := ![11, 7, 0, 1, 0]) (offs := ![1, 1, 0, 0]) (offm := ![1, 1]) 1 (by decide) rfl) $$ [HR1 HO]
  · isplitl [HR1] <;> iassumption
  iintro ⟨HR1, HO⟩
  iapply (le_wp_ret)
  isplitl [HR0]; · iexact HR0
  isplitl [HR1]; · iexact HR1
  isplitl [HR2] <;> iassumption

set_option maxHeartbeats 4000000 in
theorem part41_run : drains R c f 2 2 1 ⊢ Wp c (part41 (F := F) R) fun _ => drains R c f 3 3 3 := by
  delta part41
  rw [k0_part41_eq_skeleton]
  delta k0_part41_skel
  unfold drains dr
  iintro ⟨HR0, HR1, HR2, HO⟩
  iapply (drain_wait R c R.a13 2 (f 2) (offd := ![11, 7, 0, 1, 0]) (offs := ![2, 1, 0, 0]) (offm := ![2, 1]) 1 (by decide) rfl) $$ [HR2 HO]
  · isplitl [HR2] <;> iassumption
  iintro ⟨HR2, HO⟩
  iapply (drain_wait R c R.a11 0 (f 0) (offd := ![11, 7, 0, 2, 0]) (offs := ![0, 2, 0, 0]) (offm := ![0, 2]) 2 (by decide) rfl) $$ [HR0 HO]
  · isplitl [HR0] <;> iassumption
  iintro ⟨HR0, HO⟩
  iapply (drain_wait R c R.a12 1 (f 1) (offd := ![11, 7, 0, 2, 0]) (offs := ![1, 2, 0, 0]) (offm := ![1, 2]) 2 (by decide) rfl) $$ [HR1 HO]
  · isplitl [HR1] <;> iassumption
  iintro ⟨HR1, HO⟩
  iapply (drain_wait R c R.a13 2 (f 2) (offd := ![11, 7, 0, 2, 0]) (offs := ![2, 2, 0, 0]) (offm := ![2, 2]) 2 (by decide) rfl) $$ [HR2 HO]
  · isplitl [HR2] <;> iassumption
  iintro ⟨HR2, HO⟩
  iapply (le_wp_ret)
  isplitl [HR0]; · iexact HR0
  isplitl [HR1]; · iexact HR1
  isplitl [HR2] <;> iassumption

set_option maxHeartbeats 4000000 in
theorem part42_run : drains R c f 3 3 3 ⊢ Wp c (part42 (F := F) R) fun _ => drains R c f 4 4 4 := by
  delta part42
  rw [k0_part42_eq_skeleton]
  delta k0_part42_skel
  unfold drains dr
  iintro ⟨HR0, HR1, HR2, HO⟩
  iapply (drain_wait R c R.a11 0 (f 0) (offd := ![11, 7, 0, 3, 0]) (offs := ![0, 3, 0, 0]) (offm := ![0, 3]) 3 (by decide) rfl) $$ [HR0 HO]
  · isplitl [HR0] <;> iassumption
  iintro ⟨HR0, HO⟩
  iapply (drain_wait R c R.a12 1 (f 1) (offd := ![11, 7, 0, 3, 0]) (offs := ![1, 3, 0, 0]) (offm := ![1, 3]) 3 (by decide) rfl) $$ [HR1 HO]
  · isplitl [HR1] <;> iassumption
  iintro ⟨HR1, HO⟩
  iapply (drain_wait R c R.a13 2 (f 2) (offd := ![11, 7, 0, 3, 0]) (offs := ![2, 3, 0, 0]) (offm := ![2, 3]) 3 (by decide) rfl) $$ [HR2 HO]
  · isplitl [HR2] <;> iassumption
  iintro ⟨HR2, HO⟩
  iapply (le_wp_ret)
  isplitl [HR0]; · iexact HR0
  isplitl [HR1]; · iexact HR1
  isplitl [HR2] <;> iassumption

set_option maxHeartbeats 4000000 in
theorem part43_run : drains R c f 4 4 4 ⊢ Wp c (part43 (F := F) R) fun _ => drains R c f 5 5 5 := by
  delta part43
  rw [k0_part43_eq_skeleton]
  delta k0_part43_skel
  unfold drains dr
  iintro ⟨HR0, HR1, HR2, HO⟩
  iapply (drain_wait R c R.a11 0 (f 0) (offd := ![11, 7, 0, 4, 0]) (offs := ![0, 4, 0, 0]) (offm := ![0, 4]) 4 (by decide) rfl) $$ [HR0 HO]
  · isplitl [HR0] <;> iassumption
  iintro ⟨HR0, HO⟩
  iapply (drain_wait R c R.a12 1 (f 1) (offd := ![11, 7, 0, 4, 0]) (offs := ![1, 4, 0, 0]) (offm := ![1, 4]) 4 (by decide) rfl) $$ [HR1 HO]
  · isplitl [HR1] <;> iassumption
  iintro ⟨HR1, HO⟩
  iapply (drain_wait R c R.a13 2 (f 2) (offd := ![11, 7, 0, 4, 0]) (offs := ![2, 4, 0, 0]) (offm := ![2, 4]) 4 (by decide) rfl) $$ [HR2 HO]
  · isplitl [HR2] <;> iassumption
  iintro ⟨HR2, HO⟩
  iapply (le_wp_ret)
  isplitl [HR0]; · iexact HR0
  isplitl [HR1]; · iexact HR1
  isplitl [HR2] <;> iassumption

set_option maxHeartbeats 4000000 in
theorem part44_run : drains R c f 5 5 5 ⊢ Wp c (part44 (F := F) R) fun _ => drains R c f 7 6 6 := by
  delta part44
  rw [k0_part44_eq_skeleton]
  delta k0_part44_skel
  unfold drains dr
  iintro ⟨HR0, HR1, HR2, HO⟩
  iapply (drain_wait R c R.a11 0 (f 0) (offd := ![11, 7, 0, 5, 0]) (offs := ![0, 5, 0, 0]) (offm := ![0, 5]) 5 (by decide) rfl) $$ [HR0 HO]
  · isplitl [HR0] <;> iassumption
  iintro ⟨HR0, HO⟩
  iapply (drain_wait R c R.a12 1 (f 1) (offd := ![11, 7, 0, 5, 0]) (offs := ![1, 5, 0, 0]) (offm := ![1, 5]) 5 (by decide) rfl) $$ [HR1 HO]
  · isplitl [HR1] <;> iassumption
  iintro ⟨HR1, HO⟩
  iapply (drain_wait R c R.a13 2 (f 2) (offd := ![11, 7, 0, 5, 0]) (offs := ![2, 5, 0, 0]) (offm := ![2, 5]) 5 (by decide) rfl) $$ [HR2 HO]
  · isplitl [HR2] <;> iassumption
  iintro ⟨HR2, HO⟩
  iapply (drain_wait R c R.a11 0 (f 0) (offd := ![11, 7, 0, 6, 0]) (offs := ![0, 6, 0, 0]) (offm := ![0, 6]) 6 (by decide) rfl) $$ [HR0 HO]
  · isplitl [HR0] <;> iassumption
  iintro ⟨HR0, HO⟩
  iapply (le_wp_ret)
  isplitl [HR0]; · iexact HR0
  isplitl [HR1]; · iexact HR1
  isplitl [HR2] <;> iassumption

set_option maxHeartbeats 4000000 in
theorem part45_run : drains R c f 7 6 6 ⊢ Wp c (part45 (F := F) R) fun _ => drains R c f 8 7 7 := by
  delta part45
  rw [k0_part45_eq_skeleton]
  delta k0_part45_skel
  unfold drains dr
  iintro ⟨HR0, HR1, HR2, HO⟩
  iapply (drain_wait R c R.a12 1 (f 1) (offd := ![11, 7, 0, 6, 0]) (offs := ![1, 6, 0, 0]) (offm := ![1, 6]) 6 (by decide) rfl) $$ [HR1 HO]
  · isplitl [HR1] <;> iassumption
  iintro ⟨HR1, HO⟩
  iapply (drain_wait R c R.a13 2 (f 2) (offd := ![11, 7, 0, 6, 0]) (offs := ![2, 6, 0, 0]) (offm := ![2, 6]) 6 (by decide) rfl) $$ [HR2 HO]
  · isplitl [HR2] <;> iassumption
  iintro ⟨HR2, HO⟩
  iapply (drain_wait R c R.a11 0 (f 0) (offd := ![11, 7, 0, 7, 0]) (offs := ![0, 7, 0, 0]) (offm := ![0, 7]) 7 (by decide) rfl) $$ [HR0 HO]
  · isplitl [HR0] <;> iassumption
  iintro ⟨HR0, HO⟩
  iapply (le_wp_ret)
  isplitl [HR0]; · iexact HR0
  isplitl [HR1]; · iexact HR1
  isplitl [HR2] <;> iassumption

/-- What the body's scratch is: the tables, the ring of codes, the sums, the two rings of the third phase. -/
def scratch (D : Inputs F) : sProp (Mk F) :=
  iprop(tabs R D c 0 ∗ idles R c D ∗ (∃ V, own (F := F) c R.a20 (redA V)) ∗ (∃ X, own (F := F) c R.a21 X) ∗ (∃ X, own (F := F) c R.a22 X)
    ∗ winIdles R c R.a9 R.a23 0 D.nr ∗ winIdles R c R.a10 R.a24 1 D.io ∗ (∃ V, own (F := F) c R.a26 (rollA V)) ∗ (∃ V, own (F := F) c R.a27 (rollA V))
    ∗ outFrees (F := F) R c 0 ∗ outFrees (F := F) R c 1 ∗ outFrees (F := F) R c 2)

def given (D : Inputs F) : sProp (Mk F) := iprop(look R D c ∗ coefs R c D ∗ own (F := F) c R.a7 D.pl)

theorem tabs_zero : tables R D c ⊢ tabs R D c 0 := by
  unfold tables tabs
  iintro ⟨H14, H15, H16, H17⟩
  iexists (tab D.row); iexists (tab D.off); iexists (tab D.nch); iexists (tab (base D.nch))
  isplitr
  · ipureintro; intro i hi; exact absurd hi (Nat.not_lt_zero _)
  isplitl [H14]; · iexact H14
  isplitl [H15]; · iexact H15
  isplitl [H16] <;> iassumption

theorem agree (hD : D.Ok) {X Y : S15384x128.Idx → BitVec 32} (hX : Full D (ipOut D) X) (hY : Full D (pxOut D) Y) :
    ∀ n < 768, Agree D n (pkX X Y (base D.nch n)) (outF D 0) (outF D 1) (outF D 2) := fun n hn => by
  have e : ∀ col, col < D.szAt n → pkX X Y (base D.nch n) (D.off n + col) = pkT D n (D.off n + col) := fun col hc => pk_eq hD hX hY hn hc
  refine ⟨fun col => ?_, fun col => rfl, fun col => ?_⟩
  · show fill D _ n col = fill D (distP D (pkT D n) n) n col
    unfold fill
    split_ifs with h
    · unfold distP estP
      rw [e col h]
    · rfl
  · show fill D _ n col = fill D (estP D (pkT D n) n) n col
    unfold fill
    split_ifs with h
    · unfold estP
      rw [e col h]
    · rfl

set_option maxHeartbeats 8000000 in
/-- The body, from what it is given and its scratch, to the three results in place. -/
theorem scan_run (hD : D.Ok) (Z0 Z1 Z2 : S12x8x16x8x128.Idx → F .f32) :
    iprop(given R c D ∗ scratch R c D ∗ own (F := F) c R.a11 Z0 ∗ own (F := F) c R.a12 Z1 ∗ own (F := F) c R.a13 Z2 ∗ owesNone (c : Thread nD τ))
      ⊢ Wp c (scan (F := F) R) fun _ => iprop(given R c D ∗ scratch R c D ∗ own (F := F) c R.a11 (outG (outF D 0)) ∗ own (F := F) c R.a12 (outG (outF D 1)) ∗ own (F := F) c R.a13 (outG (outF D 2))
        ∗ owesNone (c : Thread nD τ)) := by
  unfold given scratch
  delta scan
  rw [cc0_scan_eq_skeleton]
  delta cc0_scan_skel
  iintro ⟨⟨HL, HK, H7⟩, ⟨HT, HB, H20, H21, H22, HW0, HW1, H26, H27, HF0, HF1, HF2⟩, HZ0, HZ1, HZ2, HO⟩
  ihave HW0 := (winStart_zero R c R.a9 R.a23 0 D.nr (D := D)) $$ HW0
  ihave HW1 := (winStart_zero R c R.a10 R.a24 1 D.io (D := D)) $$ HW1
  ihave HR0 := (stream_start R c R.a11 0 (outF D 0) Z0) $$ [HF0 HZ0]
  · isplitl [HF0] <;> iassumption
  ihave HR1 := (stream_start R c R.a12 1 (outF D 1) Z1) $$ [HF1 HZ1]
  · isplitl [HF1] <;> iassumption
  ihave HR2 := (stream_start R c R.a13 2 (outF D 2) Z2) $$ [HF2 HZ2]
  · isplitl [HF2] <;> iassumption
  iapply (wp_call c (part35_run R c hD)) $$ [HT HL H7 HB H20 H21 H22 HW0 HW1 HO]
  · isplitl [HT]; · iexact HT
    isplitl [HL]; · iexact HL
    isplitl [H7]; · iexact H7
    isplitl [HB]; · iexact HB
    isplitl [H20]; · iexact H20
    isplitl [H21]; · iexact H21
    isplitl [H22]; · iexact H22
    isplitl [HW0]; · iexact HW0
    isplitl [HW1] <;> iassumption
  iintro %a1 ⟨%e1, HT, HL, H7, HB, H20, ⟨%X, %hX, H21⟩, ⟨%Y, %hY, H22⟩, HW0, HW1, HO⟩
  subst e1
  ihave HT := (tables_open R c) $$ HT
  icases HT with ⟨H14, H15, H16, H17⟩
  iapply (wp_call c (part36_run R c hD)) $$ [H14 HW0 HW1]
  · isplitl [H14]; · iexact H14
    isplitl [HW0] <;> iassumption
  iintro %a36 ⟨%e36, H14, HW0, HW1⟩
  subst e36
  try dsimp only
  iapply (wp_call c (part37_run R c hD)) $$ [H14 HW0 HW1]
  · isplitl [H14]; · iexact H14
    isplitl [HW0] <;> iassumption
  iintro %a37 ⟨%e37, H14, HW0, HW1⟩
  subst e37
  try dsimp only
  iapply (wp_call c (part38_run R c hD)) $$ [H14 HW0 HW1]
  · isplitl [H14]; · iexact H14
    isplitl [HW0] <;> iassumption
  iintro %a38 ⟨%e38, H14, HW0, HW1⟩
  subst e38
  try dsimp only
  iapply (wp_call c (part39_run R c (outF D) hD X Y (agree hD hX hY))) $$ [H14 H15 H16 H17 HL HK HW0 HW1 HR0 HR1 HR2 H21 H22 H26 H27 HO]
  · isplitl [H14 H15 H16 H17]
    · unfold tables
      isplitl [H14]; · iexact H14
      isplitl [H15]; · iexact H15
      isplitl [H16] <;> iassumption
    isplitl [HL]; · iexact HL
    isplitl [HK]; · iexact HK
    isplitl [HW0]; · iexact HW0
    isplitl [HW1]; · iexact HW1
    isplitl [HR0]; · iexact HR0
    isplitl [HR1]; · iexact HR1
    isplitl [HR2]; · iexact HR2
    isplitl [H21]; · iexact H21
    isplitl [H22]; · iexact H22
    isplitl [H26]; · iexact H26
    isplitl [H27] <;> iassumption
  iintro %a39 ⟨HT, HL, HK, HB0, HB1, HR0, HR1, HR2, H21, H22, H26, H27, HO⟩
  ihave HR := (show iprop(dr R c (outF D) 0 R.a11 1 ∗ dr R c (outF D) 1 R.a12 1 ∗ dr R c (outF D) 2 R.a13 0 ∗ owesNone (c : Thread nD τ)) ⊢ drains R c (outF D) 1 1 0 from by unfold drains; exact BIBase.Entails.rfl) $$ [HR0 HR1 HR2 HO]
  · isplitl [HR0]; · iexact HR0
    isplitl [HR1]; · iexact HR1
    isplitl [HR2] <;> iassumption
  iapply (wp_call c (part40_run R c (outF D))) $$ [HR]
  · iexact HR
  iintro %a40 HR
  iapply (wp_call c (part41_run R c (outF D))) $$ [HR]
  · iexact HR
  iintro %a41 HR
  iapply (wp_call c (part42_run R c (outF D))) $$ [HR]
  · iexact HR
  iintro %a42 HR
  iapply (wp_call c (part43_run R c (outF D))) $$ [HR]
  · iexact HR
  iintro %a43 HR
  iapply (wp_call c (part44_run R c (outF D))) $$ [HR]
  · iexact HR
  iintro %a44 HR
  iapply (wp_call c (part45_run R c (outF D))) $$ [HR]
  · iexact HR
  iintro %a45 HR
  ihave HR := (show drains R c (outF D) 8 7 7 ⊢ iprop(dr R c (outF D) 0 R.a11 8 ∗ dr R c (outF D) 1 R.a12 7 ∗ dr R c (outF D) 2 R.a13 7 ∗ owesNone (c : Thread nD τ)) from by unfold drains; exact BIBase.Entails.rfl) $$ HR
  icases HR with ⟨HR0, HR1, HR2, HO⟩
  iapply (drain_wait R c R.a12 1 (outF D 1) (offd := ![11, 7, 0, 7, 0]) (offs := ![1, 7, 0, 0]) (offm := ![1, 7]) 7 (by decide) rfl) $$ [HR1 HO]
  · isplitl [HR1] <;> iassumption
  iintro ⟨HR1, HO⟩
  iapply (drain_wait R c R.a13 2 (outF D 2) (offd := ![11, 7, 0, 7, 0]) (offs := ![2, 7, 0, 0]) (offm := ![2, 7]) 7 (by decide) rfl) $$ [HR2 HO]
  · isplitl [HR2] <;> iassumption
  iintro ⟨HR2, HO⟩
  iapply (le_wp_ret)
  ihave HR0 := (drain_end R c R.a11 0 (outF D 0)) $$ HR0
  ihave HR1 := (drain_end R c R.a12 1 (outF D 1)) $$ HR1
  ihave HR2 := (drain_end R c R.a13 2 (outF D 2)) $$ HR2
  icases HR0 with ⟨HF0, HZ0⟩
  icases HR1 with ⟨HF1, HZ1⟩
  icases HR2 with ⟨HF2, HZ2⟩
  ihave HT := (tabs_zero R c) $$ HT
  isplitl [HL HK H7]
  · isplitl [HL]; · iexact HL
    isplitl [HK] <;> iassumption
  isplitl [HT HB H20 H21 H22 HB0 HB1 H26 H27 HF0 HF1 HF2]
  · isplitl [HT]; · iexact HT
    isplitl [HB]; · iexact HB
    isplitl [H20]; · iexact H20
    isplitl [H21]; · iexists _; iexact H21
    isplitl [H22]; · iexists _; iexact H22
    isplitl [HB0]; · iexact HB0
    isplitl [HB1]; · iexact HB1
    isplitl [H26]; · iexact H26
    isplitl [H27]; · iexact H27
    isplitl [HF0]; · iexact HF0
    isplitl [HF1] <;> iassumption
  isplitl [HZ0]; · iexact HZ0
  isplitl [HZ1]; · iexact HZ1
  isplitl [HZ2] <;> iassumption

end Cert.Proof.Kernel

end
-- ==== Proof.Cover.lean ====
/-
  A buffer owned whole, dealt to the slots of a ring and taken together again; a buffer read by several transfers,
  dealt out in shares.
-/
module

public import proofs.«01_k».proof.Proof.Loop5

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (R : Refs) (D : Inputs F) (c : Dev nD)

section Cover
variable {I : Type} [DecidableEq I] {sp : Space} {sh : Shape} {e : EltTy} (m : Memref sig .tc sp sh e) (q : PosShare TreeShare) (k : sh.Idx → I)

theorem deal_on (X : sh.Idx → Elt F e) (T : Finset I) (hT : T.Nonempty) :
    (ownsOn (Val := Elt F) (c : Thread nD τ) m q (Finset.univ.filter fun i => k i ∈ T) X : sProp (Mk F))
      ⊢ BI.bigSep T fun s => iprop(∃ Z, ownsOn (Val := Elt F) (c : Thread nD τ) m q (Finset.univ.filter fun i => k i = s) Z) := by
  classical
  induction hT using Finset.Nonempty.cons_induction with
  | singleton a =>
    rw [bigSep_singleton]
    rw [show (Finset.univ.filter fun i => k i ∈ ({a} : Finset I)) = Finset.univ.filter fun i => k i = a from Finset.filter_congr fun i _ => Finset.mem_singleton]
    iintro H
    iexists X; iexact H
  | cons a s ha hs ih =>
    rw [Finset.cons_eq_insert, bigSep_insert ha]
    show _ ⊢ iprop((∃ Z, ownsOn (Val := Elt F) (c : Thread nD τ) m q (Finset.univ.filter fun i => k i = a) Z) ∗ BI.bigSep s fun s => iprop(∃ Z, ownsOn (Val := Elt F) (c : Thread nD τ) m q (Finset.univ.filter fun i => k i = s) Z))
    have hB : (Finset.univ.filter fun i => k i = a) ⊆ Finset.univ.filter fun i => k i ∈ insert a s := fun i hi => by
      simp only [Finset.mem_filter, Finset.mem_univ, true_and] at hi ⊢
      rw [hi]; exact Finset.mem_insert_self a s
    iintro H
    ihave H := (ownsOn_split (Val := Elt F) (c : Thread nD τ) m q hB X) $$ H
    icases H with ⟨H1, H2⟩
    isplitl [H1]; · iexists X; iexact H1
    rw [show (Finset.univ.filter fun i => k i ∈ insert a s) \ (Finset.univ.filter fun i => k i = a) = Finset.univ.filter fun i => k i ∈ s from by
      ext i
      simp only [Finset.mem_sdiff, Finset.mem_filter, Finset.mem_univ, true_and, Finset.mem_insert]
      constructor
      · rintro ⟨h | h, h'⟩
        · exact absurd h h'
        · exact h
      · intro h
        exact ⟨Or.inr h, fun e => ha (e ▸ h)⟩]
    iapply ih $$ H2

theorem gather_on (T : Finset I) (hT : T.Nonempty) :
    (BI.bigSep T fun s => iprop(∃ Z, ownsOn (Val := Elt F) (c : Thread nD τ) m q (Finset.univ.filter fun i => k i = s) Z))
      ⊢ (iprop(∃ Z, ownsOn (Val := Elt F) (c : Thread nD τ) m q (Finset.univ.filter fun i => k i ∈ T) Z) : sProp (Mk F)) := by
  classical
  induction hT using Finset.Nonempty.cons_induction with
  | singleton a =>
    rw [bigSep_singleton]
    rw [show (Finset.univ.filter fun i => k i ∈ ({a} : Finset I)) = Finset.univ.filter fun i => k i = a from Finset.filter_congr fun i _ => Finset.mem_singleton]
  | cons a s ha hs ih =>
    rw [Finset.cons_eq_insert, bigSep_insert ha]
    show iprop((∃ Z, ownsOn (Val := Elt F) (c : Thread nD τ) m q (Finset.univ.filter fun i => k i = a) Z) ∗ BI.bigSep s fun s => iprop(∃ Z, ownsOn (Val := Elt F) (c : Thread nD τ) m q (Finset.univ.filter fun i => k i = s) Z)) ⊢ _
    iintro ⟨⟨%X, H1⟩, H2⟩
    ihave H2 := ih $$ H2
    icases H2 with ⟨%Y, H2⟩
    iexists (fun i => if k i = a then X i else Y i)
    have hd : Disjoint (Finset.univ.filter fun i => k i = a) (Finset.univ.filter fun i => k i ∈ s) := by
      rw [Finset.disjoint_left]
      intro i hi hj
      simp only [Finset.mem_filter, Finset.mem_univ, true_and] at hi hj
      exact ha (hi ▸ hj)
    rw [show (Finset.univ.filter fun i => k i ∈ insert a s) = (Finset.univ.filter fun i => k i = a) ∪ (Finset.univ.filter fun i => k i ∈ s) from by
      ext i
      simp only [Finset.mem_union, Finset.mem_filter, Finset.mem_univ, true_and, Finset.mem_insert]]
    iapply (ownsOn_join (Val := Elt F) (c : Thread nD τ) m q hd (X := X) (Y := Y) (Z := fun i => if k i = a then X i else Y i)
      (fun i hi => by rw [if_pos (Finset.mem_filter.mp hi).2])
      (fun i hi => by rw [if_neg (fun e' : k i = a => ha (by rw [← e']; exact (Finset.mem_filter.mp hi).2))]))
    isplitl [H1] <;> iassumption

variable [Fintype I] [Nonempty I]

theorem deal (X : sh.Idx → Elt F e) : (ownsOn (Val := Elt F) (c : Thread nD τ) m q Finset.univ X : sProp (Mk F))
    ⊢ BI.bigSep Finset.univ fun s : I => iprop(∃ Z, ownsOn (Val := Elt F) (c : Thread nD τ) m q (Finset.univ.filter fun i => k i = s) Z) := by
  have h := deal_on (F := F) c m q k X Finset.univ Finset.univ_nonempty
  rwa [show (Finset.univ.filter fun i => k i ∈ (Finset.univ : Finset I)) = Finset.univ from Finset.filter_true_of_mem fun i _ => Finset.mem_univ _] at h

theorem gather : (BI.bigSep Finset.univ fun s : I => iprop(∃ Z, ownsOn (Val := Elt F) (c : Thread nD τ) m q (Finset.univ.filter fun i => k i = s) Z))
    ⊢ (iprop(∃ Z, ownsOn (Val := Elt F) (c : Thread nD τ) m q Finset.univ Z) : sProp (Mk F)) := by
  have h := gather_on (F := F) c m q k Finset.univ Finset.univ_nonempty
  rwa [show (Finset.univ.filter fun i => k i ∈ (Finset.univ : Finset I)) = Finset.univ from Finset.filter_true_of_mem fun i _ => Finset.mem_univ _] at h

end Cover

theorem own_in {sp : Space} {sh : Shape} {e : EltTy} (m : Memref sig .tc sp sh e) (X : sh.Idx → Elt F e) :
    (owns (c : Thread nD τ) m fullShare X : sProp (Mk F)) ⊢ own (F := F) c m X := by
  unfold owns own ownsOn
  iintro ⟨%f, %hf, H⟩
  iexists f
  isplitr
  · ipureintro; exact fun i _ => congrFun hf i
  iexact H

theorem own_out {sp : Space} {sh : Shape} {e : EltTy} (m : Memref sig .tc sp sh e) (X : sh.Idx → Elt F e) :
    own (F := F) c m X ⊢ (owns (c : Thread nD τ) m fullShare X : sProp (Mk F)) := by
  unfold owns own ownsOn
  iintro ⟨%f, %hf, H⟩
  iexists f
  isplitr
  · ipureintro; exact funext fun i => hf i (Finset.mem_univ i)
  iexact H

theorem whole_in (b : Ref sig .tc) (f : Buf (Elt F) ((c : Thread nD τ).loc b)) :
    (((c : Thread nD τ).loc b) ↦{fullShare} f : sProp (Mk F)) ⊢ own (F := F) c (Memref.whole b) f := by
  have h := own_in (F := F) c (Memref.whole b) f
  rwa [owns_whole] at h

theorem whole_out (b : Ref sig .tc) (f : Buf (Elt F) ((c : Thread nD τ).loc b)) :
    own (F := F) c (Memref.whole b) f ⊢ (((c : Thread nD τ).loc b) ↦{fullShare} f : sProp (Mk F)) := by
  have h := own_out (F := F) c (Memref.whole b) f
  rwa [owns_whole] at h

/-- A whole buffer at a share. -/
theorem tok_eq (b : Ref sig .tc) (q : PosShare TreeShare) (f : Buf (Elt F) ((c : Thread nD τ).loc b)) :
    (ownsOn (Val := Elt F) (c : Thread nD τ) (Memref.whole b) q Finset.univ f : sProp (Mk F)) = (((c : Thread nD τ).loc b) ↦{q} f) := by
  rw [← owns_whole]
  unfold owns ownsOn
  congr 1
  funext g
  congr 2
  exact propext ⟨fun h => funext fun i => h i (Finset.mem_univ i), fun h i _ => congrFun h i⟩

theorem toks_in (b : Ref sig .tc) (f : Buf (Elt F) ((c : Thread nD τ).loc b)) (n : ℕ) :
    (((c : Thread nD τ).loc b) ↦{fullShare} f : sProp (Mk F)) ⊢ iprop((((c : Thread nD τ).loc b) ↦{Transfers.shareDrop fullShare n} f)
      ∗ BI.bigSep Finset.univ fun s : Fin n => ownsOn (Val := Elt F) (c : Thread nD τ) (Memref.whole b) (shareTok fullShare n s) Finset.univ f) := by
  rw [show (fun s : Fin n => (ownsOn (Val := Elt F) (c : Thread nD τ) (Memref.whole b) (shareTok fullShare n s) Finset.univ f : sProp (Mk F)))
      = fun s : Fin n => (((c : Thread nD τ).loc b) ↦{shareTok fullShare n s} f) from funext fun s => tok_eq c b _ f]
  exact Transfers.pointsTo_toks_split fullShare n

theorem toks_out (b : Ref sig .tc) (f : Buf (Elt F) ((c : Thread nD τ).loc b)) (n : ℕ) :
    iprop((((c : Thread nD τ).loc b) ↦{Transfers.shareDrop fullShare n} f)
      ∗ BI.bigSep Finset.univ fun s : Fin n => ownsOn (Val := Elt F) (c : Thread nD τ) (Memref.whole b) (shareTok fullShare n s) Finset.univ f) ⊢ (((c : Thread nD τ).loc b) ↦{fullShare} f : sProp (Mk F)) := by
  rw [show (fun s : Fin n => (ownsOn (Val := Elt F) (c : Thread nD τ) (Memref.whole b) (shareTok fullShare n s) Finset.univ f : sProp (Mk F)))
      = fun s : Fin n => (((c : Thread nD τ).loc b) ↦{shareTok fullShare n s} f) from funext fun s => tok_eq c b _ f]
  exact Transfers.pointsTo_toks_join fullShare n

theorem redA_eq (X : S64x128.Idx → BitVec 32) : ∃ V, X = redA V := by
  refine ⟨fun q i => X (ix2 ⟨(8 * q + (i 0).val) % 64, Nat.mod_lt _ (by decide)⟩ (i 1)), funext fun i => ?_⟩
  have h0 : (i 0).val < 64 := (i 0).isLt
  unfold redA
  refine congrArg X ((eq_ix2 i).trans ?_)
  refine congrArg (fun a => ix2 a (i 1)) (Fin.ext ?_)
  show (i 0).val = (8 * ((i 0).val / 8) + (i 0).val % 8) % 64
  omega

end Cert.Proof.Kernel

end
-- ==== Proof.Launch.lean ====
/-
  The scan kernel's program, launched: what the pipeline hands the body becomes what the body's proof starts from, what the
  body leaves becomes what the pipeline takes back, and the run ends with the three results in place.
-/
module

public import proofs.«01_k».proof.Proof.Scan
public import proofs.«01_k».proof.Proof.Cover
public import proofs.«01_k».proof.Proof.Gen.Kernel.Frame

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Cert.Kernel Cert.Kernel.Gen

variable {F : FTy → Type} [FloatOps F] (c : Dev nD) (m : (ℓ : Loc nD τ sig) → Buf (Elt F) ℓ) (ρ : Dev nD → PrngReg)

local notation "𝕄" => MT nD τ sig Unit (Elt F) ℕ (Pipeline.UD sig nD τ) ℕ

/-- The memrefs the body is called on. -/
abbrev R0 : Refs := ⟨win0_0.stage (cfg0.slots t0_0 0), hstage0_0 0, win0_1.stage (cfg0.slots t0_0 1), hstage0_1 0, win0_2.stage (cfg0.slots t0_0 2), hstage0_2 0, win0_3.stage (cfg0.slots t0_0 3), hstage0_3 0, win0_4.stage (cfg0.slots t0_0 4), hstage0_4 0, win0_5.stage (cfg0.slots t0_0 5), hstage0_5 0, win0_6.stage (cfg0.slots t0_0 6), hstage0_6 0, win0_7.stage (cfg0.slots t0_0 7), hstage0_7 0, Memref.whole main_v1, Memref.isWhole_whole _, Memref.whole main_v2, Memref.isWhole_whole _, Memref.whole main_v3, Memref.isWhole_whole _, Memref.whole main_v4_0, Memref.isWhole_whole _, Memref.whole main_v4_1, Memref.isWhole_whole _, Memref.whole main_v4_2, Memref.isWhole_whole _, Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, cc0_scratch5, Memref.whole cc0_scratch6, Memref.isWhole_whole _, Memref.whole cc0_scratch7, Memref.isWhole_whole _, Memref.whole cc0_scratch8, Memref.isWhole_whole _, Memref.whole cc0_scratch9, Memref.isWhole_whole _, Memref.whole cc0_scratch10, Memref.isWhole_whole _, cc0_scratch11, Memref.whole cc0_scratch12, Memref.isWhole_whole _, Memref.whole cc0_scratch13, Memref.isWhole_whole _, Memref.whole cc0_scratch14, Memref.isWhole_whole _, cc0_scratch15⟩

/-- The body's inputs as the region finds them. -/
def inp : Inputs F where
  ids := iblk m c 0 t0_0
  st := iblk m c 1 t0_0
  sz := iblk m c 2 t0_0
  ca := iblk m c 3 t0_0
  cb := iblk m c 4 t0_0
  cc := iblk m c 5 t0_0
  nq := iblk m c 6 t0_0
  pl := iblk m c 7 t0_0
  codes := V m c main_v1
  nr := V m c main_v2
  io := V m c main_v3

/-- The body's own semaphores. -/
abbrev Sems : Type := Fin 16 ⊕ ((Fin 2 × Fin 8) ⊕ (Fin 3 × Fin 8))
def osem : Sems → SemLoc sig
  | .inl s => .dma (codeSem R0 s)
  | .inr (.inl (o, s)) => .dma (winSem R0 o s)
  | .inr (.inr (o, s)) => .dma (outSem R0 o s)

theorem osem_facts : Pipeline.OwnSemFacts spec0 osem := by decide +kernel

def Hs : Finset (Ref sig .tc) := {main_v1, main_v2, main_v3}
def Rs : Finset (Ref sig .tc) := {main_v4_0, main_v4_1, main_v4_2}
theorem Hs_sub : Hs ⊆ Pipeline.restRefs sig spec0 := by decide
theorem Rs_sub : Rs ⊆ Pipeline.restRefs sig spec0 \ Hs := by decide

theorem bigSep_H (Φ : Ref sig .tc → sProp 𝕄) : BI.bigSep Hs Φ = iprop(Φ main_v1 ∗ Φ main_v2 ∗ Φ main_v3) := by
  rw [BI.bigSep_eq_bigSepL_of_eq [main_v1, main_v2, main_v3] (by decide) (by decide)]; rfl
theorem bigSep_R (Φ : Ref sig .tc → sProp 𝕄) : BI.bigSep Rs Φ = iprop(Φ main_v4_0 ∗ Φ main_v4_1 ∗ Φ main_v4_2) := by
  rw [BI.bigSep_eq_bigSepL_of_eq [main_v4_0, main_v4_1, main_v4_2] (by decide) (by decide)]; rfl

/-- The results in place. -/
def res (b : Ref sig .tc) : Buf (Elt F) ((c : Thread nD τ).loc b) :=
  Function.update (Function.update (Function.update (fun b => V m c b) main_v4_0 (outG (outF (inp c m) 0))) main_v4_1 (outG (outF (inp c m) 1))) main_v4_2 (outG (outF (inp c m) 2)) b

theorem res0 : res c m main_v4_0 = outG (outF (inp c m) 0) := by
  unfold res
  rw [Function.update_of_ne (by decide), Function.update_of_ne (by decide), Function.update_self]
theorem res1 : res c m main_v4_1 = outG (outF (inp c m) 1) := by
  unfold res
  rw [Function.update_of_ne (by decide), Function.update_self]
theorem res2 : res c m main_v4_2 = outG (outF (inp c m) 2) := by
  unfold res
  rw [Function.update_self]

def semsC : sProp 𝕄 := BI.bigSep Finset.univ fun s : Fin 16 => semVal ((c : Thread nD τ), .dma (codeSem R0 s)) 0
def semsW (o : Fin 2) : sProp 𝕄 := BI.bigSep Finset.univ fun s : Fin 8 => semVal ((c : Thread nD τ), .dma (winSem R0 o s)) 0
def semsO (o : Fin 3) : sProp 𝕄 := BI.bigSep Finset.univ fun s : Fin 8 => semVal ((c : Thread nD τ), .dma (outSem R0 o s)) 0

theorem fin3 (Φ : Fin 3 → sProp 𝕄) : BI.bigSep Finset.univ Φ = iprop(Φ 0 ∗ Φ 1 ∗ Φ 2) :=
  bigSep_univ_eq_bigSepL [(0 : Fin 3), (1 : Fin 3), (2 : Fin 3)] (by decide) (by decide) Φ
theorem fin2 (Φ : Fin 2 → sProp 𝕄) : BI.bigSep Finset.univ Φ = iprop(Φ 0 ∗ Φ 1) :=
  bigSep_univ_eq_bigSepL [(0 : Fin 2), (1 : Fin 2)] (by decide) (by decide) Φ

theorem sems_eq : (Pipeline.ownSems0 (Ix := Unit) (Name := ℕ) (U := Pipeline.UD sig nD τ) (Lvl := ℕ) (Val := Elt F) (τ := τ) osem c : sProp 𝕄)
    = iprop(semsC c ∗ (semsW c 0 ∗ semsW c 1) ∗ (semsO c 0 ∗ semsO c 1 ∗ semsO c 2)) := by
  unfold Pipeline.ownSems0
  rw [bigSep_univ_sum, bigSep_univ_sum, bigSep_univ_prod, bigSep_univ_prod, fin3, fin2]
  rfl

/-! ## A ring's slots from its buffer and its cells, and back -/

theorem bigSep_sep_split {I : Type} (s : Finset I) (A B : I → sProp 𝕄) : BI.bigSep s (fun i => iprop(A i ∗ B i)) ⊢ iprop(BI.bigSep s A ∗ BI.bigSep s B) := by
  rw [show BI.bigSep s (fun i => iprop(A i ∗ B i)) = iprop(BI.bigSep s A ∗ BI.bigSep s B) from BI.bigSep_sep s A B]
theorem bigSep_sep_join {I : Type} (s : Finset I) (A B : I → sProp 𝕄) : iprop(BI.bigSep s A ∗ BI.bigSep s B) ⊢ BI.bigSep s (fun i => iprop(A i ∗ B i)) := by
  rw [show BI.bigSep s (fun i => iprop(A i ∗ B i)) = iprop(BI.bigSep s A ∗ BI.bigSep s B) from BI.bigSep_sep s A B]

theorem rings_in {I : Type} [Fintype I] [DecidableEq I] (A B C : I → sProp 𝕄) : iprop(BI.bigSep Finset.univ A ∗ BI.bigSep Finset.univ B ∗ BI.bigSep Finset.univ C)
    ⊢ BI.bigSep Finset.univ fun s => iprop(A s ∗ B s ∗ C s) := by
  iintro ⟨HA, HB, HC⟩
  iapply (bigSep_sep_join Finset.univ A (fun s => iprop(B s ∗ C s)))
  isplitl [HA]; · iexact HA
  iapply (bigSep_sep_join Finset.univ B C)
  isplitl [HB] <;> iassumption

theorem rings_out {I : Type} [Fintype I] [DecidableEq I] (A B C : I → sProp 𝕄) : (BI.bigSep Finset.univ fun s => iprop(A s ∗ B s ∗ C s))
    ⊢ iprop(BI.bigSep Finset.univ A ∗ BI.bigSep Finset.univ B ∗ BI.bigSep Finset.univ C) := by
  iintro H
  ihave H := (bigSep_sep_split Finset.univ A (fun s => iprop(B s ∗ C s))) $$ H
  icases H with ⟨HA, H⟩
  ihave H := (bigSep_sep_split Finset.univ B C) $$ H
  icases H with ⟨HB, HC⟩
  isplitl [HA]; · iexact HA
  isplitl [HB] <;> iassumption

def kC : S16x30x512.Idx → Fin 16 := fun i => i 0
def kW : S8x24x128.Idx → Fin 8 := fun i => i 0
def kO : S3x8x16x128.Idx → Fin 3 × Fin 8 := fun i => (i 0, i 1)

theorem code_set (s : Fin 16) : (Finset.univ.filter fun i => kC i = s) = codeSlot s.val := Finset.filter_congr fun i _ => Fin.ext_iff
theorem win_set (s : Fin 8) : (Finset.univ.filter fun i => kW i = s) = winSlot s.val := Finset.filter_congr fun i _ => Fin.ext_iff
theorem out_set (s : Fin 3 × Fin 8) : (Finset.univ.filter fun i => kO i = s) = outSlot s.1.val s.2.val := Finset.filter_congr fun i _ => by
  rw [Prod.ext_iff, Fin.ext_iff, Fin.ext_iff]
  rfl

theorem idles_in (D : Inputs F) (X : S16x30x512.Idx → BitVec 32) : iprop(own (F := F) c (R0).a18 X ∗ (BI.bigSep Finset.univ fun s : Fin 16 => codeTok R0 D c s) ∗ semsC c) ⊢ idles R0 c D := by
  iintro ⟨H, HT, HS⟩
  ihave H := (deal c (R0).a18 fullShare kC X) $$ H
  rw [show (fun s : Fin 16 => iprop(∃ Z, ownsOn (Val := Elt F) (c : Thread nD τ) (R0).a18 fullShare (Finset.univ.filter fun i => kC i = s) Z)) = fun s : Fin 16 => (iprop(∃ Z, codeOwn (F := F) R0 c s Z) : sProp 𝕄) from funext fun s => by rw [code_set]]
  unfold idles codeIdle semsC
  iapply (rings_in (fun s : Fin 16 => (iprop(∃ Z, codeOwn (F := F) R0 c s Z) : sProp 𝕄)) (fun s => codeTok R0 D c s) (fun s => semVal ((c : Thread nD τ), .dma (codeSem R0 s)) 0))
  isplitl [H]; · iexact H
  isplitl [HT] <;> iassumption

theorem idles_out (D : Inputs F) : idles R0 c D ⊢ iprop((∃ X, own (F := F) c (R0).a18 X) ∗ (BI.bigSep Finset.univ fun s : Fin 16 => codeTok R0 D c s) ∗ semsC c) := by
  unfold idles codeIdle semsC
  iintro H
  ihave H := (rings_out (fun s : Fin 16 => (iprop(∃ Z, codeOwn (F := F) R0 c s Z) : sProp 𝕄)) (fun s => codeTok R0 D c s) (fun s => semVal ((c : Thread nD τ), .dma (codeSem R0 s)) 0)) $$ H
  icases H with ⟨H, HT, HS⟩
  rw [show (fun s : Fin 16 => (iprop(∃ Z, codeOwn (F := F) R0 c s Z) : sProp 𝕄)) = fun s : Fin 16 => iprop(∃ Z, ownsOn (Val := Elt F) (c : Thread nD τ) (R0).a18 fullShare (Finset.univ.filter fun i => kC i = s) Z) from funext fun s => by rw [code_set]]
  ihave H := (gather c (R0).a18 fullShare kC) $$ H
  isplitl [H]; · iexact H
  isplitl [HT] <;> iassumption

theorem wins_in (ms : Memref sig .tc .hbm S16000x128 .f32) (md : Memref sig .tc .vmem S8x24x128 .f32) (o : Fin 2) (Y : S16000x128.Idx → F .f32) (X : S8x24x128.Idx → F .f32) :
    iprop(own (F := F) c md X ∗ (BI.bigSep Finset.univ fun s : Fin 8 => winTok (F := F) c ms Y s) ∗ semsW c o) ⊢ winIdles R0 c ms md o Y := by
  iintro ⟨H, HT, HS⟩
  ihave H := (deal c md fullShare kW X) $$ H
  rw [show (fun s : Fin 8 => iprop(∃ Z, ownsOn (Val := Elt F) (c : Thread nD τ) md fullShare (Finset.univ.filter fun i => kW i = s) Z)) = fun s : Fin 8 => (iprop(∃ Z, winOwn (F := F) c md s Z) : sProp 𝕄) from funext fun s => by rw [win_set]]
  unfold winIdles winIdle semsW
  iapply (rings_in (fun s : Fin 8 => (iprop(∃ Z, winOwn (F := F) c md s Z) : sProp 𝕄)) (fun s => winTok c ms Y s) (fun s => semVal ((c : Thread nD τ), .dma (winSem R0 o s)) 0))
  isplitl [H]; · iexact H
  isplitl [HT] <;> iassumption

theorem wins_out (ms : Memref sig .tc .hbm S16000x128 .f32) (md : Memref sig .tc .vmem S8x24x128 .f32) (o : Fin 2) (Y : S16000x128.Idx → F .f32) :
    winIdles R0 c ms md o Y ⊢ iprop((∃ X, own (F := F) c md X) ∗ (BI.bigSep Finset.univ fun s : Fin 8 => winTok (F := F) c ms Y s) ∗ semsW c o) := by
  unfold winIdles winIdle semsW
  iintro H
  ihave H := (rings_out (fun s : Fin 8 => (iprop(∃ Z, winOwn (F := F) c md s Z) : sProp 𝕄)) (fun s => winTok c ms Y s) (fun s => semVal ((c : Thread nD τ), .dma (winSem R0 o s)) 0)) $$ H
  icases H with ⟨H, HT, HS⟩
  rw [show (fun s : Fin 8 => (iprop(∃ Z, winOwn (F := F) c md s Z) : sProp 𝕄)) = fun s : Fin 8 => iprop(∃ Z, ownsOn (Val := Elt F) (c : Thread nD τ) md fullShare (Finset.univ.filter fun i => kW i = s) Z) from funext fun s => by rw [win_set]]
  ihave H := (gather c md fullShare kW) $$ H
  isplitl [H]; · iexact H
  isplitl [HT] <;> iassumption

theorem outs_in (X : S3x8x16x128.Idx → F .f32) : iprop(own (F := F) c (R0).a28 X ∗ semsO c 0 ∗ semsO c 1 ∗ semsO c 2)
    ⊢ iprop(outFrees (F := F) R0 c 0 ∗ outFrees (F := F) R0 c 1 ∗ outFrees (F := F) R0 c 2) := by
  iintro ⟨H, HS0, HS1, HS2⟩
  ihave H := (show own (F := F) c (R0).a28 X ⊢ iprop((BI.bigSep Finset.univ fun s : Fin 8 => (iprop(∃ Z, slotOwn (F := F) R0 c 0 s Z) : sProp 𝕄)) ∗ (BI.bigSep Finset.univ fun s : Fin 8 => (iprop(∃ Z, slotOwn (F := F) R0 c 1 s Z) : sProp 𝕄)) ∗ (BI.bigSep Finset.univ fun s : Fin 8 => (iprop(∃ Z, slotOwn (F := F) R0 c 2 s Z) : sProp 𝕄))) from by
    have h := deal (F := F) c (R0).a28 fullShare kO X
    rw [show (fun s : Fin 3 × Fin 8 => iprop(∃ Z, ownsOn (Val := Elt F) (c : Thread nD τ) (R0).a28 fullShare (Finset.univ.filter fun i => kO i = s) Z)) = fun s : Fin 3 × Fin 8 => (iprop(∃ Z, slotOwn (F := F) R0 c s.1 s.2 Z) : sProp 𝕄) from funext fun s => by rw [out_set]] at h
    rw [bigSep_univ_prod, fin3] at h
    exact h) $$ H
  icases H with ⟨H0, H1, H2⟩
  unfold outFrees outFree semsO
  isplitl [H0 HS0]
  · iapply (bigSep_sep_join Finset.univ (fun s : Fin 8 => (iprop(∃ Z, slotOwn (F := F) R0 c 0 s Z) : sProp 𝕄)) (fun s => semVal ((c : Thread nD τ), .dma (outSem R0 0 s)) 0))
    isplitl [H0] <;> iassumption
  isplitl [H1 HS1]
  · iapply (bigSep_sep_join Finset.univ (fun s : Fin 8 => (iprop(∃ Z, slotOwn (F := F) R0 c 1 s Z) : sProp 𝕄)) (fun s => semVal ((c : Thread nD τ), .dma (outSem R0 1 s)) 0))
    isplitl [H1] <;> iassumption
  · iapply (bigSep_sep_join Finset.univ (fun s : Fin 8 => (iprop(∃ Z, slotOwn (F := F) R0 c 2 s Z) : sProp 𝕄)) (fun s => semVal ((c : Thread nD τ), .dma (outSem R0 2 s)) 0))
    isplitl [H2] <;> iassumption

theorem outs_out : iprop(outFrees (F := F) R0 c 0 ∗ outFrees (F := F) R0 c 1 ∗ outFrees (F := F) R0 c 2)
    ⊢ iprop((∃ X, own (F := F) c (R0).a28 X) ∗ semsO c 0 ∗ semsO c 1 ∗ semsO c 2) := by
  unfold outFrees outFree semsO
  iintro ⟨H0, H1, H2⟩
  ihave H0 := (bigSep_sep_split Finset.univ (fun s : Fin 8 => (iprop(∃ Z, slotOwn (F := F) R0 c 0 s Z) : sProp 𝕄)) (fun s => semVal ((c : Thread nD τ), .dma (outSem R0 0 s)) 0)) $$ H0
  ihave H1 := (bigSep_sep_split Finset.univ (fun s : Fin 8 => (iprop(∃ Z, slotOwn (F := F) R0 c 1 s Z) : sProp 𝕄)) (fun s => semVal ((c : Thread nD τ), .dma (outSem R0 1 s)) 0)) $$ H1
  ihave H2 := (bigSep_sep_split Finset.univ (fun s : Fin 8 => (iprop(∃ Z, slotOwn (F := F) R0 c 2 s Z) : sProp 𝕄)) (fun s => semVal ((c : Thread nD τ), .dma (outSem R0 2 s)) 0)) $$ H2
  icases H0 with ⟨H0, HS0⟩
  icases H1 with ⟨H1, HS1⟩
  icases H2 with ⟨H2, HS2⟩
  ihave H := (show iprop((BI.bigSep Finset.univ fun s : Fin 8 => (iprop(∃ Z, slotOwn (F := F) R0 c 0 s Z) : sProp 𝕄)) ∗ (BI.bigSep Finset.univ fun s : Fin 8 => (iprop(∃ Z, slotOwn (F := F) R0 c 1 s Z) : sProp 𝕄)) ∗ (BI.bigSep Finset.univ fun s : Fin 8 => (iprop(∃ Z, slotOwn (F := F) R0 c 2 s Z) : sProp 𝕄)))
      ⊢ iprop(∃ X, own (F := F) c (R0).a28 X) from by
    have h := gather (F := F) c (R0).a28 fullShare kO
    rw [show (fun s : Fin 3 × Fin 8 => iprop(∃ Z, ownsOn (Val := Elt F) (c : Thread nD τ) (R0).a28 fullShare (Finset.univ.filter fun i => kO i = s) Z)) = fun s : Fin 3 × Fin 8 => (iprop(∃ Z, slotOwn (F := F) R0 c s.1 s.2 Z) : sProp 𝕄) from funext fun s => by rw [out_set]] at h
    rw [bigSep_univ_prod, fin3] at h
    exact h) $$ [H0 H1 H2]
  · isplitl [H0]; · iexact H0
    isplitl [H1] <;> iassumption
  isplitl [H]; · iexact H
  isplitl [HS0]; · iexact HS0
  isplitl [HS1] <;> iassumption

/-- The leftover shares of the three arrays the rings read. -/
def dropped : sProp 𝕄 := iprop((((c : Thread nD τ).loc main_v1) ↦{Transfers.shareDrop fullShare 16} V m c main_v1) ∗ (((c : Thread nD τ).loc main_v2) ↦{Transfers.shareDrop fullShare 8} V m c main_v2)
  ∗ (((c : Thread nD τ).loc main_v3) ↦{Transfers.shareDrop fullShare 8} V m c main_v3))

abbrev ΦAt (G : (b : Ref sig .tc) → Buf (Elt F) ((c : Thread nD τ).loc b)) : sProp 𝕄 :=
  iprop(Pipeline.scopedRest (Ix := Unit) (Name := ℕ) (U := Pipeline.UD sig nD τ) (Lvl := ℕ) (Val := Elt F) spec0 c
    ∗ Pipeline.ownSems0 (Ix := Unit) (Name := ℕ) (U := Pipeline.UD sig nD τ) (Lvl := ℕ) (Val := Elt F) (τ := τ) osem c
    ∗ (BI.bigSep Hs fun b => ((c : Thread nD τ).loc b) ↦{fullShare} V m c b) ∗ BI.bigSep Rs fun b => ((c : Thread nD τ).loc b) ↦{fullShare} G b)

theorem tabs_in (D : Inputs F) (X14 X15 X16 X17 : S768.Idx → BitVec 32) : iprop(own (F := F) c (R0).a14 X14 ∗ own (F := F) c (R0).a15 X15 ∗ own (F := F) c (R0).a16 X16 ∗ own (F := F) c (R0).a17 X17) ⊢ tabs R0 D c 0 := by
  unfold tabs
  iintro ⟨H14, H15, H16, H17⟩
  iexists X14; iexists X15; iexists X16; iexists X17
  isplitr
  · ipureintro; intro i hi; exact absurd hi (Nat.not_lt_zero _)
  isplitl [H14]; · iexact H14
  isplitl [H15]; · iexact H15
  isplitl [H16] <;> iassumption

theorem tabs_out (D : Inputs F) : tabs R0 D c 0 ⊢ iprop((∃ X, own (F := F) c (R0).a14 X) ∗ (∃ X, own (F := F) c (R0).a15 X) ∗ (∃ X, own (F := F) c (R0).a16 X) ∗ (∃ X, own (F := F) c (R0).a17 X)) := by
  unfold tabs
  iintro ⟨%X14, %X15, %X16, %X17, -, H14, H15, H16, H17⟩
  isplitl [H14]; · iexists X14; iexact H14
  isplitl [H15]; · iexists X15; iexact H15
  isplitl [H16]; · iexists X16; iexact H16
  iexists X17; iexact H17

theorem red_in (X : S64x128.Idx → BitVec 32) : own (F := F) c (R0).a20 X ⊢ (iprop(∃ V, own (F := F) c (R0).a20 (redA V)) : sProp 𝕄) := by
  obtain ⟨V, rfl⟩ := redA_eq X
  iintro H; iexists V; iexact H
theorem roll_in (X : S3x24x128.Idx → BitVec 32) : own (F := F) c (R0).a26 X ⊢ (iprop(∃ V, own (F := F) c (R0).a26 (rollA V)) : sProp 𝕄) := by
  obtain ⟨V, rfl⟩ := rollA_eq X
  iintro H; iexists V; iexact H
theorem rollf_in (X : S3x24x128.Idx → F .f32) : own (F := F) c (R0).a27 X ⊢ (iprop(∃ V, own (F := F) c (R0).a27 (rollA V)) : sProp 𝕄) := by
  obtain ⟨V, rfl⟩ := rollA_eq X
  iintro H; iexists V; iexact H

set_option maxHeartbeats 2000000 in
theorem give_in (G : (b : Ref sig .tc) → Buf (Elt F) ((c : Thread nD τ).loc b)) : ΦAt c m G ⊢ iprop(scratch R0 c (inp c m) ∗ own (F := F) c (R0).a11 (G main_v4_0) ∗ own (F := F) c (R0).a12 (G main_v4_1) ∗ own (F := F) c (R0).a13 (G main_v4_2) ∗ dropped c m) := by
  unfold ΦAt scratch dropped
  rw [scopedRest0_eq, sems_eq, bigSep_H, bigSep_R]
  iintro ⟨⟨⟨%X4, S4⟩, ⟨%X6, S6⟩, ⟨%X7, S7⟩, ⟨%X8, S8⟩, ⟨%X9, S9⟩, ⟨%X10, S10⟩, ⟨%X12, S12⟩, ⟨%X13, S13⟩, ⟨%X14, S14⟩, ⟨%X0, S0⟩, ⟨%X1, S1⟩, ⟨%X2, S2⟩, ⟨%X3, S3⟩⟩, ⟨HC, ⟨HW0, HW1⟩, HO0, HO1, HO2⟩, ⟨Hv1, Hv2, Hv3⟩, ⟨HR0, HR1, HR2⟩⟩
  ihave Hv1 := (toks_in c main_v1 (V m c main_v1) 16) $$ Hv1
  ihave Hv2 := (toks_in c main_v2 (V m c main_v2) 8) $$ Hv2
  ihave Hv3 := (toks_in c main_v3 (V m c main_v3) 8) $$ Hv3
  icases Hv1 with ⟨Hd1, Hv1⟩
  icases Hv2 with ⟨Hd2, Hv2⟩
  icases Hv3 with ⟨Hd3, Hv3⟩
  ihave S4 := (whole_in c cc0_scratch4 X4) $$ S4
  ihave S6 := (whole_in c cc0_scratch6 X6) $$ S6
  ihave S7 := (whole_in c cc0_scratch7 X7) $$ S7
  ihave S8 := (whole_in c cc0_scratch8 X8) $$ S8
  ihave S9 := (whole_in c cc0_scratch9 X9) $$ S9
  ihave S10 := (whole_in c cc0_scratch10 X10) $$ S10
  ihave S12 := (whole_in c cc0_scratch12 X12) $$ S12
  ihave S13 := (whole_in c cc0_scratch13 X13) $$ S13
  ihave S14 := (whole_in c cc0_scratch14 X14) $$ S14
  ihave S0 := (whole_in c cc0_scratch0 X0) $$ S0
  ihave S1 := (whole_in c cc0_scratch1 X1) $$ S1
  ihave S2 := (whole_in c cc0_scratch2 X2) $$ S2
  ihave S3 := (whole_in c cc0_scratch3 X3) $$ S3
  ihave HT := (tabs_in c (inp c m) X0 X1 X2 X3) $$ [S0 S1 S2 S3]
  · isplitl [S0]; · iexact S0
    isplitl [S1]; · iexact S1
    isplitl [S2] <;> iassumption
  ihave HB := (idles_in c (inp c m) X4) $$ [S4 Hv1 HC]
  · isplitl [S4]; · iexact S4
    isplitl [Hv1]; · iexact Hv1
    iexact HC
  ihave HW0 := (wins_in c (R0).a9 (R0).a23 0 (inp c m).nr X9) $$ [S9 Hv2 HW0]
  · isplitl [S9]; · iexact S9
    isplitl [Hv2]; · iexact Hv2
    iexact HW0
  ihave HW1 := (wins_in c (R0).a10 (R0).a24 1 (inp c m).io X10) $$ [S10 Hv3 HW1]
  · isplitl [S10]; · iexact S10
    isplitl [Hv3]; · iexact Hv3
    iexact HW1
  ihave HF := (outs_in c X14) $$ [S14 HO0 HO1 HO2]
  · isplitl [S14]; · iexact S14
    isplitl [HO0]; · iexact HO0
    isplitl [HO1] <;> iassumption
  icases HF with ⟨HF0, HF1, HF2⟩
  ihave S6 := (red_in c X6) $$ S6
  ihave S12 := (roll_in c X12) $$ S12
  ihave S13 := (rollf_in c X13) $$ S13
  ihave HR0 := (whole_in c main_v4_0 (G main_v4_0)) $$ HR0
  ihave HR1 := (whole_in c main_v4_1 (G main_v4_1)) $$ HR1
  ihave HR2 := (whole_in c main_v4_2 (G main_v4_2)) $$ HR2
  isplitl [HT HB S6 S7 S8 HW0 HW1 S12 S13 HF0 HF1 HF2]
  · isplitl [HT]; · iexact HT
    isplitl [HB]; · iexact HB
    isplitl [S6]; · iexact S6
    isplitl [S7]; · iexists X7; iexact S7
    isplitl [S8]; · iexists X8; iexact S8
    isplitl [HW0]; · iexact HW0
    isplitl [HW1]; · iexact HW1
    isplitl [S12]; · iexact S12
    isplitl [S13]; · iexact S13
    isplitl [HF0]; · iexact HF0
    isplitl [HF1] <;> iassumption
  isplitl [HR0]; · iexact HR0
  isplitl [HR1]; · iexact HR1
  isplitl [HR2]; · iexact HR2
  isplitl [Hd1]; · iexact Hd1
  isplitl [Hd2] <;> iassumption

set_option maxHeartbeats 2000000 in
theorem give_out (G : (b : Ref sig .tc) → Buf (Elt F) ((c : Thread nD τ).loc b)) : iprop(scratch R0 c (inp c m) ∗ own (F := F) c (R0).a11 (G main_v4_0) ∗ own (F := F) c (R0).a12 (G main_v4_1) ∗ own (F := F) c (R0).a13 (G main_v4_2) ∗ dropped c m) ⊢ ΦAt c m G := by
  unfold ΦAt scratch dropped
  rw [scopedRest0_eq, sems_eq, bigSep_H, bigSep_R]
  iintro ⟨⟨HT, HB, ⟨%V6, S6⟩, ⟨%X7, S7⟩, ⟨%X8, S8⟩, HW0, HW1, ⟨%V12, S12⟩, ⟨%V13, S13⟩, HF0, HF1, HF2⟩, HR0, HR1, HR2, Hd1, Hd2, Hd3⟩
  ihave HT := (tabs_out c (inp c m)) $$ HT
  icases HT with ⟨⟨%X0, S0⟩, ⟨%X1, S1⟩, ⟨%X2, S2⟩, ⟨%X3, S3⟩⟩
  ihave HB := (idles_out c (inp c m)) $$ HB
  icases HB with ⟨⟨%X4, S4⟩, Hv1, HC⟩
  ihave HW0 := (wins_out c (R0).a9 (R0).a23 0 (inp c m).nr) $$ HW0
  icases HW0 with ⟨⟨%X9, S9⟩, Hv2, HW0⟩
  ihave HW1 := (wins_out c (R0).a10 (R0).a24 1 (inp c m).io) $$ HW1
  icases HW1 with ⟨⟨%X10, S10⟩, Hv3, HW1⟩
  ihave HF := (outs_out c) $$ [HF0 HF1 HF2]
  · isplitl [HF0]; · iexact HF0
    isplitl [HF1] <;> iassumption
  icases HF with ⟨⟨%X14, S14⟩, HO0, HO1, HO2⟩
  ihave Hv1 := (toks_out c main_v1 (V m c main_v1) 16) $$ [Hd1 Hv1]
  · isplitl [Hd1]; · iexact Hd1
    iexact Hv1
  ihave Hv2 := (toks_out c main_v2 (V m c main_v2) 8) $$ [Hd2 Hv2]
  · isplitl [Hd2]; · iexact Hd2
    iexact Hv2
  ihave Hv3 := (toks_out c main_v3 (V m c main_v3) 8) $$ [Hd3 Hv3]
  · isplitl [Hd3]; · iexact Hd3
    iexact Hv3
  ihave S4 := (whole_out c cc0_scratch4 X4) $$ S4
  ihave S6 := (whole_out c cc0_scratch6 (redA V6)) $$ S6
  ihave S7 := (whole_out c cc0_scratch7 X7) $$ S7
  ihave S8 := (whole_out c cc0_scratch8 X8) $$ S8
  ihave S9 := (whole_out c cc0_scratch9 X9) $$ S9
  ihave S10 := (whole_out c cc0_scratch10 X10) $$ S10
  ihave S12 := (whole_out c cc0_scratch12 (rollA V12)) $$ S12
  ihave S13 := (whole_out c cc0_scratch13 (rollA V13)) $$ S13
  ihave S14 := (whole_out c cc0_scratch14 X14) $$ S14
  ihave S0 := (whole_out c cc0_scratch0 X0) $$ S0
  ihave S1 := (whole_out c cc0_scratch1 X1) $$ S1
  ihave S2 := (whole_out c cc0_scratch2 X2) $$ S2
  ihave S3 := (whole_out c cc0_scratch3 X3) $$ S3
  ihave HR0 := (whole_out c main_v4_0 (G main_v4_0)) $$ HR0
  ihave HR1 := (whole_out c main_v4_1 (G main_v4_1)) $$ HR1
  ihave HR2 := (whole_out c main_v4_2 (G main_v4_2)) $$ HR2
  isplitl [S4 S6 S7 S8 S9 S10 S12 S13 S14 S0 S1 S2 S3]
  · isplitl [S4]; · iexists X4; iexact S4
    isplitl [S6]; · iexists (redA V6); iexact S6
    isplitl [S7]; · iexists X7; iexact S7
    isplitl [S8]; · iexists X8; iexact S8
    isplitl [S9]; · iexists X9; iexact S9
    isplitl [S10]; · iexists X10; iexact S10
    isplitl [S12]; · iexists (rollA V12); iexact S12
    isplitl [S13]; · iexists (rollA V13); iexact S13
    isplitl [S14]; · iexists X14; iexact S14
    isplitl [S0]; · iexists X0; iexact S0
    isplitl [S1]; · iexists X1; iexact S1
    isplitl [S2]; · iexists X2; iexact S2
    iexists X3; iexact S3
  isplitl [HC HW0 HW1 HO0 HO1 HO2]
  · isplitl [HC]; · iexact HC
    isplitl [HW0 HW1]
    · isplitl [HW0] <;> iassumption
    isplitl [HO0]; · iexact HO0
    isplitl [HO1] <;> iassumption
  isplitl [Hv1 Hv2 Hv3]
  · isplitl [Hv1]; · iexact Hv1
    isplitl [Hv2] <;> iassumption
  isplitl [HR0]; · iexact HR0
  isplitl [HR1] <;> iassumption

end Cert.Proof.Kernel

end
-- ==== Proof.Run.lean ====
/-
  The scan kernel's whole run: the pipeline around the body's proof, then the host lines after it.
-/
module

public import proofs.«01_k».proof.Proof.Launch

@[expose] public section

set_option maxRecDepth 16384

noncomputable section

namespace Cert.Proof.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
open Idealize.ShloMosaic.Pipeline (Dat BodyObligation)
open Cert.Kernel Cert.Kernel.Gen

attribute [local irreducible] Cert.Proof.pos Cert.Proof.base

variable {F : FTy → Type} [FloatOps F] (m : (ℓ : Loc nD τ sig) → Buf (Elt F) ℓ) (ρ : Dev nD → PrngReg)

local notation "𝕄" => MT nD τ sig Unit (Elt F) ℕ (Pipeline.UD sig nD τ) ℕ

/-- What the body owns beside the windows, before its one point and after it. -/
def phi (c : Dev nD) : ℕ → sProp 𝕄
  | 0 => ΦAt c m (fun b => V m c b)
  | _ + 1 => ΦAt c m (res c m)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ t := phi m c t.val
  q _ := fullShare
  owed _ := 0

theorem A_eq (c : Dev nD) (w : Fin cfg0.W) : (dats m 0 c).A w = V m c (Pipeline.arrRef spec0 w) := by
  dsimp only [dats]

section Before
variable (c : Dev nD) (t : Fin cfg0.N)

theorem before_0 (d) : (dats m 0 c).before 0 t d = iblk m c 0 t :=
  ((dats m 0 c).before_in_eq_fetched 0 rfl (fun _ => rfl) (fun _ _ _ => rfl) (fun t => rfl) t d).trans rfl
theorem before_1 (d) : (dats m 0 c).before 1 t d = iblk m c 1 t :=
  ((dats m 0 c).before_in_eq_fetched 1 rfl (fun _ => rfl) (fun _ _ _ => rfl) (fun t => rfl) t d).trans rfl
theorem before_2 (d) : (dats m 0 c).before 2 t d = iblk m c 2 t :=
  ((dats m 0 c).before_in_eq_fetched 2 rfl (fun _ => rfl) (fun _ _ _ => rfl) (fun t => rfl) t d).trans rfl
theorem before_3 (d) : (dats m 0 c).before 3 t d = iblk m c 3 t :=
  ((dats m 0 c).before_in_eq_fetched 3 rfl (fun _ => rfl) (fun _ _ _ => rfl) (fun t => rfl) t d).trans rfl
theorem before_4 (d) : (dats m 0 c).before 4 t d = iblk m c 4 t :=
  ((dats m 0 c).before_in_eq_fetched 4 rfl (fun _ => rfl) (fun _ _ _ => rfl) (fun t => rfl) t d).trans rfl
theorem before_5 (d) : (dats m 0 c).before 5 t d = iblk m c 5 t :=
  ((dats m 0 c).before_in_eq_fetched 5 rfl (fun _ => rfl) (fun _ _ _ => rfl) (fun t => rfl) t d).trans rfl
theorem before_6 (d) : (dats m 0 c).before 6 t d = iblk m c 6 t :=
  ((dats m 0 c).before_in_eq_fetched 6 rfl (fun _ => rfl) (fun _ _ _ => rfl) (fun t => rfl) t d).trans rfl
theorem before_7 (d) : (dats m 0 c).before 7 t d = iblk m c 7 t :=
  ((dats m 0 c).before_in_eq_fetched 7 rfl (fun _ => rfl) (fun _ _ _ => rfl) (fun t => rfl) t d).trans rfl
end Before

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t))

theorem stage_in {sp : Space} {sh : Shape} {e : EltTy} {δ : Type} (c : Dev nD) (a : Memref sig .tc sp sh e) (f : δ → sh.Idx → Elt F e) (X : sh.Idx → Elt F e) (h : ∀ d, f d = X) :
    iprop(∃ d, owns (Ix := Unit) (Name := ℕ) (U := Pipeline.UD sig nD τ) (Lvl := ℕ) (c : Thread nD τ) a fullShare (f d)) ⊢ own (F := F) c a X := by
  iintro ⟨%d, H⟩
  have e : f d = X := h d
  rw [e]
  iapply (own_in c a X)
  iexact H

theorem pre_in (c : Dev nD) : bodyPre m c t0_0 ⊢ iprop(given R0 c (inp c m) ∗ scratch R0 c (inp c m) ∗ own (F := F) c (R0).a11 (V m c main_v4_0)
    ∗ own (F := F) c (R0).a12 (V m c main_v4_1) ∗ own (F := F) c (R0).a13 (V m c main_v4_2) ∗ owesNone (c : Thread nD τ) ∗ dropped c m) := by
  unfold bodyPre
  rw [show (dats m 0 c).Φ t0_0.castSucc = ΦAt c m (fun b => V m c b) from rfl]
  unfold Dat.owesAt Pipeline.owesWithin given look coefs
  rw [show (dats m 0 c).owed t0_0.castSucc = 0 from rfl]
  iintro ⟨HP, ⟨%W, -, HW⟩, H0, H1, H2, H3, H4, H5, H6, H7⟩
  ihave HP := (give_in c m (fun b => V m c b)) $$ HP
  icases HP with ⟨HS, HR0, HR1, HR2, HD⟩
  ihave H0 := (stage_in c (st0_0 t0_0) _ (inp c m).ids (fun d => before_0 m c t0_0 d)) $$ H0
  ihave H1 := (stage_in c (st0_1 t0_0) _ (inp c m).st (fun d => before_1 m c t0_0 d)) $$ H1
  ihave H2 := (stage_in c (st0_2 t0_0) _ (inp c m).sz (fun d => before_2 m c t0_0 d)) $$ H2
  ihave H3 := (stage_in c (st0_3 t0_0) _ (inp c m).ca (fun d => before_3 m c t0_0 d)) $$ H3
  ihave H4 := (stage_in c (st0_4 t0_0) _ (inp c m).cb (fun d => before_4 m c t0_0 d)) $$ H4
  ihave H5 := (stage_in c (st0_5 t0_0) _ (inp c m).cc (fun d => before_5 m c t0_0 d)) $$ H5
  ihave H6 := (stage_in c (st0_6 t0_0) _ (inp c m).nq (fun d => before_6 m c t0_0 d)) $$ H6
  ihave H7 := (stage_in c (st0_7 t0_0) _ (inp c m).pl (fun d => before_7 m c t0_0 d)) $$ H7
  isplitl [H0 H1 H2 H3 H4 H5 H6 H7]
  · isplitl [H0 H1 H2]
    · isplitl [H0]; · iexact H0
      isplitl [H1]; · iexact H1
      iexact H2
    isplitl [H3 H4 H5 H6]
    · isplitl [H3]; · iexact H3
      isplitl [H4]; · iexact H4
      isplitl [H5]; · iexact H5
      iexact H6
    iexact H7
  isplitl [HS]; · iexact HS
  isplitl [HR0]; · iexact HR0
  isplitl [HR1]; · iexact HR1
  isplitl [HR2]; · iexact HR2
  isplitl [HW]
  · unfold owesNone
    iexists W; iexact HW
  iexact HD

theorem post_out (c : Dev nD) : iprop(given R0 c (inp c m) ∗ scratch R0 c (inp c m) ∗ own (F := F) c (R0).a11 (res c m main_v4_0)
    ∗ own (F := F) c (R0).a12 (res c m main_v4_1) ∗ own (F := F) c (R0).a13 (res c m main_v4_2) ∗ owesNone (c : Thread nD τ) ∗ dropped c m) ⊢ bodyPost m c t0_0 := by
  unfold bodyPost
  rw [show (dats m 0 c).Φ t0_0.succ = ΦAt c m (res c m) from rfl]
  unfold Dat.owesAt Pipeline.owesWithin given look coefs owesNone
  rw [show (dats m 0 c).owed t0_0.succ = 0 from rfl]
  iintro ⟨⟨⟨H0, H1, H2⟩, ⟨H3, H4, H5, H6⟩, H7⟩, HS, HR0, HR1, HR2, ⟨%W', HW'⟩, HD⟩
  isplitl [HS HR0 HR1 HR2 HD]
  · iapply (give_out c m (res c m))
    isplitl [HS]; · iexact HS
    isplitl [HR0]; · iexact HR0
    isplitl [HR1]; · iexact HR1
    isplitl [HR2]; · iexact HR2
    iexact HD
  isplitl [HW']
  · iexists W'; isplitr; · ipureintro; exact fun _ _ => Or.inl trivial
    iexact HW'
  isplitl [H0]; · iapply (own_out c (st0_0 t0_0) (iblk m c 0 t0_0)); iexact H0
  isplitl [H1]; · iapply (own_out c (st0_1 t0_0) (iblk m c 1 t0_0)); iexact H1
  isplitl [H2]; · iapply (own_out c (st0_2 t0_0) (iblk m c 2 t0_0)); iexact H2
  isplitl [H3]; · iapply (own_out c (st0_3 t0_0) (iblk m c 3 t0_0)); iexact H3
  isplitl [H4]; · iapply (own_out c (st0_4 t0_0) (iblk m c 4 t0_0)); iexact H4
  isplitl [H5]; · iapply (own_out c (st0_5 t0_0) (iblk m c 5 t0_0)); iexact H5
  isplitl [H6]; · iapply (own_out c (st0_6 t0_0) (iblk m c 6 t0_0)); iexact H6
  iapply (own_out c (st0_7 t0_0) (iblk m c 7 t0_0)); iexact H7

theorem sound_body (hD : ∀ c, (inp c m).Ok) (c : Dev nD) :
    bodyPre m c t0_0 ⊢ Wp c (scan (F := F) R0) (fun _ => bodyPost m c t0_0) := by
  iintro H
  ihave H := (pre_in m c) $$ H
  icases H with ⟨HG, HS, HR0, HR1, HR2, HW, HD⟩
  ihave H := (scan_run R0 c (hD c) (V m c main_v4_0) (V m c main_v4_1) (V m c main_v4_2)) $$ [HG HS HR0 HR1 HR2 HW]
  · isplitl [HG]; · iexact HG
    isplitl [HS]; · iexact HS
    isplitl [HR0]; · iexact HR0
    isplitl [HR1]; · iexact HR1
    isplitl [HR2]; · iexact HR2
    iexact HW
  iapply (wp_wand_r (Fr := frame) (wpE := wpE (defs₀ (F := F)) Variants.none (c : Thread nD τ) none) (E := Set.univ))
  isplitl [H]; · iexact H
  iintro %u ⟨HG, HS, HR0, HR1, HR2, HW⟩
  iapply (post_out m c)
  isplitl [HG]; · iexact HG
  isplitl [HS]; · iexact HS
  isplitl [HR0]; · rw [res0]; iexact HR0
  isplitl [HR1]; · rw [res1]; iexact HR1
  isplitl [HR2]; · rw [res2]; iexact HR2
  isplitl [HW]; · iexact HW
  iexact HD

theorem defs₀_row (t : Fin cfg0.N) :
    defs₀ (F := F) .tc cfg0.body (cfg0.bodyArgs t (cfg0.slots t)) = bodyAt0 t := by
  unfold defs₀; rw [Defs.onTc_tc]

theorem body_obligation (hD : ∀ c, (inp c m).Ok) (c : Dev nD) : BodyObligation (dats (F := F) m 0 c) (defs₀ (F := F)) Variants.none () Set.univ := fun t => by
  obtain rfl : t = t0_0 := fin_N0 t
  rw [bigSep_W0, bigSep_W0, defs₀_row]
  exact triple_restated (sound_body m hD c) rfl .rfl fun _ => .rfl

theorem hmainD : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The buffers' contents when the host lines after the region begin. -/
def mid (c : Dev nD) : Valuation τ sig (Elt F) :=
  Pipeline.withArrays spec0 c (Pipeline.withR (V0 m c) Rs c (res c m)) fun w => (dats m 0 c).arrAt w cfg0.N

set_option backward.isDefEq.respectTransparency.types false in
theorem run_main (hD : ∀ c, (inp c m).Ok) : θ_run defs (onTc (τ := τ) (main (F := F))) (s₀ m ρ) (fun r => (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after [hostOps1].flatten (mid m c) (Proc.devRef .tc b))
      ∧ r.2.sem = fun _ => 0) :=
  Pipeline.θ_run_frame_dmaR_aroundV (Q' := _) (hQ' := fun _ h => h) cfgs (dats m) (0 : Fin 1) launch0 osem defs₀ Variants.none osem_facts Hs Rs Hs_sub Rs_sub m ρ main
    (hbody := fun c => (body_obligation m hD c).loose) (hshare := fun c => (dats m 0 c).share_full fun _ => rfl)
    (howed := fun _ _ => rfl) (V₀ := V0 m) (opss := [hostOps1]) (hsub := sfx_sub) (hfresh := sfx_fresh) (hkeep := sfx_keeps)
    (G := fun c => res c m) (hmain := hmainD m) (hA := A_eq m)
    (hin := fun _ => .rfl) (hout := fun _ => .rfl)

end Cert.Proof.Kernel

end
-- ==== Proof.Lookup.lean ====
/-
  Lookups in a table, of clusters and of rows, and a sum over the last axis, read at an index.
-/
module

public import Idealize.ShloMosaic.Lib.ValueIdx
public import Idealize.ShloMosaic.PureOps.Reduce
public import Mathlib.Data.BitVec

@[expose] public section

set_option maxRecDepth 16384

noncomputable section

namespace Cert.Proof

open Idealize.ShloMosaic Idealize.ShloMosaic.TcCoe Idealize.ShloMosaic.ValueIdx

/-- A lookup at an index that is inside the table. -/
theorem take_in {α : Type} (wf) (x : (⟨1, ![1000]⟩ : Shape).Idx → α) (idx : IVec ⟨3, ![64, 12, 1]⟩ 32) (y : (⟨2, ![64, 12]⟩ : Shape).Idx)
    (d : GatherDims ⟨1, ![1000]⟩ ⟨3, ![64, 12, 1]⟩ ⟨2, ![64, 12]⟩) (hd : d = takeDims 1000 64 12 wf)
    (v : BitVec 32) (hv : idx (takeIdx y) = v) (h : v.toNat < 1000) : Host.gather d x idx y = x (ValueIdx.ix1 ⟨v.toNat, h⟩) := by
  subst hd
  rw [gather_take_apply (by decide)]
  refine congrArg (fun n => x (ValueIdx.ix1 n)) (Fin.ext ?_)
  show min (idx (takeIdx y)).toInt.toNat (1000 - 1) = v.toNat
  rw [hv]
  have : v.toInt = v.toNat := BitVec.toInt_eq_toNat_of_lt (by omega)
  omega

theorem and_one {x y : BitVec 1} : IntOp.andi x y = 1#1 → x = 1#1 ∧ y = 1#1 := by
  revert x y; decide
theorem sge_one {x y : BitVec 32} (h : IntOp.cmpi .sge x y = 1#1) : y.toInt ≤ x.toInt := by
  have h' : BitVec.ofBool (y.sle x) = 1#1 := h
  rw [BitVec.sle] at h'
  by_contra hn
  rw [decide_eq_false hn] at h'
  exact absurd h' (by decide)
theorem sle_one {x y : BitVec 32} (h : IntOp.cmpi .sle x y = 1#1) : x.toInt ≤ y.toInt := sge_one h
theorem slt_one {x y : BitVec 32} (h : IntOp.cmpi .slt x y = 1#1) : x.toInt < y.toInt := by
  have h' : BitVec.ofBool (x.slt y) = 1#1 := h
  rw [BitVec.slt] at h'
  by_contra hn
  rw [decide_eq_false hn] at h'
  exact absurd h' (by decide)
theorem toInt_of_nonneg {x : BitVec 32} (h : 0 ≤ x.toInt) : (x.toNat : ℤ) = x.toInt := by
  rw [BitVec.toInt_eq_toNat_cond] at *
  have := x.isLt
  split at * <;> omega

/-- An index that is not negative is looked up as it stands. -/
theorem lookup_pick (hb : (⟨2, ![64, 12]⟩ : Shape).BroadcastsInDim ⟨3, ![64, 12, 1]⟩ (![0, 1] : Fin 2 → Fin 3)) (h0 : (⟨0, ![]⟩ : Shape).BroadcastsInDim ⟨2, ![64, 12]⟩ (![] : Fin 0 → Fin 2))
    (a0 : IVec ⟨2, ![64, 12]⟩ 32) (w : BitVec 32) (y : (⟨2, ![64, 12]⟩ : Shape).Idx) (h : 0 ≤ (a0 y).toInt) :
    broadcastInDim ⟨3, ![64, 12, 1]⟩ ![0, 1] hb (select (cmpi .slt a0 (broadcastInDim ⟨2, ![64, 12]⟩ ![] h0 (constantI ⟨0, ![]⟩ 32 0#32)))
      (addi a0 (broadcastInDim ⟨2, ![64, 12]⟩ ![] h0 (constantI ⟨0, ![]⟩ 32 w))) a0) (takeIdx y) = a0 y := by
  have key : ∀ z, z = y → (select (cmpi .slt a0 (broadcastInDim ⟨2, ![64, 12]⟩ ![] h0 (constantI ⟨0, ![]⟩ 32 0#32)))
      (addi a0 (broadcastInDim ⟨2, ![64, 12]⟩ ![] h0 (constantI ⟨0, ![]⟩ 32 w))) a0) z = a0 y := by
    rintro z rfl
    show Scalar.select (IntOp.cmpi .slt (a0 z) 0#32) _ (a0 z) = a0 z
    unfold Scalar.select
    rw [if_neg]
    intro e
    exact absurd (slt_one e) (not_lt.mpr h)
  refine key _ (funext fun a => ?_)
  match a with
  | ⟨0, _⟩ => rfl
  | ⟨1, _⟩ => rfl

/-! ## Rows -/

section Rows
variable {α : Type} {N A B C K : ℕ}

/-- The start indices' index `[a, b, s, 0]` of a result index that begins `(a, b, s)`. -/
abbrev rowIdx (a : Fin A) (b : Fin B) (s : Fin C) : (⟨4, ![A, B, C, 1]⟩ : Shape).Idx := ValueIdx.ix4 a b s 0

abbrev take3 (N A B C : ℕ) (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

/-- A lookup of one entry per row, at a number that is inside the table. -/
theorem take3_in (hN : N < 2 ^ 31) (wf) (x : (⟨1, ![N]⟩ : Shape).Idx → α) (idx : IVec ⟨4, ![A, B, C, 1]⟩ 32) (a : Fin A) (b : Fin B) (s : Fin C)
    (v : ℕ) (h : v < N) (hv : idx (rowIdx a b s) = BitVec.ofNat 32 v) : Host.gather (take3 N A B C wf) x idx (ValueIdx.ix3 a b s) = x (ValueIdx.ix1 ⟨v, h⟩) := by
  unfold Host.gather
  refine congrArg x (funext fun ax => ?_)
  obtain rfl : ax = 0 := Subsingleton.elim _ _
  refine Fin.ext ?_
  show (take3 N A B C wf).start (ValueIdx.ix3 a b s) idx 0 + (take3 N A B C wf).batchCoord (ValueIdx.ix3 a b s) 0 + (take3 N A B C wf).offCoord (ValueIdx.ix3 a b s) 0 = v
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take3 N A B C wf).startIndexMap from List.mem_singleton.mpr rfl)]
  have hsi : (take3 N A B C wf).siIdx (ValueIdx.ix3 a b s) ⟨List.idxOf (0 : Fin 1) (take3 N A B C wf).startIndexMap,
      List.idxOf_lt_length_iff.2 (List.mem_singleton.mpr rfl)⟩ = rowIdx a b s := by
    funext b'; refine Fin.ext ?_
    match b' with
    | ⟨0, _⟩ => rfl
    | ⟨1, _⟩ => rfl
    | ⟨2, _⟩ => rfl
    | ⟨3, _⟩ => rfl
  rw [hsi, hv]
  show min (BitVec.ofNat 32 v).toInt.toNat (N - 1) = v
  have e : (BitVec.ofNat 32 v).toNat = v := by rw [BitVec.toNat_ofNat]; exact Nat.mod_eq_of_lt (by omega)
  rw [BitVec.toInt_eq_toNat_of_lt (by omega), e]
  omega

abbrev takeRow3 (N K A B C : ℕ) (wf : GatherDims.WF ⟨2, ![N, K]⟩ ⟨4, ![A, B, C, 1]⟩ ⟨4, ![A, B, C, K]⟩ [3] [0] [] [0] [] 3 ![1, K]) :
    GatherDims ⟨2, ![N, K]⟩ ⟨4, ![A, B, C, 1]⟩ ⟨4, ![A, B, C, K]⟩ where
  offsetDims := [3]
  collapsedSliceDims := [0]
  operandBatchingDims := []
  startIndicesBatchingDims := []
  startIndexMap := [0]
  indexVectorDim := 3
  sliceSizes := ![1, K]
  wf := wf

/-- A lookup of whole rows, at a number that is inside the table. -/
theorem takeRow3_in (hN : N < 2 ^ 31) (wf) (x : (⟨2, ![N, K]⟩ : Shape).Idx → α) (idx : IVec ⟨4, ![A, B, C, 1]⟩ 32) (a : Fin A) (b : Fin B) (s : Fin C) (k : Fin K)
    (v : ℕ) (h : v < N) (hv : idx (rowIdx a b s) = BitVec.ofNat 32 v) : Host.gather (takeRow3 N K A B C wf) x idx (ValueIdx.ix4 a b s k) = x (ValueIdx.ix2 ⟨v, h⟩ k) := by
  unfold Host.gather
  refine congrArg x (funext fun ax => Fin.ext ?_)
  match ax with
  | ⟨0, _⟩ =>
    show (takeRow3 N K A B C wf).start (ValueIdx.ix4 a b s k) idx 0 + (takeRow3 N K A B C wf).batchCoord (ValueIdx.ix4 a b s k) 0 + (takeRow3 N K A B C wf).offCoord (ValueIdx.ix4 a b s k) 0 = v
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRow3 N K A B C wf).startIndexMap from List.mem_singleton.mpr rfl)]
    have hsi : (takeRow3 N K A B C wf).siIdx (ValueIdx.ix4 a b s k) ⟨List.idxOf (0 : Fin 2) (takeRow3 N K A B C wf).startIndexMap,
        List.idxOf_lt_length_iff.2 (List.mem_singleton.mpr rfl)⟩ = rowIdx a b s := by
      funext b'; refine Fin.ext ?_
      match b' with
      | ⟨0, _⟩ => rfl
      | ⟨1, _⟩ => rfl
      | ⟨2, _⟩ => rfl
      | ⟨3, _⟩ => rfl
    rw [hsi, hv]
    show min (BitVec.ofNat 32 v).toInt.toNat (N - 1) = v
    have e : (BitVec.ofNat 32 v).toNat = v := by rw [BitVec.toNat_ofNat]; exact Nat.mod_eq_of_lt (by omega)
    rw [BitVec.toInt_eq_toNat_of_lt (by omega), e]
    omega
  | ⟨1, _⟩ =>
    show (takeRow3 N K A B C wf).start (ValueIdx.ix4 a b s k) idx 1 + (takeRow3 N K A B C wf).batchCoord (ValueIdx.ix4 a b s k) 1 + (takeRow3 N K A B C wf).offCoord (ValueIdx.ix4 a b s k) 1 = k.val
    rw [GatherDims.batchCoord_eq_zero _ _ _ List.not_mem_nil]
    have hs : (takeRow3 N K A B C wf).start (ValueIdx.ix4 a b s k) idx 1 = 0 := by
      unfold GatherDims.start
      rw [dif_neg (show (1 : Fin 2) ∉ (takeRow3 N K A B C wf).startIndexMap from fun h => absurd (congrArg Fin.val (List.mem_singleton.1 h)) Nat.one_ne_zero)]
    rw [hs, Nat.zero_add]
    rfl

/-- The sum over the last axis, read at an index. -/
theorem reduce_last (x : IVec ⟨4, ![A, B, C, K]⟩ 32) {u : Shape} (init : IVec u 32) (h : (⟨4, ![A, B, C, K]⟩ : Shape).ReducesTo [3] ⟨3, ![A, B, C]⟩) (hu : 0 < u.numel)
    (h0 : init (Shape.Idx.first hu) = 0#32) (a : Fin A) (b : Fin B) (s : Fin C) (g : ℕ → BitVec 32) (hg : ∀ k : Fin K, x (ValueIdx.ix4 a b s k) = g k.val) :
    Host.reduce IntOp.addi x init h hu (ValueIdx.ix3 a b s) = ∑ k ∈ Finset.range K, g k := by
  have hd : ∀ i : (⟨4, ![A, B, C, K]⟩ : Shape).Idx, h.drop i = ValueIdx.ix3 a b s ↔ i ∈ (Finset.univ.image fun k : Fin K => ValueIdx.ix4 a b s k) := by
    intro i
    rw [Finset.mem_image]
    constructor
    · intro e
      refine ⟨i 3, Finset.mem_univ _, ?_⟩
      have e0 : (h.drop i 0).val = a.val := by rw [e]; rfl
      have e1 : (h.drop i 1).val = b.val := by rw [e]; rfl
      have e2 : (h.drop i 2).val = s.val := by rw [e]; rfl
      refine funext fun ax => Fin.ext ?_
      match ax with
      | ⟨0, _⟩ => exact e0.symm
      | ⟨1, _⟩ => exact e1.symm
      | ⟨2, _⟩ => exact e2.symm
      | ⟨3, _⟩ => rfl
    · rintro ⟨k, -, rfl⟩
      refine funext fun ax => Fin.ext ?_
      match ax with
      | ⟨0, _⟩ => rfl
      | ⟨1, _⟩ => rfl
      | ⟨2, _⟩ => rfl
  rw [Host.reduce_eq_fold, h0, Finset.filter_congr (fun i _ => hd i), Finset.filter_mem_eq_inter, Finset.univ_inter]
  have hs : ∀ S : Finset (⟨4, ![A, B, C, K]⟩ : Shape).Idx, S.fold IntOp.addi 0#32 x = ∑ i ∈ S, x i := fun S => (Finset.sum_eq_fold S x).symm
  rw [hs, Finset.sum_image fun k _ k' _ e => congrFun e (3 : Fin 4), Finset.sum_range]
  exact Finset.sum_congr rfl fun k _ => hg k

end Rows

end Cert.Proof

end
-- ==== Proof.Fit.lean ====
/-
  What the precondition says of the looked-up clusters, and what the body's inputs are of the arguments.
-/
module

public import proofs.«01_k».proof.Proof.Launch
public import proofs.«01_k».proof.Proof.Lookup
public import proofs.«01_k».proof.Pre_clusters_fit
public import Idealize.ShloMosaic.Lib.ValueIdx
public import Idealize.ShloMosaic.Lib.StableHlo.RunRead

@[expose] public section

set_option maxRecDepth 16384

noncomputable section

namespace Cert.Proof

open Idealize.ShloMosaic Idealize.ShloMosaic.TcCoe Idealize.ShloMosaic.ValueIdx

/-- The precondition at one probe. -/
theorem fit_at {F : FTy → Type} [FloatOps F] [Cert.Pre_clusters_fit.Facts] {a0 a1 a2 a3 a4 a5 a6 a7 a8 a9 a10}
    (h : Cert.Pre_clusters_fit.fn (F := F) a0 a1 a2 a3 a4 a5 a6 a7 a8 a9 a10 = fun _ => 1#1) (y : (⟨2, ![64, 12]⟩ : Shape).Idx) :
    ∃ hi : (a0 y).toNat < 1000, (a1 (ValueIdx.ix1 ⟨(a0 y).toNat, hi⟩)).toNat < 2045056 ∧ 1 ≤ (a2 (ValueIdx.ix1 ⟨(a0 y).toNat, hi⟩)).toNat ∧ (a2 (ValueIdx.ix1 ⟨(a0 y).toNat, hi⟩)).toNat ≤ 2048 := by
  have hy := congrFun h y
  unfold Cert.Pre_clusters_fit.fn Cert.Pre_clusters_fit.fn_part1 at hy
  dsimp only [andi, cmpi, broadcastInDim, constantI] at hy
  obtain ⟨hy, h6⟩ := and_one hy
  obtain ⟨hy, h5⟩ := and_one hy
  obtain ⟨hy, h4⟩ := and_one hy
  obtain ⟨hy, h3⟩ := and_one hy
  obtain ⟨h1, h2⟩ := and_one hy
  have h1 := sge_one h1
  have h2 := slt_one h2
  have e0 : ((0#32 : BitVec 32)).toInt = 0 := rfl
  have e1 : ((1000#32 : BitVec 32)).toInt = 1000 := rfl
  have e2 : ((2045056#32 : BitVec 32)).toInt = 2045056 := rfl
  have e3 : ((1#32 : BitVec 32)).toInt = 1 := rfl
  have e4 : ((2048#32 : BitVec 32)).toInt = 2048 := rfl
  rw [e0] at h1
  rw [e1] at h2
  have hi : (a0 y).toNat < 1000 := by rw [← toInt_of_nonneg h1] at *; omega
  have hv := lookup_pick Cert.Pre_clusters_fit.Facts.bcast_S64x12_S64x12x1_0_1 Cert.Pre_clusters_fit.Facts.bcast_S_S64x12 a0 1000#32 y h1
  have hst := take_in _ a1 _ y Cert.Pre_clusters_fit.gather_S1000_S64x12x1_S64x12_n_0_n_n_0_2_1 rfl _ hv hi
  have hsz := take_in _ a2 _ y Cert.Pre_clusters_fit.gather_S1000_S64x12x1_S64x12_n_0_n_n_0_2_1 rfl _ hv hi
  have h3 := sge_one h3
  have h4 := slt_one h4
  have h5 := sge_one h5
  have h6 := sle_one h6
  rw [e0] at h3
  rw [e2] at h4
  rw [e3] at h5
  rw [e4] at h6
  have k3 : 0 ≤ (a1 (ValueIdx.ix1 ⟨(a0 y).toNat, hi⟩)).toInt := le_of_le_of_eq h3 (congrArg BitVec.toInt hst)
  have k4 : (a1 (ValueIdx.ix1 ⟨(a0 y).toNat, hi⟩)).toInt < 2045056 := lt_of_eq_of_lt (congrArg BitVec.toInt hst).symm h4
  have k5 : 1 ≤ (a2 (ValueIdx.ix1 ⟨(a0 y).toNat, hi⟩)).toInt := le_of_le_of_eq h5 (congrArg BitVec.toInt hsz)
  have k6 : (a2 (ValueIdx.ix1 ⟨(a0 y).toNat, hi⟩)).toInt ≤ 2048 := le_of_eq_of_le (congrArg BitVec.toInt hsz).symm h6
  have t1 := toInt_of_nonneg k3
  have t2 := toInt_of_nonneg (le_trans (by decide) k5)
  exact ⟨hi, by omega, by omega, by omega⟩

end Cert.Proof

namespace Cert.Proof.Kernel

open Idealize.ShloMosaic Idealize.ShloMosaic.TcCoe Idealize.ShloMosaic.ValueIdx
open Cert.Kernel Cert.Kernel.Gen

variable {F : FTy → Type} [FloatOps F] (c : Dev nD) (m : (ℓ : Loc nD τ sig) → Buf (Elt F) ℓ)

theorem win_whole {n : ℕ} (i : Fin n) : 0 * n + 1 * i.val = i.val := by omega

theorem inp_ids : (inp c m).ids = V m c main_v0 := funext fun i => congrArg (V m c main_v0) (funext fun a => Fin.ext (win_whole (i a)))
theorem inp_st : (inp c m).st = V m c main_arg1 := funext fun i => congrArg (V m c main_arg1) (funext fun a => Fin.ext (win_whole (i a)))
theorem inp_sz : (inp c m).sz = V m c main_arg2 := funext fun i => congrArg (V m c main_arg2) (funext fun a => Fin.ext (win_whole (i a)))
theorem inp_ca : (inp c m).ca = V m c main_arg3 := funext fun i => congrArg (V m c main_arg3) (funext fun a => Fin.ext (win_whole (i a)))
theorem inp_cb : (inp c m).cb = V m c main_arg4 := funext fun i => congrArg (V m c main_arg4) (funext fun a => Fin.ext (win_whole (i a)))
theorem inp_cc : (inp c m).cc = V m c main_arg5 := funext fun i => congrArg (V m c main_arg5) (funext fun a => Fin.ext (win_whole (i a)))
theorem inp_nq : (inp c m).nq = V m c main_arg6 := funext fun i => congrArg (V m c main_arg6) (funext fun a => Fin.ext (win_whole (i a)))
theorem inp_pl : (inp c m).pl = V m c main_arg7 := funext fun i => congrArg (V m c main_arg7) (funext fun a => Fin.ext (win_whole (i a)))

theorem V_main_v0 : V m c main_v0 = transpose S12x64 [1, 0] (m ((c : Thread nD τ).loc main_arg0)) transposes_S64x12_S12x64_1_0 := by
  show StableHlo.after [hostOps0].flatten (fun b => m (c, b)) (Proc.devRef .tc main_v0) = _
  after_reads_simp
theorem V_main_v1 : V m c main_v1 = transpose S30x2048000 [1, 0] (m ((c : Thread nD τ).loc main_arg8)) transposes_S2048000x30_S30x2048000_1_0 := by
  show StableHlo.after [hostOps0].flatten (fun b => m (c, b)) (Proc.devRef .tc main_v1) = _
  after_reads_simp
theorem V_main_v2 : V m c main_v2 = shapeCast S16000x128 (m ((c : Thread nD τ).loc main_arg9)) shapeCasts_S2048000_S16000x128 := by
  show StableHlo.after [hostOps0].flatten (fun b => m (c, b)) (Proc.devRef .tc main_v2) = _
  after_reads_simp
  rfl
theorem V_main_v3 : V m c main_v3 = shapeCast S16000x128 (m ((c : Thread nD τ).loc main_arg10)) shapeCasts_S2048000_S16000x128 := by
  show StableHlo.after [hostOps0].flatten (fun b => m (c, b)) (Proc.devRef .tc main_v3) = _
  after_reads_simp
  rfl

/-- The probe the kernel numbers `n`. -/
def probe (n : ℕ) (hn : n < 768) : S64x12.Idx := ValueIdx.ix2 ⟨n % 64, by omega⟩ ⟨n / 64, by omega⟩

theorem id_eq (n : ℕ) (hn : n < 768) : atN 0#32 (inp c m).ids ![n / 64, n % 64] = m ((c : Thread nD τ).loc main_arg0) (probe n hn) := by
  rw [inp_ids, V_main_v0]
  rw [atN_eq 0#32 _ (ValueIdx.ix2 (⟨n / 64, by omega⟩ : Fin 12) (⟨n % 64, by omega⟩ : Fin 64)) (fun a => by match a with | ⟨0, _⟩ => rfl | ⟨1, _⟩ => rfl)]
  refine congrArg (m ((c : Thread nD τ).loc main_arg0)) (funext fun a => ?_)
  match a with
  | ⟨0, _⟩ => rfl
  | ⟨1, _⟩ => rfl

theorem tab_eq (X : S1000.Idx → BitVec 32) (k : ℕ) (hk : k < 1000) : atN 0#32 X ![k] = X (ValueIdx.ix1 ⟨k, hk⟩) :=
  atN_eq 0#32 X _ fun a => by match a with | ⟨0, _⟩ => rfl

theorem ok_of_fit [Cert.Pre_clusters_fit.Facts] {a3 a4 a5 a6 a7 a8 a9 a10}
    (h : Cert.Pre_clusters_fit.fn (F := F) (m ((c : Thread nD τ).loc main_arg0)) (m ((c : Thread nD τ).loc main_arg1)) (m ((c : Thread nD τ).loc main_arg2)) a3 a4 a5 a6 a7 a8 a9 a10 = fun _ => 1#1) :
    (inp c m).Ok := by
  have key : ∀ n, n < 768 → (inp c m).idAt n < 1000 ∧ (inp c m).stAt n < 2045056 ∧ 1 ≤ (inp c m).szAt n ∧ (inp c m).szAt n ≤ 2048 := by
    intro n hn
    obtain ⟨hi, h1, h2, h3⟩ := fit_at h (probe n hn)
    have e : (inp c m).idAt n = (m ((c : Thread nD τ).loc main_arg0) (probe n hn)).toNat := congrArg BitVec.toNat (id_eq c m n hn)
    unfold Inputs.stAt Inputs.szAt
    rw [e, tab_eq _ _ hi, tab_eq _ _ hi, inp_st, inp_sz, V_main_arg1, V_main_arg2]
    exact ⟨hi, h1, h2, h3⟩
  exact ⟨fun n hn => (key n hn).1, fun n hn => (key n hn).2.1, fun n hn => (key n hn).2.2.1, fun n hn => (key n hn).2.2.2⟩

end Cert.Proof.Kernel

end
-- ==== Proof.Frames.lean ====
/-
  The frame of the scan kernel's run, and what the results are.
-/
module

public import proofs.«01_k».proof.Proof.Run
public import proofs.«01_k».proof.Proof.Fit

@[expose] public section

set_option maxRecDepth 16384

noncomputable section

namespace Cert.Proof.Kernel

open Idealize.ShloMosaic Idealize.ShloMosaic.TcCoe
open Idealize.SL Idealize.SL.Sem
open Cert.Kernel Cert.Kernel.Gen

variable {F : FTy → Type} [FloatOps F] (m : (ℓ : Loc nD τ sig) → Buf (Elt F) ℓ) (ρ : Dev nD → PrngReg)

/-- A buffer neither the region nor a host line after it writes ends as the region found it. -/
theorem end_kept (c : Dev nD) (b : Ref sig .tc) (hb : b ∉ ([main_v5, main_v6, main_v7, main_v8, main_v9, main_v10] : List (Ref sig .tc))) (hR : b ∉ Rs) (hw : ∀ w, Pipeline.arrRef spec0 w ≠ b) :
    StableHlo.after [hostOps1].flatten (mid m c) (Proc.devRef .tc b) = V m c b := by
  rw [StableHlo.after_unwritten [main_v5, main_v6, main_v7, main_v8, main_v9, main_v10] rfl hb]
  unfold mid
  rw [Pipeline.withArrays_of_ne _ c _ _ b hw, Pipeline.withR_of_not_mem _ _ _ _ _ hR]

theorem mid_res (c : Dev nD) (b : Ref sig .tc) (hR : b ∈ Rs) (hw : ∀ w, Pipeline.arrRef spec0 w ≠ b) : mid m c (Proc.devRef .tc b) = res c m b := by
  unfold mid
  rw [Pipeline.withArrays_of_ne _ c _ _ b hw, Pipeline.withR_of_mem _ _ _ _ _ hR]

/-- A result as the host hands it back. -/
def handed (X : S12x8x16x8x128.Idx → F .f32) : S64x12x2048.Idx → F .f32 :=
  shapeCast S64x12x2048 (transpose S8x8x12x16x128 [1, 3, 0, 2, 4] X transposes_S12x8x16x8x128_S8x8x12x16x128_1_3_0_2_4) shapeCasts_S8x8x12x16x128_S64x12x2048

theorem end_v6 (c : Dev nD) : StableHlo.after [hostOps1].flatten (mid m c) (Proc.devRef .tc main_v6) = handed (res c m main_v4_0) := by
  rw [← mid_res m c main_v4_0 (by decide) (by decide)]
  after_reads_simp
  rfl
theorem end_v8 (c : Dev nD) : StableHlo.after [hostOps1].flatten (mid m c) (Proc.devRef .tc main_v8) = handed (res c m main_v4_1) := by
  rw [← mid_res m c main_v4_1 (by decide) (by decide)]
  after_reads_simp
  rfl
theorem end_v10 (c : Dev nD) : StableHlo.after [hostOps1].flatten (mid m c) (Proc.devRef .tc main_v10) = handed (res c m main_v4_2) := by
  rw [← mid_res m c main_v4_2 (by decide) (by decide)]
  after_reads_simp
  rfl

theorem run_values (hD : ∀ c, (inp c m).Ok) : θ_run defs (onTc (τ := τ) (main (F := F))) ⟨m, fun _ => 0, ρ⟩ (fun r => (∀ c : Dev nD,
      r.2.mem ((c.tc : Thread nD τ).loc main_v6) = handed (outG (outF (inp c m) 0))
      ∧ r.2.mem ((c.tc : Thread nD τ).loc main_v8) = handed (outG (outF (inp c m) 1))
      ∧ r.2.mem ((c.tc : Thread nD τ).loc main_v10) = handed (outG (outF (inp c m) 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ hh => ⟨fun c => have h := hh.1 c; ⟨
      (h.2 main_v6 (Pipeline.mem_restRefs_of main_v6 (by decide) (by decide))).trans ((end_v6 m c).trans (congrArg handed (res0 c m))),
      (h.2 main_v8 (Pipeline.mem_restRefs_of main_v8 (by decide) (by decide))).trans ((end_v8 m c).trans (congrArg handed (res1 c m))),
      (h.2 main_v10 (Pipeline.mem_restRefs_of main_v10 (by decide) (by decide))).trans ((end_v10 m c).trans (congrArg handed (res2 c m))),
      (h.2 main_arg0 (Pipeline.mem_restRefs_of main_arg0 (by decide) (by decide))).trans ((end_kept m c main_arg0 (by decide) (by decide) (by decide)).trans (V_main_arg0 m c)),
      (h.1 1).trans (((dats m 0 c).arrAt_in 1 rfl _).trans ((A_eq m c 1).trans (V_main_arg1 m c))),
      (h.1 2).trans (((dats m 0 c).arrAt_in 2 rfl _).trans ((A_eq m c 2).trans (V_main_arg2 m c))),
      (h.1 3).trans (((dats m 0 c).arrAt_in 3 rfl _).trans ((A_eq m c 3).trans (V_main_arg3 m c))),
      (h.1 4).trans (((dats m 0 c).arrAt_in 4 rfl _).trans ((A_eq m c 4).trans (V_main_arg4 m c))),
      (h.1 5).trans (((dats m 0 c).arrAt_in 5 rfl _).trans ((A_eq m c 5).trans (V_main_arg5 m c))),
      (h.1 6).trans (((dats m 0 c).arrAt_in 6 rfl _).trans ((A_eq m c 6).trans (V_main_arg6 m c))),
      (h.1 7).trans (((dats m 0 c).arrAt_in 7 rfl _).trans ((A_eq m c 7).trans (V_main_arg7 m c))),
      (h.2 main_arg8 (Pipeline.mem_restRefs_of main_arg8 (by decide) (by decide))).trans ((end_kept m c main_arg8 (by decide) (by decide) (by decide)).trans (V_main_arg8 m c)),
      (h.2 main_arg9 (Pipeline.mem_restRefs_of main_arg9 (by decide) (by decide))).trans ((end_kept m c main_arg9 (by decide) (by decide) (by decide)).trans (V_main_arg9 m c)),
      (h.2 main_arg10 (Pipeline.mem_restRefs_of main_arg10 (by decide) (by decide))).trans ((end_kept m c main_arg10 (by decide) (by decide) (by decide)).trans (V_main_arg10 m c))⟩, hh.2⟩) (run_main m ρ hD)

end Cert.Proof.Kernel

end
-- ==== Proof.Same.lean ====
/-
  The idealised kernel's program is the kernel's own text over another number instance.
-/
module

public import proofs.«01_k».proof.Proof.Gen.Kernel
public import proofs.«01_k».proof.Proof.Gen.KernelIdeal

@[expose] public section

set_option maxRecDepth 65536
set_option maxHeartbeats 4000000

noncomputable section

namespace Cert.Proof

open Idealize.ShloMosaic Idealize.ShloMosaic.TcCoe

variable {F : FTy → Type} [FloatOps F]

theorem body_same : @KernelIdeal.cc0_scan F _ _ = @Kernel.cc0_scan F _ _ := rfl
theorem main_same : @KernelIdeal.main F _ = @Kernel.main F _ := rfl

end Cert.Proof

end
-- ==== Proof.Transfer.lean ====
/-
  The idealised kernel's run is the kernel's run over the reals.
-/
module

public import proofs.«01_k».proof.Proof.Frames
public import proofs.«01_k».proof.Proof.Same

@[expose] public section

set_option maxRecDepth 65536

noncomputable section

namespace Cert.Proof

open Idealize.ShloMosaic Idealize.ShloMosaic.TcCoe
open Idealize.SL Idealize.SL.Sem

variable {F : FTy → Type} [FloatOps F]

theorem defs₀_same : (KernelIdeal.defs₀ (F := F)) = Kernel.defs₀ (F := F) := by
  unfold KernelIdeal.defs₀ Kernel.defs₀
  refine congrArg Defs.onTc ?_
  funext ℓ a
  match ℓ, a with
  | 0, (t, s) =>
    dsimp only
    rfl

theorem defs_same : (KernelIdeal.defs (F := F)) = Kernel.defs (F := F) := by
  unfold KernelIdeal.defs Kernel.defs
  rw [defs₀_same]
  rfl

open Cert.Kernel Cert.Kernel.Gen Cert.Proof.Kernel in
theorem run_ideal (m : (ℓ : Loc nD τ sig) → Buf (Elt F) ℓ) (ρ : Dev nD → PrngReg) (hD : ∀ c, (inp c m).Ok) : θ_run KernelIdeal.defs (onTc (τ := τ) (KernelIdeal.main (F := F))) ⟨m, fun _ => 0, ρ⟩ (fun r => (∀ c : Dev nD,
      r.2.mem ((c.tc : Thread nD τ).loc main_v6) = handed (outG (outF (inp c m) 0))
      ∧ r.2.mem ((c.tc : Thread nD τ).loc main_v8) = handed (outG (outF (inp c m) 1))
      ∧ r.2.mem ((c.tc : Thread nD τ).loc main_v10) = handed (outG (outF (inp c m) 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  have h := run_values m ρ hD
  rw [← main_same] at h
  exact Eq.mpr (congrArg (fun D => θ_run D (onTc (τ := τ) (KernelIdeal.main (F := F))) ⟨m, fun _ => 0, ρ⟩ _) defs_same) h

end Cert.Proof

end
-- ==== Proof.Counts.lean ====
/-
  The kernel's counts of set bits as sums over the words of a row, and the two counts of a packed word.
-/
module

public import proofs.«01_k».proof.Proof.Values
public import Idealize.ShloMosaic.Lib.WordArith
public import Mathlib.Data.BitVec
public import Mathlib.Tactic.Ring

@[expose] public section

set_option maxRecDepth 16384

noncomputable section

namespace Cert.Proof.Kernel

open Idealize.ShloMosaic
open Finset (range sum_range_succ sum_range_zero)

theorem toNat_sum_le (f : ℕ → BitVec 32) (k : ℕ) (hf : ∀ i, (f i).toNat ≤ k) (n : ℕ) : (∑ i ∈ range n, f i).toNat ≤ k * n := by
  induction n with
  | zero => simp
  | succ n ih =>
    rw [sum_range_succ, BitVec.toNat_add]
    have h1 := hf n
    have h2 := Nat.mod_le ((∑ i ∈ range n, f i).toNat + (f n).toNat) (2 ^ 32)
    rw [Nat.mul_succ]
    omega

theorem sum8_eq (f : ℕ → BitVec 32) : sum8 f = ∑ r ∈ range 8, f r := by
  simp only [sum8, IntOp.addi, sum_range_succ, sum_range_zero, BitVec.zero_eq]
  rfl

theorem pop4_eq (a b c d : BitVec 32) : pop4 a b c d = IntOp.ctpop a + IntOp.ctpop b + IntOp.ctpop c + IntOp.ctpop d := by
  unfold pop4 IntOp.addi
  rw [BitVec.zero_add]

/-- Words read in eight classes of four are the 32 words. -/
theorem classes (g : ℕ → BitVec 32) : (∑ r ∈ range 8, (g (8 * 0 + r) + g (8 * 1 + r) + g (8 * 2 + r) + g (8 * 3 + r))) = ∑ w ∈ range 32, g w := by
  simp only [sum_range_succ, sum_range_zero, Nat.reduceMul, Nat.reduceAdd, Nat.zero_add, Nat.add_zero]
  abel

theorem last_two (g : ℕ → BitVec 32) (h0 : g 30 = 0) (h1 : g 31 = 0) : ∑ w ∈ range 32, g w = ∑ w ∈ range 30, g w := by
  rw [sum_range_succ, sum_range_succ, h0, h1, add_zero, add_zero]

/-- The bits a row shares with plane `j`, and the row's own. -/
def shared (P C : ℕ → BitVec 32) (j : ℕ) : BitVec 32 := ∑ w ∈ range 30, IntOp.ctpop (IntOp.andi (C w) (P (32 * j + w)))
def own30 (C : ℕ → BitVec 32) : BitVec 32 := ∑ w ∈ range 30, IntOp.ctpop (C w)
/-- The planes' counts weighted by their place values. -/
def weighted (P C : ℕ → BitVec 32) : BitVec 32 := shared P C 0 + shared P C 1 * 2 + shared P C 2 * 4 + shared P C 3 * 8

theorem ctpop_zero : IntOp.ctpop (0#32) = 0#32 := by decide

theorem px_sum (C : ℕ → BitVec 32) (h0 : C 30 = 0#32) (h1 : C 31 = 0#32) : sum8 (fun r => pxE fun k => C (8 * k + r)) = own30 C := by
  unfold own30
  rw [sum8_eq, ← last_two (fun w => IntOp.ctpop (C w)) (by rw [h0]; exact ctpop_zero) (by rw [h1]; exact ctpop_zero), ← classes fun w => IntOp.ctpop (C w)]
  refine Finset.sum_congr rfl fun r _ => ?_
  unfold pxE
  rw [pop4_eq]

theorem ip_sum (P C : ℕ → BitVec 32) (h0 : C 30 = 0#32) (h1 : C 31 = 0#32) :
    sum8 (fun r => ipE (fun q => P (8 * q + r)) fun k => C (8 * k + r)) = weighted P C := by
  have hs : ∀ j, shared P C j = ∑ r ∈ range 8, (and4 (fun q => P (8 * q + r)) (fun k => C (8 * k + r)) j) := by
    intro j
    unfold shared
    have z : ∀ w, C w = 0#32 → IntOp.ctpop (IntOp.andi (C w) (P (32 * j + w))) = 0 := by
      intro w h
      rw [h]
      unfold IntOp.andi
      rw [BitVec.zero_and]
      exact ctpop_zero
    rw [← last_two (fun w => IntOp.ctpop (IntOp.andi (C w) (P (32 * j + w)))) (z 30 h0) (z 31 h1), ← classes fun w => IntOp.ctpop (IntOp.andi (C w) (P (32 * j + w)))]
    refine Finset.sum_congr rfl fun r _ => ?_
    unfold and4
    rw [pop4_eq]
    dsimp only
    rw [show 8 * (4 * j) + r = 32 * j + (8 * 0 + r) by ring, show 8 * (4 * j + 1) + r = 32 * j + (8 * 1 + r) by ring,
      show 8 * (4 * j + 2) + r = 32 * j + (8 * 2 + r) by ring, show 8 * (4 * j + 3) + r = 32 * j + (8 * 3 + r) by ring]
  unfold weighted
  rw [hs, hs, hs, hs, sum8_eq, Finset.sum_mul, Finset.sum_mul, Finset.sum_mul, ← Finset.sum_add_distrib, ← Finset.sum_add_distrib, ← Finset.sum_add_distrib]
  refine Finset.sum_congr rfl fun r _ => ?_
  unfold ipE dbl IntOp.addi
  generalize and4 _ _ 0 = a0
  generalize and4 _ _ 1 = a1
  generalize and4 _ _ 2 = a2
  generalize and4 _ _ 3 = a3
  ring

theorem own30_le (C : ℕ → BitVec 32) : (own30 C).toNat ≤ 960 := toNat_sum_le _ 32 (fun _ => WordArith.toNat_ctpop_le _) 30
theorem shared_le (P C : ℕ → BitVec 32) (j : ℕ) : (shared P C j).toNat ≤ 960 := toNat_sum_le _ 32 (fun _ => WordArith.toNat_ctpop_le _) 30
theorem weighted_le (P C : ℕ → BitVec 32) : (weighted P C).toNat ≤ 14400 := by
  have h0 := shared_le P C 0
  have h1 := shared_le P C 1
  have h2 := shared_le P C 2
  have h3 := shared_le P C 3
  unfold weighted
  rw [BitVec.toNat_add, BitVec.toNat_add, BitVec.toNat_add, BitVec.toNat_mul, BitVec.toNat_mul, BitVec.toNat_mul,
    show (2 : BitVec 32).toNat = 2 from rfl, show (4 : BitVec 32).toNat = 4 from rfl, show (8 : BitVec 32).toNat = 8 from rfl]
  omega

theorem shl_mul (x : BitVec 32) : x <<< (0#32) = x ∧ x <<< (1#32) = x * 2 ∧ x <<< (2#32) = x * 4 ∧ x <<< (3#32) = x * 8 := by
  refine ⟨?_, ?_, ?_, ?_⟩ <;> refine BitVec.eq_of_toNat_eq ?_
  · simp
  · rw [BitVec.toNat_mul, BitVec.shiftLeft_eq', BitVec.toNat_shiftLeft, Nat.shiftLeft_eq]; rfl
  · rw [BitVec.toNat_mul, BitVec.shiftLeft_eq', BitVec.toNat_shiftLeft, Nat.shiftLeft_eq]; rfl
  · rw [BitVec.toNat_mul, BitVec.shiftLeft_eq', BitVec.toNat_shiftLeft, Nat.shiftLeft_eq]; rfl

/-- A packed word is the one count and 2¹⁶ times the other. -/
theorem packed (x y : BitVec 32) (hx : x.toNat < 65536) (hy : y.toNat < 32768) :
    (Scalar.ori x (IntOp.shli .vector y 16#32)).toNat = y.toNat * 65536 + x.toNat := by
  unfold Scalar.ori IntOp.ori IntOp.shli
  rw [if_pos (by decide), BitVec.toNat_or, BitVec.shiftLeft_eq', BitVec.toNat_shiftLeft, show (16#32 : BitVec 32).toNat = 16 from rfl, Nat.or_comm]
  have h : y.toNat <<< 16 % 2 ^ 32 = y.toNat <<< 16 := Nat.mod_eq_of_lt (by rw [Nat.shiftLeft_eq]; omega)
  rw [h, ← Nat.shiftLeft_add_eq_or_of_lt (by omega), Nat.shiftLeft_eq]

theorem packed_lo (x y : BitVec 32) (hx : x.toNat < 65536) (hy : y.toNat < 32768) :
    Scalar.andi (Scalar.ori x (IntOp.shli .vector y 16#32)) 65535#32 = x := by
  refine BitVec.eq_of_toNat_eq ?_
  have h := packed x y hx hy
  generalize Scalar.ori x (IntOp.shli .vector y 16#32) = z at h
  unfold Scalar.andi IntOp.andi
  rw [BitVec.toNat_and, show (65535#32 : BitVec 32).toNat = 2 ^ 16 - 1 from rfl, Nat.and_two_pow_sub_one_eq_mod, h]
  omega

theorem packed_hi (x y : BitVec 32) (hx : x.toNat < 65536) (hy : y.toNat < 32768) :
    IntOp.shrsi .vector (Scalar.ori x (IntOp.shli .vector y 16#32)) 16#32 = y := by
  refine BitVec.eq_of_toNat_eq ?_
  have h := packed x y hx hy
  generalize Scalar.ori x (IntOp.shli .vector y 16#32) = z at h
  unfold IntOp.shrsi
  rw [if_pos (by decide), BitVec.sshiftRight', show (16#32 : BitVec 32).toNat = 16 from rfl,
    BitVec.sshiftRight_eq_of_msb_false (BitVec.msb_eq_false_iff_two_mul_lt.2 (by omega)), BitVec.toNat_ushiftRight, h, Nat.shiftRight_eq_div_pow]
  omega

end Cert.Proof.Kernel

end
-- ==== Proof.KerVal.lean ====
/-
  The scan kernel's three results, read at a query, a probe and a slot.
-/
module

public import proofs.«01_k».proof.Proof.Frames
public import proofs.«01_k».proof.Proof.Counts
public import Idealize.ShloMosaic.Lib.Pipeline.Value

@[expose] public section

set_option maxRecDepth 16384

noncomputable section

namespace Cert.Proof.Kernel

open Idealize.ShloMosaic Idealize.ShloMosaic.TcCoe
open Cert.Kernel Cert.Kernel.Gen

attribute [local irreducible] Cert.Proof.pos Cert.Proof.base

variable {F : FTy → Type} [FloatOps F]

theorem handed_at (X : S12x8x16x8x128.Idx → F .f32) (b : Fin 64) (p : Fin 12) (s : Fin 2048) :
    handed X (ValueIdx.ix3 b p s) = X (ValueIdx.ix5 p (⟨b.val / 8, by omega⟩ : Fin 8) (⟨s.val / 128, by omega⟩ : Fin 16) (⟨b.val % 8, by omega⟩ : Fin 8) (⟨s.val % 128, by omega⟩ : Fin 128)) := by
  unfold handed
  rw [shapeCast_apply _ _ _ (ValueIdx.ix5 (⟨b.val / 8, by omega⟩ : Fin 8) (⟨b.val % 8, by omega⟩ : Fin 8) p (⟨s.val / 128, by omega⟩ : Fin 16) (⟨s.val % 128, by omega⟩ : Fin 128))
    (by
      rw [Shape.rowMajor_val_five, Shape.rowMajor_val_three]
      show ((((b.val / 8) * 8 + b.val % 8) * 12 + p.val) * 16 + s.val / 128) * 128 + s.val % 128 = (b.val * 12 + p.val) * 2048 + s.val
      omega)]
  exact congrArg X (funext fun a => match a with | ⟨0, _⟩ => rfl | ⟨1, _⟩ => rfl | ⟨2, _⟩ => rfl | ⟨3, _⟩ => rfl | ⟨4, _⟩ => rfl)

theorem out_at (f : ℕ → ℕ → F .f32) (b : Fin 64) (p : Fin 12) (s : Fin 2048) : handed (outG f) (ValueIdx.ix3 b p s) = f (p.val * 64 + b.val) s.val := by
  rw [handed_at]
  show f (p.val * 64 + b.val / 8 * 8 + b.val % 8) (s.val / 128 * 128 + s.val % 128) = _
  rw [show p.val * 64 + b.val / 8 * 8 + b.val % 8 = p.val * 64 + b.val by omega, show s.val / 128 * 128 + s.val % 128 = s.val by omega]

theorem at2_pair (X : S12x64.Idx → F .f32) (b : Fin 64) (p : Fin 12) : at2 X (p.val * 64 + b.val) = X (ValueIdx.ix2 p b) := by
  unfold at2
  rw [show (p.val * 64 + b.val) / 64 = p.val by omega, show (p.val * 64 + b.val) % 64 = b.val by omega]
  exact atN_eq _ _ _ fun a => by match a with | ⟨0, _⟩ => rfl | ⟨1, _⟩ => rfl

theorem col_at (D : Inputs F) (X : S2048000.Idx → F .f32) (n s : ℕ) (h : D.stAt n + s < 2048000) :
    colF D (shapeCast S16000x128 X shapeCasts_S2048000_S16000x128) n (D.off n + s) = X (ValueIdx.ix1 ⟨D.stAt n + s, h⟩) := by
  have e : D.row n * 128 + D.off n = D.stAt n := by unfold Inputs.row Inputs.off; omega
  unfold colF
  rw [atN_eq zeroF _ (ValueIdx.ix2 (⟨D.row n + (D.off n + s) / 128, by omega⟩ : Fin 16000) (⟨(D.off n + s) % 128, by omega⟩ : Fin 128)) (fun a => by match a with | ⟨0, _⟩ => rfl | ⟨1, _⟩ => rfl)]
  refine shapeCast_apply X _ _ _ ?_
  rw [Shape.rowMajor_val_one, Shape.rowMajor_val_two]
  show D.stAt n + s = (D.row n + (D.off n + s) / 128) * 128 + (D.off n + s) % 128
  omega

/-- Word `r` of the code at column `j`. -/
def codeC (D : Inputs F) (j r : ℕ) : BitVec 32 := if r < 30 then atN 0#32 D.codes ![r, j] else 0#32

theorem codeC_pad (D : Inputs F) (j : ℕ) : codeC D j 30 = 0#32 ∧ codeC D j 31 = 0#32 := ⟨rfl, rfl⟩

theorem pkT_eq {D : Inputs F} (hD : D.Ok) {n s : ℕ} (hn : n < 768) (hs : s < D.szAt n) :
    pkT D n (D.off n + s) = pack (weighted (planeW D n) (codeC D (D.stAt n + s))) (own30 (codeC D (D.stAt n + s))) := by
  have hoff : D.off n < 128 := Nat.mod_lt _ (by decide)
  have e : D.row n * 128 + D.off n = D.stAt n := by unfold Inputs.row Inputs.off; omega
  have hch : (D.off n + s) / 512 < D.nch n := by unfold Inputs.nch; omega
  have hp : D.pos (base D.nch n + (D.off n + s) / 512) = (n, (D.off n + s) / 512) := Cert.Proof.pos_base hD.nch1 hn _ hch
  have hC : ∀ r, codeW D (base D.nch n + (D.off n + s) / 512) r (128 * ((D.off n + s) / 128 % 4) + (D.off n + s) % 128) = codeC D (D.stAt n + s) r := fun r => by
    unfold codeW codeC
    rw [hp]
    dsimp only
    rw [show (D.row n + (D.off n + s) / 512 * 4) * 128 + (128 * ((D.off n + s) / 128 % 4) + (D.off n + s) % 128) = D.stAt n + s by omega]
  unfold pkT ipOut pxOut
  simp only [hC, hp]
  rw [ip_sum (planeW D n) (codeC D (D.stAt n + s)) rfl rfl, px_sum (codeC D (D.stAt n + s)) rfl rfl]

/-- The three results of a pair at one column, of the counts, the coefficients, the norms and the correlation. -/
def estK (ip px : BitVec 32) (ca cb cc io : F .f32) : F .f32 :=
  FloatOps.mulf (FloatOps.addf (FloatOps.addf (FloatOps.mulf (FloatOps.sitofp .f32 ip) ca) (FloatOps.mulf (FloatOps.sitofp .f32 px) cb)) cc) (FloatOps.divf oneF io)
def distK (nr nq est : F .f32) : F .f32 :=
  FloatOps.subf (FloatOps.addf (FloatOps.mulf nr nr) (Scalar.mulf nq nq)) (FloatOps.mulf (FloatOps.mulf (Scalar.mulf twoF nq) nr) est)
def errK (nr nq io : F .f32) : F .f32 :=
  FloatOps.mulf (FloatOps.mulf (FloatOps.mulf nr (FloatOps.sqrt (FloatOps.subf oneF (FloatOps.mulf io io)))) (FloatOps.divf oneF io)) (Scalar.mulf epsF nq)

theorem est_eq {D : Inputs F} (hD : D.Ok) {n s : ℕ} (hn : n < 768) (hs : s < D.szAt n) :
    estP D (pkT D n) n (D.off n + s) = estK (weighted (planeW D n) (codeC D (D.stAt n + s))) (own30 (codeC D (D.stAt n + s))) (at2 D.ca n) (at2 D.cb n) (at2 D.cc n) (colF D D.io n (D.off n + s)) := by
  have hw := weighted_le (planeW D n) (codeC D (D.stAt n + s))
  have ho := own30_le (codeC D (D.stAt n + s))
  unfold estP
  rw [pkT_eq hD hn hs]
  unfold pack
  rw [packed_lo _ _ (by omega) (by omega), packed_hi _ _ (by omega) (by omega)]
  rfl

section Args
variable (c : Dev nD) (m : (ℓ : Loc nD τ sig) → Buf (Elt F) ℓ) (b : Fin 64) (p : Fin 12) (s : Fin 2048)

theorem id_pair : (inp c m).idAt (p.val * 64 + b.val) = (m ((c : Thread nD τ).loc main_arg0) (ValueIdx.ix2 b p)).toNat := by
  refine (congrArg BitVec.toNat (id_eq c m (p.val * 64 + b.val) (by omega))).trans (congrArg (fun i => (m ((c : Thread nD τ).loc main_arg0) i).toNat) ?_)
  refine funext fun a => Fin.ext ?_
  match a with
  | ⟨0, _⟩ => show (p.val * 64 + b.val) % 64 = b.val; omega
  | ⟨1, _⟩ => show (p.val * 64 + b.val) / 64 = p.val; omega

variable (hi : (m ((c : Thread nD τ).loc main_arg0) (ValueIdx.ix2 b p)).toNat < 1000)

theorem st_pair : (inp c m).stAt (p.val * 64 + b.val) = (m ((c : Thread nD τ).loc main_arg1) (ValueIdx.ix1 ⟨_, hi⟩)).toNat := by
  unfold Inputs.stAt
  rw [id_pair, tab_eq _ _ hi, inp_st, V_main_arg1]
theorem sz_pair : (inp c m).szAt (p.val * 64 + b.val) = (m ((c : Thread nD τ).loc main_arg2) (ValueIdx.ix1 ⟨_, hi⟩)).toNat := by
  unfold Inputs.szAt
  rw [id_pair, tab_eq _ _ hi, inp_sz, V_main_arg2]

theorem planes_pair (x : ℕ) : planeW (inp c m) (p.val * 64 + b.val) x = atN 0#32 (m ((c : Thread nD τ).loc main_arg7)) ![p.val, x, b.val] := by
  unfold planeW
  rw [inp_pl, V_main_arg7, show (p.val * 64 + b.val) / 64 = p.val by omega, show (p.val * 64 + b.val) % 64 = b.val by omega]

theorem code_pair (j r : ℕ) (hj : j < 2048000) : codeC (inp c m) j r = atN 0#32 (m ((c : Thread nD τ).loc main_arg8)) ![j, r] := by
  unfold codeC
  have e : (inp c m).codes = V m c main_v1 := rfl
  rw [e, V_main_v1]
  by_cases hr : r < 30
  · rw [if_pos hr, atN_eq 0#32 _ (ValueIdx.ix2 (⟨r, hr⟩ : Fin 30) (⟨j, hj⟩ : Fin 2048000)) (fun a => by match a with | ⟨0, _⟩ => rfl | ⟨1, _⟩ => rfl)]
    rw [atN_eq 0#32 _ (ValueIdx.ix2 (⟨j, hj⟩ : Fin 2048000) (⟨r, hr⟩ : Fin 30)) (fun a => by match a with | ⟨0, _⟩ => rfl | ⟨1, _⟩ => rfl)]
    refine congrArg (m ((c : Thread nD τ).loc main_arg8)) (funext fun a => ?_)
    match a with
    | ⟨0, _⟩ => rfl
    | ⟨1, _⟩ => rfl
  · rw [if_neg hr]
    unfold atN
    rw [dif_neg fun h => hr (h 1)]

variable (hD : (inp c m).Ok)
include hD

/-- The estimate of pair `(b, p)` at a slot of its cluster. -/
theorem est_pair (v : ℕ) (hv : (m ((c : Thread nD τ).loc main_arg1) (ValueIdx.ix1 ⟨_, hi⟩)).toNat = v) (hvs : v + s.val < 2048000)
    (hs : s.val < (m ((c : Thread nD τ).loc main_arg2) (ValueIdx.ix1 ⟨_, hi⟩)).toNat) :
    estP (inp c m) (pkT (inp c m) (p.val * 64 + b.val)) (p.val * 64 + b.val) ((inp c m).off (p.val * 64 + b.val) + s.val)
      = estK (weighted (fun x => atN 0#32 (m ((c : Thread nD τ).loc main_arg7)) ![p.val, x, b.val]) fun r => atN 0#32 (m ((c : Thread nD τ).loc main_arg8)) ![v + s.val, r])
          (own30 fun r => atN 0#32 (m ((c : Thread nD τ).loc main_arg8)) ![v + s.val, r])
          (m ((c : Thread nD τ).loc main_arg3) (ValueIdx.ix2 p b)) (m ((c : Thread nD τ).loc main_arg4) (ValueIdx.ix2 p b)) (m ((c : Thread nD τ).loc main_arg5) (ValueIdx.ix2 p b))
          (m ((c : Thread nD τ).loc main_arg10) (ValueIdx.ix1 ⟨v + s.val, hvs⟩)) := by
  have hst := (st_pair c m b p hi).trans hv
  have eio : (inp c m).io = shapeCast S16000x128 (m ((c : Thread nD τ).loc main_arg10)) shapeCasts_S2048000_S16000x128 := V_main_v3 c m
  rw [est_eq hD (by omega) (lt_of_lt_of_eq hs (sz_pair c m b p hi).symm), eio, col_at _ _ _ _ (by rw [hst]; exact hvs), inp_ca, inp_cb, inp_cc, V_main_arg3, V_main_arg4, V_main_arg5, at2_pair, at2_pair, at2_pair]
  have eC : codeC (inp c m) ((inp c m).stAt (p.val * 64 + b.val) + s.val) = fun r => atN 0#32 (m ((c : Thread nD τ).loc main_arg8)) ![v + s.val, r] := by
    rw [hst]; exact funext fun r => code_pair c m _ r hvs
  have eP : planeW (inp c m) (p.val * 64 + b.val) = fun x => atN 0#32 (m ((c : Thread nD τ).loc main_arg7)) ![p.val, x, b.val] := funext fun x => planes_pair c m b p x
  rw [eC, eP]
  refine congrArg (fun i => estK _ _ _ _ _ (m ((c : Thread nD τ).loc main_arg10) (ValueIdx.ix1 i))) (Fin.ext ?_)
  show (inp c m).stAt (p.val * 64 + b.val) + s.val = v + s.val
  rw [hst]

omit hD in
theorem nr_pair (v : ℕ) (hv : (m ((c : Thread nD τ).loc main_arg1) (ValueIdx.ix1 ⟨_, hi⟩)).toNat = v) (hvs : v + s.val < 2048000) :
    colF (inp c m) (inp c m).nr (p.val * 64 + b.val) ((inp c m).off (p.val * 64 + b.val) + s.val) = m ((c : Thread nD τ).loc main_arg9) (ValueIdx.ix1 ⟨v + s.val, hvs⟩) := by
  have hst := (st_pair c m b p hi).trans hv
  have e : (inp c m).nr = shapeCast S16000x128 (m ((c : Thread nD τ).loc main_arg9)) shapeCasts_S2048000_S16000x128 := V_main_v2 c m
  rw [e, col_at _ _ _ _ (by rw [hst]; exact hvs)]
  refine congrArg (fun i => m ((c : Thread nD τ).loc main_arg9) (ValueIdx.ix1 i)) (Fin.ext ?_)
  show (inp c m).stAt (p.val * 64 + b.val) + s.val = v + s.val
  rw [hst]

omit hD in
theorem io_pair (v : ℕ) (hv : (m ((c : Thread nD τ).loc main_arg1) (ValueIdx.ix1 ⟨_, hi⟩)).toNat = v) (hvs : v + s.val < 2048000) :
    colF (inp c m) (inp c m).io (p.val * 64 + b.val) ((inp c m).off (p.val * 64 + b.val) + s.val) = m ((c : Thread nD τ).loc main_arg10) (ValueIdx.ix1 ⟨v + s.val, hvs⟩) := by
  have hst := (st_pair c m b p hi).trans hv
  have e : (inp c m).io = shapeCast S16000x128 (m ((c : Thread nD τ).loc main_arg10)) shapeCasts_S2048000_S16000x128 := V_main_v3 c m
  rw [e, col_at _ _ _ _ (by rw [hst]; exact hvs)]
  refine congrArg (fun i => m ((c : Thread nD τ).loc main_arg10) (ValueIdx.ix1 i)) (Fin.ext ?_)
  show (inp c m).stAt (p.val * 64 + b.val) + s.val = v + s.val
  rw [hst]

omit hD in
theorem nq_pair : at2 (inp c m).nq (p.val * 64 + b.val) = m ((c : Thread nD τ).loc main_arg6) (ValueIdx.ix2 p b) := by
  rw [inp_nq, V_main_arg6, at2_pair]

omit hD in
theorem out_pair (o : Fin 3) (g : ℕ → F .f32) (hg : (![distP (inp c m) (pkT (inp c m) (p.val * 64 + b.val)) (p.val * 64 + b.val), errP (inp c m) (p.val * 64 + b.val), estP (inp c m) (pkT (inp c m) (p.val * 64 + b.val)) (p.val * 64 + b.val)] : Fin 3 → ℕ → F .f32) o = g) :
    handed (outG (outF (inp c m) o)) (ValueIdx.ix3 b p s)
      = if s.val < (m ((c : Thread nD τ).loc main_arg2) (ValueIdx.ix1 ⟨_, hi⟩)).toNat then g ((inp c m).off (p.val * 64 + b.val) + s.val) else zeroF := by
  rw [out_at, outF, hg, fill, sz_pair c m b p hi]

end Args

/-! ## The results, of the arguments under any names -/

section Named
variable (c : Dev nD) (m : (ℓ : Loc nD τ sig) → Buf (Elt F) ℓ) (b : Fin 64) (p : Fin 12) (s : Fin 2048)
variable (x0 : IVec S64x12 32) (x1 x2 : IVec S1000 32) (x3 x4 x5 x6 : FVec F S12x64 .f32) (x7 : IVec S12x128x128 32) (x8 : IVec S2048000x30 32) (x9 x10 : FVec F S2048000 .f32)

/-- The arguments' contents. -/
structure Args : Prop where
  e0 : m ((c : Thread nD τ).loc main_arg0) = x0
  e1 : m ((c : Thread nD τ).loc main_arg1) = x1
  e2 : m ((c : Thread nD τ).loc main_arg2) = x2
  e3 : m ((c : Thread nD τ).loc main_arg3) = x3
  e4 : m ((c : Thread nD τ).loc main_arg4) = x4
  e5 : m ((c : Thread nD τ).loc main_arg5) = x5
  e6 : m ((c : Thread nD τ).loc main_arg6) = x6
  e7 : m ((c : Thread nD τ).loc main_arg7) = x7
  e8 : m ((c : Thread nD τ).loc main_arg8) = x8
  e9 : m ((c : Thread nD τ).loc main_arg9) = x9
  e10 : m ((c : Thread nD τ).loc main_arg10) = x10

variable (A : Args c m x0 x1 x2 x3 x4 x5 x6 x7 x8 x9 x10) (hD : (inp c m).Ok) (hi : (x0 (ValueIdx.ix2 b p)).toNat < 1000)
  (v : ℕ) (hv : (x1 (ValueIdx.ix1 ⟨_, hi⟩)).toNat = v) (hvs : v + s.val < 2048000)
include A hD hv

theorem est_res : handed (outG (outF (inp c m) 2)) (ValueIdx.ix3 b p s) = if s.val < (x2 (ValueIdx.ix1 ⟨_, hi⟩)).toNat then
      estK (weighted (fun x => atN 0#32 x7 ![p.val, x, b.val]) fun r => atN 0#32 x8 ![v + s.val, r]) (own30 fun r => atN 0#32 x8 ![v + s.val, r])
        (x3 (ValueIdx.ix2 p b)) (x4 (ValueIdx.ix2 p b)) (x5 (ValueIdx.ix2 p b)) (x10 (ValueIdx.ix1 ⟨v + s.val, hvs⟩)) else zeroF := by
  obtain ⟨rfl, rfl, rfl, rfl, rfl, rfl, rfl, rfl, rfl, rfl, rfl⟩ := A
  refine (out_pair c m b p s hi 2 _ rfl).trans ?_
  split_ifs with hlt
  · exact est_pair c m b p s hi hD v hv hvs hlt
  · rfl

theorem dist_res : handed (outG (outF (inp c m) 0)) (ValueIdx.ix3 b p s) = if s.val < (x2 (ValueIdx.ix1 ⟨_, hi⟩)).toNat then
      distK (x9 (ValueIdx.ix1 ⟨v + s.val, hvs⟩)) (x6 (ValueIdx.ix2 p b))
        (estK (weighted (fun x => atN 0#32 x7 ![p.val, x, b.val]) fun r => atN 0#32 x8 ![v + s.val, r]) (own30 fun r => atN 0#32 x8 ![v + s.val, r])
          (x3 (ValueIdx.ix2 p b)) (x4 (ValueIdx.ix2 p b)) (x5 (ValueIdx.ix2 p b)) (x10 (ValueIdx.ix1 ⟨v + s.val, hvs⟩))) else zeroF := by
  obtain ⟨rfl, rfl, rfl, rfl, rfl, rfl, rfl, rfl, rfl, rfl, rfl⟩ := A
  refine (out_pair c m b p s hi 0 _ rfl).trans ?_
  split_ifs with hlt
  · rw [← est_pair c m b p s hi hD v hv hvs hlt, ← nr_pair c m b p s hi v hv hvs, ← nq_pair c m b p]
    rfl
  · rfl

omit hD in
theorem err_res : handed (outG (outF (inp c m) 1)) (ValueIdx.ix3 b p s) = if s.val < (x2 (ValueIdx.ix1 ⟨_, hi⟩)).toNat then
      errK (x9 (ValueIdx.ix1 ⟨v + s.val, hvs⟩)) (x6 (ValueIdx.ix2 p b)) (x10 (ValueIdx.ix1 ⟨v + s.val, hvs⟩)) else zeroF := by
  obtain ⟨rfl, rfl, rfl, rfl, rfl, rfl, rfl, rfl, rfl, rfl, rfl⟩ := A
  refine (out_pair c m b p s hi 1 _ rfl).trans ?_
  split_ifs with hlt
  · rw [← io_pair c m b p s hi v hv hvs, ← nr_pair c m b p s hi v hv hvs, ← nq_pair c m b p]
    rfl
  · rfl

end Named

end Cert.Proof.Kernel

end
-- ==== Proof.RefVal.lean ====
/-
  The reference's three results, read at a query, a probe and a slot.
-/
module

public import proofs.«01_k».proof.Proof.Counts
public import proofs.«01_k».proof.Proof.Lookup
public import proofs.«01_k».proof.Proof.Gen.ReferenceIdeal
public import proofs.«01_k».proof.Proof.Gen.ReferenceIdeal.Run

@[expose] public section

set_option maxRecDepth 16384

noncomputable section

namespace Cert.Proof.Ref

open Cert.ReferenceIdeal Cert.ReferenceIdeal.Gen Idealize.ShloMosaic Idealize.ShloMosaic.TcCoe
open Cert.Proof
open Cert.Proof.Kernel (weighted shared own30 shl_mul)

variable {F : FTy → Type} [FloatOps F]
variable (a0 : IVec S64x12 32) (a1 a2 : IVec S1000 32) (a3 a4 a5 a6 : FVec F S12x64 .f32) (a7 : IVec S12x128x128 32) (a8 : IVec S2048000x30 32) (a9 a10 : FVec F S2048000 .f32)

/-! ## The reference's arrays -/

def sel : IVec S64x12 32 := select (cmpi .slt a0 (broadcastInDim S64x12 ![] bcast_S_S64x12 (constantI S_ 32 0#32))) (addi a0 (broadcastInDim S64x12 ![] bcast_S_S64x12 (constantI S_ 32 1000#32))) a0
def over {α : Type} (x : S64x12.Idx → α) : S64x12x2048.Idx → α :=
  broadcastInDim S64x12x2048 ![0, 1, 2] bcast_S64x12x1_S64x12x2048_0_1_2 (broadcastInDim S64x12x1 ![0, 1] bcast_S64x12_S64x12x1_0_1 x)
def pick : IVec S64x12 32 := Host.gather gather_S1000_S64x12x1_S64x12_n_0_n_n_0_2_1 a1 (broadcastInDim S64x12x1 ![0, 1] bcast_S64x12_S64x12x1_0_1 (sel a0))
def slots : IVec S64x12x2048 32 := broadcastInDim S64x12x2048 ![0, 1, 2] bcast_S1x1x2048_S64x12x2048_0_1_2 (broadcastInDim S1x1x2048 ![2] bcast_S2048_S1x1x2048_2 (iotaInDim S2048 32 0))
def rows : IVec S64x12x2048 32 := addi (over (pick a0 a1)) slots
def idx : IVec S64x12x2048x1 32 := broadcastInDim S64x12x2048x1 ![0, 1, 2] bcast_S64x12x2048_S64x12x2048x1_0_1_2
  (select (cmpi .slt (rows a0 a1) (broadcastInDim S64x12x2048 ![] bcast_S_S64x12x2048 (constantI S_ 32 0#32))) (addi (rows a0 a1) (broadcastInDim S64x12x2048 ![] bcast_S_S64x12x2048 (constantI S_ 32 2048000#32))) (rows a0 a1))
def codes : IVec S64x12x2048x30 32 := Host.gather gather_S2048000x30_S64x12x2048x1_S64x12x2048x30_3_0_n_n_0_3_130 a8 (idx a0 a1)
def col : FVec F S64x12x2048 .f32 := Host.gather gather_S2048000_S64x12x2048x1_S64x12x2048_n_0_n_n_0_3_1 a9 (idx a0 a1)
def coef : S64x12x2048.Idx → F .f32 := over (transpose S64x12 [1, 0] a3 transposes_S12x64_S64x12_1_0)
def plane (off : Fin 3 → ℕ) (h : S12x128x128.Slices off S12x30x64) : IVec S64x12x2048x30 32 :=
  broadcastInDim S64x12x2048x30 ![0, 1, 2, 3] bcast_S64x12x1x30_S64x12x2048x30_0_1_2_3 (broadcastInDim S64x12x1x30 ![0, 1, 3] bcast_S64x12x30_S64x12x1x30_0_1_3
    (id (transpose S64x12x30 [2, 0, 1] (extractStridedSlice S12x30x64 off a7 h) transposes_S12x30x64_S64x12x30_2_0_1)))
def count (x : IVec S64x12x2048x30 32) : IVec S64x12x2048 32 := Host.reduce IntOp.addi (id (ctpop x)) (constantI S_ 32 0#32) reducesTo_S64x12x2048x30_S64x12x2048_d3 h_S_
def term (off : Fin 3 → ℕ) (h : S12x128x128.Slices off S12x30x64) (k : BitVec 32) : IVec S64x12x2048 32 :=
  Host.shli (count (andi (codes a0 a1 a8) (plane a7 off h))) (broadcastInDim S64x12x2048 ![] bcast_S_S64x12x2048 (constantI S_ 32 k))
def ipBin : IVec S64x12x2048 32 :=
  addi (addi (addi (addi (broadcastInDim S64x12x2048 ![] bcast_S_S64x12x2048 (constantI S_ 32 0#32)) (term a0 a1 a7 a8 ![0, 0, 0] slices_S12x128x128_S12x30x64_0_0_0 0#32))
    (term a0 a1 a7 a8 ![0, 32, 0] slices_S12x128x128_S12x30x64_0_32_0 1#32)) (term a0 a1 a7 a8 ![0, 64, 0] slices_S12x128x128_S12x30x64_0_64_0 2#32))
    (term a0 a1 a7 a8 ![0, 96, 0] slices_S12x128x128_S12x30x64_0_96_0 3#32)
def est : FVec F S64x12x2048 .f32 :=
  Host.divf (addf (addf (mulf (sitofp .f32 (ipBin a0 a1 a7 a8)) (coef a3)) (mulf (sitofp .f32 (count (codes a0 a1 a8))) (coef a4))) (coef a5)) (col a0 a1 a10)
def sq (x : S12x64.Idx → F .f32) : FVec F S64x12x2048 .f32 :=
  broadcastInDim S64x12x2048 ![0, 1, 2] bcast_S64x12x1_S64x12x2048_0_1_2 (mulf (broadcastInDim S64x12x1 ![0, 1] bcast_S64x12_S64x12x1_0_1 (transpose S64x12 [1, 0] x transposes_S12x64_S64x12_1_0))
    (broadcastInDim S64x12x1 ![0, 1] bcast_S64x12_S64x12x1_0_1 (transpose S64x12 [1, 0] x transposes_S12x64_S64x12_1_0)))
def dist : FVec F S64x12x2048 .f32 :=
  subf (addf (mulf (col a0 a1 a9) (col a0 a1 a9)) (sq a6))
    (mulf (mulf (mulf (broadcastInDim S64x12x2048 ![] bcast_S_S64x12x2048 (constant S_ .f32 0x40000000#32)) (col a0 a1 a9)) (coef a6)) (est a0 a1 a3 a4 a5 a7 a8 a10))
def err : FVec F S64x12x2048 .f32 :=
  mulf (Host.divf (mulf (mulf (mulf (broadcastInDim S64x12x2048 ![] bcast_S_S64x12x2048 (constant S_ .f32 0x40000000#32)) (col a0 a1 a9)) (coef a6))
    (Host.sqrt (subf (broadcastInDim S64x12x2048 ![] bcast_S_S64x12x2048 (constant S_ .f32 0x3F800000#32)) (mulf (col a0 a1 a10) (col a0 a1 a10))))) (col a0 a1 a10))
    (broadcastInDim S64x12x2048 ![] bcast_S_S64x12x2048 (constant S_ .f32 0x3D7B4E8B#32))
def masked (x : FVec F S64x12x2048 .f32) : FVec F S64x12x2048 .f32 :=
  select (cmpi .slt slots (over (pick a0 a2))) x (broadcastInDim S64x12x2048 ![] bcast_S_S64x12x2048 (id (constant S_ .f32 0x00000000#32)))

section Results
variable (m : (ℓ : Loc nD τ sig) → Buf (Elt F) ℓ) (c : Dev nD)

theorem res138 : Cert.ReferenceIdeal.Value.res_main_v138 m c = masked (m ((c.tc : Thread nD τ).loc main_arg0)) (m ((c.tc : Thread nD τ).loc main_arg2))
    (dist (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := rfl
theorem res139 : Cert.ReferenceIdeal.Value.res_main_v139 m c = masked (m ((c.tc : Thread nD τ).loc main_arg0)) (m ((c.tc : Thread nD τ).loc main_arg2))
    (err (m ((c.tc : Thread nD τ).loc main_arg0)) (m ((c.tc : Thread nD τ).loc main_arg1))
      (m ((c.tc : Thread nD τ).loc main_arg6)) (m ((c.tc : Thread nD τ).loc main_arg9)) (m ((c.tc : Thread nD τ).loc main_arg10))) := rfl
theorem res140 : Cert.ReferenceIdeal.Value.res_main_v140 m c = masked (m ((c.tc : Thread nD τ).loc main_arg0)) (m ((c.tc : Thread nD τ).loc main_arg2))
    (est (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      (m ((c.tc : Thread nD τ).loc main_arg7)) (m ((c.tc : Thread nD τ).loc main_arg8)) (m ((c.tc : Thread nD τ).loc main_arg10))) := rfl

end Results

/-! ## Read at query `b`, probe `p` and slot `s` -/

variable (b : Fin 64) (p : Fin 12) (s : Fin 2048)

theorem over_at {α : Type} (x : S64x12.Idx → α) : over x (ValueIdx.ix3 b p s) = x (ValueIdx.ix2 b p) :=
  congrArg x (funext fun a => by match a with | ⟨0, _⟩ => rfl | ⟨1, _⟩ => rfl)
theorem coef_at : coef a3 (ValueIdx.ix3 b p s) = a3 (ValueIdx.ix2 p b) :=
  (over_at b p s _).trans (congrArg a3 (funext fun a => by match a with | ⟨0, _⟩ => rfl | ⟨1, _⟩ => rfl))
theorem sq_at : sq a6 (ValueIdx.ix3 b p s) = FloatOps.mulf (a6 (ValueIdx.ix2 p b)) (a6 (ValueIdx.ix2 p b)) := by
  have e : sq a6 (ValueIdx.ix3 b p s) = FloatOps.mulf (coef a6 (ValueIdx.ix3 b p s)) (coef a6 (ValueIdx.ix3 b p s)) := rfl
  rw [e, coef_at]
theorem slots_at : slots (ValueIdx.ix3 b p s) = w s.val := rfl

theorem plane_at (j : ℕ) (hj : j < 4) (h : S12x128x128.Slices ![0, 32 * j, 0] S12x30x64) (k : Fin 30) :
    plane a7 ![0, 32 * j, 0] h (ValueIdx.ix4 b p s k) = atN 0#32 a7 ![p.val, 32 * j + k.val, b.val] := by
  have hk := k.isLt
  rw [atN_eq 0#32 a7 (ValueIdx.ix3 p ⟨32 * j + k.val, by omega⟩ (⟨b.val, by omega⟩ : Fin 128)) (fun a => by match a with | ⟨0, _⟩ => rfl | ⟨1, _⟩ => rfl | ⟨2, _⟩ => rfl)]
  refine congrArg a7 (funext fun a => Fin.ext ?_)
  match a with
  | ⟨0, _⟩ => exact Nat.zero_add _
  | ⟨1, _⟩ => rfl
  | ⟨2, _⟩ => exact Nat.zero_add _

section At
variable (hi : (a0 (ValueIdx.ix2 b p)).toNat < 1000)
include hi

theorem pick_at : pick a0 a1 (ValueIdx.ix2 b p) = a1 (ValueIdx.ix1 ⟨(a0 (ValueIdx.ix2 b p)).toNat, hi⟩) := by
  have h0 : 0 ≤ (a0 (ValueIdx.ix2 b p)).toInt := by rw [BitVec.toInt_eq_toNat_of_lt (by omega)]; omega
  exact take_in _ a1 _ (ValueIdx.ix2 b p) gather_S1000_S64x12x1_S64x12_n_0_n_n_0_2_1 rfl _ (lookup_pick bcast_S64x12_S64x12x1_0_1 bcast_S_S64x12 a0 1000#32 (ValueIdx.ix2 b p) h0) hi

variable (v : ℕ) (hv : v < 2045056) (h1 : (a1 (ValueIdx.ix1 ⟨(a0 (ValueIdx.ix2 b p)).toNat, hi⟩)).toNat = v)
include hv h1

theorem rows_at : rows a0 a1 (ValueIdx.ix3 b p s) = w (v + s.val) := by
  show IntOp.addi (over (pick a0 a1) (ValueIdx.ix3 b p s)) (slots (ValueIdx.ix3 b p s)) = _
  rw [over_at, slots_at, pick_at a0 a1 b p hi]
  refine Eq.trans (congrArg (fun x => IntOp.addi x (w s.val)) ?_) (addi_w v s.val)
  refine BitVec.eq_of_toNat_eq ?_
  rw [h1, toNat_w (by omega)]

theorem idx_at : idx a0 a1 (rowIdx b p s) = BitVec.ofNat 32 (v + s.val) := by
  have hs := s.isLt
  have e : idx a0 a1 (rowIdx b p s) = Scalar.select (IntOp.cmpi .slt (rows a0 a1 (ValueIdx.ix3 b p s)) 0#32) (IntOp.addi (rows a0 a1 (ValueIdx.ix3 b p s)) 2048000#32) (rows a0 a1 (ValueIdx.ix3 b p s)) := by
    have k : ∀ z, z = ValueIdx.ix3 b p s → (select (cmpi .slt (rows a0 a1) (broadcastInDim S64x12x2048 ![] bcast_S_S64x12x2048 (constantI S_ 32 0#32))) (addi (rows a0 a1) (broadcastInDim S64x12x2048 ![] bcast_S_S64x12x2048 (constantI S_ 32 2048000#32))) (rows a0 a1)) z
        = Scalar.select (IntOp.cmpi .slt (rows a0 a1 (ValueIdx.ix3 b p s)) 0#32) (IntOp.addi (rows a0 a1 (ValueIdx.ix3 b p s)) 2048000#32) (rows a0 a1 (ValueIdx.ix3 b p s)) := by
      rintro z rfl; rfl
    exact k _ (funext fun a => by match a with | ⟨0, _⟩ => rfl | ⟨1, _⟩ => rfl | ⟨2, _⟩ => rfl)
  rw [e, rows_at a0 a1 b p s hi v hv h1]
  have q : IntOp.cmpi .slt (w (v + s.val)) 0#32 = if v + s.val < 0 then 1#1 else 0#1 := slt_w (by omega) (by omega)
  rw [q, if_neg (by omega)]
  rfl

theorem col_at : col a0 a1 a9 (ValueIdx.ix3 b p s) = a9 (ValueIdx.ix1 ⟨v + s.val, by have := s.isLt; omega⟩) :=
  take3_in (by decide) _ a9 _ b p s (v + s.val) (by have := s.isLt; omega) (idx_at a0 a1 b p s hi v hv h1)

/-- Word `k` of row `r`. -/
def word (r k : ℕ) : BitVec 32 := atN 0#32 a8 ![r, k]

theorem codes_at (k : Fin 30) : codes a0 a1 a8 (ValueIdx.ix4 b p s k) = word a8 (v + s.val) k.val := by
  have hs := s.isLt
  rw [word, atN_eq 0#32 a8 (ValueIdx.ix2 ⟨v + s.val, by omega⟩ k) (fun a => by match a with | ⟨0, _⟩ => rfl | ⟨1, _⟩ => rfl)]
  exact takeRow3_in (by decide) _ a8 _ b p s k (v + s.val) (by omega) (idx_at a0 a1 b p s hi v hv h1)

theorem own_at : count (codes a0 a1 a8) (ValueIdx.ix3 b p s) = own30 (word a8 (v + s.val)) :=
  reduce_last _ _ _ _ rfl b p s (fun k => IntOp.ctpop (word a8 (v + s.val) k)) fun k => congrArg IntOp.ctpop (codes_at a0 a1 a8 b p s hi v hv h1 k)

/-- The planes of probe `p` and query `b`. -/
def planes (p b x : ℕ) : BitVec 32 := atN 0#32 a7 ![p, x, b]

theorem shared_at (j : ℕ) (hj : j < 4) (h : S12x128x128.Slices ![0, 32 * j, 0] S12x30x64) :
    count (andi (codes a0 a1 a8) (plane a7 ![0, 32 * j, 0] h)) (ValueIdx.ix3 b p s) = shared (planes a7 p.val b.val) (word a8 (v + s.val)) j :=
  reduce_last _ _ _ _ rfl b p s (fun k => IntOp.ctpop (IntOp.andi (word a8 (v + s.val) k) (planes a7 p.val b.val (32 * j + k)))) fun k => by
    show IntOp.ctpop (IntOp.andi (codes a0 a1 a8 (ValueIdx.ix4 b p s k)) (plane a7 ![0, 32 * j, 0] h (ValueIdx.ix4 b p s k))) = _
    rw [codes_at a0 a1 a8 b p s hi v hv h1 k, plane_at a7 b p s j hj h k]
    rfl

theorem ip_at : ipBin a0 a1 a7 a8 (ValueIdx.ix3 b p s) = weighted (planes a7 p.val b.val) (word a8 (v + s.val)) := by
  have t0 := shared_at a0 a1 a7 a8 b p s hi v hv h1 0 (by decide) slices_S12x128x128_S12x30x64_0_0_0
  have t1 := shared_at a0 a1 a7 a8 b p s hi v hv h1 1 (by decide) slices_S12x128x128_S12x30x64_0_32_0
  have t2 := shared_at a0 a1 a7 a8 b p s hi v hv h1 2 (by decide) slices_S12x128x128_S12x30x64_0_64_0
  have t3 := shared_at a0 a1 a7 a8 b p s hi v hv h1 3 (by decide) slices_S12x128x128_S12x30x64_0_96_0
  show (((0#32 + IntOp.shli .host (count (andi (codes a0 a1 a8) (plane a7 ![0, 32 * 0, 0] slices_S12x128x128_S12x30x64_0_0_0)) (ValueIdx.ix3 b p s)) 0#32)
    + IntOp.shli .host (count (andi (codes a0 a1 a8) (plane a7 ![0, 32 * 1, 0] slices_S12x128x128_S12x30x64_0_32_0)) (ValueIdx.ix3 b p s)) 1#32)
    + IntOp.shli .host (count (andi (codes a0 a1 a8) (plane a7 ![0, 32 * 2, 0] slices_S12x128x128_S12x30x64_0_64_0)) (ValueIdx.ix3 b p s)) 2#32)
    + IntOp.shli .host (count (andi (codes a0 a1 a8) (plane a7 ![0, 32 * 3, 0] slices_S12x128x128_S12x30x64_0_96_0)) (ValueIdx.ix3 b p s)) 3#32 = _
  rw [t0, t1, t2, t3]
  have q : ∀ x : BitVec 32, IntOp.shli .host x 0#32 = x ∧ IntOp.shli .host x 1#32 = x * 2 ∧ IntOp.shli .host x 2#32 = x * 4 ∧ IntOp.shli .host x 3#32 = x * 8 := shl_mul
  rw [(q _).1, (q _).2.1, (q _).2.2.1, (q _).2.2.2, BitVec.zero_add]
  rfl

/-- The three results at one slot, of the counts, the coefficients, the norms and the correlation. -/
def estR (ip px : BitVec 32) (ca cb cc io : F .f32) : F .f32 :=
  FloatOps.hostDivf (FloatOps.addf (FloatOps.addf (FloatOps.mulf (FloatOps.sitofp .f32 ip) ca) (FloatOps.mulf (FloatOps.sitofp .f32 px) cb)) cc) io
def distR (nr nq e : F .f32) : F .f32 :=
  FloatOps.subf (FloatOps.addf (FloatOps.mulf nr nr) (FloatOps.mulf nq nq)) (FloatOps.mulf (FloatOps.mulf (FloatOps.mulf (Scalar.ofBits .f32 0x40000000#32) nr) nq) e)
def errR (nr nq io : F .f32) : F .f32 :=
  FloatOps.mulf (FloatOps.hostDivf (FloatOps.mulf (FloatOps.mulf (FloatOps.mulf (Scalar.ofBits .f32 0x40000000#32) nr) nq) (FloatOps.hostUnary .sqrt (FloatOps.subf (Scalar.ofBits .f32 0x3F800000#32) (FloatOps.mulf io io)))) io)
    (Scalar.ofBits .f32 0x3D7B4E8B#32)

theorem est_at : est a0 a1 a3 a4 a5 a7 a8 a10 (ValueIdx.ix3 b p s) = estR (weighted (planes a7 p.val b.val) (word a8 (v + s.val))) (own30 (word a8 (v + s.val)))
    (a3 (ValueIdx.ix2 p b)) (a4 (ValueIdx.ix2 p b)) (a5 (ValueIdx.ix2 p b)) (a10 (ValueIdx.ix1 ⟨v + s.val, by have := s.isLt; omega⟩)) := by
  have e : est a0 a1 a3 a4 a5 a7 a8 a10 (ValueIdx.ix3 b p s) = estR (ipBin a0 a1 a7 a8 (ValueIdx.ix3 b p s)) (count (codes a0 a1 a8) (ValueIdx.ix3 b p s))
      (coef a3 (ValueIdx.ix3 b p s)) (coef a4 (ValueIdx.ix3 b p s)) (coef a5 (ValueIdx.ix3 b p s)) (col a0 a1 a10 (ValueIdx.ix3 b p s)) := rfl
  rw [e, ip_at a0 a1 a7 a8 b p s hi v hv h1, own_at a0 a1 a8 b p s hi v hv h1, coef_at, coef_at, coef_at, col_at a0 a1 a10 b p s hi v hv h1]
theorem dist_at : dist a0 a1 a3 a4 a5 a6 a7 a8 a9 a10 (ValueIdx.ix3 b p s) = distR (a9 (ValueIdx.ix1 ⟨v + s.val, by have := s.isLt; omega⟩)) (a6 (ValueIdx.ix2 p b)) (est a0 a1 a3 a4 a5 a7 a8 a10 (ValueIdx.ix3 b p s)) := by
  have e : dist a0 a1 a3 a4 a5 a6 a7 a8 a9 a10 (ValueIdx.ix3 b p s) = FloatOps.subf (FloatOps.addf (FloatOps.mulf (col a0 a1 a9 (ValueIdx.ix3 b p s)) (col a0 a1 a9 (ValueIdx.ix3 b p s))) (sq a6 (ValueIdx.ix3 b p s)))
      (FloatOps.mulf (FloatOps.mulf (FloatOps.mulf (Scalar.ofBits .f32 0x40000000#32) (col a0 a1 a9 (ValueIdx.ix3 b p s))) (coef a6 (ValueIdx.ix3 b p s))) (est a0 a1 a3 a4 a5 a7 a8 a10 (ValueIdx.ix3 b p s))) := rfl
  rw [e, coef_at, sq_at, col_at a0 a1 a9 b p s hi v hv h1]
  rfl
theorem err_at : err a0 a1 a6 a9 a10 (ValueIdx.ix3 b p s) = errR (a9 (ValueIdx.ix1 ⟨v + s.val, by have := s.isLt; omega⟩)) (a6 (ValueIdx.ix2 p b)) (a10 (ValueIdx.ix1 ⟨v + s.val, by have := s.isLt; omega⟩)) := by
  have e : err a0 a1 a6 a9 a10 (ValueIdx.ix3 b p s) = errR (col a0 a1 a9 (ValueIdx.ix3 b p s)) (coef a6 (ValueIdx.ix3 b p s)) (col a0 a1 a10 (ValueIdx.ix3 b p s)) := rfl
  rw [e, coef_at, col_at a0 a1 a9 b p s hi v hv h1, col_at a0 a1 a10 b p s hi v hv h1]

end At

theorem masked_at (hi : (a0 (ValueIdx.ix2 b p)).toNat < 1000) (z : ℕ) (hz : z ≤ 2048) (h2 : (a2 (ValueIdx.ix1 ⟨(a0 (ValueIdx.ix2 b p)).toNat, hi⟩)).toNat = z) (x : FVec F S64x12x2048 .f32) :
    masked a0 a2 x (ValueIdx.ix3 b p s) = if s.val < z then x (ValueIdx.ix3 b p s) else Scalar.ofBits .f32 0x00000000#32 := by
  have hs := s.isLt
  show Scalar.select (Scalar.cmpi .slt (slots (ValueIdx.ix3 b p s)) (over (pick a0 a2) (ValueIdx.ix3 b p s))) (x (ValueIdx.ix3 b p s)) (Scalar.ofBits .f32 0x00000000#32) = _
  have e : a2 (ValueIdx.ix1 ⟨(a0 (ValueIdx.ix2 b p)).toNat, hi⟩) = w z := BitVec.eq_of_toNat_eq (by rw [h2, toNat_w (by omega)])
  rw [over_at, slots_at, pick_at a0 a2 b p hi, e, slt_w (by omega) (by omega), select_ite]

end Cert.Proof.Ref

end
-- ==== Proof.Algebra.lean ====
/-
  Over the extended reals the scan kernel's three results are the reference's.
-/
module

public import proofs.«01_k».proof.Proof.KerVal
public import proofs.«01_k».proof.Proof.RefVal
public import proofs.«01_k».proof.Pre_scan_fits
public import proofs.«01_k».proof.Proof.Gen.Pre_clusters_fit
public import Idealize.ShloMosaic.Lib.IdealHost

@[expose] public section

set_option maxRecDepth 16384

noncomputable section

namespace Cert.Proof

open Idealize.ShloMosaic Idealize.ShloMosaic.TcCoe
open Cert.Proof.Kernel (estK distK errK weighted own30 inp outF outG handed)

instance scan_facts : Cert.Pre_scan_fits.Facts where
  bcast_S_S64x12 := by decide
  bcast_S64x12_S64x12x1_0_1 := by decide
  bcast_S_S2048000 := by decide
  gather_S1000_S64x12x1_S64x12_n_0_n_n_0_2_1_wf := by decide

/-- The first part of the precondition is the one the frames take; the second says no correlation is zero. -/
theorem scan_clusters {F : FTy → Type} [FloatOps F] {a0 a1 a2 a3 a4 a5 a6 a7 a8 a9 a10} :
    (Cert.Pre_scan_fits.fn (F := F) a0 a1 a2 a3 a4 a5 a6 a7 a8 a9 a10).1 = Cert.Pre_clusters_fit.fn (F := F) a0 a1 a2 a3 a4 a5 a6 a7 a8 a9 a10 := rfl

theorem scan_io {a0 a1 a2 a3 a4 a5 a6 a7 a8 a9 a10}
    (h : (Cert.Pre_scan_fits.fn (F := Ideal) a0 a1 a2 a3 a4 a5 a6 a7 a8 a9 a10).2 = fun _ => 1#1) (i : (⟨1, ![2048000]⟩ : Shape).Idx) : (a10 i : EReal) ≠ 0 := by
  have h1 : Ideal.cmp .une (a10 i : EReal) (Ideal.ofBits .f32 0x00000000#32) = 1#1 := congrFun h i
  rw [Ideal.ofBits_zero_f32] at h1
  intro h0
  rw [h0] at h1
  simp [Ideal.cmp] at h1

/-! ## The three closed forms -/

theorem est_ideal (ip px : BitVec 32) (ca cb cc io : Ideal .f32) (h : (io : EReal) ≠ 0) :
    estK ip px ca cb cc io = Ref.estR ip px ca cb cc io := by
  unfold estK Ref.estR
  generalize (FloatOps.addf (FloatOps.addf (FloatOps.mulf (FloatOps.sitofp .f32 ip) ca) (FloatOps.mulf (FloatOps.sitofp .f32 px) cb)) cc : Ideal .f32) = x
  show (x : EReal) * Ideal.div (Ideal.ofBits .f32 0x3F800000#32) io = Ideal.div x io
  rw [Ideal.ofBits_one_f32]
  exact Ideal.mul_one_div h

theorem dist_ideal (nr nq est : Ideal .f32) :
    distK nr nq est = Ref.distR nr nq est := by
  show (nr * nr + nq * nq - Ideal.ofBits .f32 0x40000000#32 * nq * nr * est : EReal) = nr * nr + nq * nq - Ideal.ofBits .f32 0x40000000#32 * nr * nq * est
  rw [mul_right_comm (Ideal.ofBits .f32 0x40000000#32 : EReal) nq nr]

theorem ofBits_two : Ideal.ofBits .f32 0x40000000#32 = ((2 : ℝ) : EReal) := by
  simp [Ideal.ofBits, Ideal.ieee, -EReal.coe_mul, -EReal.coe_neg]; norm_num
theorem ofBits_eps : Ideal.ofBits .f32 0x3D7B4E8B#32 = ((16469643 / 268435456 : ℝ) : EReal) := by
  simp [Ideal.ofBits, Ideal.ieee, -EReal.coe_mul, -EReal.coe_neg]; norm_num
theorem ofBits_eps2 : Ideal.ofBits .f32 0x3DFB4E8B#32 = ((16469643 / 134217728 : ℝ) : EReal) := by
  simp [Ideal.ofBits, Ideal.ieee, -EReal.coe_mul, -EReal.coe_neg]; norm_num
/-- The kernel's constant is twice the reference's. -/
theorem eps_double : (Ideal.ofBits .f32 0x3DFB4E8B#32 : EReal) = Ideal.ofBits .f32 0x40000000#32 * Ideal.ofBits .f32 0x3D7B4E8B#32 := by
  rw [ofBits_two, ofBits_eps, ofBits_eps2, ← EReal.coe_mul]
  exact congrArg _ (by norm_num)

theorem err_ideal (nr nq io : Ideal .f32) (h : (io : EReal) ≠ 0) : errK nr nq io = Ref.errR nr nq io := by
  show (nr * Ideal.sqrt (Ideal.ofBits .f32 0x3F800000#32 - io * io) * Ideal.div (Ideal.ofBits .f32 0x3F800000#32) io * (Ideal.ofBits .f32 0x3DFB4E8B#32 * nq) : EReal)
    = Ideal.div (Ideal.ofBits .f32 0x40000000#32 * nr * nq * Ideal.sqrt (Ideal.ofBits .f32 0x3F800000#32 - io * io)) io * Ideal.ofBits .f32 0x3D7B4E8B#32
  rw [eps_double]
  generalize (Ideal.ofBits .f32 0x3D7B4E8B#32 : EReal) = e
  generalize (Ideal.ofBits .f32 0x40000000#32 : EReal) = t
  rw [Ideal.ofBits_one_f32]
  generalize (Ideal.sqrt (1 - io * io) : EReal) = q
  refine Eq.trans ?_ (congrArg (· * e) (Ideal.mul_one_div h))
  generalize (Ideal.div 1 io : EReal) = d
  ac_rfl

/-! ## The results -/

section Results
variable (c : Dev Cert.Kernel.nD) (m : (ℓ : Loc Cert.Kernel.nD Cert.Kernel.τ Cert.Kernel.sig) → Buf (Elt Ideal) ℓ)
variable (x0 : IVec Cert.Kernel.S64x12 32) (x1 x2 : IVec Cert.Kernel.S1000 32) (x3 x4 x5 x6 : FVec Ideal Cert.Kernel.S12x64 .f32) (x7 : IVec Cert.Kernel.S12x128x128 32) (x8 : IVec Cert.Kernel.S2048000x30 32) (x9 x10 : FVec Ideal Cert.Kernel.S2048000 .f32)
variable (A : Kernel.Args c m x0 x1 x2 x3 x4 x5 x6 x7 x8 x9 x10) (hD : (inp c m).Ok)
  (h1 : Cert.Pre_clusters_fit.fn (F := Ideal) x0 x1 x2 x3 x4 x5 x6 x7 x8 x9 x10 = fun _ => 1#1)
  (h2 : ∀ i, (x10 i : EReal) ≠ 0)

/-- An index of a result is a query, a probe and a slot. -/
theorem idx3 (i : Cert.Kernel.S64x12x2048.Idx) : ∃ (b : Fin 64) (p : Fin 12) (s : Fin 2048), i = ValueIdx.ix3 b p s :=
  ⟨i 0, i 1, i 2, funext fun a => match a with | ⟨0, _⟩ => rfl | ⟨1, _⟩ => rfl | ⟨2, _⟩ => rfl⟩

include A hD h1 h2

theorem est_same : handed (outG (outF (inp c m) 2)) = Ref.masked x0 x2 (Ref.est x0 x1 x3 x4 x5 x7 x8 x10) := by
  funext i
  obtain ⟨b, p, s, rfl⟩ := idx3 i
  obtain ⟨hi, hv, -, hz⟩ := fit_at h1 (ValueIdx.ix2 b p)
  refine (Kernel.est_res c m b p s x0 x1 x2 x3 x4 x5 x6 x7 x8 x9 x10 A hD hi _ rfl (by have := s.isLt; omega)).trans (Eq.trans ?_ (Ref.masked_at x0 x2 b p s hi _ hz rfl _).symm)
  rw [est_ideal _ _ _ _ _ _ (h2 _), Ref.est_at x0 x1 x3 x4 x5 x7 x8 x10 b p s hi _ hv rfl]
  rfl

theorem dist_same : handed (outG (outF (inp c m) 0)) = Ref.masked x0 x2 (Ref.dist x0 x1 x3 x4 x5 x6 x7 x8 x9 x10) := by
  funext i
  obtain ⟨b, p, s, rfl⟩ := idx3 i
  obtain ⟨hi, hv, -, hz⟩ := fit_at h1 (ValueIdx.ix2 b p)
  refine (Kernel.dist_res c m b p s x0 x1 x2 x3 x4 x5 x6 x7 x8 x9 x10 A hD hi _ rfl (by have := s.isLt; omega)).trans (Eq.trans ?_ (Ref.masked_at x0 x2 b p s hi _ hz rfl _).symm)
  rw [est_ideal _ _ _ _ _ _ (h2 _), dist_ideal, Ref.dist_at x0 x1 x3 x4 x5 x6 x7 x8 x9 x10 b p s hi _ hv rfl, Ref.est_at x0 x1 x3 x4 x5 x7 x8 x10 b p s hi _ hv rfl]
  rfl

omit hD in
theorem err_same : handed (outG (outF (inp c m) 1)) = Ref.masked x0 x2 (Ref.err x0 x1 x6 x9 x10) := by
  funext i
  obtain ⟨b, p, s, rfl⟩ := idx3 i
  obtain ⟨hi, hv, -, hz⟩ := fit_at h1 (ValueIdx.ix2 b p)
  refine (Kernel.err_res c m b p s x0 x1 x2 x3 x4 x5 x6 x7 x8 x9 x10 A hi _ rfl (by have := s.isLt; omega)).trans (Eq.trans ?_ (Ref.masked_at x0 x2 b p s hi _ hz rfl _).symm)
  rw [err_ideal _ _ _ (h2 _), Ref.err_at x0 x1 x6 x9 x10 b p s hi _ hv rfl]
  rfl

end Results

end Cert.Proof

end
-- ==== Proof.lean ====
/-
  The scan kernel and its reference terminate without fault and leave their arguments, and over the extended reals
  their results are the same.
-/
module

public import proofs.«01_k».proof.Defs
public import proofs.«01_k».proof.Proof.Transfer
public import proofs.«01_k».proof.Proof.Algebra
public import proofs.«01_k».proof.Proof.Gen.ReferenceIdeal
public import proofs.«01_k».proof.Proof.Gen.ReferenceIdeal.Run
public import proofs.«01_k».proof.Proof.Gen.Pre_clusters_fit

@[expose] public section

set_option maxRecDepth 65536

noncomputable section

namespace Cert.Proof

open Idealize.ShloMosaic Idealize.ShloMosaic.TcCoe
open Idealize.SL Idealize.SL.Sem

theorem quiet_kernel : Cert.quiescent_Kernel := fun m g hp =>
  (θ_run _ _ _).mono (fun _ h => ⟨fun c => (h.1 c).2.2.2, h.2⟩) (Cert.Proof.Kernel.run_values m g fun c => Cert.Proof.Kernel.ok_of_fit c m (hp c))

theorem quiet_ideal : Cert.quiescent_KernelIdeal := fun m g hp =>
  (θ_run _ _ _).mono (fun _ h => ⟨fun c => (h.1 c).2.2.2, h.2⟩) (run_ideal m g fun c => Cert.Proof.Kernel.ok_of_fit c m (hp c))

theorem quiet_reference : Cert.quiescent_ReferenceIdeal := fun m g _ =>
  (θ_run _ _ _).mono (fun r h => ⟨fun c => (h c).2.2.2, sem_eq_zero_of_no_sems (by decide) r.2⟩)
    (Cert.ReferenceIdeal.Value.run m g)

theorem ok_ideal (m : (ℓ : Loc Cert.KernelIdeal.nD Cert.KernelIdeal.τ Cert.KernelIdeal.sig) → Buf (Elt Ideal) ℓ) (hp : Cert.Pre_KernelIdeal_scan_fits m) (c : Dev Cert.KernelIdeal.nD) :
    (Cert.Proof.Kernel.inp (F := Ideal) c m).Ok :=
  Cert.Proof.Kernel.ok_of_fit c m (scan_clusters.symm.trans (hp c).1)

theorem quiet_ideal_scan : Cert.quiescent_KernelIdeal_pre_scan_fits := fun m g hp =>
  (θ_run _ _ _).mono (fun _ h => ⟨fun c => (h.1 c).2.2.2, h.2⟩) (run_ideal m g (ok_ideal m hp))

theorem quiet_reference_scan : Cert.quiescent_ReferenceIdeal_pre_scan_fits := fun m g _ =>
  (θ_run _ _ _).mono (fun r h => ⟨fun c => (h c).2.2.2, sem_eq_zero_of_no_sems (by decide) r.2⟩)
    (Cert.ReferenceIdeal.Value.run m g)

theorem algebraic : Cert.algebraic_KernelIdeal_ReferenceIdeal_pre_scan_fits := fun m g m' g' hp hag => by
  have hD := ok_ideal m hp
  have key : ∀ c : Dev Cert.KernelIdeal.nD,
      Cert.ReferenceIdeal.Value.res_main_v138 m' c = Kernel.handed (Kernel.outG (Kernel.outF (Kernel.inp (F := Ideal) c m) 0))
      ∧ Cert.ReferenceIdeal.Value.res_main_v139 m' c = Kernel.handed (Kernel.outG (Kernel.outF (Kernel.inp (F := Ideal) c m) 1))
      ∧ Cert.ReferenceIdeal.Value.res_main_v140 m' c = Kernel.handed (Kernel.outG (Kernel.outF (Kernel.inp (F := Ideal) c m) 2)) := by
    intro c
    obtain ⟨p1, p2⟩ := hp c
    obtain ⟨e0, e1, e2, e3, e4, e5, e6, e7, e8, e9, e10⟩ := hag c
    have A : Kernel.Args (F := Ideal) c m (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) :=
      ⟨e0.symm, e1.symm, e2.symm, e3.symm, e4.symm, e5.symm, e6.symm, e7.symm, e8.symm, e9.symm, e10.symm⟩
    rw [← e0, ← e1, ← e2, ← e3, ← e4, ← e5, ← e6, ← e7, ← e8, ← e9, ← e10] at p1 p2
    have h1 := scan_clusters.symm.trans p1
    have h2 := scan_io p2
    exact ⟨(Ref.res138 m' c).trans (dist_same c m _ _ _ _ _ _ _ _ _ _ _ A (hD c) h1 h2).symm,
      (Ref.res139 m' c).trans (err_same c m _ _ _ _ _ _ _ _ _ _ _ A h1 h2).symm,
      (Ref.res140 m' c).trans (est_same c m _ _ _ _ _ _ _ _ _ _ _ A (hD c) h1 h2).symm⟩
  exact ⟨fun c => Kernel.handed (Kernel.outG (Kernel.outF (Kernel.inp (F := Ideal) c m) 0)), fun c => Kernel.handed (Kernel.outG (Kernel.outF (Kernel.inp (F := Ideal) c m) 1)),
    fun c => Kernel.handed (Kernel.outG (Kernel.outF (Kernel.inp (F := Ideal) c m) 2)),
    (θ_run _ _ _).mono (fun _ h => h.1) (run_ideal m g hD),
    (θ_run _ _ _).mono (fun _ h c => ⟨(h c).1.trans (key c).1, (h c).2.1.trans (key c).2.1, (h c).2.2.1.trans (key c).2.2, (h c).2.2.2⟩) (Cert.ReferenceIdeal.Value.run m' g')⟩

theorem claim : Cert.Claim :=
  ⟨Cert.Kernel.Gen.facts, Cert.KernelIdeal.Gen.facts, Cert.ReferenceIdeal.Gen.facts, Cert.Pre_clusters_fit.Gen.facts, scan_facts,
    quiet_kernel, quiet_ideal, quiet_ideal_scan, quiet_reference, quiet_reference_scan, trivial, algebraic⟩

end Cert.Proof

end
